-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)) (v3 : (c : Dev Cert.Kernel3Ideal.nD) → Buf (Elt Ideal) ((c.tc : Thread Cert.Kernel3Ideal.nD Cert.Kernel3Ideal.τ).loc Cert.Kernel3Ideal.main_v1_3)) (v4 : (c : Dev Cert.Kernel3Ideal.nD) → Buf (Elt Ideal) ((c.tc : Thread Cert.Kernel3Ideal.nD Cert.Kernel3Ideal.τ).loc Cert.Kernel3Ideal.main_v1_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_v1_3) = v3 c
          ∧ r.2.mem ((c.tc : Thread Cert.Kernel3Ideal.nD Cert.Kernel3Ideal.τ).loc Cert.Kernel3Ideal.main_v1_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_v41) = v2 c
          ∧ r.2.mem ((c.tc : Thread Cert.Reference3Ideal.nD Cert.Reference3Ideal.τ).loc Cert.Reference3Ideal.main_v43) = v3 c
          ∧ r.2.mem ((c.tc : Thread Cert.Reference3Ideal.nD Cert.Reference3Ideal.τ).loc Cert.Reference3Ideal.main_v45) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v41) = v0 c
          ∧ r.2.mem ((c.tc : Thread Cert.Reference4Ideal.nD Cert.Reference4Ideal.τ).loc Cert.Reference4Ideal.main_v43) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v33) = v0 c
          ∧ r.2.mem ((c.tc : Thread Cert.Reference5Ideal.nD Cert.Reference5Ideal.τ).loc Cert.Reference5Ideal.main_v34) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  IdealRules.named_const.Statement Cert.Kernel6Ideal.κ "mask" .f32 0xF149F2CA#32 ⊥

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v87) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v18) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)) (v2 : (c : Dev Cert.Kernel8Ideal.nD) → Buf (Elt Ideal) ((c.tc : Thread Cert.Kernel8Ideal.nD Cert.Kernel8Ideal.τ).loc Cert.Kernel8Ideal.main_v1_2)) (v3 : (c : Dev Cert.Kernel8Ideal.nD) → Buf (Elt Ideal) ((c.tc : Thread Cert.Kernel8Ideal.nD Cert.Kernel8Ideal.τ).loc Cert.Kernel8Ideal.main_v1_3)) (v4 : (c : Dev Cert.Kernel8Ideal.nD) → Buf (Elt Ideal) ((c.tc : Thread Cert.Kernel8Ideal.nD Cert.Kernel8Ideal.τ).loc Cert.Kernel8Ideal.main_v1_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_v1_2) = v2 c
          ∧ r.2.mem ((c.tc : Thread Cert.Kernel8Ideal.nD Cert.Kernel8Ideal.τ).loc Cert.Kernel8Ideal.main_v1_3) = v3 c
          ∧ r.2.mem ((c.tc : Thread Cert.Kernel8Ideal.nD Cert.Kernel8Ideal.τ).loc Cert.Kernel8Ideal.main_v1_4) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v38) = v0 c
          ∧ r.2.mem ((c.tc : Thread Cert.Reference8Ideal.nD Cert.Reference8Ideal.τ).loc Cert.Reference8Ideal.main_v36) = v1 c
          ∧ r.2.mem ((c.tc : Thread Cert.Reference8Ideal.nD Cert.Reference8Ideal.τ).loc Cert.Reference8Ideal.main_v37) = v2 c
          ∧ r.2.mem ((c.tc : Thread Cert.Reference8Ideal.nD Cert.Reference8Ideal.τ).loc Cert.Reference8Ideal.main_v39) = v3 c
          ∧ r.2.mem ((c.tc : Thread Cert.Reference8Ideal.nD Cert.Reference8Ideal.τ).loc Cert.Reference8Ideal.main_v40) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v33) = v0 c
          ∧ r.2.mem ((c.tc : Thread Cert.Reference9Ideal.nD Cert.Reference9Ideal.τ).loc Cert.Reference9Ideal.main_v34) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite6 : Cert.Pre_finite6.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite6.lean ====
abbrev S2x8192x1024 : Shape := ⟨3, ![2, 8192, 1024]⟩
abbrev S4x1x128 : Shape := ⟨3, ![4, 1, 128]⟩
abbrev S4x32 : Shape := ⟨2, ![4, 32]⟩
abbrev S64 : Shape := ⟨1, ![64]⟩
abbrev S_ : Shape := ⟨0, ![]⟩

class Facts : Prop where
  bitsLt_bf16_f32 : FTy.bits .bf16 < FTy.bits .f32
  bcast_S_S2x8192x1024 : S_.BroadcastsInDim S2x8192x1024 (![] : Fin 0 → Fin S2x8192x1024.rank)
  bcast_S_S4x1x128 : S_.BroadcastsInDim S4x1x128 (![] : Fin 0 → Fin S4x1x128.rank)
  bcast_S_S4x32 : S_.BroadcastsInDim S4x32 (![] : Fin 0 → Fin S4x32.rank)

variable [Facts]

def fn {F : FTy → Type} [FloatOps F] (main_arg0 : FVec F S2x8192x1024 .bf16) (main_arg1 : FVec F S2x8192x1024 .bf16) (main_arg2 : FVec F S2x8192x1024 .bf16) (main_arg3 : FVec F S4x1x128 .f32) (main_arg4 : FVec F S4x32 .f32) (main_arg5 : FVec F S64 .f32) : IVec S2x8192x1024 1 × IVec S2x8192x1024 1 × IVec S2x8192x1024 1 × IVec S4x1x128 1 × IVec S4x32 1 :=
  let main_v0 : FVec F S2x8192x1024 .f32 := (extf .f32 · bitsLt_bf16_f32) main_arg0
  let main_v1 : FVec F S2x8192x1024 .f32 := Host.absf main_v0
  let main_cst : FVec F S_ .f32 := constant S_ .f32 0x7F800000#32
  let main_v2 : FVec F S2x8192x1024 .f32 := broadcastInDim S2x8192x1024 ![] bcast_S_S2x8192x1024 main_cst
  let main_v3 : IVec S2x8192x1024 1 := cmpf .olt main_v1 main_v2
  let main_v4 : FVec F S2x8192x1024 .f32 := (extf .f32 · bitsLt_bf16_f32) main_arg1
  let main_v5 : FVec F S2x8192x1024 .f32 := Host.absf main_v4
  let main_cst_0 : FVec F S_ .f32 := constant S_ .f32 0x7F800000#32
  let main_v6 : FVec F S2x8192x1024 .f32 := broadcastInDim S2x8192x1024 ![] bcast_S_S2x8192x1024 main_cst_0
  let main_v7 : IVec S2x8192x1024 1 := cmpf .olt main_v5 main_v6
  let main_v8 : FVec F S2x8192x1024 .f32 := (extf .f32 · bitsLt_bf16_f32) main_arg2
  let main_v9 : FVec F S2x8192x1024 .f32 := Host.absf main_v8
  let main_cst_1 : FVec F S_ .f32 := constant S_ .f32 0x7F800000#32
  let main_v10 : FVec F S2x8192x1024 .f32 := broadcastInDim S2x8192x1024 ![] bcast_S_S2x8192x1024 main_cst_1
  let main_v11 : IVec S2x8192x1024 1 := cmpf .olt main_v9 main_v10
  let main_v12 : FVec F S4x1x128 .f32 := Host.absf main_arg3
  let main_cst_2 : FVec F S_ .f32 := constant S_ .f32 0x7F800000#32
  let main_v13 : FVec F S4x1x128 .f32 := broadcastInDim S4x1x128 ![] bcast_S_S4x1x128 main_cst_2
  let main_v14 : IVec S4x1x128 1 := cmpf .olt main_v12 main_v13
  let main_v15 : FVec F S4x32 .f32 := Host.absf main_arg4
  let main_cst_3 : FVec F S_ .f32 := constant S_ .f32 0x7F800000#32
  let main_v16 : FVec F S4x32 .f32 := broadcastInDim S4x32 ![] bcast_S_S4x32 main_cst_3
  let main_v17 : IVec S4x32 1 := cmpf .olt main_v15 main_v16
  (main_v3, main_v7, main_v11, main_v14, main_v17)
-- ==== Kernel.lean ====
abbrev S2x8192x1024 : Shape := ⟨3, ![2, 8192, 1024]⟩
abbrev S256x256 : Shape := ⟨2, ![256, 256]⟩
abbrev S2x8192x512 : Shape := ⟨3, ![2, 8192, 512]⟩
abbrev S1x256x128 : Shape := ⟨3, ![1, 256, 128]⟩
abbrev S1x8192x128 : Shape := ⟨3, ![1, 8192, 128]⟩
abbrev S256x128 : Shape := ⟨2, ![256, 128]⟩
abbrev S256x1 : Shape := ⟨2, ![256, 1]⟩
abbrev S256 : Shape := ⟨1, ![256]⟩

abbrev nBuf : Space → Nat
  | .hbm => 5
  | .vmem => 9
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .bf16⟩
  | .hbm, ⟨2, _⟩ => ⟨S2x8192x1024, .bf16⟩
  | .hbm, ⟨3, _⟩ => ⟨S256x256, .bf16⟩
  | .hbm, ⟨4, _⟩ => ⟨S2x8192x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S256x256, .bf16⟩
  | .local _ .vmem, ⟨7, _⟩ => ⟨S1x256x128, .bf16⟩
  | .local _ .vmem, ⟨8, _⟩ => ⟨S1x256x128, .bf16⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 4, 32], ![false, false, false]⟩

def k0_mult1 (i : grid0.Coords) : BitVec 32 :=
  let arg2 : BitVec 32 := BitVec.ofNat 32 (i 2).val
  let c256_i32 : BitVec 32 := 256#32
  let v19 : BitVec 32 := Scalar.muli arg2 c256_i32
  v19
def k0_off1 (i : grid0.Coords) : Fin 3 → Nat :=
  let c0_7 : Index := 0#32
  let arg2 : BitVec 32 := BitVec.ofNat 32 (i 2).val
  let c256_i32 : BitVec 32 := 256#32
  let v19 : BitVec 32 := Scalar.muli arg2 c256_i32
  let v20 : BitVec 32 := v19
  let v21 : Index := Scalar.indexCast v20
  let c0_8 : Index := 0#32
  ![0, v21.toNat, 0]
@[reducible] def k0_t1_loop (i : grid0.Coords) : Scf.Loop 32 :=
  let c0_i32_22 : BitVec 32 := 0#32
  let arg2 : BitVec 32 := BitVec.ofNat 32 (i 2).val
  let v62 : BitVec 32 := Scalar.subi arg2 c0_i32_22
  let c1_i32 : BitVec 32 := 1#32
  let v64 : BitVec 32 := Scalar.divsi v62 c1_i32
  let v65 : BitVec 32 := Scalar.muli v64 c1_i32
  let v66 : BitVec 32 := Scalar.addi c0_i32_22 v65
  let c1_i32_23 : BitVec 32 := 1#32
  ⟨c0_i32_22, v66, c1_i32_23⟩
def k0_mult2 (i : grid0.Coords) (k0_t1 : Fin (k0_t1_loop i).trips) : BitVec 32 :=
  let arg2 : BitVec 32 := BitVec.ofNat 32 (i 2).val
  let c1_i32_52 : BitVec 32 := 1#32
  let v135 : BitVec 32 := Scalar.subi arg2 c1_i32_52
  let c0_i32_22 : BitVec 32 := 0#32
  let c1_i32_23 : BitVec 32 := 1#32
  let arg8 : BitVec 32 := Scf.iv c0_i32_22 c1_i32_23 k0_t1
  let v136 : BitVec 32 := Scalar.subi v135 arg8
  let c256_i32_53 : BitVec 32 := 256#32
  let v137 : BitVec 32 := Scalar.muli v136 c256_i32_53
  v137
def k0_off2 (i : grid0.Coords) (k0_t1 : Fin (k0_t1_loop i).trips) : Fin 3 → Nat :=
  let c0_54 : Index := 0#32
  let arg2 : BitVec 32 := BitVec.ofNat 32 (i 2).val
  let c1_i32_52 : BitVec 32 := 1#32
  let v135 : BitVec 32 := Scalar.subi arg2 c1_i32_52
  let c0_i32_22 : BitVec 32 := 0#32
  let c1_i32_23 : BitVec 32 := 1#32
  let arg8 : BitVec 32 := Scf.iv c0_i32_22 c1_i32_23 k0_t1
  let v136 : BitVec 32 := Scalar.subi v135 arg8
  let c256_i32_53 : BitVec 32 := 256#32
  let v137 : BitVec 32 := Scalar.muli v136 c256_i32_53
  let v138 : BitVec 32 := v137
  let v139 : Index := Scalar.indexCast v138
  let c0_55 : Index := 0#32
  ![0, v139.toNat, 0]
@[reducible] def k0_t2_loop (i : grid0.Coords) : Scf.Loop 32 :=
  let c0_i32_22 : BitVec 32 := 0#32
  let arg2 : BitVec 32 := BitVec.ofNat 32 (i 2).val
  let v62 : BitVec 32 := Scalar.subi arg2 c0_i32_22
  let c1_i32 : BitVec 32 := 1#32
  let v64 : BitVec 32 := Scalar.divsi v62 c1_i32
  let v65 : BitVec 32 := Scalar.muli v64 c1_i32
  let v66 : BitVec 32 := Scalar.addi c0_i32_22 v65
  let v63 : BitVec 32 := Scalar.addi c0_i32_22 v62
  let c1_i32_24 : BitVec 32 := 1#32
  ⟨v66, v63, c1_i32_24⟩
def k0_mult3 (i : grid0.Coords) (k0_t2 : Fin (k0_t2_loop i).trips) : BitVec 32 :=
  let arg2 : BitVec 32 := BitVec.ofNat 32 (i 2).val
  let c1_i32_52 : BitVec 32 := 1#32
  let v135 : BitVec 32 := Scalar.subi arg2 c1_i32_52
  let c0_i32_22 : BitVec 32 := 0#32
  let v62 : BitVec 32 := Scalar.subi arg2 c0_i32_22
  let c1_i32 : BitVec 32 := 1#32
  let v64 : BitVec 32 := Scalar.divsi v62 c1_i32
  let v65 : BitVec 32 := Scalar.muli v64 c1_i32
  let v66 : BitVec 32 := Scalar.addi c0_i32_22 v65
  let c1_i32_24 : BitVec 32 := 1#32
  let arg8 : BitVec 32 := Scf.iv v66 c1_i32_24 k0_t2
  let v136 : BitVec 32 := Scalar.subi v135 arg8
  let c256_i32_53 : BitVec 32 := 256#32
  let v137 : BitVec 32 := Scalar.muli v136 c256_i32_53
  v137
def k0_off3 (i : grid0.Coords) (k0_t2 : Fin (k0_t2_loop i).trips) : Fin 3 → Nat :=
  let c0_54 : Index := 0#32
  let arg2 : BitVec 32 := BitVec.ofNat 32 (i 2).val
  let c1_i32_52 : BitVec 32 := 1#32
  let v135 : BitVec 32 := Scalar.subi arg2 c1_i32_52
  let c0_i32_22 : BitVec 32 := 0#32
  let v62 : BitVec 32 := Scalar.subi arg2 c0_i32_22
  let c1_i32 : BitVec 32 := 1#32
  let v64 : BitVec 32 := Scalar.divsi v62 c1_i32
  let v65 : BitVec 32 := Scalar.muli v64 c1_i32
  let v66 : BitVec 32 := Scalar.addi c0_i32_22 v65
  let c1_i32_24 : BitVec 32 := 1#32
  let arg8 : BitVec 32 := Scf.iv v66 c1_i32_24 k0_t2
  let v136 : BitVec 32 := Scalar.subi v135 arg8
  let c256_i32_53 : BitVec 32 := 256#32
  let v137 : BitVec 32 := Scalar.muli v136 c256_i32_53
  let v138 : BitVec 32 := v137
  let v139 : Index := Scalar.indexCast v138
  let c0_55 : Index := 0#32
  ![0, v139.toNat, 0]
def k0_mult4 (i : grid0.Coords) : BitVec 32 :=
  let arg2 : BitVec 32 := BitVec.ofNat 32 (i 2).val
  let c256_i32_29 : BitVec 32 := 256#32
  let v80 : BitVec 32 := Scalar.muli arg2 c256_i32_29
  v80
@[reducible] def k0_t3_loop (i : grid0.Coords) : Scf.Loop 32 :=
  let c0_i32_45 : BitVec 32 := 0#32
  let arg2 : BitVec 32 := BitVec.ofNat 32 (i 2).val
  let v123 : BitVec 32 := Scalar.subi arg2 c0_i32_45
  let c1_i32_46 : BitVec 32 := 1#32
  let v125 : BitVec 32 := Scalar.divsi v123 c1_i32_46
  let v126 : BitVec 32 := Scalar.muli v125 c1_i32_46
  let v127 : BitVec 32 := Scalar.addi c0_i32_45 v126
  let c1_i32_47 : BitVec 32 := 1#32
  ⟨c0_i32_45, v127, c1_i32_47⟩
def k0_mult5 (i : grid0.Coords) (k0_t3 : Fin (k0_t3_loop i).trips) : BitVec 32 :=
  let arg2 : BitVec 32 := BitVec.ofNat 32 (i 2).val
  let c1_i32_52 : BitVec 32 := 1#32
  let v135 : BitVec 32 := Scalar.subi arg2 c1_i32_52
  let c0_i32_45 : BitVec 32 := 0#32
  let c1_i32_47 : BitVec 32 := 1#32
  let arg8 : BitVec 32 := Scf.iv c0_i32_45 c1_i32_47 k0_t3
  let v136 : BitVec 32 := Scalar.subi v135 arg8
  let c256_i32_53 : BitVec 32 := 256#32
  let v137 : BitVec 32 := Scalar.muli v136 c256_i32_53
  v137
def k0_off4 (i : grid0.Coords) (k0_t3 : Fin (k0_t3_loop i).trips) : Fin 3 → Nat :=
  let c0_54 : Index := 0#32
  let arg2 : BitVec 32 := BitVec.ofNat 32 (i 2).val
  let c1_i32_52 : BitVec 32 := 1#32
  let v135 : BitVec 32 := Scalar.subi arg2 c1_i32_52
  let c0_i32_45 : BitVec 32 := 0#32
  let c1_i32_47 : BitVec 32 := 1#32
  let arg8 : BitVec 32 := Scf.iv c0_i32_45 c1_i32_47 k0_t3
  let v136 : BitVec 32 := Scalar.subi v135 arg8
  let c256_i32_53 : BitVec 32 := 256#32
  let v137 : BitVec 32 := Scalar.muli v136 c256_i32_53
  let v138 : BitVec 32 := v137
  let v139 : Index := Scalar.indexCast v138
  let c0_55 : Index := 0#32
  ![0, v139.toNat, 0]
@[reducible] def k0_t4_loop (i : grid0.Coords) : Scf.Loop 32 :=
  let c0_i32_45 : BitVec 32 := 0#32
  let arg2 : BitVec 32 := BitVec.ofNat 32 (i 2).val
  let v123 : BitVec 32 := Scalar.subi arg2 c0_i32_45
  let c1_i32_46 : BitVec 32 := 1#32
  let v125 : BitVec 32 := Scalar.divsi v123 c1_i32_46
  let v126 : BitVec 32 := Scalar.muli v125 c1_i32_46
  let v127 : BitVec 32 := Scalar.addi c0_i32_45 v126
  let v124 : BitVec 32 := Scalar.addi c0_i32_45 v123
  let c1_i32_48 : BitVec 32 := 1#32
  ⟨v127, v124, c1_i32_48⟩
def k0_mult6 (i : grid0.Coords) (k0_t4 : Fin (k0_t4_loop i).trips) : BitVec 32 :=
  let arg2 : BitVec 32 := BitVec.ofNat 32 (i 2).val
  let c1_i32_52 : BitVec 32 := 1#32
  let v135 : BitVec 32 := Scalar.subi arg2 c1_i32_52
  let c0_i32_45 : BitVec 32 := 0#32
  let v123 : BitVec 32 := Scalar.subi arg2 c0_i32_45
  let c1_i32_46 : BitVec 32 := 1#32
  let v125 : BitVec 32 := Scalar.divsi v123 c1_i32_46
  let v126 : BitVec 32 := Scalar.muli v125 c1_i32_46
  let v127 : BitVec 32 := Scalar.addi c0_i32_45 v126
  let c1_i32_48 : BitVec 32 := 1#32
  let arg8 : BitVec 32 := Scf.iv v127 c1_i32_48 k0_t4
  let v136 : BitVec 32 := Scalar.subi v135 arg8
  let c256_i32_53 : BitVec 32 := 256#32
  let v137 : BitVec 32 := Scalar.muli v136 c256_i32_53
  v137
def k0_off5 (i : grid0.Coords) (k0_t4 : Fin (k0_t4_loop i).trips) : Fin 3 → Nat :=
  let c0_54 : Index := 0#32
  let arg2 : BitVec 32 := BitVec.ofNat 32 (i 2).val
  let c1_i32_52 : BitVec 32 := 1#32
  let v135 : BitVec 32 := Scalar.subi arg2 c1_i32_52
  let c0_i32_45 : BitVec 32 := 0#32
  let v123 : BitVec 32 := Scalar.subi arg2 c0_i32_45
  let c1_i32_46 : BitVec 32 := 1#32
  let v125 : BitVec 32 := Scalar.divsi v123 c1_i32_46
  let v126 : BitVec 32 := Scalar.muli v125 c1_i32_46
  let v127 : BitVec 32 := Scalar.addi c0_i32_45 v126
  let c1_i32_48 : BitVec 32 := 1#32
  let arg8 : BitVec 32 := Scf.iv v127 c1_i32_48 k0_t4
  let v136 : BitVec 32 := Scalar.subi v135 arg8
  let c256_i32_53 : BitVec 32 := 256#32
  let v137 : BitVec 32 := Scalar.muli v136 c256_i32_53
  let v138 : BitVec 32 := v137
  let v139 : Index := Scalar.indexCast v138
  let c0_55 : Index := 0#32
  ![0, v139.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S2x8192x1024 : Shape := ⟨3, ![2, 8192, 1024]⟩
abbrev S2x8192x512 : Shape := ⟨3, ![2, 8192, 512]⟩
abbrev S2x8192x8x64 : Shape := ⟨4, ![2, 8192, 8, 64]⟩
abbrev S8192 : Shape := ⟨1, ![8192]⟩
abbrev S2x8x8192x8192 : Shape := ⟨4, ![2, 8, 8192, 8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S2x8x64x8192 : Shape := ⟨4, ![2, 8, 64, 8192]⟩

abbrev nBuf : Space → Nat
  | .hbm => 70
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .bf16⟩
  | .hbm, ⟨2, _⟩ => ⟨S2x8192x1024, .bf16⟩
  | .hbm, ⟨3, _⟩ => ⟨S2x8192x512, .bf16⟩
  | .hbm, ⟨4, _⟩ => ⟨S2x8192x512, .f32⟩
  | .hbm, ⟨5, _⟩ => ⟨S2x8192x8x64, .f32⟩
  | .hbm, ⟨6, _⟩ => ⟨S2x8192x512, .bf16⟩
  | .hbm, ⟨7, _⟩ => ⟨S2x8192x512, .f32⟩
  | .hbm, ⟨8, _⟩ => ⟨S2x8192x8x64, .f32⟩
  | .hbm, ⟨9, _⟩ => ⟨S2x8192x512, .bf16⟩
  | .hbm, ⟨10, _⟩ => ⟨S2x8192x512, .f32⟩
  | .hbm, ⟨11, _⟩ => ⟨S2x8192x8x64, .f32⟩
  | .hbm, ⟨12, _⟩ => ⟨S8192, .i32⟩
  | .hbm, ⟨13, _⟩ => ⟨S2x8x8192x8192, .f32⟩
  | .hbm, ⟨14, _⟩ => ⟨S1x8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S_, .f32⟩
  | .hbm, ⟨20, _⟩ => ⟨S2x8x8192x8192, .f32⟩
  | .hbm, ⟨21, _⟩ => ⟨S2x8x8192x8192, .f32⟩
  | .hbm, ⟨22, _⟩ => ⟨S2x8x8192x8192, .f32⟩
  | .hbm, ⟨23, _⟩ => ⟨S2x8x8192x8192, .f32⟩
  | .hbm, ⟨24, _⟩ => ⟨S2x8x8192x8192, .i1⟩
  | .hbm, ⟨25, _⟩ => ⟨S2x8x8192x8192, .f32⟩
  | .hbm, ⟨26, _⟩ => ⟨S2x8x8192x8192, .f32⟩
  | .hbm, ⟨27, _⟩ => ⟨S2x8x8192x8192, .f32⟩
  | .hbm, ⟨28, _⟩ => ⟨S2x8x8192x8192, .f32⟩
  | .hbm, ⟨29, _⟩ => ⟨S2x8x8192x8192, .f32⟩
  | .hbm, ⟨30, _⟩ => ⟨S2x8x8192x8192, .f32⟩
  | .hbm, ⟨31, _⟩ => ⟨S2x8x8192x8192, .f32⟩
  | .hbm, ⟨32, _⟩ => ⟨S2x8x8192x8192, .f32⟩
  | .hbm, ⟨33, _⟩ => ⟨S2x8x8192x8192, .f32⟩
  | .hbm, ⟨34, _⟩ => ⟨S_, .f32⟩
  | .hbm, ⟨35, _⟩ => ⟨S_, .f32⟩
  | .hbm, ⟨36, _⟩ => ⟨S2x8x8192x8192, .i1⟩
  | .hbm, ⟨37, _⟩ => ⟨S2x8x8192x8192, .f32⟩
  | .hbm, ⟨38, _⟩ => ⟨S2x8x8192x8192, .f32⟩
  | .hbm, ⟨39, _⟩ => ⟨S_, .f32⟩
  | .hbm, ⟨40, _⟩ => ⟨S_, .f32⟩
  | .hbm, ⟨41, _⟩ => ⟨S2x8x8192x8192, .f32⟩
  | .hbm, ⟨42, _⟩ => ⟨S2x8x8192x8192, .f32⟩
  | .hbm, ⟨43, _⟩ => ⟨S2x8x8192x8192, .f32⟩
  | .hbm, ⟨44, _⟩ => ⟨S_, .f32⟩
  | .hbm, ⟨45, _⟩ => ⟨S2x8x8192x8192, .f32⟩
  | .hbm, ⟨46, _⟩ => ⟨S2x8x8192x8192, .f32⟩
  | .hbm, ⟨47, _⟩ => ⟨S2x8x8192x8192, .f32⟩
  | .hbm, ⟨48, _⟩ => ⟨S2x8x8192x8192, .f32⟩
  | .hbm, ⟨49, _⟩ => ⟨S2x8x8192x8192, .i1⟩
  | .hbm, ⟨50, _⟩ => ⟨S2x8x8192x8192, .f32⟩
  | .hbm, ⟨51, _⟩ => ⟨S2x8x8192x8192, .f32⟩
  | .hbm, ⟨52, _⟩ => ⟨S2x8x8192x8192, .f32⟩
  | .hbm, ⟨53, _⟩ => ⟨S2x8x8192x8192, .f32⟩
  | .hbm, ⟨54, _⟩ => ⟨S2x8x8192x8192, .f32⟩
  | .hbm, ⟨55, _⟩ => ⟨S2x8x8192x8192, .f32⟩
  | .hbm, ⟨56, _⟩ => ⟨S2x8x8192x8192, .f32⟩
  | .hbm, ⟨57, _⟩ => ⟨S2x8x8192x8192, .f32⟩
  | .hbm, ⟨58, _⟩ => ⟨S2x8x8192x8192, .f32⟩
  | .hbm, ⟨59, _⟩ => ⟨S2x8x8192x8192, .f32⟩
  | .hbm, ⟨60, _⟩ => ⟨S2x8x8192x8192, .f32⟩
  | .hbm, ⟨61, _⟩ => ⟨S_, .f32⟩
  | .hbm, ⟨62, _⟩ => ⟨S_, .f32⟩
  | .hbm, ⟨63, _⟩ => ⟨S2x8x8192x8192, .i1⟩
  | .hbm, ⟨64, _⟩ => ⟨S2x8x8192x8192, .f32⟩
  | .hbm, ⟨65, _⟩ => ⟨S2x8x8192x8192, .f32⟩
  | .hbm, ⟨66, _⟩ => ⟨S2x8x64x8192, .f32⟩
  | .hbm, ⟨67, _⟩ => ⟨S2x8192x8x64, .f32⟩
  | .hbm, ⟨68, _⟩ => ⟨S2x8192x512, .f32⟩
  | .hbm, ⟨69, _⟩ => ⟨S2x8192x512, .bf16⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_v16 : Ref sig .tc := ⟨.hbm, 32, rfl⟩
abbrev main_v17 : Ref sig .tc := ⟨.hbm, 33, rfl⟩
abbrev main_cst : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v18 : Ref sig .tc := ⟨.hbm, 38, rfl⟩
abbrev main_call2_cst : Ref sig .tc := ⟨.hbm, 39, rfl⟩
abbrev main_call2_v0 : Ref sig .tc := ⟨.hbm, 40, rfl⟩
abbrev main_v19 : Ref sig .tc := ⟨.hbm, 41, rfl⟩
abbrev main_v20 : Ref sig .tc := ⟨.hbm, 42, rfl⟩
abbrev main_call3_v0 : Ref sig .tc := ⟨.hbm, 43, rfl⟩
abbrev main_call3_call0_cst : Ref sig .tc := ⟨.hbm, 44, rfl⟩
abbrev main_call3_call0_v0 : Ref sig .tc := ⟨.hbm, 45, rfl⟩
abbrev main_call3_call0_v1 : Ref sig .tc := ⟨.hbm, 46, rfl⟩
abbrev main_call3_call0_v2 : Ref sig .tc := ⟨.hbm, 47, rfl⟩
abbrev main_call3_call0_v3 : Ref sig .tc := ⟨.hbm, 48, rfl⟩
abbrev main_call3_call0_v4 : Ref sig .tc := ⟨.hbm, 49, rfl⟩
abbrev main_call3_call0_v5 : Ref sig .tc := ⟨.hbm, 50, rfl⟩
abbrev main_call3_call0_v6 : Ref sig .tc := ⟨.hbm, 51, rfl⟩
abbrev main_call3_call0_v7 : Ref sig .tc := ⟨.hbm, 52, rfl⟩
abbrev main_call3_call0_v8 : Ref sig .tc := ⟨.hbm, 53, rfl⟩
abbrev main_call3_call0_v9 : Ref sig .tc := ⟨.hbm, 54, rfl⟩
abbrev main_call3_call0_v10 : Ref sig .tc := ⟨.hbm, 55, rfl⟩
abbrev main_call3_call0_v11 : Ref sig .tc := ⟨.hbm, 56, rfl⟩
abbrev main_call3_v1 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_cst_0 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩

abbrev nD : Nat := 1
abbrev τ : Topo := Topo.v7x

variable {F : FTy → Type} [FloatOps F]
-- ==== Kernel2.lean ====
abbrev S16384x2816 : Shape := ⟨2, ![16384, 2816]⟩
abbrev S16384x1024 : Shape := ⟨2, ![16384, 1024]⟩
abbrev S2816x1024 : Shape := ⟨2, ![2816, 1024]⟩
abbrev S1024 : Shape := ⟨1, ![1024]⟩
abbrev S2x1x1024 : Shape := ⟨3, ![2, 1, 1024]⟩
abbrev S1x1024 : Shape := ⟨2, ![1, 1024]⟩
abbrev S256x2816 : Shape := ⟨2, ![256, 2816]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S2816x1024, .bf16⟩
  | .hbm, ⟨3, _⟩ => ⟨S1024, .f32⟩
  | .hbm, ⟨4, _⟩ => ⟨S2x1x1024, .f32⟩
  | .hbm, ⟨5, _⟩ => ⟨S1x1024, .f32⟩
  | .hbm, ⟨6, _⟩ => ⟨S16384x1024, .f32⟩
  | .local _ .vmem, ⟨0, _⟩ => ⟨S256x2816, .bf16⟩
  | .local _ .vmem, ⟨1, _⟩ => ⟨S256x2816, .bf16⟩
  | .local _ .vmem, ⟨2, _⟩ => ⟨S256x1024, .f32⟩
  | .local _ .vmem, ⟨3, _⟩ => ⟨S256x1024, .f32⟩
  | .local _ .vmem, ⟨4, _⟩ => ⟨S2816x1024, .bf16⟩
  | .local _ .vmem, ⟨5, _⟩ => ⟨S1x1024, .f32⟩
  | .local _ .vmem, ⟨6, _⟩ => ⟨S1x1x1024, .f32⟩
  | .local _ .vmem, ⟨7, _⟩ => ⟨S1x1x1024, .f32⟩
  | .local _ .vmem, ⟨8, _⟩ => ⟨S256x1024, .f32⟩
  | .local _ .vmem, ⟨9, _⟩ => ⟨S256x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S16384x2816 : Shape := ⟨2, ![16384, 2816]⟩
abbrev S16384x1024 : Shape := ⟨2, ![16384, 1024]⟩
abbrev S2816x1024 : Shape := ⟨2, ![2816, 1024]⟩
abbrev S1024 : Shape := ⟨1, ![1024]⟩
abbrev S2x1x1024 : Shape := ⟨3, ![2, 1, 1024]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S2816x1024, .bf16⟩
  | .hbm, ⟨3, _⟩ => ⟨S1024, .f32⟩
  | .hbm, ⟨4, _⟩ => ⟨S2x1x1024, .f32⟩
  | .hbm, ⟨5, _⟩ => ⟨S16384x2816, .f32⟩
  | .hbm, ⟨6, _⟩ => ⟨S2816x1024, .f32⟩
  | .hbm, ⟨7, _⟩ => ⟨S16384x1024, .f32⟩
  | .hbm, ⟨8, _⟩ => ⟨S2x8192x1024, .f32⟩
  | .hbm, ⟨9, _⟩ => ⟨S2x8192x1024, .f32⟩
  | .hbm, ⟨10, _⟩ => ⟨S2x8192x1024, .f32⟩
  | .hbm, ⟨11, _⟩ => ⟨S_, .f32⟩
  | .hbm, ⟨12, _⟩ => ⟨S2x8192, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x1, .f32⟩
  | .hbm, ⟨21, _⟩ => ⟨S2x8192x1024, .f32⟩
  | .hbm, ⟨22, _⟩ => ⟨S2x8192x1024, .f32⟩
  | .hbm, ⟨23, _⟩ => ⟨S1x1x1024, .f32⟩
  | .hbm, ⟨24, _⟩ => ⟨S2x8192x1024, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel3.lean ====
abbrev S16384x1024 : Shape := ⟨2, ![16384, 1024]⟩
abbrev S2x1x1024 : Shape := ⟨3, ![2, 1, 1024]⟩
abbrev S1024 : Shape := ⟨1, ![1024]⟩
abbrev S1024x3072 : Shape := ⟨2, ![1024, 3072]⟩
abbrev S1x1024 : Shape := ⟨2, ![1, 1024]⟩
abbrev S2x1024x8192 : Shape := ⟨3, ![2, 1024, 8192]⟩
abbrev S256x1024 : Shape := ⟨2, ![256, 1024]⟩
abbrev S1x1x1024 : Shape := ⟨3, ![1, 1, 1024]⟩
abbrev S1x1024x256 : Shape := ⟨3, ![1, 1024, 256]⟩
abbrev S256 : Shape := ⟨1, ![256]⟩
abbrev S256x1 : Shape := ⟨2, ![256, 1]⟩
abbrev S256x3072 : Shape := ⟨2, ![256, 3072]⟩
abbrev S1024x256 : Shape := ⟨2, ![1024, 256]⟩

abbrev nBuf : Space → Nat
  | .hbm => 11
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S2x1x1024, .f32⟩
  | .hbm, ⟨2, _⟩ => ⟨S2x1x1024, .f32⟩
  | .hbm, ⟨3, _⟩ => ⟨S1024, .f32⟩
  | .hbm, ⟨4, _⟩ => ⟨S1024x3072, .bf16⟩
  | .hbm, ⟨5, _⟩ => ⟨S1x1024, .f32⟩
  | .hbm, ⟨6, _⟩ => ⟨S16384x1024, .bf16⟩
  | .hbm, ⟨7, _⟩ => ⟨S2x1024x8192, .f32⟩
  | .hbm, ⟨8, _⟩ => ⟨S2x1024x8192, .f32⟩
  | .hbm, ⟨9, _⟩ => ⟨S16384x1024, .bf16⟩
  | .hbm, ⟨10, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x3072, .bf16⟩
  | .local _ .vmem, ⟨8, _⟩ => ⟨S256x1024, .bf16⟩
  | .local _ .vmem, ⟨9, _⟩ => ⟨S256x1024, .bf16⟩
  | .local _ .vmem, ⟨10, _⟩ => ⟨S1x1024x256, .f32⟩
  | .local _ .vmem, ⟨11, _⟩ => ⟨S1x1024x256, .f32⟩
  | .local _ .vmem, ⟨12, _⟩ => ⟨S1x1024x256, .f32⟩
  | .local _ .vmem, ⟨13, _⟩ => ⟨S1x1024x256, .f32⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S16384x1024 : Shape := ⟨2, ![16384, 1024]⟩
abbrev S2x1x1024 : Shape := ⟨3, ![2, 1, 1024]⟩
abbrev S1024 : Shape := ⟨1, ![1024]⟩
abbrev S1024x3072 : Shape := ⟨2, ![1024, 3072]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x3072 : Shape := ⟨3, ![2, 8192, 3072]⟩
abbrev S2x8192x3x16x64 : Shape := ⟨5, ![2, 8192, 3, 16, 64]⟩
abbrev S2x8192x1x16x64 : Shape := ⟨5, ![2, 8192, 1, 16, 64]⟩
abbrev S2x8192x16x64 : Shape := ⟨4, ![2, 8192, 16, 64]⟩
abbrev S2x8192x8x64 : Shape := ⟨4, ![2, 8192, 8, 64]⟩
abbrev S2x16x64x8192 : Shape := ⟨4, ![2, 16, 64, 8192]⟩
abbrev S2x1024x8192 : Shape := ⟨3, ![2, 1024, 8192]⟩

abbrev nBuf : Space → Nat
  | .hbm => 57
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1x1024, .f32⟩
  | .hbm, ⟨2, _⟩ => ⟨S2x1x1024, .f32⟩
  | .hbm, ⟨3, _⟩ => ⟨S1024, .f32⟩
  | .hbm, ⟨4, _⟩ => ⟨S1024x3072, .bf16⟩
  | .hbm, ⟨5, _⟩ => ⟨S2x8192x1024, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S_, .f32⟩
  | .hbm, ⟨23, _⟩ => ⟨S2x1x1024, .f32⟩
  | .hbm, ⟨24, _⟩ => ⟨S2x1x1024, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S1024x3072, .f32⟩
  | .hbm, ⟨30, _⟩ => ⟨S2x8192x3072, .f32⟩
  | .hbm, ⟨31, _⟩ => ⟨S2x8192x3x16x64, .f32⟩
  | .hbm, ⟨32, _⟩ => ⟨S2x8192x1x16x64, .f32⟩
  | .hbm, ⟨33, _⟩ => ⟨S2x8192x16x64, .f32⟩
  | .hbm, ⟨34, _⟩ => ⟨S2x8192x1x16x64, .f32⟩
  | .hbm, ⟨35, _⟩ => ⟨S2x8192x16x64, .f32⟩
  | .hbm, ⟨36, _⟩ => ⟨S2x8192x1x16x64, .f32⟩
  | .hbm, ⟨37, _⟩ => ⟨S2x8192x16x64, .f32⟩
  | .hbm, ⟨38, _⟩ => ⟨S2x8192x8x64, .f32⟩
  | .hbm, ⟨39, _⟩ => ⟨S_, .f32⟩
  | .hbm, ⟨40, _⟩ => ⟨S2x8192x8x64, .f32⟩
  | .hbm, ⟨41, _⟩ => ⟨S2x8192x8x64, .f32⟩
  | .hbm, ⟨42, _⟩ => ⟨S2x8192x8x64, .f32⟩
  | .hbm, ⟨43, _⟩ => ⟨S_, .f32⟩
  | .hbm, ⟨44, _⟩ => ⟨S2x8192x8x64, .f32⟩
  | .hbm, ⟨45, _⟩ => ⟨S2x8192x8x64, .f32⟩
  | .hbm, ⟨46, _⟩ => ⟨S2x8192x16x64, .f32⟩
  | .hbm, ⟨47, _⟩ => ⟨S16384x1024, .f32⟩
  | .hbm, ⟨48, _⟩ => ⟨S16384x1024, .bf16⟩
  | .hbm, ⟨49, _⟩ => ⟨S2x16x64x8192, .f32⟩
  | .hbm, ⟨50, _⟩ => ⟨S2x1024x8192, .f32⟩
  | .hbm, ⟨51, _⟩ => ⟨S2x16x64x8192, .f32⟩
  | .hbm, ⟨52, _⟩ => ⟨S2x1024x8192, .f32⟩
  | .hbm, ⟨53, _⟩ => ⟨S16384x1024, .f32⟩
  | .hbm, ⟨54, _⟩ => ⟨S16384x1024, .bf16⟩
  | .hbm, ⟨55, _⟩ => ⟨S16384x1024, .f32⟩
  | .hbm, ⟨56, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩

abbrev nD : Nat := 1
abbrev τ : Topo := Topo.v7x

variable {F : FTy → Type} [FloatOps F]
-- ==== Kernel4.lean ====
abbrev S16384x512 : Shape := ⟨2, ![16384, 512]⟩
abbrev S16384x1024 : Shape := ⟨2, ![16384, 1024]⟩
abbrev S1024x1024 : Shape := ⟨2, ![1024, 1024]⟩
abbrev S1024 : Shape := ⟨1, ![1024]⟩
abbrev S2x1x1024 : Shape := ⟨3, ![2, 1, 1024]⟩
abbrev S1x1024 : Shape := ⟨2, ![1, 1024]⟩
abbrev S256x512 : Shape := ⟨2, ![256, 512]⟩
abbrev S256x1024 : Shape := ⟨2, ![256, 1024]⟩
abbrev S512x1024 : Shape := ⟨2, ![512, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 13
  | .vmem => 20
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S1024x1024, .bf16⟩
  | .hbm, ⟨4, _⟩ => ⟨S1024, .f32⟩
  | .hbm, ⟨5, _⟩ => ⟨S2x1x1024, .f32⟩
  | .hbm, ⟨6, _⟩ => ⟨S1024, .f32⟩
  | .hbm, ⟨7, _⟩ => ⟨S2x1x1024, .f32⟩
  | .hbm, ⟨8, _⟩ => ⟨S2x1x1024, .f32⟩
  | .hbm, ⟨9, _⟩ => ⟨S1x1024, .f32⟩
  | .hbm, ⟨10, _⟩ => ⟨S1x1024, .f32⟩
  | .hbm, ⟨11, _⟩ => ⟨S16384x1024, .f32⟩
  | .hbm, ⟨12, _⟩ => ⟨S16384x1024, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .f32⟩
  | .local _ .vmem, ⟨5, _⟩ => ⟨S256x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S16384x512 : Shape := ⟨2, ![16384, 512]⟩
abbrev S16384x1024 : Shape := ⟨2, ![16384, 1024]⟩
abbrev S1024x1024 : Shape := ⟨2, ![1024, 1024]⟩
abbrev S1024 : Shape := ⟨1, ![1024]⟩
abbrev S2x1x1024 : Shape := ⟨3, ![2, 1, 1024]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S1024x1024, .bf16⟩
  | .hbm, ⟨4, _⟩ => ⟨S1024, .f32⟩
  | .hbm, ⟨5, _⟩ => ⟨S2x1x1024, .f32⟩
  | .hbm, ⟨6, _⟩ => ⟨S1024, .f32⟩
  | .hbm, ⟨7, _⟩ => ⟨S2x1x1024, .f32⟩
  | .hbm, ⟨8, _⟩ => ⟨S2x1x1024, .f32⟩
  | .hbm, ⟨9, _⟩ => ⟨S16384x1024, .bf16⟩
  | .hbm, ⟨10, _⟩ => ⟨S16384x1024, .f32⟩
  | .hbm, ⟨11, _⟩ => ⟨S1024x1024, .f32⟩
  | .hbm, ⟨12, _⟩ => ⟨S16384x1024, .f32⟩
  | .hbm, ⟨13, _⟩ => ⟨S2x8192x1024, .f32⟩
  | .hbm, ⟨14, _⟩ => ⟨S2x8192x1024, .f32⟩
  | .hbm, ⟨15, _⟩ => ⟨S2x8192x1024, .f32⟩
  | .hbm, ⟨16, _⟩ => ⟨S_, .f32⟩
  | .hbm, ⟨17, _⟩ => ⟨S2x8192, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S2x8192x1, .f32⟩
  | .hbm, ⟨26, _⟩ => ⟨S2x8192x1024, .f32⟩
  | .hbm, ⟨27, _⟩ => ⟨S2x8192x1024, .f32⟩
  | .hbm, ⟨28, _⟩ => ⟨S1x1x1024, .f32⟩
  | .hbm, ⟨29, _⟩ => ⟨S2x8192x1024, .f32⟩
  | .hbm, ⟨30, _⟩ => ⟨S2x8192x1024, .f32⟩
  | .hbm, ⟨31, _⟩ => ⟨S2x8192x1024, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S_, .f32⟩
  | .hbm, ⟨36, _⟩ => ⟨S2x8192, .f32⟩
  | .hbm, ⟨37, _⟩ => ⟨S2x8192x1, .f32⟩
  | .hbm, ⟨38, _⟩ => ⟨S_, .f32⟩
  | .hbm, ⟨39, _⟩ => ⟨S2x8192x1, .f32⟩
  | .hbm, ⟨40, _⟩ => ⟨S2x8192x1, .f32⟩
  | .hbm, ⟨41, _⟩ => ⟨S_, .f32⟩
  | .hbm, ⟨42, _⟩ => ⟨S2x8192x1, .f32⟩
  | .hbm, ⟨43, _⟩ => ⟨S2x8192x1, .f32⟩
  | .hbm, ⟨44, _⟩ => ⟨S2x8192x1, .f32⟩
  | .hbm, ⟨45, _⟩ => ⟨S2x8192x1024, .f32⟩
  | .hbm, ⟨46, _⟩ => ⟨S2x8192x1024, .f32⟩
  | .hbm, ⟨47, _⟩ => ⟨S1x1x1024, .f32⟩
  | .hbm, ⟨48, _⟩ => ⟨S2x8192x1024, .f32⟩
  | .hbm, ⟨49, _⟩ => ⟨S2x8192x1024, .f32⟩
  | .hbm, ⟨50, _⟩ => ⟨S_, .f32⟩
  | .hbm, ⟨51, _⟩ => ⟨S2x1x1024, .f32⟩
  | .hbm, ⟨52, _⟩ => ⟨S2x1x1024, .f32⟩
  | .hbm, ⟨53, _⟩ => ⟨S2x8192x1024, .f32⟩
  | .hbm, ⟨54, _⟩ => ⟨S2x8192x1024, .f32⟩
  | .hbm, ⟨55, _⟩ => ⟨S2x8192x1024, .f32⟩
  | .hbm, ⟨56, _⟩ => ⟨S2x8192x1024, .f32⟩
  | .hbm, ⟨57, _⟩ => ⟨S16384x1024, .f32⟩
  | .hbm, ⟨58, _⟩ => ⟨S16384x1024, .f32⟩
  | .hbm, ⟨59, _⟩ => ⟨S16384x1024, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== Kernel5.lean ====
abbrev S2x8192x1024 : Shape := ⟨3, ![2, 8192, 1024]⟩
abbrev S2x2x5632 : Shape := ⟨3, ![2, 2, 5632]⟩
abbrev S1024x5632 : Shape := ⟨2, ![1024, 5632]⟩
abbrev S3x5632 : Shape := ⟨2, ![3, 5632]⟩
abbrev S5632 : Shape := ⟨1, ![5632]⟩
abbrev S1x5632 : Shape := ⟨2, ![1, 5632]⟩
abbrev S2x8192x2816 : Shape := ⟨3, ![2, 8192, 2816]⟩
abbrev S1x256x1024 : Shape := ⟨3, ![1, 256, 1024]⟩
abbrev S1x2x5632 : Shape := ⟨3, ![1, 2, 5632]⟩
abbrev S1x256x2816 : Shape := ⟨3, ![1, 256, 2816]⟩
abbrev S2x5632 : Shape := ⟨2, ![2, 5632]⟩
abbrev S256x1024 : Shape := ⟨2, ![256, 1024]⟩
abbrev S256x1 : Shape := ⟨2, ![256, 1]⟩
abbrev S1024x1408 : Shape := ⟨2, ![1024, 1408]⟩
abbrev S256x1408 : Shape := ⟨2, ![256, 1408]⟩
abbrev S1x1408 : Shape := ⟨2, ![1, 1408]⟩
abbrev S2x1408 : Shape := ⟨2, ![2, 1408]⟩
abbrev S1x2x1408 : Shape := ⟨3, ![1, 2, 1408]⟩
abbrev S1x256x1408 : Shape := ⟨3, ![1, 256, 1408]⟩

abbrev nBuf : Space → Nat
  | .hbm => 8
  | .vmem => 12
  | .smem => 0
  | _ => 0

abbrev bufTy : (tb : Table) → Fin (tcTables nBuf tb) → BufTy
  | .hbm, ⟨0, _⟩ => ⟨S2x8192x1024, .bf16⟩
  | .hbm, ⟨1, _⟩ => ⟨S2x2x5632, .f32⟩
  | .hbm, ⟨2, _⟩ => ⟨S1024x5632, .bf16⟩
  | .hbm, ⟨3, _⟩ => ⟨S3x5632, .f32⟩
  | .hbm, ⟨4, _⟩ => ⟨S5632, .f32⟩
  | .hbm, ⟨5, _⟩ => ⟨S1x5632, .f32⟩
  | .hbm, ⟨6, _⟩ => ⟨S2x8192x2816, .bf16⟩
  | .hbm, ⟨7, _⟩ => ⟨S2x2x5632, .f32⟩
  | .local _ .vmem, ⟨0, _⟩ => ⟨S1x256x1024, .bf16⟩
  | .local _ .vmem, ⟨1, _⟩ => ⟨S1x256x1024, .bf16⟩
  | .local _ .vmem, ⟨2, _⟩ => ⟨S1x2x5632, .f32⟩
  | .local _ .vmem, ⟨3, _⟩ => ⟨S1x2x5632, .f32⟩
  | .local _ .vmem, ⟨4, _⟩ => ⟨S1024x5632, .bf16⟩
  | .local _ .vmem, ⟨5, _⟩ => ⟨S3x5632, .f32⟩
  | .local _ .vmem, ⟨6, _⟩ => ⟨S1x5632, .f32⟩
  | .local _ .vmem, ⟨7, _⟩ => ⟨S1x256x2816, .bf16⟩
  | .local _ .vmem, ⟨8, _⟩ => ⟨S1x256x2816, .bf16⟩
  | .local _ .vmem, ⟨9, _⟩ => ⟨S1x2x5632, .f32⟩
  | .local _ .vmem, ⟨10, _⟩ => ⟨S1x2x5632, .f32⟩
  | .local _ .vmem, ⟨11, _⟩ => ⟨S2x5632, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x5632 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference5Ideal.lean ====
abbrev S2x8192x1024 : Shape := ⟨3, ![2, 8192, 1024]⟩
abbrev S2x2x5632 : Shape := ⟨3, ![2, 2, 5632]⟩
abbrev S1024x5632 : Shape := ⟨2, ![1024, 5632]⟩
abbrev S3x5632 : Shape := ⟨2, ![3, 5632]⟩
abbrev S5632 : Shape := ⟨1, ![5632]⟩
abbrev S2x8192x5632 : Shape := ⟨3, ![2, 8192, 5632]⟩
abbrev S2x8194x5632 : Shape := ⟨3, ![2, 8194, 5632]⟩
abbrev S1x5632 : Shape := ⟨2, ![1, 5632]⟩
abbrev S1x1x5632 : Shape := ⟨3, ![1, 1, 5632]⟩
abbrev S_ : Shape := ⟨0, ![]⟩
abbrev S2x8192x2816 : Shape := ⟨3, ![2, 8192, 2816]⟩

abbrev nBuf : Space → Nat
  | .hbm => 49
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S2x2x5632, .f32⟩
  | .hbm, ⟨2, _⟩ => ⟨S1024x5632, .bf16⟩
  | .hbm, ⟨3, _⟩ => ⟨S3x5632, .f32⟩
  | .hbm, ⟨4, _⟩ => ⟨S5632, .f32⟩
  | .hbm, ⟨5, _⟩ => ⟨S2x8192x1024, .f32⟩
  | .hbm, ⟨6, _⟩ => ⟨S1024x5632, .f32⟩
  | .hbm, ⟨7, _⟩ => ⟨S2x8192x5632, .f32⟩
  | .hbm, ⟨8, _⟩ => ⟨S2x8194x5632, .f32⟩
  | .hbm, ⟨9, _⟩ => ⟨S1x5632, .f32⟩
  | .hbm, ⟨10, _⟩ => ⟨S5632, .f32⟩
  | .hbm, ⟨11, _⟩ => ⟨S2x8192x5632, .f32⟩
  | .hbm, ⟨12, _⟩ => ⟨S1x1x5632, .f32⟩
  | .hbm, ⟨13, _⟩ => ⟨S2x8192x5632, .f32⟩
  | .hbm, ⟨14, _⟩ => ⟨S2x8192x5632, .f32⟩
  | .hbm, ⟨15, _⟩ => ⟨S_, .f32⟩
  | .hbm, ⟨16, _⟩ => ⟨S2x8192x5632, .f32⟩
  | .hbm, ⟨17, _⟩ => ⟨S2x8192x5632, .f32⟩
  | .hbm, ⟨18, _⟩ => ⟨S1x5632, .f32⟩
  | .hbm, ⟨19, _⟩ => ⟨S5632, .f32⟩
  | .hbm, ⟨20, _⟩ => ⟨S2x8192x5632, .f32⟩
  | .hbm, ⟨21, _⟩ => ⟨S1x1x5632, .f32⟩
  | .hbm, ⟨22, _⟩ => ⟨S2x8192x5632, .f32⟩
  | .hbm, ⟨23, _⟩ => ⟨S2x8192x5632, .f32⟩
  | .hbm, ⟨24, _⟩ => ⟨S2x8192x5632, .f32⟩
  | .hbm, ⟨25, _⟩ => ⟨S1x5632, .f32⟩
  | .hbm, ⟨26, _⟩ => ⟨S5632, .f32⟩
  | .hbm, ⟨27, _⟩ => ⟨S2x8192x5632, .f32⟩
  | .hbm, ⟨28, _⟩ => ⟨S1x1x5632, .f32⟩
  | .hbm, ⟨29, _⟩ => ⟨S2x8192x5632, .f32⟩
  | .hbm, ⟨30, _⟩ => ⟨S2x8192x5632, .f32⟩
  | .hbm, ⟨31, _⟩ => ⟨S2x8192x5632, .f32⟩
  | .hbm, ⟨32, _⟩ => ⟨S1x1x5632, .f32⟩
  | .hbm, ⟨33, _⟩ => ⟨S2x8192x5632, .f32⟩
  | .hbm, ⟨34, _⟩ => ⟨S2x8192x5632, .f32⟩
  | .hbm, ⟨35, _⟩ => ⟨S2x8192x2816, .f32⟩
  | .hbm, ⟨36, _⟩ => ⟨S2x8192x2816, .f32⟩
  | .hbm, ⟨37, _⟩ => ⟨S2x8192x2816, .f32⟩
  | .hbm, ⟨38, _⟩ => ⟨S2x8192x2816, .f32⟩
  | .hbm, ⟨39, _⟩ => ⟨S_, .f32⟩
  | .hbm, ⟨40, _⟩ => ⟨S2x8192x2816, .f32⟩
  | .hbm, ⟨41, _⟩ => ⟨S2x8192x2816, .f32⟩
  | .hbm, ⟨42, _⟩ => ⟨S_, .f32⟩
  | .hbm, ⟨43, _⟩ => ⟨S2x8192x2816, .f32⟩
  | .hbm, ⟨44, _⟩ => ⟨S2x8192x2816, .f32⟩
  | .hbm, ⟨45, _⟩ => ⟨S2x8192x2816, .f32⟩
  | .hbm, ⟨46, _⟩ => ⟨S2x8192x2816, .f32⟩
  | .hbm, ⟨47, _⟩ => ⟨S2x8192x2816, .bf16⟩
  | .hbm, ⟨48, _⟩ => ⟨S2x2x5632, .f32⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Kernel6.lean ====
abbrev S2x8192x1024 : Shape := ⟨3, ![2, 8192, 1024]⟩
abbrev S4x1x128 : Shape := ⟨3, ![4, 1, 128]⟩
abbrev S4x32 : Shape := ⟨2, ![4, 32]⟩
abbrev S64 : Shape := ⟨1, ![64]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S2x8192x512 : Shape := ⟨3, ![2, 8192, 512]⟩
abbrev S1x256x128 : Shape := ⟨3, ![1, 256, 128]⟩
abbrev S1x8192x128 : Shape := ⟨3, ![1, 8192, 128]⟩
abbrev S1x1x128 : Shape := ⟨3, ![1, 1, 128]⟩
abbrev S256x128 : Shape := ⟨2, ![256, 128]⟩
abbrev S256x256 : Shape := ⟨2, ![256, 256]⟩
abbrev S1x32 : Shape := ⟨2, ![1, 32]⟩
abbrev S1 : Shape := ⟨1, ![1]⟩
abbrev S1x1 : Shape := ⟨2, ![1, 1]⟩
abbrev S1x1x1 : Shape := ⟨3, ![1, 1, 1]⟩
abbrev S256x1 : Shape := ⟨2, ![256, 1]⟩
abbrev S256 : Shape := ⟨1, ![256]⟩

abbrev nBuf : Space → Nat
  | .hbm => 11
  | .vmem => 12
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .bf16⟩
  | .hbm, ⟨2, _⟩ => ⟨S2x8192x1024, .bf16⟩
  | .hbm, ⟨3, _⟩ => ⟨S4x1x128, .f32⟩
  | .hbm, ⟨4, _⟩ => ⟨S4x32, .f32⟩
  | .hbm, ⟨5, _⟩ => ⟨S64, .f32⟩
  | .hbm, ⟨6, _⟩ => ⟨S1x64, .f32⟩
  | .hbm, ⟨7, _⟩ => ⟨S2x64, .f32⟩
  | .hbm, ⟨8, _⟩ => ⟨S128, .f32⟩
  | .hbm, ⟨9, _⟩ => ⟨S1x128, .f32⟩
  | .hbm, ⟨10, _⟩ => ⟨S2x8192x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x1x128, .f32⟩
  | .local _ .vmem, ⟨7, _⟩ => ⟨S1x1x128, .f32⟩
  | .local _ .vmem, ⟨8, _⟩ => ⟨S4x32, .f32⟩
  | .local _ .vmem, ⟨9, _⟩ => ⟨S1x128, .f32⟩
  | .local _ .vmem, ⟨10, _⟩ => ⟨S1x256x128, .bf16⟩
  | .local _ .vmem, ⟨11, _⟩ => ⟨S1x256x128, .bf16⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![2, 4, 32], ![false, false, false]⟩

@[reducible] def k0_t1_loop (i : grid0.Coords) : Scf.Loop 32 :=
  let c0_i32_18 : BitVec 32 := 0#32
  let arg2 : BitVec 32 := BitVec.ofNat 32 (i 2).val
  let v45 : BitVec 32 := Scalar.subi arg2 c0_i32_18
  let c1_i32 : BitVec 32 := 1#32
  let v47 : BitVec 32 := Scalar.divsi v45 c1_i32
  let v48 : BitVec 32 := Scalar.muli v47 c1_i32
  let v49 : BitVec 32 := Scalar.addi c0_i32_18 v48
  let c1_i32_19 : BitVec 32 := 1#32
  ⟨c0_i32_18, v49, c1_i32_19⟩
def k0_mult1 (i : grid0.Coords) (k0_t1 : Fin (k0_t1_loop i).trips) : BitVec 32 :=
  let c0_i32_18 : BitVec 32 := 0#32
  let c1_i32_19 : BitVec 32 := 1#32
  let arg10 : BitVec 32 := Scf.iv c0_i32_18 c1_i32_19 k0_t1
  let c256_i32_114 : BitVec 32 := 256#32
  let v327 : BitVec 32 := Scalar.muli arg10 c256_i32_114
  v327
def k0_off1 (i : grid0.Coords) (k0_t1 : Fin (k0_t1_loop i).trips) : Fin 3 → Nat :=
  let c0_115 : Index := 0#32
  let c0_i32_18 : BitVec 32 := 0#32
  let c1_i32_19 : BitVec 32 := 1#32
  let arg10 : BitVec 32 := Scf.iv c0_i32_18 c1_i32_19 k0_t1
  let c256_i32_114 : BitVec 32 := 256#32
  let v327 : BitVec 32 := Scalar.muli arg10 c256_i32_114
  let v328 : BitVec 32 := v327
  let v329 : Index := Scalar.indexCast v328
  let c0_116 : Index := 0#32
  ![0, v329.toNat, 0]
@[reducible] def k0_t2_loop (i : grid0.Coords) : Scf.Loop 32 :=
  let c0_i32_18 : BitVec 32 := 0#32
  let arg2 : BitVec 32 := BitVec.ofNat 32 (i 2).val
  let v45 : BitVec 32 := Scalar.subi arg2 c0_i32_18
  let c1_i32 : BitVec 32 := 1#32
  let v47 : BitVec 32 := Scalar.divsi v45 c1_i32
  let v48 : BitVec 32 := Scalar.muli v47 c1_i32
  let v49 : BitVec 32 := Scalar.addi c0_i32_18 v48
  let v46 : BitVec 32 := Scalar.addi c0_i32_18 v45
  let c1_i32_20 : BitVec 32 := 1#32
  ⟨v49, v46, c1_i32_20⟩
def k0_mult2 (i : grid0.Coords) (k0_t2 : Fin (k0_t2_loop i).trips) : BitVec 32 :=
  let c0_i32_18 : BitVec 32 := 0#32
  let arg2 : BitVec 32 := BitVec.ofNat 32 (i 2).val
  let v45 : BitVec 32 := Scalar.subi arg2 c0_i32_18
  let c1_i32 : BitVec 32 := 1#32
  let v47 : BitVec 32 := Scalar.divsi v45 c1_i32
  let v48 : BitVec 32 := Scalar.muli v47 c1_i32
  let v49 : BitVec 32 := Scalar.addi c0_i32_18 v48
  let c1_i32_20 : BitVec 32 := 1#32
  let arg10 : BitVec 32 := Scf.iv v49 c1_i32_20 k0_t2
  let c256_i32_114 : BitVec 32 := 256#32
  let v327 : BitVec 32 := Scalar.muli arg10 c256_i32_114
  v327
def k0_off2 (i : grid0.Coords) (k0_t2 : Fin (k0_t2_loop i).trips) : Fin 3 → Nat :=
  let c0_115 : Index := 0#32
  let c0_i32_18 : BitVec 32 := 0#32
  let arg2 : BitVec 32 := BitVec.ofNat 32 (i 2).val
  let v45 : BitVec 32 := Scalar.subi arg2 c0_i32_18
  let c1_i32 : BitVec 32 := 1#32
  let v47 : BitVec 32 := Scalar.divsi v45 c1_i32
  let v48 : BitVec 32 := Scalar.muli v47 c1_i32
  let v49 : BitVec 32 := Scalar.addi c0_i32_18 v48
  let c1_i32_20 : BitVec 32 := 1#32
  let arg10 : BitVec 32 := Scf.iv v49 c1_i32_20 k0_t2
  let c256_i32_114 : BitVec 32 := 256#32
  let v327 : BitVec 32 := Scalar.muli arg10 c256_i32_114
  let v328 : BitVec 32 := v327
  let v329 : Index := Scalar.indexCast v328
  let c0_116 : Index := 0#32
  ![0, v329.toNat, 0]
def k0_mult3 (i : grid0.Coords) : BitVec 32 :=
  let arg2 : BitVec 32 := BitVec.ofNat 32 (i 2).val
  let c256_i32 : BitVec 32 := 256#32
  let v52 : BitVec 32 := Scalar.muli arg2 c256_i32
  v52
def k0_off3 (i : grid0.Coords) : Fin 3 → Nat :=
  let c0_21 : Index := 0#32
  let arg2 : BitVec 32 := BitVec.ofNat 32 (i 2).val
  let c256_i32 : BitVec 32 := 256#32
  let v52 : BitVec 32 := Scalar.muli arg2 c256_i32
  let v53 : BitVec 32 := v52
  let v54 : Index := Scalar.indexCast v53
  let c0_22 : Index := 0#32
  ![0, v54.toNat, 0]
@[reducible] def k0_t3_loop (i : grid0.Coords) : Scf.Loop 32 :=
  let c0_i32_37 : BitVec 32 := 0#32
  let arg2 : BitVec 32 := BitVec.ofNat 32 (i 2).val
  let v103 : BitVec 32 := Scalar.subi arg2 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_39 : BitVec 32 := 1#32
  ⟨c0_i32_37, v107, c1_i32_39⟩
def k0_mult4 (i : grid0.Coords) (k0_t3 : Fin (k0_t3_loop i).trips) : BitVec 32 :=
  let c0_i32_37 : BitVec 32 := 0#32
  let c1_i32_39 : BitVec 32 := 1#32
  let arg10 : BitVec 32 := Scf.iv c0_i32_37 c1_i32_39 k0_t3
  let c256_i32_114 : BitVec 32 := 256#32
  let v327 : BitVec 32 := Scalar.muli arg10 c256_i32_114
  v327
def k0_off4 (i : grid0.Coords) (k0_t3 : Fin (k0_t3_loop i).trips) : Fin 3 → Nat :=
  let c0_115 : Index := 0#32
  let c0_i32_37 : BitVec 32 := 0#32
  let c1_i32_39 : BitVec 32 := 1#32
  let arg10 : BitVec 32 := Scf.iv c0_i32_37 c1_i32_39 k0_t3
  let c256_i32_114 : BitVec 32 := 256#32
  let v327 : BitVec 32 := Scalar.muli arg10 c256_i32_114
  let v328 : BitVec 32 := v327
  let v329 : Index := Scalar.indexCast v328
  let c0_116 : Index := 0#32
  ![0, v329.toNat, 0]
@[reducible] def k0_t4_loop (i : grid0.Coords) : Scf.Loop 32 :=
  let c0_i32_37 : BitVec 32 := 0#32
  let arg2 : BitVec 32 := BitVec.ofNat 32 (i 2).val
  let v103 : BitVec 32 := Scalar.subi arg2 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let v104 : BitVec 32 := Scalar.addi c0_i32_37 v103
  let c1_i32_40 : BitVec 32 := 1#32
  ⟨v107, v104, c1_i32_40⟩
def k0_mult5 (i : grid0.Coords) (k0_t4 : Fin (k0_t4_loop i).trips) : BitVec 32 :=
  let c0_i32_37 : BitVec 32 := 0#32
  let arg2 : BitVec 32 := BitVec.ofNat 32 (i 2).val
  let v103 : BitVec 32 := Scalar.subi arg2 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg10 : BitVec 32 := Scf.iv v107 c1_i32_40 k0_t4
  let c256_i32_114 : BitVec 32 := 256#32
  let v327 : BitVec 32 := Scalar.muli arg10 c256_i32_114
  v327
def k0_off5 (i : grid0.Coords) (k0_t4 : Fin (k0_t4_loop i).trips) : Fin 3 → Nat :=
  let c0_115 : Index := 0#32
  let c0_i32_37 : BitVec 32 := 0#32
  let arg2 : BitVec 32 := BitVec.ofNat 32 (i 2).val
  let v103 : BitVec 32 := Scalar.subi arg2 c0_i32_37
  let c1_i32_38 : BitVec 32 := 1#32
  let v105 : BitVec 32 := Scalar.divsi v103 c1_i32_38
  let v106 : BitVec 32 := Scalar.muli v105 c1_i32_38
  let v107 : BitVec 32 := Scalar.addi c0_i32_37 v106
  let c1_i32_40 : BitVec 32 := 1#32
  let arg10 : BitVec 32 := Scf.iv v107 c1_i32_40 k0_t4
  let c256_i32_114 : BitVec 32 := 256#32
  let v327 : BitVec 32 := Scalar.muli arg10 c256_i32_114
  let v328 : BitVec 32 := v327
  let v329 : Index := Scalar.indexCast v328
  let c0_116 : Index := 0#32
  ![0, v329.toNat, 0]
def k0_mult6 (i : grid0.Coords) : BitVec 32 :=
  let arg2 : BitVec 32 := BitVec.ofNat 32 (i 2).val
  let c256_i32_41 : BitVec 32 := 256#32
  let v110 : BitVec 32 := Scalar.muli arg2 c256_i32_41
  v110
@[reducible] def k0_t5_loop (i : grid0.Coords) : Scf.Loop 32 :=
  let c0_i32_60 : BitVec 32 := 0#32
  let arg2 : BitVec 32 := BitVec.ofNat 32 (i 2).val
  let v174 : BitVec 32 := Scalar.subi arg2 c0_i32_60
  let c1_i32_61 : BitVec 32 := 1#32
  let v176 : BitVec 32 := Scalar.divsi v174 c1_i32_61
  let v177 : BitVec 32 := Scalar.muli v176 c1_i32_61
  let v178 : BitVec 32 := Scalar.addi c0_i32_60 v177
  let c1_i32_62 : BitVec 32 := 1#32
  ⟨c0_i32_60, v178, c1_i32_62⟩
def k0_mult7 (i : grid0.Coords) (k0_t5 : Fin (k0_t5_loop i).trips) : BitVec 32 :=
  let c0_i32_60 : BitVec 32 := 0#32
  let c1_i32_62 : BitVec 32 := 1#32
  let arg10 : BitVec 32 := Scf.iv c0_i32_60 c1_i32_62 k0_t5
  let c256_i32_114 : BitVec 32 := 256#32
  let v327 : BitVec 32 := Scalar.muli arg10 c256_i32_114
  v327
def k0_off6 (i : grid0.Coords) (k0_t5 : Fin (k0_t5_loop i).trips) : Fin 3 → Nat :=
  let c0_115 : Index := 0#32
  let c0_i32_60 : BitVec 32 := 0#32
  let c1_i32_62 : BitVec 32 := 1#32
  let arg10 : BitVec 32 := Scf.iv c0_i32_60 c1_i32_62 k0_t5
  let c256_i32_114 : BitVec 32 := 256#32
  let v327 : BitVec 32 := Scalar.muli arg10 c256_i32_114
  let v328 : BitVec 32 := v327
  let v329 : Index := Scalar.indexCast v328
  let c0_116 : Index := 0#32
  ![0, v329.toNat, 0]
@[reducible] def k0_t6_loop (i : grid0.Coords) : Scf.Loop 32 :=
  let c0_i32_60 : BitVec 32 := 0#32
  let arg2 : BitVec 32 := BitVec.ofNat 32 (i 2).val
  let v174 : BitVec 32 := Scalar.subi arg2 c0_i32_60
  let c1_i32_61 : BitVec 32 := 1#32
  let v176 : BitVec 32 := Scalar.divsi v174 c1_i32_61
  let v177 : BitVec 32 := Scalar.muli v176 c1_i32_61
  let v178 : BitVec 32 := Scalar.addi c0_i32_60 v177
  let v175 : BitVec 32 := Scalar.addi c0_i32_60 v174
  let c1_i32_63 : BitVec 32 := 1#32
  ⟨v178, v175, c1_i32_63⟩
def k0_mult8 (i : grid0.Coords) (k0_t6 : Fin (k0_t6_loop i).trips) : BitVec 32 :=
  let c0_i32_60 : BitVec 32 := 0#32
  let arg2 : BitVec 32 := BitVec.ofNat 32 (i 2).val
  let v174 : BitVec 32 := Scalar.subi arg2 c0_i32_60
  let c1_i32_61 : BitVec 32 := 1#32
  let v176 : BitVec 32 := Scalar.divsi v174 c1_i32_61
  let v177 : BitVec 32 := Scalar.muli v176 c1_i32_61
  let v178 : BitVec 32 := Scalar.addi c0_i32_60 v177
  let c1_i32_63 : BitVec 32 := 1#32
  let arg10 : BitVec 32 := Scf.iv v178 c1_i32_63 k0_t6
  let c256_i32_114 : BitVec 32 := 256#32
  let v327 : BitVec 32 := Scalar.muli arg10 c256_i32_114
  v327
def k0_off7 (i : grid0.Coords) (k0_t6 : Fin (k0_t6_loop i).trips) : Fin 3 → Nat :=
  let c0_115 : Index := 0#32
  let c0_i32_60 : BitVec 32 := 0#32
  let arg2 : BitVec 32 := BitVec.ofNat 32 (i 2).val
  let v174 : BitVec 32 := Scalar.subi arg2 c0_i32_60
  let c1_i32_61 : BitVec 32 := 1#32
  let v176 : BitVec 32 := Scalar.divsi v174 c1_i32_61
  let v177 : BitVec 32 := Scalar.muli v176 c1_i32_61
  let v178 : BitVec 32 := Scalar.addi c0_i32_60 v177
  let c1_i32_63 : BitVec 32 := 1#32
  let arg10 : BitVec 32 := Scf.iv v178 c1_i32_63 k0_t6
  let c256_i32_114 : BitVec 32 := 256#32
  let v327 : BitVec 32 := Scalar.muli arg10 c256_i32_114
  let v328 : BitVec 32 := v327
  let v329 : Index := Scalar.indexCast v328
  let c0_116 : Index := 0#32
  ![0, v329.toNat, 0]
def k0_mult9 (i : grid0.Coords) : BitVec 32 :=
  let arg2 : BitVec 32 := BitVec.ofNat 32 (i 2).val
  let c256_i32_64 : BitVec 32 := 256#32
  let v181 : BitVec 32 := Scalar.muli arg2 c256_i32_64
  v181
@[reducible] def k0_t7_loop (i : grid0.Coords) : Scf.Loop 32 :=
  let c0_i32_81 : BitVec 32 := 0#32
  let arg2 : BitVec 32 := BitVec.ofNat 32 (i 2).val
  let v232 : BitVec 32 := Scalar.subi arg2 c0_i32_81
  let c1_i32_82 : BitVec 32 := 1#32
  let v234 : BitVec 32 := Scalar.divsi v232 c1_i32_82
  let v235 : BitVec 32 := Scalar.muli v234 c1_i32_82
  let v236 : BitVec 32 := Scalar.addi c0_i32_81 v235
  let c1_i32_83 : BitVec 32 := 1#32
  ⟨c0_i32_81, v236, c1_i32_83⟩
def k0_mult10 (i : grid0.Coords) (k0_t7 : Fin (k0_t7_loop i).trips) : BitVec 32 :=
  let c0_i32_81 : BitVec 32 := 0#32
  let c1_i32_83 : BitVec 32 := 1#32
  let arg10 : BitVec 32 := Scf.iv c0_i32_81 c1_i32_83 k0_t7
  let c256_i32_114 : BitVec 32 := 256#32
  let v327 : BitVec 32 := Scalar.muli arg10 c256_i32_114
  v327
def k0_off8 (i : grid0.Coords) (k0_t7 : Fin (k0_t7_loop i).trips) : Fin 3 → Nat :=
  let c0_115 : Index := 0#32
  let c0_i32_81 : BitVec 32 := 0#32
  let c1_i32_83 : BitVec 32 := 1#32
  let arg10 : BitVec 32 := Scf.iv c0_i32_81 c1_i32_83 k0_t7
  let c256_i32_114 : BitVec 32 := 256#32
  let v327 : BitVec 32 := Scalar.muli arg10 c256_i32_114
  let v328 : BitVec 32 := v327
  let v329 : Index := Scalar.indexCast v328
  let c0_116 : Index := 0#32
  ![0, v329.toNat, 0]
@[reducible] def k0_t8_loop (i : grid0.Coords) : Scf.Loop 32 :=
  let c0_i32_81 : BitVec 32 := 0#32
  let arg2 : BitVec 32 := BitVec.ofNat 32 (i 2).val
  let v232 : BitVec 32 := Scalar.subi arg2 c0_i32_81
  let c1_i32_82 : BitVec 32 := 1#32
  let v234 : BitVec 32 := Scalar.divsi v232 c1_i32_82
  let v235 : BitVec 32 := Scalar.muli v234 c1_i32_82
  let v236 : BitVec 32 := Scalar.addi c0_i32_81 v235
  let v233 : BitVec 32 := Scalar.addi c0_i32_81 v232
  let c1_i32_84 : BitVec 32 := 1#32
  ⟨v236, v233, c1_i32_84⟩
def k0_mult11 (i : grid0.Coords) (k0_t8 : Fin (k0_t8_loop i).trips) : BitVec 32 :=
  let c0_i32_81 : BitVec 32 := 0#32
  let arg2 : BitVec 32 := BitVec.ofNat 32 (i 2).val
  let v232 : BitVec 32 := Scalar.subi arg2 c0_i32_81
  let c1_i32_82 : BitVec 32 := 1#32
  let v234 : BitVec 32 := Scalar.divsi v232 c1_i32_82
  let v235 : BitVec 32 := Scalar.muli v234 c1_i32_82
  let v236 : BitVec 32 := Scalar.addi c0_i32_81 v235
  let c1_i32_84 : BitVec 32 := 1#32
  let arg10 : BitVec 32 := Scf.iv v236 c1_i32_84 k0_t8
  let c256_i32_114 : BitVec 32 := 256#32
  let v327 : BitVec 32 := Scalar.muli arg10 c256_i32_114
  v327
def k0_off9 (i : grid0.Coords) (k0_t8 : Fin (k0_t8_loop i).trips) : Fin 3 → Nat :=
  let c0_115 : Index := 0#32
  let c0_i32_81 : BitVec 32 := 0#32
  let arg2 : BitVec 32 := BitVec.ofNat 32 (i 2).val
  let v232 : BitVec 32 := Scalar.subi arg2 c0_i32_81
  let c1_i32_82 : BitVec 32 := 1#32
  let v234 : BitVec 32 := Scalar.divsi v232 c1_i32_82
  let v235 : BitVec 32 := Scalar.muli v234 c1_i32_82
  let v236 : BitVec 32 := Scalar.addi c0_i32_81 v235
  let c1_i32_84 : BitVec 32 := 1#32
  let arg10 : BitVec 32 := Scf.iv v236 c1_i32_84 k0_t8
  let c256_i32_114 : BitVec 32 := 256#32
  let v327 : BitVec 32 := Scalar.muli arg10 c256_i32_114
  let v328 : BitVec 32 := v327
  let v329 : Index := Scalar.indexCast v328
  let c0_116 : Index := 0#32
  ![0, v329.toNat, 0]
def k0_mult12 (i : grid0.Coords) : BitVec 32 :=
  let arg2 : BitVec 32 := BitVec.ofNat 32 (i 2).val
  let c256_i32_85 : BitVec 32 := 256#32
  let v239 : BitVec 32 := Scalar.muli arg2 c256_i32_85
  v239
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S4x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Kernel6Ideal.lean ====
variable {F : FTy → Type} [FloatOps F] [Named F]
def κ : String → Option EReal := fun
  | "mask" => some ⊥
  | _ => none
-- ==== Reference6Ideal.lean ====
abbrev S2x8192x1024 : Shape := ⟨3, ![2, 8192, 1024]⟩
abbrev S4x1x128 : Shape := ⟨3, ![4, 1, 128]⟩
abbrev S4x32 : Shape := ⟨2, ![4, 32]⟩
abbrev S64 : Shape := ⟨1, ![64]⟩
abbrev S2x8192x512 : Shape := ⟨3, ![2, 8192, 512]⟩
abbrev S2x8192x8x2x32 : Shape := ⟨5, ![2, 8192, 8, 2, 32]⟩
abbrev S2x8192x8x64 : Shape := ⟨4, ![2, 8192, 8, 64]⟩
abbrev S1x32 : Shape := ⟨2, ![1, 32]⟩
abbrev S32 : Shape := ⟨1, ![32]⟩
abbrev S_ : Shape := ⟨0, ![]⟩
abbrev S8192 : Shape := ⟨1, ![8192]⟩
abbrev S2x2x8x8192x8192 : Shape := ⟨5, ![2, 2, 8, 8192, 8192]⟩
abbrev S8192x1 : Shape := ⟨2, ![8192, 1]⟩
abbrev S1x8192 : Shape := ⟨2, ![1, 8192]⟩
abbrev S8192x8192 : Shape := ⟨2, ![8192, 8192]⟩
abbrev S8x64 : Shape := ⟨2, ![8, 64]⟩
abbrev S8x1 : Shape := ⟨2, ![8, 1]⟩
abbrev S8 : Shape := ⟨1, ![8]⟩
abbrev S8x1x1 : Shape := ⟨3, ![8, 1, 1]⟩
abbrev S1x8192x8192 : Shape := ⟨3, ![1, 8192, 8192]⟩
abbrev S8x8192x8192 : Shape := ⟨3, ![8, 8192, 8192]⟩
abbrev S1x1x8x8192x8192 : Shape := ⟨5, ![1, 1, 8, 8192, 8192]⟩
abbrev S2x2x8x8192 : Shape := ⟨4, ![2, 2, 8, 8192]⟩
abbrev S2x2x8x8192x1 : Shape := ⟨5, ![2, 2, 8, 8192, 1]⟩
abbrev S2x1x8x8192x8192 : Shape := ⟨5, ![2, 1, 8, 8192, 8192]⟩
abbrev S2x8x8192x8192 : Shape := ⟨4, ![2, 8, 8192, 8192]⟩
abbrev S2x8x64x8192 : Shape := ⟨4, ![2, 8, 64, 8192]⟩
abbrev S2x8192x8 : Shape := ⟨3, ![2, 8192, 8]⟩
abbrev S2x8192x8x1 : Shape := ⟨4, ![2, 8192, 8, 1]⟩
abbrev S1x1x1x64 : Shape := ⟨4, ![1, 1, 1, 64]⟩

abbrev nBuf : Space → Nat
  | .hbm => 108
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .bf16⟩
  | .hbm, ⟨2, _⟩ => ⟨S2x8192x1024, .bf16⟩
  | .hbm, ⟨3, _⟩ => ⟨S4x1x128, .f32⟩
  | .hbm, ⟨4, _⟩ => ⟨S4x32, .f32⟩
  | .hbm, ⟨5, _⟩ => ⟨S64, .f32⟩
  | .hbm, ⟨6, _⟩ => ⟨S2x8192x512, .bf16⟩
  | .hbm, ⟨7, _⟩ => ⟨S2x8192x512, .f32⟩
  | .hbm, ⟨8, _⟩ => ⟨S2x8192x8x2x32, .f32⟩
  | .hbm, ⟨9, _⟩ => ⟨S2x8192x512, .bf16⟩
  | .hbm, ⟨10, _⟩ => ⟨S2x8192x512, .f32⟩
  | .hbm, ⟨11, _⟩ => ⟨S2x8192x8x2x32, .f32⟩
  | .hbm, ⟨12, _⟩ => ⟨S2x8192x512, .bf16⟩
  | .hbm, ⟨13, _⟩ => ⟨S2x8192x512, .f32⟩
  | .hbm, ⟨14, _⟩ => ⟨S2x8192x8x64, .f32⟩
  | .hbm, ⟨15, _⟩ => ⟨S1x32, .f32⟩
  | .hbm, ⟨16, _⟩ => ⟨S32, .f32⟩
  | .hbm, ⟨17, _⟩ => ⟨S1x32, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1x32, .f32⟩
  | .hbm, ⟨24, _⟩ => ⟨S32, .f32⟩
  | .hbm, ⟨25, _⟩ => ⟨S1x32, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S8192, .i32⟩
  | .hbm, ⟨35, _⟩ => ⟨S2x2x8x8192x8192, .f32⟩
  | .hbm, ⟨36, _⟩ => ⟨S8192x1, .i32⟩
  | .hbm, ⟨37, _⟩ => ⟨S1x8192, .i32⟩
  | .hbm, ⟨38, _⟩ => ⟨S8192x8192, .i32⟩
  | .hbm, ⟨39, _⟩ => ⟨S8192x8192, .i32⟩
  | .hbm, ⟨40, _⟩ => ⟨S8192x8192, .i32⟩
  | .hbm, ⟨41, _⟩ => ⟨S8192x8192, .f32⟩
  | .hbm, ⟨42, _⟩ => ⟨S8x64, .f32⟩
  | .hbm, ⟨43, _⟩ => ⟨S8x1, .f32⟩
  | .hbm, ⟨44, _⟩ => ⟨S8, .f32⟩
  | .hbm, ⟨45, _⟩ => ⟨S8x1x1, .f32⟩
  | .hbm, ⟨46, _⟩ => ⟨S8x1x1, .f32⟩
  | .hbm, ⟨47, _⟩ => ⟨S1x8192x8192, .f32⟩
  | .hbm, ⟨48, _⟩ => ⟨S8x8192x8192, .f32⟩
  | .hbm, ⟨49, _⟩ => ⟨S8x8192x8192, .f32⟩
  | .hbm, ⟨50, _⟩ => ⟨S8x8192x8192, .f32⟩
  | .hbm, ⟨51, _⟩ => ⟨S1x8192, .i32⟩
  | .hbm, ⟨52, _⟩ => ⟨S8192x1, .i32⟩
  | .hbm, ⟨53, _⟩ => ⟨S8192x8192, .i32⟩
  | .hbm, ⟨54, _⟩ => ⟨S8192x8192, .i32⟩
  | .hbm, ⟨55, _⟩ => ⟨S8192x8192, .i1⟩
  | .hbm, ⟨56, _⟩ => ⟨S1x1x8x8192x8192, .f32⟩
  | .hbm, ⟨57, _⟩ => ⟨S2x2x8x8192x8192, .f32⟩
  | .hbm, ⟨58, _⟩ => ⟨S2x2x8x8192x8192, .f32⟩
  | .hbm, ⟨59, _⟩ => ⟨S_, .f32⟩
  | .hbm, ⟨60, _⟩ => ⟨S_, .f32⟩
  | .hbm, ⟨61, _⟩ => ⟨S2x2x8x8192x8192, .i1⟩
  | .hbm, ⟨62, _⟩ => ⟨S2x2x8x8192x8192, .f32⟩
  | .hbm, ⟨63, _⟩ => ⟨S2x2x8x8192x8192, .f32⟩
  | .hbm, ⟨64, _⟩ => ⟨S_, .f32⟩
  | .hbm, ⟨65, _⟩ => ⟨S2x2x8x8192, .f32⟩
  | .hbm, ⟨66, _⟩ => ⟨S_, .f32⟩
  | .hbm, ⟨67, _⟩ => ⟨S2x2x8x8192, .f32⟩
  | .hbm, ⟨68, _⟩ => ⟨S2x2x8x8192, .f32⟩
  | .hbm, ⟨69, _⟩ => ⟨S2x2x8x8192x1, .f32⟩
  | .hbm, ⟨70, _⟩ => ⟨S2x2x8x8192x8192, .f32⟩
  | .hbm, ⟨71, _⟩ => ⟨S2x2x8x8192x8192, .f32⟩
  | .hbm, ⟨72, _⟩ => ⟨S2x2x8x8192x8192, .f32⟩
  | .hbm, ⟨73, _⟩ => ⟨S_, .f32⟩
  | .hbm, ⟨74, _⟩ => ⟨S2x2x8x8192, .f32⟩
  | .hbm, ⟨75, _⟩ => ⟨S2x2x8x8192x1, .f32⟩
  | .hbm, ⟨76, _⟩ => ⟨S2x2x8x8192x8192, .f32⟩
  | .hbm, ⟨77, _⟩ => ⟨S2x2x8x8192x8192, .f32⟩
  | .hbm, ⟨78, _⟩ => ⟨S2x1x8x8192x8192, .f32⟩
  | .hbm, ⟨79, _⟩ => ⟨S2x8x8192x8192, .f32⟩
  | .hbm, ⟨80, _⟩ => ⟨S2x1x8x8192x8192, .f32⟩
  | .hbm, ⟨81, _⟩ => ⟨S2x8x8192x8192, .f32⟩
  | .hbm, ⟨82, _⟩ => ⟨S2x8x8192x8192, .f32⟩
  | .hbm, ⟨83, _⟩ => ⟨S2x8x8192x8192, .f32⟩
  | .hbm, ⟨84, _⟩ => ⟨S2x8x8192x8192, .f32⟩
  | .hbm, ⟨85, _⟩ => ⟨S2x8x64x8192, .f32⟩
  | .hbm, ⟨86, _⟩ => ⟨S2x8192x8x64, .f32⟩
  | .hbm, ⟨87, _⟩ => ⟨S2x8192x8x64, .f32⟩
  | .hbm, ⟨88, _⟩ => ⟨S_, .f32⟩
  | .hbm, ⟨89, _⟩ => ⟨S2x8192x8, .f32⟩
  | .hbm, ⟨90, _⟩ => ⟨S2x8192x8x1, .f32⟩
  | .hbm, ⟨91, _⟩ => ⟨S_, .f32⟩
  | .hbm, ⟨92, _⟩ => ⟨S2x8192x8x1, .f32⟩
  | .hbm, ⟨93, _⟩ => ⟨S2x8192x8x1, .f32⟩
  | .hbm, ⟨94, _⟩ => ⟨S_, .f32⟩
  | .hbm, ⟨95, _⟩ => ⟨S2x8192x8x1, .f32⟩
  | .hbm, ⟨96, _⟩ => ⟨S2x8192x8x1, .f32⟩
  | .hbm, ⟨97, _⟩ => ⟨S2x8192x8x1, .f32⟩
  | .hbm, ⟨98, _⟩ => ⟨S2x8192x8x64, .f32⟩
  | .hbm, ⟨99, _⟩ => ⟨S2x8192x8x64, .f32⟩
  | .hbm, ⟨100, _⟩ => ⟨S1x1x1x64, .f32⟩
  | .hbm, ⟨101, _⟩ => ⟨S2x8192x8x64, .f32⟩
  | .hbm, ⟨102, _⟩ => ⟨S2x8192x8x64, .f32⟩
  | .hbm, ⟨103, _⟩ => ⟨S_, .f32⟩
  | .hbm, ⟨104, _⟩ => ⟨S2x8192x8x64, .f32⟩
  | .hbm, ⟨105, _⟩ => ⟨S2x8192x8x64, .f32⟩
  | .hbm, ⟨106, _⟩ => ⟨S2x8192x512, .f32⟩
  | .hbm, ⟨107, _⟩ => ⟨S2x8192x512, .bf16⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_cst_2 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_v50 : Ref sig .tc := ⟨.hbm, 63, rfl⟩
abbrev main_cst_3 : Ref sig .tc := ⟨.hbm, 64, rfl⟩
abbrev main_v51 : Ref sig .tc := ⟨.hbm, 65, rfl⟩
abbrev main_cst_4 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_5 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_cst_6 : Ref sig .tc := ⟨.hbm, 88, rfl⟩
abbrev main_v72 : Ref sig .tc := ⟨.hbm, 89, rfl⟩
abbrev main_v73 : Ref sig .tc := ⟨.hbm, 90, rfl⟩
abbrev main_cst_7 : Ref sig .tc := ⟨.hbm, 91, rfl⟩
abbrev main_v74 : Ref sig .tc := ⟨.hbm, 92, rfl⟩
abbrev main_v75 : Ref sig .tc := ⟨.hbm, 93, rfl⟩
abbrev main_cst_8 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_cst_9 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩

abbrev nD : Nat := 1
abbrev τ : Topo := Topo.v7x

variable {F : FTy → Type} [FloatOps F]
-- ==== Kernel7.lean ====
abbrev S256x2816 : Shape := ⟨2, ![256, 2816]⟩
abbrev S256x1024 : Shape := ⟨2, ![256, 1024]⟩
abbrev S2816x1024 : Shape := ⟨2, ![2816, 1024]⟩
abbrev S1024 : Shape := ⟨1, ![1024]⟩
abbrev S1x256x1024 : Shape := ⟨3, ![1, 256, 1024]⟩
abbrev S1x1024 : Shape := ⟨2, ![1, 1024]⟩
abbrev S256 : Shape := ⟨1, ![256]⟩
abbrev S256x1 : Shape := ⟨2, ![256, 1]⟩

abbrev nBuf : Space → Nat
  | .hbm => 7
  | .vmem => 6
  | .smem => 0
  | _ => 0

abbrev bufTy : (tb : Table) → Fin (tcTables nBuf tb) → BufTy
  | .hbm, ⟨0, _⟩ => ⟨S256x2816, .bf16⟩
  | .hbm, ⟨1, _⟩ => ⟨S256x1024, .f32⟩
  | .hbm, ⟨2, _⟩ => ⟨S2816x1024, .bf16⟩
  | .hbm, ⟨3, _⟩ => ⟨S1024, .f32⟩
  | .hbm, ⟨4, _⟩ => ⟨S1x256x1024, .f32⟩
  | .hbm, ⟨5, _⟩ => ⟨S1x1024, .f32⟩
  | .hbm, ⟨6, _⟩ => ⟨S256x1024, .f32⟩
  | .local _ .vmem, ⟨0, _⟩ => ⟨S256x2816, .bf16⟩
  | .local _ .vmem, ⟨1, _⟩ => ⟨S256x1024, .f32⟩
  | .local _ .vmem, ⟨2, _⟩ => ⟨S2816x1024, .bf16⟩
  | .local _ .vmem, ⟨3, _⟩ => ⟨S1x1024, .f32⟩
  | .local _ .vmem, ⟨4, _⟩ => ⟨S1x256x1024, .f32⟩
  | .local _ .vmem, ⟨5, _⟩ => ⟨S256x1024, .f32⟩
  | _, _ => ⟨S256x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2816 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== Reference7Ideal.lean ====
abbrev S256x2816 : Shape := ⟨2, ![256, 2816]⟩
abbrev S256x1024 : Shape := ⟨2, ![256, 1024]⟩
abbrev S2816x1024 : Shape := ⟨2, ![2816, 1024]⟩
abbrev S1024 : Shape := ⟨1, ![1024]⟩
abbrev S1x256x1024 : Shape := ⟨3, ![1, 256, 1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S256x2816, .bf16⟩
  | .hbm, ⟨1, _⟩ => ⟨S256x1024, .f32⟩
  | .hbm, ⟨2, _⟩ => ⟨S2816x1024, .bf16⟩
  | .hbm, ⟨3, _⟩ => ⟨S1024, .f32⟩
  | .hbm, ⟨4, _⟩ => ⟨S1x256x1024, .f32⟩
  | .hbm, ⟨5, _⟩ => ⟨S256x2816, .f32⟩
  | .hbm, ⟨6, _⟩ => ⟨S2816x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x1, .f32⟩
  | .hbm, ⟨20, _⟩ => ⟨S256x1024, .f32⟩
  | .hbm, ⟨21, _⟩ => ⟨S256x1024, .f32⟩
  | .hbm, ⟨22, _⟩ => ⟨S1x1024, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S256x1024, .f32⟩
  | _, _ => ⟨S256x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel8.lean ====
abbrev S256x1024 : Shape := ⟨2, ![256, 1024]⟩
abbrev S1x256x1024 : Shape := ⟨3, ![1, 256, 1024]⟩
abbrev S1024 : Shape := ⟨1, ![1024]⟩
abbrev S1024x3072 : Shape := ⟨2, ![1024, 3072]⟩
abbrev S1x1024 : Shape := ⟨2, ![1, 1024]⟩
abbrev S256 : Shape := ⟨1, ![256]⟩
abbrev S256x1 : Shape := ⟨2, ![256, 1]⟩
abbrev S256x3072 : Shape := ⟨2, ![256, 3072]⟩

abbrev nBuf : Space → Nat
  | .hbm => 11
  | .vmem => 10
  | .smem => 0
  | _ => 0

abbrev bufTy : (tb : Table) → Fin (tcTables nBuf tb) → BufTy
  | .hbm, ⟨0, _⟩ => ⟨S256x1024, .f32⟩
  | .hbm, ⟨1, _⟩ => ⟨S1x256x1024, .f32⟩
  | .hbm, ⟨2, _⟩ => ⟨S1x256x1024, .f32⟩
  | .hbm, ⟨3, _⟩ => ⟨S1024, .f32⟩
  | .hbm, ⟨4, _⟩ => ⟨S1024x3072, .bf16⟩
  | .hbm, ⟨5, _⟩ => ⟨S1x1024, .f32⟩
  | .hbm, ⟨6, _⟩ => ⟨S256x1024, .bf16⟩
  | .hbm, ⟨7, _⟩ => ⟨S256x1024, .f32⟩
  | .hbm, ⟨8, _⟩ => ⟨S256x1024, .f32⟩
  | .hbm, ⟨9, _⟩ => ⟨S256x1024, .bf16⟩
  | .hbm, ⟨10, _⟩ => ⟨S256x1024, .bf16⟩
  | .local _ .vmem, ⟨0, _⟩ => ⟨S256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x1024, .f32⟩
  | .local _ .vmem, ⟨4, _⟩ => ⟨S1024x3072, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference8Ideal.lean ====
abbrev S256x1024 : Shape := ⟨2, ![256, 1024]⟩
abbrev S1x256x1024 : Shape := ⟨3, ![1, 256, 1024]⟩
abbrev S1024 : Shape := ⟨1, ![1024]⟩
abbrev S1024x3072 : Shape := ⟨2, ![1024, 3072]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x3072 : Shape := ⟨2, ![256, 3072]⟩
abbrev S256x3x16x64 : Shape := ⟨4, ![256, 3, 16, 64]⟩
abbrev S256x1x16x64 : Shape := ⟨4, ![256, 1, 16, 64]⟩
abbrev S256x16x64 : Shape := ⟨3, ![256, 16, 64]⟩
abbrev S256x8x64 : Shape := ⟨3, ![256, 8, 64]⟩

abbrev nBuf : Space → Nat
  | .hbm => 52
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x256x1024, .f32⟩
  | .hbm, ⟨2, _⟩ => ⟨S1x256x1024, .f32⟩
  | .hbm, ⟨3, _⟩ => ⟨S1024, .f32⟩
  | .hbm, ⟨4, _⟩ => ⟨S1024x3072, .bf16⟩
  | .hbm, ⟨5, _⟩ => ⟨S256x1024, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x1024, .f32⟩
  | .hbm, ⟨17, _⟩ => ⟨S256x1024, .f32⟩
  | .hbm, ⟨18, _⟩ => ⟨S1x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S1024x3072, .f32⟩
  | .hbm, ⟨29, _⟩ => ⟨S256x3072, .f32⟩
  | .hbm, ⟨30, _⟩ => ⟨S256x3x16x64, .f32⟩
  | .hbm, ⟨31, _⟩ => ⟨S256x1x16x64, .f32⟩
  | .hbm, ⟨32, _⟩ => ⟨S256x16x64, .f32⟩
  | .hbm, ⟨33, _⟩ => ⟨S256x1x16x64, .f32⟩
  | .hbm, ⟨34, _⟩ => ⟨S256x16x64, .f32⟩
  | .hbm, ⟨35, _⟩ => ⟨S256x1x16x64, .f32⟩
  | .hbm, ⟨36, _⟩ => ⟨S256x16x64, .f32⟩
  | .hbm, ⟨37, _⟩ => ⟨S256x8x64, .f32⟩
  | .hbm, ⟨38, _⟩ => ⟨S_, .f32⟩
  | .hbm, ⟨39, _⟩ => ⟨S256x8x64, .f32⟩
  | .hbm, ⟨40, _⟩ => ⟨S256x8x64, .f32⟩
  | .hbm, ⟨41, _⟩ => ⟨S256x8x64, .f32⟩
  | .hbm, ⟨42, _⟩ => ⟨S_, .f32⟩
  | .hbm, ⟨43, _⟩ => ⟨S256x8x64, .f32⟩
  | .hbm, ⟨44, _⟩ => ⟨S256x8x64, .f32⟩
  | .hbm, ⟨45, _⟩ => ⟨S256x16x64, .f32⟩
  | .hbm, ⟨46, _⟩ => ⟨S256x1024, .f32⟩
  | .hbm, ⟨47, _⟩ => ⟨S256x1024, .f32⟩
  | .hbm, ⟨48, _⟩ => ⟨S256x1024, .f32⟩
  | .hbm, ⟨49, _⟩ => ⟨S256x1024, .bf16⟩
  | .hbm, ⟨50, _⟩ => ⟨S256x1024, .bf16⟩
  | .hbm, ⟨51, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== Kernel9.lean ====
abbrev S32x8x1024 : Shape := ⟨3, ![32, 8, 1024]⟩
abbrev S32x2x5632 : Shape := ⟨3, ![32, 2, 5632]⟩
abbrev S1024x5632 : Shape := ⟨2, ![1024, 5632]⟩
abbrev S3x5632 : Shape := ⟨2, ![3, 5632]⟩
abbrev S5632 : Shape := ⟨1, ![5632]⟩
abbrev S1x5632 : Shape := ⟨2, ![1, 5632]⟩
abbrev S32x8x2816 : Shape := ⟨3, ![32, 8, 2816]⟩
abbrev S1x8x1024 : Shape := ⟨3, ![1, 8, 1024]⟩
abbrev S1x2x5632 : Shape := ⟨3, ![1, 2, 5632]⟩
abbrev S1x8x2816 : Shape := ⟨3, ![1, 8, 2816]⟩
abbrev S2x5632 : Shape := ⟨2, ![2, 5632]⟩
abbrev S8x1024 : Shape := ⟨2, ![8, 1024]⟩
abbrev S8x1 : Shape := ⟨2, ![8, 1]⟩
abbrev S1024x1408 : Shape := ⟨2, ![1024, 1408]⟩
abbrev S8x1408 : Shape := ⟨2, ![8, 1408]⟩
abbrev S1x1408 : Shape := ⟨2, ![1, 1408]⟩
abbrev S2x1408 : Shape := ⟨2, ![2, 1408]⟩
abbrev S1x2x1408 : Shape := ⟨3, ![1, 2, 1408]⟩
abbrev S1x8x1408 : Shape := ⟨3, ![1, 8, 1408]⟩

abbrev nBuf : Space → Nat
  | .hbm => 8
  | .vmem => 12
  | .smem => 0
  | _ => 0

abbrev bufTy : (tb : Table) → Fin (tcTables nBuf tb) → BufTy
  | .hbm, ⟨0, _⟩ => ⟨S32x8x1024, .bf16⟩
  | .hbm, ⟨1, _⟩ => ⟨S32x2x5632, .f32⟩
  | .hbm, ⟨2, _⟩ => ⟨S1024x5632, .bf16⟩
  | .hbm, ⟨3, _⟩ => ⟨S3x5632, .f32⟩
  | .hbm, ⟨4, _⟩ => ⟨S5632, .f32⟩
  | .hbm, ⟨5, _⟩ => ⟨S1x5632, .f32⟩
  | .hbm, ⟨6, _⟩ => ⟨S32x8x2816, .bf16⟩
  | .hbm, ⟨7, _⟩ => ⟨S32x2x5632, .f32⟩
  | .local _ .vmem, ⟨0, _⟩ => ⟨S1x8x1024, .bf16⟩
  | .local _ .vmem, ⟨1, _⟩ => ⟨S1x8x1024, .bf16⟩
  | .local _ .vmem, ⟨2, _⟩ => ⟨S1x2x5632, .f32⟩
  | .local _ .vmem, ⟨3, _⟩ => ⟨S1x2x5632, .f32⟩
  | .local _ .vmem, ⟨4, _⟩ => ⟨S1024x5632, .bf16⟩
  | .local _ .vmem, ⟨5, _⟩ => ⟨S3x5632, .f32⟩
  | .local _ .vmem, ⟨6, _⟩ => ⟨S1x5632, .f32⟩
  | .local _ .vmem, ⟨7, _⟩ => ⟨S1x8x2816, .bf16⟩
  | .local _ .vmem, ⟨8, _⟩ => ⟨S1x8x2816, .bf16⟩
  | .local _ .vmem, ⟨9, _⟩ => ⟨S1x2x5632, .f32⟩
  | .local _ .vmem, ⟨10, _⟩ => ⟨S1x2x5632, .f32⟩
  | .local _ .vmem, ⟨11, _⟩ => ⟨S2x5632, .f32⟩
  | _, _ => ⟨S32x8x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x5632 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference9Ideal.lean ====
abbrev S32x8x1024 : Shape := ⟨3, ![32, 8, 1024]⟩
abbrev S32x2x5632 : Shape := ⟨3, ![32, 2, 5632]⟩
abbrev S1024x5632 : Shape := ⟨2, ![1024, 5632]⟩
abbrev S3x5632 : Shape := ⟨2, ![3, 5632]⟩
abbrev S5632 : Shape := ⟨1, ![5632]⟩
abbrev S32x8x5632 : Shape := ⟨3, ![32, 8, 5632]⟩
abbrev S32x10x5632 : Shape := ⟨3, ![32, 10, 5632]⟩
abbrev S1x5632 : Shape := ⟨2, ![1, 5632]⟩
abbrev S1x1x5632 : Shape := ⟨3, ![1, 1, 5632]⟩
abbrev S_ : Shape := ⟨0, ![]⟩
abbrev S32x8x2816 : Shape := ⟨3, ![32, 8, 2816]⟩

abbrev nBuf : Space → Nat
  | .hbm => 49
  | .vmem => 0
  | .smem => 0
  | _ => 0

abbrev bufTy : (tb : Table) → Fin (tcTables nBuf tb) → BufTy
  | .hbm, ⟨0, _⟩ => ⟨S32x8x1024, .bf16⟩
  | .hbm, ⟨1, _⟩ => ⟨S32x2x5632, .f32⟩
  | .hbm, ⟨2, _⟩ => ⟨S1024x5632, .bf16⟩
  | .hbm, ⟨3, _⟩ => ⟨S3x5632, .f32⟩
  | .hbm, ⟨4, _⟩ => ⟨S5632, .f32⟩
  | .hbm, ⟨5, _⟩ => ⟨S32x8x1024, .f32⟩
  | .hbm, ⟨6, _⟩ => ⟨S1024x5632, .f32⟩
  | .hbm, ⟨7, _⟩ => ⟨S32x8x5632, .f32⟩
  | .hbm, ⟨8, _⟩ => ⟨S32x10x5632, .f32⟩
  | .hbm, ⟨9, _⟩ => ⟨S1x5632, .f32⟩
  | .hbm, ⟨10, _⟩ => ⟨S5632, .f32⟩
  | .hbm, ⟨11, _⟩ => ⟨S32x8x5632, .f32⟩
  | .hbm, ⟨12, _⟩ => ⟨S1x1x5632, .f32⟩
  | .hbm, ⟨13, _⟩ => ⟨S32x8x5632, .f32⟩
  | .hbm, ⟨14, _⟩ => ⟨S32x8x5632, .f32⟩
  | .hbm, ⟨15, _⟩ => ⟨S_, .f32⟩
  | .hbm, ⟨16, _⟩ => ⟨S32x8x5632, .f32⟩
  | .hbm, ⟨17, _⟩ => ⟨S32x8x5632, .f32⟩
  | .hbm, ⟨18, _⟩ => ⟨S1x5632, .f32⟩
  | .hbm, ⟨19, _⟩ => ⟨S5632, .f32⟩
  | .hbm, ⟨20, _⟩ => ⟨S32x8x5632, .f32⟩
  | .hbm, ⟨21, _⟩ => ⟨S1x1x5632, .f32⟩
  | .hbm, ⟨22, _⟩ => ⟨S32x8x5632, .f32⟩
  | .hbm, ⟨23, _⟩ => ⟨S32x8x5632, .f32⟩
  | .hbm, ⟨24, _⟩ => ⟨S32x8x5632, .f32⟩
  | .hbm, ⟨25, _⟩ => ⟨S1x5632, .f32⟩
  | .hbm, ⟨26, _⟩ => ⟨S5632, .f32⟩
  | .hbm, ⟨27, _⟩ => ⟨S32x8x5632, .f32⟩
  | .hbm, ⟨28, _⟩ => ⟨S1x1x5632, .f32⟩
  | .hbm, ⟨29, _⟩ => ⟨S32x8x5632, .f32⟩
  | .hbm, ⟨30, _⟩ => ⟨S32x8x5632, .f32⟩
  | .hbm, ⟨31, _⟩ => ⟨S32x8x5632, .f32⟩
  | .hbm, ⟨32, _⟩ => ⟨S1x1x5632, .f32⟩
  | .hbm, ⟨33, _⟩ => ⟨S32x8x5632, .f32⟩
  | .hbm, ⟨34, _⟩ => ⟨S32x8x5632, .f32⟩
  | .hbm, ⟨35, _⟩ => ⟨S32x8x2816, .f32⟩
  | .hbm, ⟨36, _⟩ => ⟨S32x8x2816, .f32⟩
  | .hbm, ⟨37, _⟩ => ⟨S32x8x2816, .f32⟩
  | .hbm, ⟨38, _⟩ => ⟨S32x8x2816, .f32⟩
  | .hbm, ⟨39, _⟩ => ⟨S_, .f32⟩
  | .hbm, ⟨40, _⟩ => ⟨S32x8x2816, .f32⟩
  | .hbm, ⟨41, _⟩ => ⟨S32x8x2816, .f32⟩
  | .hbm, ⟨42, _⟩ => ⟨S_, .f32⟩
  | .hbm, ⟨43, _⟩ => ⟨S32x8x2816, .f32⟩
  | .hbm, ⟨44, _⟩ => ⟨S32x8x2816, .f32⟩
  | .hbm, ⟨45, _⟩ => ⟨S32x8x2816, .f32⟩
  | .hbm, ⟨46, _⟩ => ⟨S32x8x2816, .f32⟩
  | .hbm, ⟨47, _⟩ => ⟨S32x8x2816, .bf16⟩
  | .hbm, ⟨48, _⟩ => ⟨S32x2x5632, .f32⟩
  | _, _ => ⟨S32x8x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Proof.StickMath.lean ====
/-
  The mathematics of one row of stick-breaking attention over the extended reals: the softplus, the log of the unused
  part of the stick, the weight of a key, and the sums over blocks of keys.
-/
module

public import Idealize.ShloMosaic.PureOps.Ideal
public import Idealize.ShloMosaic.Lib.Pointwise

@[expose] public section

noncomputable section

namespace Stick

open Idealize.ShloMosaic

/-- The softplus `log (1 + e^z)`, written so that no exponential of a large number is taken. -/
def sp (z : EReal) : EReal := max z 0 + Ideal.log (1 + Ideal.exp (-(max z (-z))))

/-- The log of the part of the stick that a key with logit `z` leaves. -/
def ln (z : EReal) : EReal := -(sp z)

/-- The log of the sum over the keys strictly between `s` and `t`. -/
def rest (Z : ℕ → EReal) (s t : ℕ) : EReal := ∑ u ∈ Finset.Ico (s + 1) t, ln (Z u)

/-- The weight of key `s` for the query at position `t`. -/
def wt (Z : ℕ → EReal) (t s : ℕ) : EReal := Ideal.exp (Z s - sp (Z s) + rest Z s t)

/-- The larger of two reals, as an extended real. -/
theorem coe_max (x y : ℝ) : ((max x y : ℝ) : EReal) = max (x : EReal) (y : EReal) :=
  EReal.coe_strictMono.monotone.map_max

/-- On the reals the softplus is the real softplus. -/
theorem sp_coe (x : ℝ) : sp (x : EReal) = ((max x 0 + Real.log (1 + Real.exp (-|x|)) : ℝ) : EReal) := by
  have hp : ¬ (1 + Real.exp (-|x|)) ≤ 0 := by have := Real.exp_pos (-|x|); linarith
  have ha : (-(max (x : EReal) (-(x : EReal)))) = ((-|x| : ℝ) : EReal) := by
    rw [EReal.coe_neg, ← EReal.coe_neg, ← coe_max]; rfl
  have hl : Ideal.log (1 + Ideal.exp ((-|x| : ℝ) : EReal)) = ((Real.log (1 + Real.exp (-|x|)) : ℝ) : EReal) := by
    show Ideal.log (1 + ((Real.exp (-|x|) : ℝ) : EReal)) = _
    rw [← EReal.coe_one, ← EReal.coe_add]
    exact if_neg hp
  unfold sp
  rw [ha, hl, EReal.coe_add, coe_max, EReal.coe_zero]

theorem exp_bot : Ideal.exp ⊥ = 0 := rfl

theorem log_one_add_zero : Ideal.log (1 + 0) = 0 := by
  rw [add_zero, ← EReal.coe_one]
  show (if (1 : ℝ) ≤ 0 then ⊥ else ((Real.log 1 : ℝ) : EReal)) = 0
  rw [if_neg (by norm_num), Real.log_one, EReal.coe_zero]

theorem sp_top : sp ⊤ = ⊤ := by
  unfold sp
  rw [EReal.neg_top, max_eq_left (bot_le : (⊥ : EReal) ≤ ⊤), EReal.neg_top, exp_bot, log_one_add_zero, add_zero]
  exact max_eq_left le_top

theorem sp_bot : sp ⊥ = 0 := by
  unfold sp
  rw [EReal.neg_bot, max_eq_right (bot_le : (⊥ : EReal) ≤ ⊤), EReal.neg_top, exp_bot, log_one_add_zero, add_zero]
  exact max_eq_right bot_le

/-- The softplus is at least zero, so it is never the lower infinity. -/
theorem sp_nonneg (z : EReal) : 0 ≤ sp z := by
  induction z with
  | bot => rw [sp_bot]
  | top => rw [sp_top]; exact le_top
  | coe x =>
    rw [sp_coe, ← EReal.coe_zero, EReal.coe_le_coe_iff]
    have h1 : 0 ≤ Real.log (1 + Real.exp (-|x|)) := Real.log_nonneg (by have := Real.exp_pos (-|x|); linarith)
    have h2 : 0 ≤ max x 0 := le_max_right _ _
    linarith

/-- The log of the unused part of the stick is at most zero. -/
theorem ln_nonpos (z : EReal) : ln z ≤ 0 := by
  unfold ln; rw [← neg_zero, EReal.neg_le_neg_iff]; exact sp_nonneg z

theorem ln_ne_top (z : EReal) : ln z ≠ ⊤ := fun h => by
  have := ln_nonpos z
  rw [h] at this
  exact absurd this (by decide)

/-- A number that is not the upper infinity is unchanged by adding the difference of it with itself. -/
theorem add_sub_self (x : EReal) (h : x ≠ ⊤) : x + (x - x) = x := by
  induction x with
  | bot => rfl
  | top => exact absurd rfl h
  | coe x => rw [← EReal.coe_sub, sub_self, EReal.coe_zero, add_zero]

/-- For the log-sigmoid: `z - softplus z = -softplus (-z)` on the reals. -/
theorem sub_sp_coe (x : ℝ) : (x : EReal) - sp x = -(sp (-(x : EReal))) := by
  rw [← EReal.coe_neg, sp_coe, sp_coe, ← EReal.coe_sub, ← EReal.coe_neg, abs_neg]
  congr 1
  have : max x 0 - x = max (-x) 0 := by
    rcases le_total x 0 with h | h
    · rw [max_eq_right h, max_eq_left (by linarith)]; ring
    · rw [max_eq_left h, max_eq_right (by linarith)]; ring
  linarith

/-- The weight from a running sum that takes in the key's own term and then drops it, with the log-sigmoid as
    minus the softplus of minus the logit, is the weight. -/
theorem exp_logsig (z T : EReal) : Ideal.exp (-(sp (-z)) + ((ln z + T) - ln z)) = Ideal.exp (z - sp z + T) := by
  induction z with
  | bot =>
    rw [EReal.neg_bot, sp_top, EReal.neg_top, sp_bot, EReal.bot_add, sub_zero, EReal.bot_add]
  | top =>
    have h1 : ln ⊤ = ⊥ := by unfold ln; rw [sp_top, EReal.neg_top]
    rw [h1, EReal.bot_add, EReal.neg_top, sp_bot, sp_top]
    rfl
  | coe x =>
    rw [sub_sp_coe]
    congr 2
    unfold ln
    rw [sp_coe, ← EReal.coe_neg]
    exact EReal.add_sub_cancel_left

/-- A sum whose terms carry a 0/1 factor, taken twice (the numbers, then what is left of each when it is taken from
    itself), is the sum of the numbers with factor 1: here the numbers after position `s` of a block of 256. -/
theorem sum_after (L T : Fin 256 → EReal) (g : ℕ → EReal) (hg : ∀ u, g u ≠ ⊤) (s : ℕ) (hL : ∀ u, L u = g u.val)
    (hT : ∀ u, T u = if s < u.val then 1 else 0) :
    (∑ u, L u * T u) + (∑ u, (L u - L u) * T u) = ∑ u ∈ Finset.Ico (s + 1) 256, g u := by
  rw [← Finset.sum_add_distrib]
  have e : ∀ u : Fin 256, L u * T u + (L u - L u) * T u = (fun n => if s < n then g n else 0) u.val := fun u => by
    rw [hT, hL]
    show _ = if s < u.val then g u.val else 0
    split
    · rw [mul_one, mul_one, add_sub_self _ (hg _)]
    · rw [mul_zero, mul_zero, add_zero]
  rw [Finset.sum_congr rfl fun u _ => e u, Fin.sum_univ_eq_sum_range (fun n => if s < n then g n else 0) 256,
    ← Finset.sum_filter]
  refine Finset.sum_congr (Finset.ext fun n => ?_) fun _ _ => rfl
  rw [Finset.mem_filter, Finset.mem_range, Finset.mem_Ico]
  omega

/-- The later keys of a block and then all the keys after the block: the rest of the stick. -/
theorem between_block (Z : ℕ → EReal) (c t : ℕ) (ht : c + 256 ≤ t) (L T : Fin 256 → EReal) (s : Fin 256)
    (hL : ∀ u, L u = ln (Z (c + u.val))) (hT : ∀ u, T u = if s.val < u.val then 1 else 0) :
    (∑ u, L u * T u) + (∑ u, (L u - L u) * T u) + ∑ u ∈ Finset.Ico (c + 256) t, ln (Z u) = rest Z (c + s.val) t := by
  rw [sum_after L T (fun u => ln (Z (c + u))) (fun u => ln_ne_top _) s.val hL hT,
    Finset.sum_Ico_add (fun u => ln (Z u))]
  unfold rest
  rw [← Finset.sum_Ico_consecutive (fun u => ln (Z u)) (m := c + s.val + 1) (n := c + 256) (k := t) (by omega) ht]
  congr 2
  · congr 1 <;> omega

/-- The later keys of the block that holds the query's own position, the keys from it on left out. -/
theorem between_diag (Z : ℕ → EReal) (c r : ℕ) (hr : r ≤ 256) (L T : Fin 256 → EReal) (s : Fin 256)
    (hL : ∀ u, L u = if u.val < r then ln (Z (c + u.val)) else 0) (hT : ∀ u, T u = if s.val < u.val then 1 else 0) :
    (∑ u, L u * T u) + (∑ u, (L u - L u) * T u) = rest Z (c + s.val) (c + r) := by
  rw [sum_after L T (fun u => if u < r then ln (Z (c + u)) else 0) (fun u => by
    split
    · exact ln_ne_top _
    · exact EReal.zero_ne_top) s.val hL hT, ← Finset.sum_filter]
  unfold rest
  rw [show Finset.Ico (c + s.val + 1) (c + r) = Finset.Ico (s.val + 1 + c) (r + c) by congr 1 <;> omega,
    ← Finset.sum_Ico_add (fun u => ln (Z u))]
  refine Finset.sum_congr (Finset.ext fun n => ?_) fun _ _ => rfl
  rw [Finset.mem_filter, Finset.mem_Ico, Finset.mem_Ico]
  omega

/-- A sum over the 256 keys of a block, put before the sum over the keys after it. -/
theorem sum_block (f : ℕ → EReal) (c t : ℕ) (ht : c + 256 ≤ t) (A : EReal) (hA : A = ∑ u ∈ Finset.Ico (c + 256) t, f u)
    (L : Fin 256 → EReal) (hL : ∀ u, L u = f (c + u.val)) : A + ∑ u, L u = ∑ u ∈ Finset.Ico c t, f u := by
  rw [hA, Finset.sum_congr rfl fun u _ => hL u, Fin.sum_univ_eq_sum_range (fun n => f (c + n)) 256, Finset.range_eq_Ico,
    Finset.sum_Ico_add f, ← Finset.sum_Ico_consecutive f (m := c) (n := c + 256) (k := t) (by omega) ht, add_comm]
  congr 2
  congr 1 <;> omega

/-- A sum over the first `r` keys of a block, the others giving zero. -/
theorem sum_diag (f : ℕ → EReal) (c r : ℕ) (hr : r ≤ 256) (L : Fin 256 → EReal)
    (hL : ∀ u, L u = if u.val < r then f (c + u.val) else 0) : ∑ u, L u = ∑ u ∈ Finset.Ico c (c + r), f u := by
  rw [Finset.sum_congr rfl fun u _ => hL u, Fin.sum_univ_eq_sum_range (fun n => if n < r then f (c + n) else 0) 256,
    ← Finset.sum_filter, show Finset.Ico c (c + r) = Finset.Ico (0 + c) (r + c) by congr 1 <;> omega,
    ← Finset.sum_Ico_add f]
  refine Finset.sum_congr (Finset.ext fun n => ?_) fun _ _ => rfl
  rw [Finset.mem_filter, Finset.mem_range, Finset.mem_Ico]
  omega

end Stick
-- ==== Proof.KBlock.lean ====
/-
  What one block of the kernel computes, at an entry, over the extended reals: the diagonal block and an earlier block,
  each from the logits of one query and the two carried values.
-/
module

public import proofs.«01_k».proof.Proof.StickMath
public import proofs.«01_k».proof.Proof.Gen.KernelIdeal.Value
public import Idealize.ShloMosaic.Lib.Pointwise
public import Idealize.ShloMosaic.Lib.WordCmp

@[expose] public section

set_option maxRecDepth 16384

noncomputable section

namespace Cert.KernelIdeal.Block

open Idealize.ShloMosaic Cert.KernelIdeal Cert.KernelIdeal.Gen

/-- The logits of a block: the products of the masked queries with the keys. -/
theorem logit_apply (Q : FVec Ideal S256x128 .bf16) (kb : Vec Ideal S1x256x128 .bf16) (r s : Fin 256) :
    k0_pay27 (F := Ideal) Q kb (ix2 r s) = ∑ x : Fin 128, Q (ix2 r x) * kb (ix3 0 s x) := by
  pointwise [k0_pay27]

/-- The softplus of a block's logits. -/
theorem sp_apply (Q : FVec Ideal S256x128 .bf16) (kb : Vec Ideal S1x256x128 .bf16) (r s : Fin 256) :
    k0_pay28 (F := Ideal) Q kb (ix2 r s) = Stick.sp (k0_pay27 (F := Ideal) Q kb (ix2 r s)) := by
  pointwise [k0_pay28]
  rw [zero_sub]
  rfl

/-- The log of what each key of a block leaves. -/
theorem ln_apply (Q : FVec Ideal S256x128 .bf16) (kb : Vec Ideal S1x256x128 .bf16) (r s : Fin 256) :
    k0_pay29 (F := Ideal) Q kb (ix2 r s) = Stick.ln (k0_pay27 (F := Ideal) Q kb (ix2 r s)) := by
  pointwise [k0_pay29]
  rw [sp_apply, zero_sub]
  rfl

/-- One earlier block: the running sum takes in the block's keys. -/
theorem run_apply (Q : FVec Ideal S256x128 .bf16) (kb : Vec Ideal S1x256x128 .bf16) (run : FVec Ideal S256x1 .f32)
    (r : Fin 256) (Z : ℕ → EReal) (c t : ℕ) (ht : c + 256 ≤ t)
    (hZ : ∀ s : Fin 256, k0_pay27 (F := Ideal) Q kb (ix2 r s) = Z (c + s.val))
    (hrun : run (ix2 r 0) = ∑ u ∈ Finset.Ico (c + 256) t, Stick.ln (Z u)) :
    k0_pay31 (F := Ideal) Q run kb (ix2 r 0) = ∑ u ∈ Finset.Ico c t, Stick.ln (Z u) := by
  pointwise [k0_pay31]
  exact Stick.sum_block (fun u => Stick.ln (Z u)) c t ht _ hrun _ fun u => by rw [ln_apply, hZ]

/-- One earlier block: the accumulated output takes in the block's weighted values. -/
theorem acc_apply (tri : Vec Ideal S256x256 .bf16) (Q : FVec Ideal S256x128 .bf16) (kb vb : Vec Ideal S1x256x128 .bf16)
    (run : FVec Ideal S256x1 .f32) (acc : FVec Ideal S256x128 .f32)
    (r : Fin 256) (l : Fin 128) (Z V : ℕ → EReal) (c t : ℕ) (ht : c + 256 ≤ t)
    (htri : ∀ u s : Fin 256, tri (ix2 u s) = if s.val < u.val then 1 else 0)
    (hZ : ∀ s : Fin 256, k0_pay27 (F := Ideal) Q kb (ix2 r s) = Z (c + s.val))
    (hV : ∀ s : Fin 256, vb (ix3 0 s l) = V (c + s.val))
    (hrun : run (ix2 r 0) = ∑ u ∈ Finset.Ico (c + 256) t, Stick.ln (Z u))
    (hacc : acc (ix2 r l) = ∑ u ∈ Finset.Ico (c + 256) t, Stick.wt Z t u * V u) :
    k0_pay30 (F := Ideal) tri Q run acc kb vb (ix2 r l) = ∑ u ∈ Finset.Ico c t, Stick.wt Z t u * V u := by
  pointwise [k0_pay30]
  refine Stick.sum_block (fun u => Stick.wt Z t u * V u) c t ht _ hacc _ fun s => ?_
  rw [hV, hrun, sp_apply, hZ, add_assoc, Stick.between_block Z c t ht _ _ s (fun u => by rw [ln_apply, hZ]) (fun u => htri u s)]
  rfl

/-- A number chosen by the bit of a proposition. -/
theorem select_ofBool {α : Type} (p : Prop) [Decidable p] (x y : α) :
    Scalar.select (BitVec.ofBool (decide p)) x y = if p then x else y := by
  by_cases h : p
  · rw [decide_eq_true h, if_pos h]; rfl
  · rw [decide_eq_false h, if_neg h]; rfl

/-- The kernel's mask of the diagonal block: the key is before the query. -/
theorem mask_apply (r s : Fin 256) : k0_pay13 (ix2 r s) = BitVec.ofBool (decide (s.val < r.val)) := by
  pointwise [k0_pay13]
  exact WordCmp.cmpi_slt_ofNat (by have := s.isLt; omega) (by have := r.isLt; omega)

/-- The log of what each key of the diagonal block leaves, the keys from the query on left out. -/
theorem lnDiag_apply (P L : FVec Ideal S256x256 .f32) (r s : Fin 256) (z : EReal)
    (hz : k0_pay23 (F := Ideal) P L (ix2 r s) = Stick.sp z) :
    k0_pay24 (F := Ideal) k0_pay13 P L (ix2 r s) = if s.val < r.val then Stick.ln z else 0 := by
  pointwise [k0_pay24]
  rw [mask_apply, select_ofBool, hz, zero_sub]
  rfl

/-- The diagonal block: the running sum starts with the block's keys before the query. -/
theorem runDiag_apply (P L : FVec Ideal S256x256 .f32) (r : Fin 256) (Z : ℕ → EReal) (c : ℕ)
    (hz : ∀ s : Fin 256, k0_pay23 (F := Ideal) P L (ix2 r s) = Stick.sp (Z (c + s.val))) :
    k0_pay26 (F := Ideal) k0_pay13 k0_pay17 P L (ix2 r 0) = ∑ u ∈ Finset.Ico c (c + r.val), Stick.ln (Z u) := by
  have h17 : k0_pay17 (F := Ideal) (ix2 r 0) = 0 := by pointwise [k0_pay17]
  pointwise [k0_pay26]
  rw [h17, zero_add]
  exact Stick.sum_diag (fun u => Stick.ln (Z u)) c r.val (by omega) _ fun u => lnDiag_apply P L r u _ (hz u)

/-- The diagonal block: the accumulated output starts with the block's weighted values before the query. -/
theorem accDiag_apply (tri : Vec Ideal S256x256 .bf16) (vb : FVec Ideal S256x128 .bf16) (D P L : FVec Ideal S256x256 .f32)
    (r : Fin 256) (l : Fin 128) (Z V : ℕ → EReal) (c : ℕ)
    (htri : ∀ u s : Fin 256, tri (ix2 u s) = if s.val < u.val then 1 else 0)
    (hD : ∀ s : Fin 256, D (ix2 r s) = Z (c + s.val))
    (hz : ∀ s : Fin 256, k0_pay23 (F := Ideal) P L (ix2 r s) = Stick.sp (Z (c + s.val)))
    (hV : ∀ s : Fin 256, vb (ix2 s l) = V (c + s.val)) :
    k0_pay25 (F := Ideal) k0_pay13 tri k0_pay17 k0_pay18 vb D P L (ix2 r l)
      = ∑ u ∈ Finset.Ico c (c + r.val), Stick.wt Z (c + r.val) u * V u := by
  have h17 : k0_pay17 (F := Ideal) (ix2 r 0) = 0 := by pointwise [k0_pay17]
  have h18 : k0_pay18 (F := Ideal) (ix2 r l) = 0 := by pointwise [k0_pay18]
  pointwise [k0_pay25]
  rw [h18, zero_add]
  refine Stick.sum_diag (fun u => Stick.wt Z (c + r.val) u * V u) c r.val (by omega) _ fun s => ?_
  rw [mask_apply, select_ofBool]
  by_cases hs : s.val < r.val
  · rw [if_pos hs, if_pos hs, hD, hz, h17, add_zero, hV,
      Stick.between_diag Z c r.val (by omega) _ _ s (fun u => lnDiag_apply P L r u _ (hz u)) (fun u => htri u s)]
    rfl
  · rw [if_neg hs, if_neg hs]

/-! ## The two heads of a pair of lanes -/

/-- The lanes of the first head. -/
theorem lane0 (x : Fin 128) : IntOp.andi (IntOp.cmpi .sge (BitVec.ofNat 32 x.val) 0#32) (IntOp.cmpi .slt (BitVec.ofNat 32 x.val) 64#32)
    = BitVec.ofBool (decide (x.val < 64)) := by
  have hx := x.isLt
  rw [show (0#32 : BitVec 32) = BitVec.ofNat 32 0 from rfl, show (64#32 : BitVec 32) = BitVec.ofNat 32 64 from rfl,
    WordCmp.cmpi_sge_ofNat (by omega) (by omega), WordCmp.cmpi_slt_ofNat (by omega) (by omega), WordCmp.andi_ofBool]
  simp

/-- The lanes of the second head. -/
theorem lane1 (x : Fin 128) : IntOp.andi (IntOp.cmpi .sge (BitVec.ofNat 32 x.val) 64#32) (IntOp.cmpi .slt (BitVec.ofNat 32 x.val) 128#32)
    = BitVec.ofBool (decide (64 ≤ x.val)) := by
  have hx := x.isLt
  rw [show (128#32 : BitVec 32) = BitVec.ofNat 32 128 from rfl, show (64#32 : BitVec 32) = BitVec.ofNat 32 64 from rfl,
    WordCmp.cmpi_sge_ofNat (by omega) (by omega), WordCmp.cmpi_slt_ofNat (by omega) (by omega), WordCmp.andi_ofBool]
  simp [hx]

/-- The queries of the first head of a pair: the other head's lanes hold zero. -/
theorem q0_apply (v0 : Vec Ideal S1x256x128 .bf16) (r : Fin 256) (x : Fin 128) :
    k0_pay16 (F := Ideal) v0 (ix2 r x) = if x.val < 64 then v0 (ix3 0 r x) else 0 := by
  pointwise [k0_pay16, k0_pay15, k0_pay12]
  rw [lane0, select_ofBool]

/-- The queries of the second head of a pair: the other head's lanes hold zero. -/
theorem q1_apply (v0 : Vec Ideal S1x256x128 .bf16) (r : Fin 256) (x : Fin 128) :
    k0_pay39 (F := Ideal) (k0_pay12 v0) (iota .tc S256x128 32 [1] iota_S256x128_d1_w32) (ix2 r x) = if 64 ≤ x.val then v0 (ix3 0 r x) else 0 := by
  pointwise [k0_pay39, k0_pay38, k0_pay12]
  rw [lane1, select_ofBool]

/-- The output's lanes: the first head's from its own accumulated output, the second head's from its own. -/
theorem out_apply (A B : FVec Ideal S256x128 .f32) (r : Fin 256) (x : Fin 128) :
    k0_pay11 (F := Ideal) (k0_pay37 k0_pay14 k0_pay15 A) (k0_pay38 (iota .tc S256x128 32 [1] iota_S256x128_d1_w32)) B (ix3 0 r x)
      = if 64 ≤ x.val then B (ix2 r x) else A (ix2 r x) := by
  pointwise [k0_pay11, k0_pay37, k0_pay38, k0_pay15]
  rw [lane0, lane1, select_ofBool, select_ofBool]
  split
  · rfl
  · rw [if_pos (by omega)]

/-! ## A whole row of one head -/

/-- The two carried values after the diagonal block. -/
def first (tri : Vec Ideal S256x256 .bf16) (Q : FVec Ideal S256x128 .bf16) (kb vb : Vec Ideal S1x256x128 .bf16) :
    FVec Ideal S256x1 .f32 × FVec Ideal S256x128 .f32 :=
  (k0_pay46 k0_pay13 Q k0_pay40 kb, k0_pay45 k0_pay13 tri Q k0_pay40 k0_pay41 kb vb)

/-- The larger of each logit and zero. -/
def pos (z : FVec Ideal S256x256 .f32) : FVec Ideal S256x256 .f32 :=
  maximumf z (broadcast S256x256 (Scalar.ofBits .f32 0x00000000#32))

/-- The logarithm's part of the softplus. -/
def logp (z : FVec Ideal S256x256 .f32) : FVec Ideal S256x256 .f32 :=
  log (addf (broadcast S256x256 (Scalar.ofBits .f32 0x3F800000#32)) (exp (subf (broadcast S256x256 (Scalar.ofBits .f32 0x00000000#32)) (absf z))))

theorem first_eq (tri : Vec Ideal S256x256 .bf16) (Q : FVec Ideal S256x128 .bf16) (kb vb : Vec Ideal S1x256x128 .bf16) :
    first tri Q kb vb = (k0_pay26 k0_pay13 k0_pay17 (pos (k0_pay27 Q kb)) (logp (k0_pay27 Q kb)),
      k0_pay25 k0_pay13 tri k0_pay17 k0_pay18 (k0_pay19 vb) (k0_pay27 Q kb) (pos (k0_pay27 Q kb)) (logp (k0_pay27 Q kb))) := rfl

theorem spPos_apply (z : FVec Ideal S256x256 .f32) (r s : Fin 256) :
    k0_pay23 (F := Ideal) (pos z) (logp z) (ix2 r s) = Stick.sp (z (ix2 r s)) := by
  pointwise [k0_pay23, pos, logp]
  rw [zero_sub]
  rfl

/-- After the diagonal block and `k` earlier blocks, the running sum and the accumulated output of a row hold the sums over the
    keys of those blocks before the query. -/
theorem row_apply (tri : Vec Ideal S256x256 .bf16) (Q : FVec Ideal S256x128 .bf16) (K W : ℕ → Fin 128 → EReal) (i : ℕ)
    (kb vb : ℕ → Vec Ideal S1x256x128 .bf16) (S : ℕ → FVec Ideal S256x1 .f32 × FVec Ideal S256x128 .f32)
    (htri : ∀ u s : Fin 256, tri (ix2 u s) = if s.val < u.val then 1 else 0)
    (h0 : S 0 = first tri Q (kb i) (vb i))
    (hS : ∀ k, k < i → S (k + 1) = (k0_pay31 Q (S k).1 (kb (i - 1 - k)), k0_pay30 tri Q (S k).1 (S k).2 (kb (i - 1 - k)) (vb (i - 1 - k))))
    (hkb : ∀ b, b ≤ i → ∀ (s : Fin 256) (x : Fin 128), kb b (ix3 0 s x) = K (b * 256 + s.val) x)
    (hvb : ∀ b, b ≤ i → ∀ (s : Fin 256) (x : Fin 128), vb b (ix3 0 s x) = W (b * 256 + s.val) x)
    (r : Fin 256) (Z : ℕ → EReal) (hZ : ∀ n, Z n = ∑ x : Fin 128, Q (ix2 r x) * K n x) :
    ∀ k, k ≤ i → (S k).1 (ix2 r 0) = ∑ u ∈ Finset.Ico ((i - k) * 256) (i * 256 + r.val), Stick.ln (Z u)
      ∧ ∀ l, (S k).2 (ix2 r l) = ∑ u ∈ Finset.Ico ((i - k) * 256) (i * 256 + r.val), Stick.wt Z (i * 256 + r.val) u * W u l := by
  have hz : ∀ b, b ≤ i → ∀ s : Fin 256, k0_pay27 (F := Ideal) Q (kb b) (ix2 r s) = Z (b * 256 + s.val) := fun b hb s => by
    rw [logit_apply, hZ]
    exact Finset.sum_congr rfl fun x _ => by rw [hkb b hb]
  intro k
  induction k with
  | zero =>
    intro _
    have hp : ∀ s : Fin 256, k0_pay23 (F := Ideal) (pos (k0_pay27 Q (kb i))) (logp (k0_pay27 Q (kb i))) (ix2 r s) = Stick.sp (Z (i * 256 + s.val)) :=
      fun s => by rw [spPos_apply, hz i le_rfl]
    rw [h0, first_eq, Nat.sub_zero]
    refine ⟨runDiag_apply _ _ r Z (i * 256) hp, fun l => ?_⟩
    refine accDiag_apply tri _ _ _ _ r l Z (fun u => W u l) (i * 256) htri (hz i le_rfl) hp fun s => ?_
    rw [← hvb i le_rfl]
    pointwise [k0_pay19]
  | succ k ih =>
    intro hk
    obtain ⟨hrun, hacc⟩ := ih (by omega)
    have hb : (i - k) * 256 = (i - 1 - k) * 256 + 256 := by
      have : i - k = (i - 1 - k) + 1 := by omega
      rw [this]; ring
    have ht : (i - 1 - k) * 256 + 256 ≤ i * 256 + r.val := by
      have : (i - 1 - k) + 1 ≤ i := by omega
      omega
    rw [hb] at hrun hacc
    rw [hS k (by omega), show i - (k + 1) = i - 1 - k by omega]
    exact ⟨run_apply Q _ _ r Z _ _ ht (hz _ (by omega)) hrun,
      fun l => acc_apply tri Q _ _ _ _ r l Z (fun u => W u l) _ _ ht htri (hz _ (by omega)) (fun s => hvb _ (by omega) s l) hrun (hacc l)⟩

end Cert.KernelIdeal.Block
-- ==== Proof.KOff.lean ====
/-
  The keys that each block of the kernel loads, and the number of trips of its loops.
-/
module

public import proofs.«01_k».proof.Proof.KBlock
public import proofs.«01_k».proof.Proof.Gen.KernelIdeal.Value
public import Idealize.ShloMosaic.Lib.Pipeline.Value
public import Idealize.ShloMosaic.Lib.Pointwise
public import Idealize.ShloMosaic.Lib.LoopRemainder
public import Idealize.ShloMosaic.Lib.Tactic

@[expose] public section

set_option maxRecDepth 16384

noncomputable section

open Idealize.ShloMosaic Idealize.ShloMosaic.TcCoe Idealize.SL.Sem

namespace Cert.KernelIdeal.Out

open Cert.KernelIdeal Cert.KernelIdeal.Gen Cert.KernelIdeal.Block

/-- The first loop makes as many trips as there are earlier blocks. -/
theorem trips1 : ∀ i : grid0.Coords, (k0_t1_loop i).trips = (i 2).val := by decide +kernel

/-- So does the second head's. -/
theorem trips3 : ∀ i : grid0.Coords, (k0_t3_loop i).trips = (i 2).val := by decide +kernel

/-- The diagonal block's keys. -/
theorem off1 : ∀ i : grid0.Coords, k0_off1 i = ![0, (i 2).val * 256, 0] := by decide +kernel

/-- The keys of trip `k` of the first head's loop: the blocks backwards from the one before the diagonal. -/
theorem off2 : ∀ (i : grid0.Coords) (k : Fin (k0_t1_loop i).trips), k0_off2 i k = ![0, ((i 2).val - 1 - k.val) * 256, 0] := by
  decide +kernel

/-- The keys of trip `k` of the second head's loop. -/
theorem off4 : ∀ (i : grid0.Coords) (k : Fin (k0_t3_loop i).trips), k0_off4 i k = ![0, ((i 2).val - 1 - k.val) * 256, 0] := by
  decide +kernel

/-- A row of 8192 keys as a function of any number. -/
def key (x : Vec Ideal S1x8192x128 .bf16) (n : ℕ) (l : Fin 128) : EReal :=
  if h : n < 8192 then x (ix3 0 ⟨n, h⟩ l) else 0

/-- Block `b` of the keys. -/
def keyBlock (x : Vec Ideal S1x8192x128 .bf16) (b : ℕ) : Vec Ideal S1x256x128 .bf16 :=
  fun j => key x (b * 256 + (j 1).val) (j 2)

/-- A load of 256 keys from position `o` on. -/
theorem load_eq (a : Memref sig .tc .vmem S1x8192x128 .bf16) (h : a.IsWhole) (x : Vec Ideal S1x8192x128 .bf16)
    (off : Fin 3 → ℕ) (b : ℕ) (ho : off = ![0, b * 256, 0])
    (inb : ∀ k, off k + S1x256x128.size k ≤ S1x8192x128.size k) :
    View.readAt (Elt Ideal) a.view (Rect.unit (s := S1x8192x128) off S1x256x128.size inb).toLoadRect (h.unread x) = keyBlock x b := by
  subst ho
  rw [View.readAt_eq_ld, h.read_unread]
  funext j
  idx_vars j
  have hb := inb 1
  have hb' : b * 256 + 256 ≤ 8192 := hb
  pointwise [keyBlock, key]
  rw [dif_pos (by have := j1.isLt; omega)]

end Cert.KernelIdeal.Out
-- ==== Proof.KOut.lean ====
/-
  What the kernel's body leaves in its output block, at an entry: the weighted sum of the values of the keys before the
  query, for the head whose lane the entry is.
-/
module

public import proofs.«01_k».proof.Proof.KOff
public import proofs.«01_k».proof.Proof.Gen.KernelIdeal.Value
public import Idealize.ShloMosaic.Lib.Pipeline.Value
public import Idealize.ShloMosaic.Lib.Pointwise
public import Idealize.ShloMosaic.Lib.LoopRemainder
public import Idealize.ShloMosaic.Lib.Tactic

@[expose] public section

set_option maxRecDepth 16384

noncomputable section

open Idealize.ShloMosaic Idealize.ShloMosaic.TcCoe Idealize.SL.Sem

namespace Cert.KernelIdeal.Out

open Cert.KernelIdeal Cert.KernelIdeal.Gen Cert.KernelIdeal.Block

/-- The queries of the first head. -/
abbrev Q0 (x0 : Vec Ideal S1x256x128 .bf16) : FVec Ideal S256x128 .bf16 := k0_pay16 x0

/-- The queries of the second head. -/
abbrev Q1 (x0 : Vec Ideal S1x256x128 .bf16) : FVec Ideal S256x128 .bf16 :=
  k0_pay39 (k0_pay12 x0) (iota .tc S256x128 32 [1] iota_S256x128_d1_w32)

/-- The logits of row `r` for the queries `Q`. -/
def logits (Q : FVec Ideal S256x128 .bf16) (x1 : Vec Ideal S1x8192x128 .bf16) (r : Fin 256) (n : ℕ) : EReal :=
  ∑ x : Fin 128, Q (ix2 r x) * key x1 n x

/-- The output of row `r` for the queries `Q` on lane `l`, at block `i`. -/
def rowOut (Q : FVec Ideal S256x128 .bf16) (x1 x2 : Vec Ideal S1x8192x128 .bf16) (i : ℕ) (r : Fin 256) (l : Fin 128) : EReal :=
  ∑ u ∈ Finset.Ico 0 (i * 256 + r.val), Stick.wt (logits Q x1 r) (i * 256 + r.val) u * key x2 u l

/-- What the first head's loop leaves. -/
theorem st1_row (c : Dev nD) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S256x256 .bf16) (harg6 : arg6.IsWhole) (arg7 : Memref sig .tc .vmem S1x256x128 .bf16) (harg7 : arg7.IsWhole)
    (x1 x2 : Vec Ideal S1x8192x128 .bf16) (tri : Vec Ideal S256x256 .bf16) (Q : FVec Ideal S256x128 .bf16) (arg2 : BitVec 32) (v2 : FVec Ideal S256x128 .f32) (v3 : IVec S256x128 32) (v6 : IVec S256x256 1) (v8 : FVec Ideal S256x128 .f32) (v13 : IVec S256x128 1) (v17 : FVec Ideal S256x1 .f32) (v18 : FVec Ideal S256x128 .f32) (v26 : FVec Ideal S256x128 .bf16) (v27 : FVec Ideal S256x256 .f32) (v29 : FVec Ideal S256x256 .f32) (v36 : FVec Ideal S256x256 .f32)
    (htri : ∀ u s : Fin 256, tri (ix2 u s) = if s.val < u.val then 1 else 0) (r : Fin 256) (l : Fin 128) :
    (st_k0_t1 (F := Ideal) Variants.none c none i arg3 harg3 arg4 harg4 arg5 harg5 arg6 harg6 arg7 harg7 arg2 v2 v3 v6 tri v8 v13 Q v17 v18 v26 v27 v29 v36 (harg4.unread x1) (harg5.unread x2)
      (first tri Q (keyBlock x1 (i 2).val) (keyBlock x2 (i 2).val)) (k0_t1_loop i).trips).2 (ix2 r l) = rowOut Q x1 x2 (i 2).val r l := by
  have h := row_apply tri Q (key x1) (key x2) (i 2).val (keyBlock x1) (keyBlock x2)
    (st_k0_t1 (F := Ideal) Variants.none c none i arg3 harg3 arg4 harg4 arg5 harg5 arg6 harg6 arg7 harg7 arg2 v2 v3 v6 tri v8 v13 Q v17 v18 v26 v27 v29 v36 (harg4.unread x1) (harg5.unread x2)
      (first tri Q (keyBlock x1 (i 2).val) (keyBlock x2 (i 2).val)))
    htri (st_k0_t1_zero ..) (fun k hk => by
      have hk' : k < (k0_t1_loop i).trips := by rw [trips1]; exact hk
      refine (st_k0_t1_succ (F := Ideal) Variants.none c none i arg3 harg3 arg4 harg4 arg5 harg5 arg6 harg6 arg7 harg7 arg2 v2 v3 v6 tri v8 v13 Q v17 v18 v26 v27 v29 v36 (harg4.unread x1) (harg5.unread x2) _ ⟨k, hk'⟩).trans ?_
      generalize st_k0_t1 (F := Ideal) Variants.none c none i arg3 harg3 arg4 harg4 arg5 harg5 arg6 harg6 arg7 harg7 arg2 v2 v3 v6 tri v8 v13 Q v17 v18 v26 v27 v29 v36 (harg4.unread x1) (harg5.unread x2)
        (first tri Q (keyBlock x1 (i 2).val) (keyBlock x2 (i 2).val)) k = S
      unfold tripR_k0_t1 trip_k0_t1
      dsimp only
      have e4 := load_eq arg4 harg4 x1 _ _ (off2 i ⟨k, hk'⟩) (k0_off2_inb i ⟨k, hk'⟩)
      have e5 := load_eq arg5 harg5 x2 _ _ (off2 i ⟨k, hk'⟩) (k0_off2_inb i ⟨k, hk'⟩)
      dsimp only at e4 e5
      rw [e4, e5])
    (fun b _ s x => rfl) (fun b _ s x => rfl) r (logits Q x1 r) (fun n => rfl) (k0_t1_loop i).trips (by rw [trips1])
  have h2 := h.2 l
  rw [trips1, Nat.sub_self, Nat.zero_mul] at h2
  rw [trips1]
  exact h2

/-- What the second head's loop leaves. -/
theorem st3_row (c : Dev nD) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S256x256 .bf16) (harg6 : arg6.IsWhole) (arg7 : Memref sig .tc .vmem S1x256x128 .bf16) (harg7 : arg7.IsWhole)
    (x1 x2 : Vec Ideal S1x8192x128 .bf16) (tri : Vec Ideal S256x256 .bf16) (Q : FVec Ideal S256x128 .bf16)
    (htri : ∀ u s : Fin 256, tri (ix2 u s) = if s.val < u.val then 1 else 0) (r : Fin 256) (l : Fin 128) :
    (st_k0_t3 (F := Ideal) Variants.none c none i arg3 harg3 arg4 harg4 arg5 harg5 arg6 harg6 arg7 harg7 tri Q (harg4.unread x1) (harg5.unread x2)
      (first tri Q (keyBlock x1 (i 2).val) (keyBlock x2 (i 2).val)) (k0_t3_loop i).trips).2 (ix2 r l) = rowOut Q x1 x2 (i 2).val r l := by
  have h := row_apply tri Q (key x1) (key x2) (i 2).val (keyBlock x1) (keyBlock x2)
    (st_k0_t3 (F := Ideal) Variants.none c none i arg3 harg3 arg4 harg4 arg5 harg5 arg6 harg6 arg7 harg7 tri Q (harg4.unread x1) (harg5.unread x2)
      (first tri Q (keyBlock x1 (i 2).val) (keyBlock x2 (i 2).val)))
    htri (st_k0_t3_zero ..) (fun k hk => by
      have hk' : k < (k0_t3_loop i).trips := by rw [trips3]; exact hk
      refine (st_k0_t3_succ (F := Ideal) Variants.none c none i arg3 harg3 arg4 harg4 arg5 harg5 arg6 harg6 arg7 harg7 tri Q (harg4.unread x1) (harg5.unread x2) _ ⟨k, hk'⟩).trans ?_
      generalize st_k0_t3 (F := Ideal) Variants.none c none i arg3 harg3 arg4 harg4 arg5 harg5 arg6 harg6 arg7 harg7 tri Q (harg4.unread x1) (harg5.unread x2)
        (first tri Q (keyBlock x1 (i 2).val) (keyBlock x2 (i 2).val)) k = S
      unfold tripR_k0_t3 trip_k0_t3
      dsimp only
      have e4 := load_eq arg4 harg4 x1 _ _ (off4 i ⟨k, hk'⟩) (k0_off4_inb i ⟨k, hk'⟩)
      have e5 := load_eq arg5 harg5 x2 _ _ (off4 i ⟨k, hk'⟩) (k0_off4_inb i ⟨k, hk'⟩)
      dsimp only at e4 e5
      rw [e4, e5]
      rfl)
    (fun b _ s x => rfl) (fun b _ s x => rfl) r (logits Q x1 r) (fun n => rfl) (k0_t3_loop i).trips (by rw [trips3])
  have h2 := h.2 l
  rw [trips3, Nat.sub_self, Nat.zero_mul] at h2
  rw [trips3]
  exact h2

/-- What the body leaves in the output block. -/
theorem out_eq (c : Dev nD) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S256x256 .bf16) (harg6 : arg6.IsWhole) (arg7 : Memref sig .tc .vmem S1x256x128 .bf16) (harg7 : arg7.IsWhole)
    (x0 : Vec Ideal S1x256x128 .bf16) (x1 : Vec Ideal S1x8192x128 .bf16) (x2 : Vec Ideal S1x8192x128 .bf16) (x3 : Vec Ideal S256x256 .bf16)
    (htri : ∀ u s : Fin 256, x3 (ix2 u s) = if s.val < u.val then 1 else 0) (r : Fin 256) (l : Fin 128) :
    out0_A_4 (F := Ideal) c i arg3 harg3 arg4 harg4 arg5 harg5 arg6 harg6 arg7 harg7 x0 x1 x2 x3 (ix3 0 r l)
      = if 64 ≤ l.val then rowOut (Q1 x0) x1 x2 (i 2).val r l else rowOut (Q0 x0) x1 x2 (i 2).val r l := by
  have hz3 : (![0, 0, 0] : Fin 3 → Nat) = fun _ => 0 := funext fun a => by fin_cases a <;> rfl
  have hz2 : (![0, 0] : Fin 2 → Nat) = fun _ => 0 := funext fun a => by fin_cases a <;> rfl
  unfold out0_A_4
  rw [View.read_writes_eq_canon _ _ _ (cover0_A_4 c i arg3 harg3 arg4 harg4 arg5 harg5 arg6 harg6 arg7 harg7 x0 x1 x2 x3)]
  unfold kernelRun0_A
  dsimp only
  sl_unfold_words
  rw [View.canon_unit_zero hz3]
  simp only [Scf.rem_trips, st_k0_t4_zero, st_k0_t2_zero]
  have e3 : View.readAt (Elt Ideal) arg3.view (Rect.unit ![0, 0, 0] S1x256x128.size inb_S1x256x128_S1x256x128_0_0_0).toLoadRect (harg3.unread x0) = x0 := by
    rw [View.readAt_eq_ld, harg3.read_unread, View.ld_unit_zero (S := S1x256x128) hz3]
  have e6 : View.readAt (Elt Ideal) arg6.view (Rect.unit ![0, 0] S256x256.size inb_S256x256_S256x256_0_0).toLoadRect (harg6.unread x3) = x3 := by
    rw [View.readAt_eq_ld, harg6.read_unread, View.ld_unit_zero (S := S256x256) hz2]
  have e4 : View.readAt (Elt Ideal) arg4.view (Rect.unit (s := S1x8192x128) ![0, BitVec.toNat (Scalar.indexCast (Scalar.muli (BitVec.ofNat 32 (i 2).val) 256#32)), 0] S1x256x128.size (k0_off1_inb i)).toLoadRect (harg4.unread x1) = keyBlock x1 (i 2).val :=
    load_eq arg4 harg4 x1 (k0_off1 i) _ (off1 i) (k0_off1_inb i)
  have e5 : View.readAt (Elt Ideal) arg5.view (Rect.unit (s := S1x8192x128) ![0, BitVec.toNat (Scalar.indexCast (Scalar.muli (BitVec.ofNat 32 (i 2).val) 256#32)), 0] S1x256x128.size (k0_off1_inb i)).toLoadRect (harg5.unread x2) = keyBlock x2 (i 2).val :=
    load_eq arg5 harg5 x2 (k0_off1 i) _ (off1 i) (k0_off1_inb i)
  dsimp only at e3 e4 e5 e6
  rw [e3, e6, e4, e5]
  refine (out_apply _ _ r l).trans ?_
  split
  · exact st3_row c i arg3 harg3 arg4 harg4 arg5 harg5 arg6 harg6 arg7 harg7 x1 x2 x3 (Q1 x0) htri r l
  · exact st1_row c i arg3 harg3 arg4 harg4 arg5 harg5 arg6 harg6 arg7 harg7 x1 x2 x3 (Q0 x0) _ _ _ _ _ _ _ _ _ _ _ _ htri r l

end Cert.KernelIdeal.Out
-- ==== Proof.Suffix.lean ====
/-
  The running sum from the end of a row, as the host computes it, at an entry: the sum over the positions from that entry on.
-/
module

public import Idealize.ShloMosaic.PureOps.Ideal
public import Idealize.ShloMosaic.Lib.Pointwise

@[expose] public section

set_option maxRecDepth 16384

noncomputable section

namespace Stick

open Idealize.ShloMosaic

/-- A left fold of additions is the start plus the sum. -/
theorem foldl_add {α : Type} (g : α → EReal) (l : List α) (v : EReal) : l.foldl (fun r k => r + g k) v = v + (l.map g).sum := by
  induction l generalizing v with
  | nil => simp
  | cons a l ih => rw [List.foldl_cons, ih, List.map_cons, List.sum_cons, add_assoc]

/-- The numbers from position `s` on, counted from `s` and cut at the end of the row. -/
theorem sum_shift (f : ℕ → EReal) (hf : ∀ n, 8192 ≤ n → f n = 0) (s : ℕ) (hs : s ≤ 8192) :
    ∑ u : Fin 8192, f (s + u.val) = ∑ u : Fin 8192, if s ≤ u.val then f u.val else 0 := by
  rw [Fin.sum_univ_eq_sum_range (fun n => f (s + n)) 8192, Fin.sum_univ_eq_sum_range (fun n => if s ≤ n then f n else 0) 8192,
    ← Finset.sum_filter, Finset.range_eq_Ico, Finset.sum_Ico_add f,
    ← Finset.sum_Ico_consecutive f (m := 0 + s) (n := 8192) (k := 8192 + s) (by omega) (by omega),
    Finset.sum_eq_zero (s := Finset.Ico 8192 (8192 + s)) (fun n hn => hf n (Finset.mem_Ico.1 hn).1), add_zero]
  refine Finset.sum_congr (Finset.ext fun n => ?_) fun _ _ => rfl
  rw [Finset.mem_filter, Finset.mem_Ico, Finset.mem_Ico]
  omega

/-- The sum over a window that reaches from an entry to the end of its row and past it, where zeros are. -/
theorem suffix_apply {A B C : ℕ} (x : (⟨4, ![A, B, C, 8192]⟩ : Shape).Idx → EReal)
    (h : (⟨4, ![A, B, C, 8192]⟩ : Shape).ReduceWindows ![1, 1, 1, 8192] ![1, 1, 1, 1] ![0, 0, 0, 0] ![0, 0, 0, 8191] ⟨4, ![A, B, C, 8192]⟩)
    (a : Fin A) (b : Fin B) (c : Fin C) (s : Fin 8192) :
    Ideal.hostReduceWindowAdd ![1, 1, 1, 8192] ![1, 1, 1, 1] ![0, 0, 0, 0] ![0, 0, 0, 8191] h x 0 (ix4 a b c s)
      = ∑ u : Fin 8192, if s.val ≤ u.val then x (ix4 a b c u) else 0 := by
  unfold Ideal.hostReduceWindowAdd Host.reduceWindow
  dsimp only
  rw [foldl_add, zero_add, ← Fin.sum_univ_def]
  let f : ℕ → EReal := fun n => if hn : n < 8192 then x (ix4 a b c ⟨n, hn⟩) else 0
  have hs := s.isLt
  refine (Finset.sum_congr rfl fun k _ => ?_).trans ((Equiv.sum_comp (Shape.rowMajor (⟨4, ![1, 1, 1, 8192]⟩ : Shape)).symm
    (fun j => f (s.val + (j 3).val))).trans ?_)
  · have hj0 : (((Shape.rowMajor (⟨4, ![1, 1, 1, 8192]⟩ : Shape)).symm k) 0).val < 1 := (((Shape.rowMajor (⟨4, ![1, 1, 1, 8192]⟩ : Shape)).symm k) 0).isLt
    have hj1 : (((Shape.rowMajor (⟨4, ![1, 1, 1, 8192]⟩ : Shape)).symm k) 1).val < 1 := (((Shape.rowMajor (⟨4, ![1, 1, 1, 8192]⟩ : Shape)).symm k) 1).isLt
    have hj2 : (((Shape.rowMajor (⟨4, ![1, 1, 1, 8192]⟩ : Shape)).symm k) 2).val < 1 := (((Shape.rowMajor (⟨4, ![1, 1, 1, 8192]⟩ : Shape)).symm k) 2).isLt
    have ha := a.isLt
    have hb := b.isLt
    have hc := c.isLt
    by_cases hn : s.val + (((Shape.rowMajor (⟨4, ![1, 1, 1, 8192]⟩ : Shape)).symm k) 3).val < 8192
    · rw [dif_pos (by
        intro e
        match e with
        | ⟨0, _⟩ => show 0 ≤ a.val * 1 + (((Shape.rowMajor (⟨4, ![1, 1, 1, 8192]⟩ : Shape)).symm k) 0).val ∧ a.val * 1 + (((Shape.rowMajor (⟨4, ![1, 1, 1, 8192]⟩ : Shape)).symm k) 0).val - 0 < A; omega
        | ⟨1, _⟩ => show 0 ≤ b.val * 1 + (((Shape.rowMajor (⟨4, ![1, 1, 1, 8192]⟩ : Shape)).symm k) 1).val ∧ b.val * 1 + (((Shape.rowMajor (⟨4, ![1, 1, 1, 8192]⟩ : Shape)).symm k) 1).val - 0 < B; omega
        | ⟨2, _⟩ => show 0 ≤ c.val * 1 + (((Shape.rowMajor (⟨4, ![1, 1, 1, 8192]⟩ : Shape)).symm k) 2).val ∧ c.val * 1 + (((Shape.rowMajor (⟨4, ![1, 1, 1, 8192]⟩ : Shape)).symm k) 2).val - 0 < C; omega
        | ⟨3, _⟩ => show 0 ≤ s.val * 1 + (((Shape.rowMajor (⟨4, ![1, 1, 1, 8192]⟩ : Shape)).symm k) 3).val ∧ s.val * 1 + (((Shape.rowMajor (⟨4, ![1, 1, 1, 8192]⟩ : Shape)).symm k) 3).val - 0 < 8192; omega)]
      refine Eq.trans ?_ (dif_pos hn).symm
      refine congrArg x (funext fun e => Fin.ext ?_)
      match e with
      | ⟨0, _⟩ => show a.val * 1 + (((Shape.rowMajor (⟨4, ![1, 1, 1, 8192]⟩ : Shape)).symm k) 0).val - 0 = a.val; omega
      | ⟨1, _⟩ => show b.val * 1 + (((Shape.rowMajor (⟨4, ![1, 1, 1, 8192]⟩ : Shape)).symm k) 1).val - 0 = b.val; omega
      | ⟨2, _⟩ => show c.val * 1 + (((Shape.rowMajor (⟨4, ![1, 1, 1, 8192]⟩ : Shape)).symm k) 2).val - 0 = c.val; omega
      | ⟨3, _⟩ => show s.val * 1 + (((Shape.rowMajor (⟨4, ![1, 1, 1, 8192]⟩ : Shape)).symm k) 3).val - 0 = s.val + (((Shape.rowMajor (⟨4, ![1, 1, 1, 8192]⟩ : Shape)).symm k) 3).val; omega
    · rw [dif_neg (by
        intro hin
        have h3 := (hin 3).2
        change s.val * 1 + (((Shape.rowMajor (⟨4, ![1, 1, 1, 8192]⟩ : Shape)).symm k) 3).val - 0 < 8192 at h3
        omega)]
      have e : f (s.val + ((Shape.rowMajor (⟨4, ![1, 1, 1, 8192]⟩ : Shape)).symm k 3).val) = 0 := dif_neg hn
      exact e.symm
  · rw [sum_idx4]
    simp only [Fin.sum_univ_one]
    refine (sum_shift f (fun n hn => dif_neg (by omega)) s.val (by omega)).trans (Finset.sum_congr rfl fun u _ => ?_)
    split
    · exact dif_pos u.isLt
    · rfl

end Stick
-- ==== Proof.RefValue.lean ====
/-
  The reference's result at an entry: the weighted sum of the values of the keys before the query, for the entry's head.
-/
module

public import proofs.«01_k».proof.Proof.StickMath
public import proofs.«01_k».proof.Proof.Suffix
public import proofs.«01_k».proof.Proof.Gen.ReferenceIdeal.Run
public import Idealize.ShloMosaic.Lib.Pointwise
public import Idealize.ShloMosaic.Lib.WordCmp
public import Idealize.ShloMosaic.Lib.Tactic

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen Cert.ReferenceIdeal.Value

/-- The first half of the columns, by heads. -/
def heads (x : FVec Ideal S2x8192x1024 .bf16) : FVec Ideal S2x8192x8x64 .f32 :=
  shapeCast _ (extf .f32 (extractStridedSlice S2x8192x512 ![0, 0, 0] x slices_S2x8192x1024_S2x8192x512_0_0_0) bitsLt_bf16_f32) shapeCasts_S2x8192x512_S2x8192x8x64

/-- Zeros. -/
def zeros : FVec Ideal S2x8x8192x8192 .f32 := broadcastInDim S2x8x8192x8192 ![] bcast_S_S2x8x8192x8192 (constant S_ .f32 0x00000000#32)

/-- The softplus. -/
def softp (z : FVec Ideal S2x8x8192x8192 .f32) : FVec Ideal S2x8x8192x8192 .f32 :=
  select (cmpf .une (subf z zeros) (subf z zeros)) (addf z zeros) (addf (maximumf z zeros) (Host.log1p (Host.exp (Host.negf (Host.absf (subf z zeros))))))

/-- Which keys a query sees. -/
def mask : IVec S2x8x8192x8192 1 :=
  broadcastInDim S2x8x8192x8192 ![2, 3] bcast_S8192x8192_S2x8x8192x8192_2_3 (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

/-- The logs of what each key leaves of the stick, zero where the query does not see the key. -/
def logNot (z : FVec Ideal S2x8x8192x8192 .f32) : FVec Ideal S2x8x8192x8192 .f32 :=
  select mask (Host.negf (softp z)) (broadcastInDim S2x8x8192x8192 ![] bcast_S_S2x8x8192x8192 (id (constant S_ .f32 0x00000000#32)))

/-- The sums from each key to the last one. -/
def suffix (l : FVec Ideal S2x8x8192x8192 .f32) : FVec Ideal S2x8x8192x8192 .f32 :=
  Host.reduceWindowAdd ![1, 1, 1, 8192] ![1, 1, 1, 1] ![0, 0, 0, 0] ![0, 0, 0, 8191] l (broadcastInDim S_ ![] bcast_S_S_ (constant S_ .f32 0x00000000#32)) reduceWindows_S2x8x8192x8192_S2x8x8192x8192_w1s1p0_0_w1s1p0_0_w1s1p0_0_w8192s1p0_8191 h_S_

/-- The weights. -/
def weights (z : FVec Ideal S2x8x8192x8192 .f32) : FVec Ideal S2x8x8192x8192 .f32 :=
  select mask (Host.exp (addf (Host.negf (softp (Host.negf z))) (subf (suffix (logNot z)) (logNot z)))) (broadcastInDim S2x8x8192x8192 ![] bcast_S_S2x8x8192x8192 (id (constant S_ .f32 0x00000000#32)))

/-- The logits. -/
def logitsOf (q k : FVec Ideal S2x8192x8x64 .f32) : FVec Ideal S2x8x8192x8192 .f32 :=
  Host.dotGeneral dot_S2x8192x8x64_S2x8192x8x64_S2x8x8192x8192_3_3_1_1_02_02 none q k

/-- The result of the weights and the values. -/
def outOf (v : FVec Ideal S2x8192x8x64 .f32) (w : FVec Ideal S2x8x8192x8192 .f32) : FVec Ideal S2x8192x512 .bf16 :=
  truncf .bf16 (shapeCast _ (transpose S2x8192x8x64 [0, 3, 1, 2] (Host.dotGeneral dot_S2x8192x8x64_S2x8x8192x8192_S2x8x64x8192_1_3_3_2_02_01 none v w) transposes_S2x8x64x8192_S2x8192x8x64_0_3_1_2) shapeCasts_S2x8192x8x64_S2x8192x512) bitsLt_bf16_f32

/-- The reference's result, by the steps above. -/
theorem res_eq (m : (ℓ : Loc nD τ sig) → Buf (Elt Ideal) ℓ) (c : Dev nD) :
    res_main_v28 m c = outOf (heads (m ((c.tc : Thread nD τ).loc main_arg2)))
      (weights (logitsOf (heads (m ((c.tc : Thread nD τ).loc main_arg0))) (heads (m ((c.tc : Thread nD τ).loc main_arg1))))) := rfl

/-- An entry by heads is an entry of the array. -/
theorem heads_apply (x : FVec Ideal S2x8192x1024 .bf16) (b : Fin 2) (s : Fin 8192) (h : Fin 8) (d : Fin 64) :
    heads x (ix4 b s h d) = x (ix3 b s ⟨h.val * 64 + d.val, by omega⟩) := by
  pointwise [heads]
  done

/-- An entry of the zeros. -/
theorem zeros_apply (b : Fin 2) (h : Fin 8) (t s : Fin 8192) : zeros (ix4 b h t s) = 0 := by
  pointwise [zeros]
  done

/-- An entry of the softplus. -/
theorem softp_apply (z : FVec Ideal S2x8x8192x8192 .f32) (b : Fin 2) (h : Fin 8) (t s : Fin 8192) :
    softp z (ix4 b h t s) = Stick.sp (z (ix4 b h t s)) := by
  pointwise [softp, zeros]
  rw [if_neg (fun h => h rfl)]
  rfl

/-- A query sees the keys before it. -/
theorem mask_apply (b : Fin 2) (h : Fin 8) (t s : Fin 8192) : mask (ix4 b h t s) = BitVec.ofBool (decide (s.val < t.val)) := by
  pointwise [mask]
  exact WordCmp.cmpi_slt_ofNat (by have := s.isLt; omega) (by have := t.isLt; omega)

/-- An entry of the sums to the last key. -/
theorem suffix_apply (l : FVec Ideal S2x8x8192x8192 .f32) (b : Fin 2) (h : Fin 8) (t s : Fin 8192) :
    suffix l (ix4 b h t s) = ∑ u : Fin 8192, if s.val ≤ u.val then l (ix4 b h t u) else 0 := by
  unfold suffix
  unfold Host.reduceWindowAdd
  rw [Ideal.hostReduceWindowAdd_def]
  rw [show ∀ j, (broadcastInDim S_ ![] bcast_S_S_ (constant (F := Ideal) S_ .f32 0x00000000#32)) j = 0 from fun j => Ideal.ofBits_zero_f32]
  exact _root_.Stick.suffix_apply l _ b h t s

/-- A logit is the product of a query and a key of the same head. -/
theorem logits_apply (q k : FVec Ideal S2x8192x8x64 .f32) (b : Fin 2) (h : Fin 8) (t s : Fin 8192) :
    logitsOf q k (ix4 b h t s) = ∑ d : Fin 64, q (ix4 b t h d) * k (ix4 b s h d) := by
  pointwise [logitsOf]
  done

/-- An entry of the result is the weighted sum of the values of its head. -/
theorem out_apply (v : FVec Ideal S2x8192x8x64 .f32) (w : FVec Ideal S2x8x8192x8192 .f32) (b : Fin 2) (t : Fin 8192) (n : Fin 512) :
    outOf v w (ix3 b t n) = ∑ s : Fin 8192, v (ix4 b s ⟨n.val / 64, by omega⟩ ⟨n.val % 64, by omega⟩) * w (ix4 b ⟨n.val / 64, by omega⟩ t s) := by
  pointwise [outOf]
  done

/-- A choice by a comparison. -/
theorem select_bit {α : Type} (p : Prop) [Decidable p] (x y : α) :
    (if BitVec.ofBool (decide p) = 1#1 then x else y) = if p then x else y := by
  by_cases h : p <;> simp [h]

/-- The scalar zero. -/
theorem zero_scalar : (id (constant (F := Ideal) S_ .f32 0x00000000#32) : FVec Ideal S_ .f32) ix0 = 0 := Ideal.ofBits_zero_f32

/-- An entry of the logs of what each key leaves. -/
theorem logNot_apply (z : FVec Ideal S2x8x8192x8192 .f32) (b : Fin 2) (h : Fin 8) (t s : Fin 8192) :
    logNot z (ix4 b h t s) = if s.val < t.val then Stick.ln (z (ix4 b h t s)) else 0 := by
  pointwise [logNot]
  rw [mask_apply, softp_apply]
  rw [zero_scalar]
  exact select_bit _ _ _

/-- The sum from key `s` on, of the keys before the query. -/
theorem sum_seen (f : ℕ → EReal) (s t : ℕ) (hs : s < t) (ht : t ≤ 8192) :
    (∑ u : Fin 8192, if s ≤ u.val then (if u.val < t then f u.val else 0) else 0) = f s + ∑ u ∈ Finset.Ico (s + 1) t, f u := by
  rw [Fin.sum_univ_eq_sum_range (fun n => if s ≤ n then (if n < t then f n else 0) else 0) 8192, ← Finset.sum_filter,
    ← Finset.sum_filter, ← Finset.sum_eq_sum_Ico_succ_bot hs]
  refine Finset.sum_congr (Finset.ext fun n => ?_) fun _ _ => rfl
  simp only [Finset.mem_filter, Finset.mem_range, Finset.mem_Ico]
  omega

/-- The logits of a query by the number of the key. -/
def row (z : FVec Ideal S2x8x8192x8192 .f32) (b : Fin 2) (h : Fin 8) (t : Fin 8192) (n : ℕ) : EReal :=
  if hn : n < 8192 then z (ix4 b h t ⟨n, hn⟩) else 0

/-- A weight is the stick-breaking weight of the query's logits. -/
theorem weights_apply (z : FVec Ideal S2x8x8192x8192 .f32) (b : Fin 2) (h : Fin 8) (t s : Fin 8192) :
    weights z (ix4 b h t s) = if s.val < t.val then Stick.wt (row z b h t) t.val s.val else 0 := by
  pointwise [weights]
  rw [mask_apply, softp_apply, suffix_apply]
  simp only [logNot_apply]
  refine (select_bit _ _ _).trans ?_
  by_cases hs : s.val < t.val
  · have er : ∀ u : Fin 8192, z (ix4 b h t u) = row z b h t u.val := fun u => by
      unfold row
      rw [dif_pos u.isLt]
    rw [if_pos hs, if_pos hs, if_pos hs]
    simp only [er]
    rw [sum_seen (fun n => Stick.ln (row z b h t n)) s.val t.val hs (by omega)]
    first | exact Stick.exp_logsig _ _ | (pointwise []; rw [er]; exact Stick.exp_logsig _ _)
  · rw [if_neg hs, if_neg hs, zero_scalar]

/-- The logit of key `n` for the query at position `t`, in the head of column `j`. -/
def logit (q k : FVec Ideal S2x8192x1024 .bf16) (b : Fin 2) (t : Fin 8192) (h : ℕ) (hh : h < 8) (n : ℕ) : EReal :=
  if hn : n < 8192 then ∑ d : Fin 64, q (ix3 b t ⟨h * 64 + d.val, by omega⟩) * k (ix3 b ⟨n, hn⟩ ⟨h * 64 + d.val, by omega⟩) else 0

/-- The value of key `n` in column `j`. -/
def value (v : FVec Ideal S2x8192x1024 .bf16) (b : Fin 2) (j : Fin 512) (n : ℕ) : EReal :=
  if hn : n < 8192 then v (ix3 b ⟨n, hn⟩ ⟨j.val, by omega⟩) else 0

/-- The result at batch `b`, position `t` and column `j`, from the arguments. -/
def entry (q k v : FVec Ideal S2x8192x1024 .bf16) (b : Fin 2) (t : Fin 8192) (j : Fin 512) : EReal :=
  ∑ u ∈ Finset.Ico 0 t.val, Stick.wt (logit q k b t (j.val / 64) (by omega)) t.val u * value v b j u

/-- The reference's result at an entry. -/
theorem res_apply (q k v : FVec Ideal S2x8192x1024 .bf16) (b : Fin 2) (t : Fin 8192) (j : Fin 512) :
    outOf (heads v) (weights (logitsOf (heads q) (heads k))) (ix3 b t j) = entry q k v b t j := by
  have ez : row (logitsOf (heads q) (heads k)) b ⟨j.val / 64, by omega⟩ t = logit q k b t (j.val / 64) (by omega) := by
    funext n
    unfold row logit
    split
    · rw [logits_apply]
      simp only [heads_apply]
    · rfl
  rw [out_apply]
  have e : ∀ s : Fin 8192, heads v (ix4 b s ⟨j.val / 64, by omega⟩ ⟨j.val % 64, by omega⟩)
      * weights (logitsOf (heads q) (heads k)) (ix4 b ⟨j.val / 64, by omega⟩ t s)
      = (fun n => if n < t.val then Stick.wt (logit q k b t (j.val / 64) (by omega)) t.val n * value v b j n else 0) s.val := fun s => by
    rw [weights_apply, ez, heads_apply]
    dsimp only
    have ev : value v b j s.val = v (ix3 b s ⟨j.val / 64 * 64 + j.val % 64, by omega⟩) := by
      unfold value
      rw [dif_pos s.isLt]
      congr 2
      exact Fin.ext (by show j.val = j.val / 64 * 64 + j.val % 64; omega)
    rw [ev]
    split
    · exact mul_comm _ _
    · exact mul_zero _
  rw [Finset.sum_congr rfl fun s _ => e s, Fin.sum_univ_eq_sum_range (fun n => if n < t.val then Stick.wt (logit q k b t (j.val / 64) (by omega)) t.val n * value v b j n else 0) 8192,
    ← Finset.sum_filter]
  refine Finset.sum_congr (Finset.ext fun n => ?_) fun _ _ => rfl
  simp only [Finset.mem_filter, Finset.mem_range, Finset.mem_Ico]
  omega

end Cert.ReferenceIdeal.Attn

end
-- ==== Proof.KValue.lean ====
/-
  The kernel's result array: at every entry the weighted sum of the values of the keys before the query.
-/
module

public import proofs.«01_k».proof.Proof.KOut
public import proofs.«01_k».proof.Proof.RefValue

@[expose] public section

set_option maxRecDepth 16384

noncomputable section

open Idealize.ShloMosaic Idealize.ShloMosaic.TcCoe Idealize.SL.Sem
open Idealize.ShloMosaic.Pipeline (Dat)

namespace Cert.KernelIdeal.Final

open Cert.KernelIdeal Cert.KernelIdeal.Gen Cert.KernelIdeal.Value Cert.KernelIdeal.Block Cert.KernelIdeal.Out
open Cert.ReferenceIdeal.Attn (entry logit value)

variable (m : (ℓ : Loc nD τ sig) → Buf (Elt Ideal) ℓ)

/-- Where a grid point's block of queries lies. -/
theorem idx0 : ∀ t : Fin cfg0.N, win0_0.index t 0 = t.val / 128 ∧ win0_0.index t 1 = t.val % 32 ∧ win0_0.index t 2 = t.val / 32 % 4 := by
  decide +kernel

/-- Where a grid point's block of keys lies. -/
theorem idx1 : ∀ t : Fin cfg0.N, win0_1.index t 0 = t.val / 128 ∧ win0_1.index t 1 = 0 ∧ win0_1.index t 2 = t.val / 32 % 4 := by
  decide +kernel

/-- Where a grid point's block of values lies. -/
theorem idx2 : ∀ t : Fin cfg0.N, win0_2.index t 0 = t.val / 128 ∧ win0_2.index t 1 = 0 ∧ win0_2.index t 2 = t.val / 32 % 4 := by
  decide +kernel

/-- Where a grid point's block of the result lies. -/
theorem idx4 : ∀ t : Fin cfg0.N, win0_4.index t 0 = t.val / 128 ∧ win0_4.index t 1 = t.val % 32 ∧ win0_4.index t 2 = t.val / 32 % 4 := by
  decide +kernel

/-- The number of the query block of a grid point. -/
theorem coord2 (t : Fin cfg0.N) : (grid0.coords t 2).val = t.val % 32 := by
  rw [Pipeline.Grid.coords_val t 2 (S := 1) (B := 32) (by decide) rfl, Nat.div_one]

/-- There are 256 grid points. -/
theorem points (t : Fin cfg0.N) : t.val < 256 := by
  have := t.isLt
  have hN : cfg0.N = 256 := N_0
  omega

/-- The block of queries at an entry. -/
theorem block0 (c : Dev nD) (t : Fin cfg0.N) (r : Fin 256) (l : Fin 128) :
    (iblk m c 0 t : Vec Ideal S1x256x128 .bf16) (ix3 0 r l) = (m ((c : Thread nD τ).loc main_arg0) : Vec Ideal S2x8192x1024 .bf16)
      (ix3 ⟨t.val / 128, by have := points t; omega⟩ ⟨t.val % 32 * 256 + r.val, by omega⟩ ⟨t.val / 32 % 4 * 128 + l.val, by omega⟩) := by
  obtain ⟨h0, h1, h2⟩ := idx0 t
  unfold iblk
  rw [View.read_apply]
  show V m c main_arg0 _ = _
  rw [V_main_arg0]
  congr 1
  funext a
  apply Fin.ext
  match a with
  | ⟨0, _⟩ => show win0_0.index t 0 * 1 + 1 * 0 = t.val / 128; rw [h0]; omega
  | ⟨1, _⟩ => show win0_0.index t 1 * 256 + 1 * r.val = t.val % 32 * 256 + r.val; rw [h1]; omega
  | ⟨2, _⟩ => show win0_0.index t 2 * 128 + 1 * l.val = t.val / 32 % 4 * 128 + l.val; rw [h2]; omega

/-- The keys of a grid point at an entry. -/
theorem block1 (c : Dev nD) (t : Fin cfg0.N) (n : Fin 8192) (l : Fin 128) :
    (iblk m c 1 t : Vec Ideal S1x8192x128 .bf16) (ix3 0 n l) = (m ((c : Thread nD τ).loc main_arg1) : Vec Ideal S2x8192x1024 .bf16)
      (ix3 ⟨t.val / 128, by have := points t; omega⟩ n ⟨t.val / 32 % 4 * 128 + l.val, by omega⟩) := by
  obtain ⟨h0, h1, h2⟩ := idx1 t
  unfold iblk
  rw [View.read_apply]
  show V m c main_arg1 _ = _
  rw [V_main_arg1]
  congr 1
  funext a
  apply Fin.ext
  match a with
  | ⟨0, _⟩ => show win0_1.index t 0 * 1 + 1 * 0 = t.val / 128; rw [h0]; omega
  | ⟨1, _⟩ => show win0_1.index t 1 * 8192 + 1 * n.val = n.val; rw [h1]; omega
  | ⟨2, _⟩ => show win0_1.index t 2 * 128 + 1 * l.val = t.val / 32 % 4 * 128 + l.val; rw [h2]; omega

/-- The values of a grid point at an entry. -/
theorem block2 (c : Dev nD) (t : Fin cfg0.N) (n : Fin 8192) (l : Fin 128) :
    (iblk m c 2 t : Vec Ideal S1x8192x128 .bf16) (ix3 0 n l) = (m ((c : Thread nD τ).loc main_arg2) : Vec Ideal S2x8192x1024 .bf16)
      (ix3 ⟨t.val / 128, by have := points t; omega⟩ n ⟨t.val / 32 % 4 * 128 + l.val, by omega⟩) := by
  obtain ⟨h0, h1, h2⟩ := idx2 t
  unfold iblk
  rw [View.read_apply]
  show V m c main_arg2 _ = _
  rw [V_main_arg2]
  congr 1
  funext a
  apply Fin.ext
  match a with
  | ⟨0, _⟩ => show win0_2.index t 0 * 1 + 1 * 0 = t.val / 128; rw [h0]; omega
  | ⟨1, _⟩ => show win0_2.index t 1 * 8192 + 1 * n.val = n.val; rw [h1]; omega
  | ⟨2, _⟩ => show win0_2.index t 2 * 128 + 1 * l.val = t.val / 32 % 4 * 128 + l.val; rw [h2]; omega

/-- A sum over the lanes of the first head. -/
theorem sum_low (f : Fin 128 → EReal) : (∑ x : Fin 128, if x.val < 64 then f x else 0) = ∑ d : Fin 64, f ⟨d.val, by omega⟩ := by
  rw [Fin.sum_univ_add (a := 64) (b := 64)]
  have e2 : (∑ d : Fin 64, if (Fin.natAdd 64 d).val < 64 then f (Fin.natAdd 64 d) else 0) = 0 :=
    Finset.sum_eq_zero fun d _ => if_neg (by rw [Fin.val_natAdd]; omega)
  refine (congrArg₂ (· + ·) (Finset.sum_congr rfl fun d _ => if_pos ?_) e2).trans (add_zero _)
  exact d.isLt

/-- A sum over the lanes of the second head. -/
theorem sum_high (f : Fin 128 → EReal) : (∑ x : Fin 128, if 64 ≤ x.val then f x else 0) = ∑ d : Fin 64, f ⟨64 + d.val, by omega⟩ := by
  rw [Fin.sum_univ_add (a := 64) (b := 64)]
  have e2 : (∑ d : Fin 64, if 64 ≤ (Fin.castAdd 64 d).val then f (Fin.castAdd 64 d) else 0) = 0 :=
    Finset.sum_eq_zero fun d _ => if_neg (by have := d.isLt; rw [Fin.val_castAdd]; omega)
  refine (congrArg₂ (· + ·) e2 (Finset.sum_congr rfl fun d _ => if_pos ?_)).trans (zero_add _)
  rw [Fin.val_natAdd]; omega

/-- A row of the queries' block is a row of the result, for the head `h` of the pair whose lanes the queries `Q` keep. -/
theorem rowOut_eq (q k v : FVec Ideal S2x8192x1024 .bf16) (b : Fin 2) (p : Fin 4) (i : Fin 32) (h : Fin 2)
    (Q : FVec Ideal S256x128 .bf16) (x1 x2 : Vec Ideal S1x8192x128 .bf16) (r : Fin 256) (l : Fin 128) (hl : l.val / 64 = h.val)
    (hQ : ∀ K : Fin 128 → EReal, ∑ x : Fin 128, Q (ix2 r x) * K x
      = ∑ d : Fin 64, q (ix3 b ⟨i.val * 256 + r.val, by omega⟩ ⟨p.val * 128 + (h.val * 64 + d.val), by omega⟩) * K ⟨h.val * 64 + d.val, by omega⟩)
    (h1 : ∀ (n : Fin 8192) (x : Fin 128), x1 (ix3 0 n x) = k (ix3 b n ⟨p.val * 128 + x.val, by omega⟩))
    (h2 : ∀ (n : Fin 8192) (x : Fin 128), x2 (ix3 0 n x) = v (ix3 b n ⟨p.val * 128 + x.val, by omega⟩)) :
    rowOut Q x1 x2 i.val r l = entry q k v b ⟨i.val * 256 + r.val, by omega⟩ ⟨p.val * 128 + l.val, by omega⟩ := by
  have ez : logits Q x1 r = logit q k b ⟨i.val * 256 + r.val, by omega⟩ ((p.val * 128 + l.val) / 64) (by omega) := by
    funext n
    unfold logits logit
    rw [hQ]
    by_cases hn : n < 8192
    · rw [dif_pos hn]
      refine Finset.sum_congr rfl fun d _ => ?_
      unfold key
      rw [dif_pos hn, h1]
      congr 3 <;> exact Fin.ext (by show p.val * 128 + (h.val * 64 + d.val) = (p.val * 128 + l.val) / 64 * 64 + d.val; omega)
    · rw [dif_neg hn]
      refine Finset.sum_eq_zero fun d _ => ?_
      unfold key
      rw [dif_neg hn, mul_zero]
  unfold rowOut entry
  rw [ez]
  refine Finset.sum_congr rfl fun u hu => ?_
  congr 1
  unfold key value
  by_cases hn : u < 8192
  · rw [dif_pos hn, dif_pos hn, h2]
  · rw [dif_neg hn, dif_neg hn]

/-- The result array. -/
def result (c : Dev nD) : Buf (Elt Ideal) ((c : Thread nD τ).loc main_v0) :=
  fun j : S2x8192x512.Idx => entry (m ((c : Thread nD τ).loc main_arg0)) (m ((c : Thread nD τ).loc main_arg1))
    (m ((c : Thread nD τ).loc main_arg2)) (j 0) (j 1) (j 2)

/-- What the body leaves at an entry of the output block of a grid point. -/
theorem out_entry (c : Dev nD) (t : Fin cfg0.N)
    (htri : ∀ a b : Fin 256, (iblk m c 3 t : Vec Ideal S256x256 .bf16) (ix2 a b) = if b.val < a.val then (1 : EReal) else 0)
    (r : Fin 256) (l : Fin 128) :
    out0_A_4 c (grid0.coords t) (ms0_0 t) (hs0_0 t) (ms0_1 t) (hs0_1 t) (ms0_2 t) (hs0_2 t) (ms0_3 t) (hs0_3 t) (ms0_4 t) (hs0_4 t)
      (iblk m c 0 t) (iblk m c 1 t) (iblk m c 2 t) (iblk m c 3 t) (ix3 0 r l)
      = entry (m ((c : Thread nD τ).loc main_arg0)) (m ((c : Thread nD τ).loc main_arg1)) (m ((c : Thread nD τ).loc main_arg2))
        ⟨t.val / 128, by have := points t; omega⟩ ⟨t.val % 32 * 256 + r.val, by omega⟩ ⟨t.val / 32 % 4 * 128 + l.val, by omega⟩ := by
  have ht := points t
  rw [out_eq c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) (iblk m c 3 t) htri r l, coord2]
  by_cases hl : 64 ≤ l.val
  · rw [if_pos hl]
    refine rowOut_eq _ _ _ ⟨t.val / 128, by omega⟩ ⟨t.val / 32 % 4, by omega⟩ ⟨t.val % 32, by omega⟩ 1 _ _ _ r l
      (by show l.val / 64 = 1; omega) (fun K => ?_) (block1 m c t) (block2 m c t)
    refine (Finset.sum_congr rfl fun x _ => ?_).trans (sum_high fun x => HMul.hMul (α := EReal) (β := EReal) (γ := EReal)
      ((iblk m c 0 t : Vec Ideal S1x256x128 .bf16) (ix3 0 r x)) (K x)) |>.trans
      (Finset.sum_congr rfl fun d _ => by rw [block0]; rfl)
    rw [show Q1 (iblk m c 0 t) (ix2 r x) = _ from q1_apply _ r x]
    split
    · rfl
    · exact zero_mul _
  · rw [if_neg hl]
    refine rowOut_eq _ _ _ ⟨t.val / 128, by omega⟩ ⟨t.val / 32 % 4, by omega⟩ ⟨t.val % 32, by omega⟩ 0 _ _ _ r l
      (by show l.val / 64 = 0; omega) (fun K => ?_) (block1 m c t) (block2 m c t)
    refine (Finset.sum_congr rfl fun x _ => ?_).trans (sum_low fun x => HMul.hMul (α := EReal) (β := EReal) (γ := EReal)
      ((iblk m c 0 t : Vec Ideal S1x256x128 .bf16) (ix3 0 r x)) (K x)) |>.trans
      (Finset.sum_congr rfl fun d _ => by
        rw [block0]
        congr 2 <;> simp)
    rw [show Q0 (iblk m c 0 t) (ix2 r x) = _ from q0_apply _ r x]
    split
    · rfl
    · exact zero_mul _

/-- Each grid point writes its block of the result. -/
theorem flushed_eq (c : Dev nD) (t : Fin cfg0.N)
    (htri : ∀ a b : Fin 256, (iblk m c 3 t : Vec Ideal S256x256 .bf16) (ix2 a b) = if b.val < a.val then (1 : EReal) else 0) :
    (dats m 0 c).flushed 4 t = ((cfg0.win 4).blk t).view.read (Elt Ideal) (result m c) := by
  have ht := points t
  obtain ⟨w0, w1, w2⟩ := idx4 t
  rw [flushed4_A]
  funext j
  rw [View.read_apply]
  obtain ⟨r, l, rfl⟩ : ∃ (r : Fin 256) (l : Fin 128), j = (ix3 0 r l : S1x256x128.Idx) := by
    refine ⟨j 1, j 2, funext fun a => Fin.ext ?_⟩
    match a with
    | ⟨0, _⟩ => have h : (j 0).val < 1 := (j 0).isLt; show (j 0).val = 0; omega
    | ⟨1, _⟩ => rfl
    | ⟨2, _⟩ => rfl
  refine (out_entry m c t htri r l).trans ?_
  have e : ((cfg0.win 4).blk t).view.emb (ix3 0 r l : S1x256x128.Idx) = (ix3 ⟨t.val / 128, by omega⟩ ⟨t.val % 32 * 256 + r.val, by omega⟩
      ⟨t.val / 32 % 4 * 128 + l.val, by omega⟩ : S2x8192x512.Idx) := by
    funext a
    apply Fin.ext
    match a with
    | ⟨0, _⟩ => show win0_4.index t 0 * 1 + 1 * 0 = t.val / 128; rw [w0]; omega
    | ⟨1, _⟩ => show win0_4.index t 1 * 256 + 1 * r.val = t.val % 32 * 256 + r.val; rw [w1]; omega
    | ⟨2, _⟩ => show win0_4.index t 2 * 128 + 1 * l.val = t.val / 32 % 4 * 128 + l.val; rw [w2]; omega
  show _ = result m c (((cfg0.win 4).blk t).view.emb (ix3 0 r l : S1x256x128.Idx))
  rw [e]
  rfl

/-- The result array after the run. -/
theorem final_o (c : Dev nD)
    (htri : ∀ (t : Fin cfg0.N) (a b : Fin 256), (iblk m c 3 t : Vec Ideal S256x256 .bf16) (ix2 a b) = if b.val < a.val then (1 : EReal) else 0) :
    (dats m 0 c).arrAt 4 cfg0.N = result m c :=
  (dats m 0 c).arrAt_eq_of_cover 4 (result m c) (fun t _ => flushed_eq m c t (htri t)) fun i => by
    have h0 : (i 0 : Nat) < 2 := (i 0).isLt
    have h1 : (i 1 : Nat) < 8192 := (i 1).isLt
    have h2 : (i 2 : Nat) < 512 := (i 2).isLt
    have hN : cfg0.N = 256 := N_0
    let t : Fin cfg0.N := ⟨(i 0 : Nat) * 128 + (i 2 : Nat) / 128 * 32 + (i 1 : Nat) / 256, by omega⟩
    have ht : t.val = (i 0 : Nat) * 128 + (i 2 : Nat) / 128 * 32 + (i 1 : Nat) / 256 := rfl
    obtain ⟨w0, w1, w2⟩ := idx4 t
    refine ⟨t, flush0_4 t, ?_⟩
    show i ∈ ((View.whole main_v0).slice (win0_4.rect t)).set
    rw [View.set_slice_whole, Rect.mem_set_unit]
    intro a
    match a with
    | ⟨0, _⟩ =>
      show win0_4.index t 0 * 1 ≤ (i 0 : Nat) ∧ (i 0 : Nat) < win0_4.index t 0 * 1 + 1
      rw [w0]; omega
    | ⟨1, _⟩ =>
      show win0_4.index t 1 * 256 ≤ (i 1 : Nat) ∧ (i 1 : Nat) < win0_4.index t 1 * 256 + 256
      rw [w1]; omega
    | ⟨2, _⟩ =>
      show win0_4.index t 2 * 128 ≤ (i 2 : Nat) ∧ (i 2 : Nat) < win0_4.index t 2 * 128 + 128
      rw [w2]; omega

end Cert.KernelIdeal.Final

end
-- ==== Proof.Zero.lean ====
/-
  Whole blocks start at offset zero on every axis.
-/
module

public import Idealize.ShloMosaic.Lib.Pointwise

@[expose] public section

namespace Cert.Rows

/-- Two zero offsets. -/
theorem off2 : (![0, 0] : Fin 2 → Nat) = fun _ => 0 := by
  funext a
  match a with
  | ⟨0, _⟩ => rfl
  | ⟨1, _⟩ => rfl

/-- Three zero offsets. -/
theorem off3 : (![0, 0, 0] : Fin 3 → Nat) = fun _ => 0 := by
  funext a
  match a with
  | ⟨0, _⟩ => rfl
  | ⟨1, _⟩ => rfl
  | ⟨2, _⟩ => rfl

end Cert.Rows
-- ==== Proof.Down.lean ====
/-
  The last projection of the MLP: rows by rows.
-/
module

public import proofs.«01_k».proof.Proof.Gen.Kernel2Ideal.Value
public import proofs.«01_k».proof.Proof.Gen.Reference2Ideal.Run
public import proofs.«01_k».proof.Proof.Zero
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.Reference2Ideal.Rows

open Cert.Reference2Ideal Cert.Reference2Ideal.Gen

/-- The reference's result, from its arguments. -/
def resOf (a0 : FVec Ideal S16384x2816 .bf16) (a1 : FVec Ideal S16384x1024 .f32) (a2 : FVec Ideal S2816x1024 .bf16) (a3 : FVec Ideal S1024 .f32) (a4 : FVec Ideal S2x1x1024 .f32) : FVec Ideal S16384x1024 .f32 :=
  shapeCast _ (addf (shapeCast _ a1 shapeCasts_S16384x1024_S2x8192x1024) (mulf (broadcastInDim S2x8192x1024 ![0, 1, 2] bcast_S2x1x1024_S2x8192x1024_0_1_2 a4) (mulf (mulf (shapeCast _ (Host.dotGeneral dot_S16384x2816_S2816x1024_S16384x1024_1_0_0_1_n_n none (extf .f32 a0 bitsLt_bf16_f32) (extf .f32 a2 bitsLt_bf16_f32)) shapeCasts_S16384x1024_S2x8192x1024) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (shapeCast _ (Host.dotGeneral dot_S16384x2816_S2816x1024_S16384x1024_1_0_0_1_n_n none (extf .f32 a0 bitsLt_bf16_f32) (extf .f32 a2 bitsLt_bf16_f32)) shapeCasts_S16384x1024_S2x8192x1024) (shapeCast _ (Host.dotGeneral dot_S16384x2816_S2816x1024_S16384x1024_1_0_0_1_n_n none (extf .f32 a0 bitsLt_bf16_f32) (extf .f32 a2 bitsLt_bf16_f32)) shapeCasts_S16384x1024_S2x8192x1024)) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 a3))))) shapeCasts_S2x8192x1024_S16384x1024

/-- The reference's result at an entry. -/
theorem res_apply (a0 : FVec Ideal S16384x2816 .bf16) (a1 : FVec Ideal S16384x1024 .f32) (a2 : FVec Ideal S2816x1024 .bf16) (a3 : FVec Ideal S1024 .f32) (a4 : FVec Ideal S2x1x1024 .f32) (r : Fin 16384) (l : Fin 1024) :
    resOf a0 a1 a2 a3 a4 (ix2 r l) = a1 (ix2 r l) + a4 (ix3 ⟨r.val / 8192, by omega⟩ 0 l) *
        ((∑ x, a0 (ix2 r x) * a2 (ix2 x l)) *
            Ideal.rsqrt
              (Ideal.div (∑ x, (∑ x_1, a0 (ix2 r x_1) * a2 (ix2 x_1 x)) * ∑ x_1, a0 (ix2 r x_1) * a2 (ix2 x_1 x))
                  (Ideal.ofBits FTy.f32 0x44800000#32) + Ideal.ofBits FTy.f32 0x358637BD#32) * a3 (ix1 l)) := by
  pointwise [resOf]

end Cert.Reference2Ideal.Rows

namespace Cert.Kernel2Ideal.Rows

open Cert.Kernel2Ideal Cert.Kernel2Ideal.Gen Cert.Kernel2Ideal.Value Cert.Rows
open Cert.Reference2Ideal.Rows (resOf res_apply)

/-- What the body stores at an entry. -/
theorem pay_apply (v0 : Vec Ideal S256x2816 .bf16) (v1 : Vec Ideal S2816x1024 .bf16) (v3 : Vec Ideal S256x1024 .f32)
    (v4 : Vec Ideal S1x1x1024 .f32) (v6 : Vec Ideal S1x1024 .f32) (r : Fin 256) (l : Fin 1024) :
    k0_pay1 v0 v1 v3 v4 v6 (ix2 r l) = v3 (ix2 r l) + v4 (ix3 0 0 l) *
        ((∑ x, v0 (ix2 r x) * v1 (ix2 x l)) *
            Ideal.rsqrt
              (Ideal.div (∑ x, (∑ x_1, v0 (ix2 r x_1) * v1 (ix2 x_1 x)) * ∑ x_1, v0 (ix2 r x_1) * v1 (ix2 x_1 x))
                  (Ideal.ofBits FTy.f32 0x44800000#32) + Ideal.ofBits FTy.f32 0x358637BD#32) * v6 (ix2 0 l)) := by
  pointwise [k0_pay1]

variable (m : (ℓ : Loc nD τ sig) → Buf (Elt Ideal) ℓ)

/-- There are 64 grid points. -/
theorem points (t : Fin cfg0.N) : t.val < 64 := by
  have := t.isLt
  have hN : cfg0.N = 64 := N_0
  omega

/-- Where window 0's block lies at a grid point. -/
theorem idx0 : ∀ t : Fin cfg0.N, win0_0.index t 0 = t.val ∧ win0_0.index t 1 = 0 := by
  decide +kernel

/-- Where window 1's block lies at a grid point. -/
theorem idx1 : ∀ t : Fin cfg0.N, win0_1.index t 0 = t.val ∧ win0_1.index t 1 = 0 := by
  decide +kernel

/-- Where window 2's block lies at a grid point. -/
theorem idx2 : ∀ t : Fin cfg0.N, win0_2.index t 0 = 0 ∧ win0_2.index t 1 = 0 := by
  decide +kernel

/-- Where window 3's block lies at a grid point. -/
theorem idx3 : ∀ t : Fin cfg0.N, win0_3.index t 0 = 0 ∧ win0_3.index t 1 = 0 := by
  decide +kernel

/-- Where window 4's block lies at a grid point. -/
theorem idx4 : ∀ t : Fin cfg0.N, win0_4.index t 0 = t.val / 32 ∧ win0_4.index t 1 = 0 ∧ win0_4.index t 2 = 0 := by
  decide +kernel

/-- Where window 5's block lies at a grid point. -/
theorem idx5 : ∀ t : Fin cfg0.N, win0_5.index t 0 = t.val ∧ win0_5.index t 1 = 0 := by
  decide +kernel

/-- The gate's rows at a grid point. -/
theorem block0 (c : Dev nD) (t : Fin cfg0.N) (r : Fin 256) (l : Fin 2816) :
    (iblk m c 0 t : Vec Ideal S256x2816 .bf16) (ix2 r l) = (m ((c : Thread nD τ).loc main_arg0) : Vec Ideal S16384x2816 .bf16)
      (ix2 ⟨t.val * 256 + r.val, by have := points t; omega⟩ l) := by
  obtain ⟨h0, h1⟩ := idx0 t
  unfold iblk
  rw [View.read_apply]
  show V m c main_arg0 _ = _
  rw [V_main_arg0]
  congr 1
  funext a
  apply Fin.ext
  match a with
  | ⟨0, _⟩ => show win0_0.index t 0 * 256 + 1 * r.val = t.val * 256 + r.val; rw [h0]; omega
  | ⟨1, _⟩ => show win0_0.index t 1 * 2816 + 1 * l.val = l.val; rw [h1]; omega

/-- The residual's rows at a grid point. -/
theorem block1 (c : Dev nD) (t : Fin cfg0.N) (r : Fin 256) (l : Fin 1024) :
    (iblk m c 1 t : Vec Ideal S256x1024 .f32) (ix2 r l) = (m ((c : Thread nD τ).loc main_arg1) : Vec Ideal S16384x1024 .f32)
      (ix2 ⟨t.val * 256 + r.val, by have := points t; omega⟩ l) := by
  obtain ⟨h0, h1⟩ := idx1 t
  unfold iblk
  rw [View.read_apply]
  show V m c main_arg1 _ = _
  rw [V_main_arg1]
  congr 1
  funext a
  apply Fin.ext
  match a with
  | ⟨0, _⟩ => show win0_1.index t 0 * 256 + 1 * r.val = t.val * 256 + r.val; rw [h0]; omega
  | ⟨1, _⟩ => show win0_1.index t 1 * 1024 + 1 * l.val = l.val; rw [h1]; omega

/-- The weights at a grid point: all of them. -/
theorem block2 (c : Dev nD) (t : Fin cfg0.N) (r : Fin 2816) (l : Fin 1024) :
    (iblk m c 2 t : Vec Ideal S2816x1024 .bf16) (ix2 r l) = (m ((c : Thread nD τ).loc main_arg2) : Vec Ideal S2816x1024 .bf16) (ix2 r l) := by
  obtain ⟨h0, h1⟩ := idx2 t
  unfold iblk
  rw [View.read_apply]
  show V m c main_arg2 _ = _
  rw [V_main_arg2]
  congr 1
  funext a
  apply Fin.ext
  match a with
  | ⟨0, _⟩ => show win0_2.index t 0 * 2816 + 1 * r.val = r.val; rw [h0]; omega
  | ⟨1, _⟩ => show win0_2.index t 1 * 1024 + 1 * l.val = l.val; rw [h1]; omega

/-- The norm's scale, laid out as one row. -/
theorem scale (c : Dev nD) : (V m c main_v0 : FVec Ideal S1x1024 .f32)
    = shapeCast _ (m ((c : Thread nD τ).loc main_arg3) : FVec Ideal S1024 .f32) shapeCasts_S1024_S1x1024 := by
  unfold V hostOps0
  after_results_simp
  rfl

/-- The norm's scale at a grid point. -/
theorem block3 (c : Dev nD) (t : Fin cfg0.N) (l : Fin 1024) :
    (iblk m c 3 t : Vec Ideal S1x1024 .f32) (ix2 0 l) = (m ((c : Thread nD τ).loc main_arg3) : Vec Ideal S1024 .f32) (ix1 l) := by
  obtain ⟨h0, h1⟩ := idx3 t
  unfold iblk
  rw [View.read_apply]
  show (V m c main_v0 : FVec Ideal S1x1024 .f32) _ = _
  rw [scale]
  have e : ((cfg0.win 3).blk t).view.emb (ix2 0 l : S1x1024.Idx) = (ix2 0 l : S1x1024.Idx) := by
    funext a
    apply Fin.ext
    match a with
    | ⟨0, _⟩ => show win0_3.index t 0 * 1 + 1 * 0 = 0; rw [h0]
    | ⟨1, _⟩ => show win0_3.index t 1 * 1024 + 1 * l.val = l.val; rw [h1]; omega
  rw [e]
  pointwise

/-- The gate of the residual at a grid point. -/
theorem block4 (c : Dev nD) (t : Fin cfg0.N) (l : Fin 1024) :
    (iblk m c 4 t : Vec Ideal S1x1x1024 .f32) (ix3 0 0 l) = (m ((c : Thread nD τ).loc main_arg4) : Vec Ideal S2x1x1024 .f32)
      (ix3 ⟨t.val / 32, by have := points t; omega⟩ 0 l) := by
  obtain ⟨h0, h1, h2⟩ := idx4 t
  unfold iblk
  rw [View.read_apply]
  show V m c main_arg4 _ = _
  rw [V_main_arg4]
  congr 1
  funext a
  apply Fin.ext
  match a with
  | ⟨0, _⟩ => show win0_4.index t 0 * 1 + 1 * 0 = t.val / 32; rw [h0]; omega
  | ⟨1, _⟩ => show win0_4.index t 1 * 1 + 1 * 0 = 0; rw [h1]
  | ⟨2, _⟩ => show win0_4.index t 2 * 1024 + 1 * l.val = l.val; rw [h2]; omega

/-- The result array: what the reference gives from the same arguments. -/
def result (c : Dev nD) : Buf (Elt Ideal) ((c : Thread nD τ).loc main_v1) :=
  resOf (m ((c : Thread nD τ).loc main_arg0)) (m ((c : Thread nD τ).loc main_arg1)) (m ((c : Thread nD τ).loc main_arg2))
    (m ((c : Thread nD τ).loc main_arg3)) (m ((c : Thread nD τ).loc main_arg4))

/-- What the body leaves at an entry of the output block of a grid point. -/
theorem out_entry (c : Dev nD) (t : Fin cfg0.N) (r : Fin 256) (l : Fin 1024) :
    out0_5 (iblk m c 0 t) (iblk m c 1 t) (iblk m c 2 t) (iblk m c 3 t) (iblk m c 4 t) (ix2 r l)
      = (result m c : Vec Ideal S16384x1024 .f32) (ix2 ⟨t.val * 256 + r.val, by have := points t; omega⟩ l) := by
  have ht := points t
  have e : (⟨(t.val * 256 + r.val) / 8192, by omega⟩ : Fin 2) = ⟨t.val / 32, by omega⟩ := Fin.ext (by
    show (t.val * 256 + r.val) / 8192 = t.val / 32; omega)
  unfold out0_5 result
  rw [View.canon_unit_zero off2, View.ld_unit_zero off2, View.ld_unit_zero off2, View.ld_unit_zero off2, View.ld_unit_zero off3, View.ld_unit_zero off2,
    pay_apply, res_apply, e]
  simp only [block0, block1, block2, block3, block4]

/-- Each grid point writes its block of the result. -/
theorem flushed_eq (c : Dev nD) (t : Fin cfg0.N) :
    (dats m 0 c).flushed 5 t = ((cfg0.win 5).blk t).view.read (Elt Ideal) (result m c) := by
  have ht := points t
  obtain ⟨w0, w1⟩ := idx5 t
  rw [flushed5]
  funext j
  rw [View.read_apply]
  obtain ⟨r, l, rfl⟩ : ∃ (r : Fin 256) (l : Fin 1024), j = (ix2 r l : S256x1024.Idx) := by
    refine ⟨j 0, j 1, funext fun a => ?_⟩
    match a with
    | ⟨0, _⟩ => rfl
    | ⟨1, _⟩ => rfl
  refine (out_entry m c t r l).trans ?_
  have e : ((cfg0.win 5).blk t).view.emb (ix2 r l : S256x1024.Idx) = (ix2 ⟨t.val * 256 + r.val, by omega⟩ l : S16384x1024.Idx) := by
    funext a
    apply Fin.ext
    match a with
    | ⟨0, _⟩ => show win0_5.index t 0 * 256 + 1 * r.val = t.val * 256 + r.val; rw [w0]; omega
    | ⟨1, _⟩ => show win0_5.index t 1 * 1024 + 1 * l.val = l.val; rw [w1]; omega
  show _ = result m c (((cfg0.win 5).blk t).view.emb (ix2 r l : S256x1024.Idx))
  rw [e]

/-- The result array after the run. -/
theorem final_o (c : Dev nD) : (dats m 0 c).arrAt 5 cfg0.N = result m c :=
  (dats m 0 c).arrAt_eq_of_cover 5 (result m c) (fun t _ => flushed_eq m c t) fun i => by
    have h0 : (i 0 : Nat) < 16384 := (i 0).isLt
    have h1 : (i 1 : Nat) < 1024 := (i 1).isLt
    have hN : cfg0.N = 64 := N_0
    let t : Fin cfg0.N := ⟨(i 0 : Nat) / 256, by omega⟩
    have ht : t.val = (i 0 : Nat) / 256 := rfl
    obtain ⟨w0, w1⟩ := idx5 t
    refine ⟨t, flush0_5 t, ?_⟩
    show i ∈ ((View.whole main_v1).slice (win0_5.rect t)).set
    rw [View.set_slice_whole, Rect.mem_set_unit]
    intro a
    match a with
    | ⟨0, _⟩ =>
      show win0_5.index t 0 * 256 ≤ (i 0 : Nat) ∧ (i 0 : Nat) < win0_5.index t 0 * 256 + 256
      rw [w0]; omega
    | ⟨1, _⟩ =>
      show win0_5.index t 1 * 1024 ≤ (i 1 : Nat) ∧ (i 1 : Nat) < win0_5.index t 1 * 1024 + 1024
      rw [w1]; omega

end Cert.Kernel2Ideal.Rows

end
-- ==== Proof.Qkv.lean ====
/-
  The projection to queries, keys and values.
-/
module

public import proofs.«01_k».proof.Proof.Gen.Kernel3Ideal.Value
public import proofs.«01_k».proof.Proof.Gen.Reference3Ideal.Run
public import proofs.«01_k».proof.Proof.Zero
public import proofs.«01_k».proof.Proof.Zero
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.Reference3Ideal.Rows

open Cert.Reference3Ideal Cert.Reference3Ideal.Gen

/-- The modulated norm of the rows. -/
def normed (a0 : FVec Ideal S16384x1024 .f32) (a1 a2 : FVec Ideal S2x1x1024 .f32) (a3 : FVec Ideal S1024 .f32) : FVec Ideal S2x8192x1024 .f32 :=
  addf (mulf (mulf (mulf (shapeCast _ a0 shapeCasts_S16384x1024_S2x8192x1024) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (shapeCast _ a0 shapeCasts_S16384x1024_S2x8192x1024) (shapeCast _ a0 shapeCasts_S16384x1024_S2x8192x1024)) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 a3))) (broadcastInDim S2x8192x1024 ![0, 1, 2] bcast_S2x1x1024_S2x8192x1024_0_1_2 (addf (broadcastInDim S2x1x1024 ![] bcast_S_S2x1x1024 (constant S_ .f32 0x3F800000#32)) a1))) (broadcastInDim S2x8192x1024 ![0, 1, 2] bcast_S2x1x1024_S2x8192x1024_0_1_2 a2)

/-- Queries, keys and values side by side. -/
def proj (a0 : FVec Ideal S16384x1024 .f32) (a1 a2 : FVec Ideal S2x1x1024 .f32) (a3 : FVec Ideal S1024 .f32) (a4 : FVec Ideal S1024x3072 .bf16) : FVec Ideal S2x8192x3072 .f32 :=
  Host.dotGeneral dot_S2x8192x1024_S1024x3072_S2x8192x3072_2_0_01_1_n_n none (normed a0 a1 a2 a3) (extf .f32 a4 bitsLt_bf16_f32)

/-- The scaled queries, from the arguments. -/
def res0 (a0 : FVec Ideal S16384x1024 .f32) (a1 a2 : FVec Ideal S2x1x1024 .f32) (a3 : FVec Ideal S1024 .f32) (a4 : FVec Ideal S1024x3072 .bf16) : FVec Ideal S16384x1024 .bf16 :=
  truncf .bf16 (shapeCast _ (concatenate S2x8192x16x64 2 [⟨S2x8192x8x64, (mulf (extractStridedSlice S2x8192x8x64 ![0, 0, 0, 0] (shapeCast _ (extractStridedSlice S2x8192x1x16x64 ![0, 0, 0, 0, 0] (shapeCast _ (proj a0 a1 a2 a3 a4) shapeCasts_S2x8192x3072_S2x8192x3x16x64) slices_S2x8192x3x16x64_S2x8192x1x16x64_0_0_0_0_0) shapeCasts_S2x8192x1x16x64_S2x8192x16x64) slices_S2x8192x16x64_S2x8192x8x64_0_0_0_0) (broadcastInDim S2x8192x8x64 ![] bcast_S_S2x8192x8x64 (constant S_ .f32 0x3E000000#32)))⟩, ⟨S2x8192x8x64, (mulf (extractStridedSlice S2x8192x8x64 ![0, 0, 8, 0] (shapeCast _ (extractStridedSlice S2x8192x1x16x64 ![0, 0, 0, 0, 0] (shapeCast _ (proj a0 a1 a2 a3 a4) shapeCasts_S2x8192x3072_S2x8192x3x16x64) slices_S2x8192x3x16x64_S2x8192x1x16x64_0_0_0_0_0) shapeCasts_S2x8192x1x16x64_S2x8192x16x64) slices_S2x8192x16x64_S2x8192x8x64_0_0_8_0) (broadcastInDim S2x8192x8x64 ![] bcast_S_S2x8192x8x64 (constant S_ .f32 0x3E3504F3#32)))⟩] concatenates_S2x8192x8x64_S2x8192x8x64_S2x8192x16x64_d2) shapeCasts_S2x8192x16x64_S16384x1024) bitsLt_bf16_f32

/-- The keys, a column per position, from the arguments. -/
def res1 (a0 : FVec Ideal S16384x1024 .f32) (a1 a2 : FVec Ideal S2x1x1024 .f32) (a3 : FVec Ideal S1024 .f32) (a4 : FVec Ideal S1024x3072 .bf16) : FVec Ideal S2x1024x8192 .f32 :=
  shapeCast _ (transpose S2x16x64x8192 [0, 2, 3, 1] (shapeCast _ (extractStridedSlice S2x8192x1x16x64 ![0, 0, 1, 0, 0] (shapeCast _ (proj a0 a1 a2 a3 a4) shapeCasts_S2x8192x3072_S2x8192x3x16x64) slices_S2x8192x3x16x64_S2x8192x1x16x64_0_0_1_0_0) shapeCasts_S2x8192x1x16x64_S2x8192x16x64) transposes_S2x8192x16x64_S2x16x64x8192_0_2_3_1) shapeCasts_S2x16x64x8192_S2x1024x8192

/-- The values, a column per position, from the arguments. -/
def res2 (a0 : FVec Ideal S16384x1024 .f32) (a1 a2 : FVec Ideal S2x1x1024 .f32) (a3 : FVec Ideal S1024 .f32) (a4 : FVec Ideal S1024x3072 .bf16) : FVec Ideal S2x1024x8192 .f32 :=
  shapeCast _ (transpose S2x16x64x8192 [0, 2, 3, 1] (shapeCast _ (extractStridedSlice S2x8192x1x16x64 ![0, 0, 2, 0, 0] (shapeCast _ (proj a0 a1 a2 a3 a4) shapeCasts_S2x8192x3072_S2x8192x3x16x64) slices_S2x8192x3x16x64_S2x8192x1x16x64_0_0_2_0_0) shapeCasts_S2x8192x1x16x64_S2x8192x16x64) transposes_S2x8192x16x64_S2x16x64x8192_0_2_3_1) shapeCasts_S2x16x64x8192_S2x1024x8192

/-- The keys, a row per position, from the arguments. -/
def res3 (a0 : FVec Ideal S16384x1024 .f32) (a1 a2 : FVec Ideal S2x1x1024 .f32) (a3 : FVec Ideal S1024 .f32) (a4 : FVec Ideal S1024x3072 .bf16) : FVec Ideal S16384x1024 .bf16 :=
  truncf .bf16 (shapeCast _ (shapeCast _ (extractStridedSlice S2x8192x1x16x64 ![0, 0, 1, 0, 0] (shapeCast _ (proj a0 a1 a2 a3 a4) shapeCasts_S2x8192x3072_S2x8192x3x16x64) slices_S2x8192x3x16x64_S2x8192x1x16x64_0_0_1_0_0) shapeCasts_S2x8192x1x16x64_S2x8192x16x64) shapeCasts_S2x8192x16x64_S16384x1024) bitsLt_bf16_f32

/-- The values, a row per position, from the arguments. -/
def res4 (a0 : FVec Ideal S16384x1024 .f32) (a1 a2 : FVec Ideal S2x1x1024 .f32) (a3 : FVec Ideal S1024 .f32) (a4 : FVec Ideal S1024x3072 .bf16) : FVec Ideal S16384x1024 .bf16 :=
  truncf .bf16 (shapeCast _ (shapeCast _ (extractStridedSlice S2x8192x1x16x64 ![0, 0, 2, 0, 0] (shapeCast _ (proj a0 a1 a2 a3 a4) shapeCasts_S2x8192x3072_S2x8192x3x16x64) slices_S2x8192x3x16x64_S2x8192x1x16x64_0_0_2_0_0) shapeCasts_S2x8192x1x16x64_S2x8192x16x64) shapeCasts_S2x8192x16x64_S16384x1024) bitsLt_bf16_f32

/-- The modulated norm at an entry. -/
theorem normed_apply (a0 : FVec Ideal S16384x1024 .f32) (a1 a2 : FVec Ideal S2x1x1024 .f32) (a3 : FVec Ideal S1024 .f32) (b : Fin 2) (s : Fin 8192) (R : Fin 16384) (h : R.val = b.val * 8192 + s.val) (l : Fin 1024) :
    normed a0 a1 a2 a3 (ix3 b s l) = a0 (ix2 R l) *
            Ideal.rsqrt
              (Ideal.div (∑ x, a0 (ix2 R x) * a0 (ix2 R x)) (Ideal.ofBits FTy.f32 0x44800000#32) + Ideal.ofBits FTy.f32 0x358637BD#32) *
          a3 (ix1 l) * (1 + a1 (ix3 b 0 l)) + a2 (ix3 b 0 l) := by
  have hlt : b.val * 8192 + s.val < 16384 := by omega
  obtain rfl : R = ⟨b.val * 8192 + s.val, hlt⟩ := Fin.ext h
  pointwise [normed]

/-- The projection at an entry. -/
theorem proj_apply (a0 : FVec Ideal S16384x1024 .f32) (a1 a2 : FVec Ideal S2x1x1024 .f32) (a3 : FVec Ideal S1024 .f32) (a4 : FVec Ideal S1024x3072 .bf16) (b : Fin 2) (s : Fin 8192) (l : Fin 3072) :
    proj a0 a1 a2 a3 a4 (ix3 b s l) = ∑ x, normed a0 a1 a2 a3 (ix3 b s x) * a4 (ix2 x l) := by
  pointwise [proj]

/-- The queries' scale: the two halves of the heads have their own. -/
def headScale (l : ℕ) : EReal := if l < 512 then Ideal.ofBits FTy.f32 0x3E000000#32 else Ideal.ofBits FTy.f32 0x3E3504F3#32

/-- The scaled queries at an entry: the two halves of the heads carry their own scale. -/
theorem res0_apply (a0 : FVec Ideal S16384x1024 .f32) (a1 a2 : FVec Ideal S2x1x1024 .f32) (a3 : FVec Ideal S1024 .f32) (a4 : FVec Ideal S1024x3072 .bf16) (r : Fin 16384) (l : Fin 1024) :
    res0 a0 a1 a2 a3 a4 (ix2 r l) = proj a0 a1 a2 a3 a4 (ix3 ⟨r.val / 8192, by omega⟩ ⟨r.val % 8192, by omega⟩ ⟨l.val, by omega⟩)
      * headScale l.val := by
  pointwise [res0]
  have key : ∀ (k : ℕ) (hk : k < 3072), k = l.val →
      proj a0 a1 a2 a3 a4 (ix3 ⟨r.val / 8192, by omega⟩ ⟨r.val % 8192, by omega⟩ ⟨k, hk⟩)
        = proj a0 a1 a2 a3 a4 (ix3 ⟨r.val / 8192, by omega⟩ ⟨r.val % 8192, by omega⟩ ⟨l.val, by omega⟩) := by
    rintro k hk rfl
    rfl
  by_cases h : l.val < 512
  · have d : l.val / 64 < 8 := by omega
    have g : headScale l.val = Ideal.ofBits FTy.f32 0x3E000000#32 := if_pos h
    refine (dif_pos d).trans ?_
    exact congrArg₂ (fun x y : EReal => x * y) (key _ _ (by omega)) g.symm
  · have d : ¬ l.val / 64 < 8 := by omega
    have g : headScale l.val = Ideal.ofBits FTy.f32 0x3E3504F3#32 := if_neg h
    refine (dif_neg d).trans ?_
    exact congrArg₂ (fun x y : EReal => x * y) (key _ _ (by omega)) g.symm

/-- The keys, a column per position, at an entry. -/
theorem res1_apply (a0 : FVec Ideal S16384x1024 .f32) (a1 a2 : FVec Ideal S2x1x1024 .f32) (a3 : FVec Ideal S1024 .f32) (a4 : FVec Ideal S1024x3072 .bf16) (b : Fin 2) (s : Fin 8192) (l : Fin 1024) :
    res1 a0 a1 a2 a3 a4 (ix3 b l s) = proj a0 a1 a2 a3 a4 (ix3 b s ⟨1024 + l.val, by omega⟩) := by
  have e : ∀ h, (⟨1024 + l.val / 64 * 64 + l.val % 64, h⟩ : Fin 3072) = ⟨1024 + l.val, by omega⟩ := fun _ => Fin.ext (by
    show 1024 + l.val / 64 * 64 + l.val % 64 = 1024 + l.val; omega)
  pointwise [res1]
  rw [e]

/-- The values, a column per position, at an entry. -/
theorem res2_apply (a0 : FVec Ideal S16384x1024 .f32) (a1 a2 : FVec Ideal S2x1x1024 .f32) (a3 : FVec Ideal S1024 .f32) (a4 : FVec Ideal S1024x3072 .bf16) (b : Fin 2) (s : Fin 8192) (l : Fin 1024) :
    res2 a0 a1 a2 a3 a4 (ix3 b l s) = proj a0 a1 a2 a3 a4 (ix3 b s ⟨2048 + l.val, by omega⟩) := by
  have e : ∀ h, (⟨2048 + l.val / 64 * 64 + l.val % 64, h⟩ : Fin 3072) = ⟨2048 + l.val, by omega⟩ := fun _ => Fin.ext (by
    show 2048 + l.val / 64 * 64 + l.val % 64 = 2048 + l.val; omega)
  pointwise [res2]
  rw [e]

/-- The keys, a row per position, at an entry. -/
theorem res3_apply (a0 : FVec Ideal S16384x1024 .f32) (a1 a2 : FVec Ideal S2x1x1024 .f32) (a3 : FVec Ideal S1024 .f32) (a4 : FVec Ideal S1024x3072 .bf16) (r : Fin 16384) (l : Fin 1024) :
    res3 a0 a1 a2 a3 a4 (ix2 r l) = proj a0 a1 a2 a3 a4 (ix3 ⟨r.val / 8192, by omega⟩ ⟨r.val % 8192, by omega⟩ ⟨1024 + l.val, by omega⟩) := by
  have e : ∀ h, (⟨1024 + l.val / 64 * 64 + l.val % 64, h⟩ : Fin 3072) = ⟨1024 + l.val, by omega⟩ := fun _ => Fin.ext (by
    show 1024 + l.val / 64 * 64 + l.val % 64 = 1024 + l.val; omega)
  pointwise [res3]
  rw [e]

/-- The values, a row per position, at an entry. -/
theorem res4_apply (a0 : FVec Ideal S16384x1024 .f32) (a1 a2 : FVec Ideal S2x1x1024 .f32) (a3 : FVec Ideal S1024 .f32) (a4 : FVec Ideal S1024x3072 .bf16) (r : Fin 16384) (l : Fin 1024) :
    res4 a0 a1 a2 a3 a4 (ix2 r l) = proj a0 a1 a2 a3 a4 (ix3 ⟨r.val / 8192, by omega⟩ ⟨r.val % 8192, by omega⟩ ⟨2048 + l.val, by omega⟩) := by
  have e : ∀ h, (⟨2048 + l.val / 64 * 64 + l.val % 64, h⟩ : Fin 3072) = ⟨2048 + l.val, by omega⟩ := fun _ => Fin.ext (by
    show 2048 + l.val / 64 * 64 + l.val % 64 = 2048 + l.val; omega)
  pointwise [res4]
  rw [e]

end Cert.Reference3Ideal.Rows

namespace Cert.Kernel3Ideal.Rows

open Cert.Kernel3Ideal Cert.Kernel3Ideal.Gen Cert.Kernel3Ideal.Value Cert.Rows
open Cert.Reference3Ideal.Rows

/-- The body's projection at an entry. -/
theorem pay7_apply (v0 : Vec Ideal S256x1024 .f32) (v1 : Vec Ideal S1x1024 .f32) (v15 v21 : Vec Ideal S1x1x1024 .f32) (v26 : Vec Ideal S1024x3072 .bf16)
    (r : Fin 256) (l : Fin 3072) :
    k0_pay7 v0 v1 v15 v21 v26 (ix2 r l) = ∑ x, (v0 (ix2 r x) *
            Ideal.rsqrt
              (Ideal.div (∑ x, v0 (ix2 r x) * v0 (ix2 r x)) (Ideal.ofBits FTy.f32 0x44800000#32) + Ideal.ofBits FTy.f32 0x358637BD#32) *
          v1 (ix2 0 x) * (1 + v15 (ix3 0 0 x)) + v21 (ix3 0 0 x)) * v26 (ix2 x l) := by
  pointwise [k0_pay7]

/-- The body's scaled queries at an entry. -/
theorem pay8_apply (v0 : Vec Ideal S256x1024 .f32) (v1 : Vec Ideal S1x1024 .f32) (v15 v21 : Vec Ideal S1x1x1024 .f32) (v26 : Vec Ideal S1024x3072 .bf16)
    (r : Fin 256) (l : Fin 1024) :
    k0_pay8 v0 v1 v15 v21 v26 (ix2 r l) = k0_pay7 v0 v1 v15 v21 v26 (ix2 r ⟨l.val, by omega⟩)
      * headScale l.val := by
  pointwise [k0_pay8]
  rw [show (512#32 : BitVec 32) = BitVec.ofNat 32 512 from rfl, WordCmp.cmpi_slt_ofNat (by omega) (by omega)]
  unfold Scalar.select headScale
  by_cases h : l.val < 512 <;> simp [h]

/-- The columns the body stores, at an entry. -/
theorem pay3_apply (v : FVec Ideal S256x3072 .f32) (r : Fin 256) (l : Fin 1024) :
    k0_pay3 v (ix3 0 l r) = v (ix2 r ⟨1024 + l.val, by omega⟩) := by
  pointwise [k0_pay3, k0_pay1]

/-- The rows the body stores, at an entry. -/
theorem pay5_apply (v : FVec Ideal S256x3072 .f32) (r : Fin 256) (l : Fin 1024) :
    k0_pay5 v (ix2 r l) = v (ix2 r ⟨1024 + l.val, by omega⟩) := by
  pointwise [k0_pay5, k0_pay1]

/-- The columns the body stores, at an entry. -/
theorem pay4_apply (v : FVec Ideal S256x3072 .f32) (r : Fin 256) (l : Fin 1024) :
    k0_pay4 v (ix3 0 l r) = v (ix2 r ⟨2048 + l.val, by omega⟩) := by
  pointwise [k0_pay4, k0_pay2]

/-- The rows the body stores, at an entry. -/
theorem pay6_apply (v : FVec Ideal S256x3072 .f32) (r : Fin 256) (l : Fin 1024) :
    k0_pay6 v (ix2 r l) = v (ix2 r ⟨2048 + l.val, by omega⟩) := by
  pointwise [k0_pay6, k0_pay2]

variable (m : (ℓ : Loc nD τ sig) → Buf (Elt Ideal) ℓ)

/-- There are 64 grid points. -/
theorem points (t : Fin cfg0.N) : t.val < 64 := by
  have := t.isLt
  have hN : cfg0.N = 64 := N_0
  omega

/-- Where window 0's block lies at a grid point. -/
theorem idx0 : ∀ t : Fin cfg0.N, win0_0.index t 0 = t.val ∧ win0_0.index t 1 = 0 := by
  decide +kernel

/-- Where window 1's block lies at a grid point. -/
theorem idx1 : ∀ t : Fin cfg0.N, win0_1.index t 0 = t.val / 32 ∧ win0_1.index t 1 = 0 ∧ win0_1.index t 2 = 0 := by
  decide +kernel

/-- Where window 2's block lies at a grid point. -/
theorem idx2 : ∀ t : Fin cfg0.N, win0_2.index t 0 = t.val / 32 ∧ win0_2.index t 1 = 0 ∧ win0_2.index t 2 = 0 := by
  decide +kernel

/-- Where window 3's block lies at a grid point. -/
theorem idx3 : ∀ t : Fin cfg0.N, win0_3.index t 0 = 0 ∧ win0_3.index t 1 = 0 := by
  decide +kernel

/-- Where window 4's block lies at a grid point. -/
theorem idx4 : ∀ t : Fin cfg0.N, win0_4.index t 0 = 0 ∧ win0_4.index t 1 = 0 := by
  decide +kernel

/-- Where window 5's block lies at a grid point. -/
theorem idx5 : ∀ t : Fin cfg0.N, win0_5.index t 0 = t.val ∧ win0_5.index t 1 = 0 := by
  decide +kernel

/-- Where window 6's block lies at a grid point. -/
theorem idx6 : ∀ t : Fin cfg0.N, win0_6.index t 0 = t.val / 32 ∧ win0_6.index t 1 = 0 ∧ win0_6.index t 2 = t.val % 32 := by
  decide +kernel

/-- Where window 7's block lies at a grid point. -/
theorem idx7 : ∀ t : Fin cfg0.N, win0_7.index t 0 = t.val / 32 ∧ win0_7.index t 1 = 0 ∧ win0_7.index t 2 = t.val % 32 := by
  decide +kernel

/-- Where window 8's block lies at a grid point. -/
theorem idx8 : ∀ t : Fin cfg0.N, win0_8.index t 0 = t.val ∧ win0_8.index t 1 = 0 := by
  decide +kernel

/-- Where window 9's block lies at a grid point. -/
theorem idx9 : ∀ t : Fin cfg0.N, win0_9.index t 0 = t.val ∧ win0_9.index t 1 = 0 := by
  decide +kernel

/-- The rows at a grid point. -/
theorem block0 (c : Dev nD) (t : Fin cfg0.N) (r : Fin 256) (l : Fin 1024) :
    (iblk m c 0 t : Vec Ideal S256x1024 .f32) (ix2 r l) = (m ((c : Thread nD τ).loc main_arg0) : Vec Ideal S16384x1024 .f32)
      (ix2 ⟨t.val * 256 + r.val, by have := points t; omega⟩ l) := by
  obtain ⟨h0, h1⟩ := idx0 t
  unfold iblk
  rw [View.read_apply]
  show V m c main_arg0 _ = _
  rw [V_main_arg0]
  congr 1
  funext a
  apply Fin.ext
  match a with
  | ⟨0, _⟩ => show win0_0.index t 0 * 256 + 1 * r.val = t.val * 256 + r.val; rw [h0]; try omega
  | ⟨1, _⟩ => show win0_0.index t 1 * 1024 + 1 * l.val = l.val; rw [h1]; try omega

/-- The modulation's scale at a grid point. -/
theorem block1 (c : Dev nD) (t : Fin cfg0.N) (l : Fin 1024) :
    (iblk m c 1 t : Vec Ideal S1x1x1024 .f32) (ix3 0 0 l) = (m ((c : Thread nD τ).loc main_arg1) : Vec Ideal S2x1x1024 .f32)
      (ix3 ⟨t.val / 32, by have := points t; omega⟩ 0 l) := by
  obtain ⟨h0, h1, h2⟩ := idx1 t
  unfold iblk
  rw [View.read_apply]
  show V m c main_arg1 _ = _
  rw [V_main_arg1]
  congr 1
  funext a
  apply Fin.ext
  match a with
  | ⟨0, _⟩ => show win0_1.index t 0 * 1 + 1 * 0 = t.val / 32; rw [h0]; try omega
  | ⟨1, _⟩ => show win0_1.index t 1 * 1 + 1 * 0 = 0; rw [h1]; try omega
  | ⟨2, _⟩ => show win0_1.index t 2 * 1024 + 1 * l.val = l.val; rw [h2]; try omega

/-- The modulation's shift at a grid point. -/
theorem block2 (c : Dev nD) (t : Fin cfg0.N) (l : Fin 1024) :
    (iblk m c 2 t : Vec Ideal S1x1x1024 .f32) (ix3 0 0 l) = (m ((c : Thread nD τ).loc main_arg2) : Vec Ideal S2x1x1024 .f32)
      (ix3 ⟨t.val / 32, by have := points t; omega⟩ 0 l) := by
  obtain ⟨h0, h1, h2⟩ := idx2 t
  unfold iblk
  rw [View.read_apply]
  show V m c main_arg2 _ = _
  rw [V_main_arg2]
  congr 1
  funext a
  apply Fin.ext
  match a with
  | ⟨0, _⟩ => show win0_2.index t 0 * 1 + 1 * 0 = t.val / 32; rw [h0]; try omega
  | ⟨1, _⟩ => show win0_2.index t 1 * 1 + 1 * 0 = 0; rw [h1]; try omega
  | ⟨2, _⟩ => show win0_2.index t 2 * 1024 + 1 * l.val = l.val; rw [h2]; try omega

/-- The norm's scale, laid out as one row. -/
theorem scale3 (c : Dev nD) : (V m c main_v0 : FVec Ideal S1x1024 .f32)
    = shapeCast _ (m ((c : Thread nD τ).loc main_arg3) : FVec Ideal S1024 .f32) shapeCasts_S1024_S1x1024 := by
  unfold V hostOps0
  after_results_simp
  rfl

/-- The norm's scale at a grid point. -/
theorem block3 (c : Dev nD) (t : Fin cfg0.N) (l : Fin 1024) :
    (iblk m c 3 t : Vec Ideal S1x1024 .f32) (ix2 0 l) = (m ((c : Thread nD τ).loc main_arg3) : Vec Ideal S1024 .f32) (ix1 l) := by
  obtain ⟨h0, h1⟩ := idx3 t
  unfold iblk
  rw [View.read_apply]
  show (V m c main_v0 : FVec Ideal S1x1024 .f32) _ = _
  rw [scale3]
  have e : ((cfg0.win 3).blk t).view.emb (ix2 0 l : S1x1024.Idx) = (ix2 0 l : S1x1024.Idx) := by
    funext a
    apply Fin.ext
    match a with
    | ⟨0, _⟩ => show win0_3.index t 0 * 1 + 1 * 0 = 0; rw [h0]
    | ⟨1, _⟩ => show win0_3.index t 1 * 1024 + 1 * l.val = l.val; rw [h1]; omega
  rw [e]
  pointwise

/-- The weights at a grid point: all of them. -/
theorem block4 (c : Dev nD) (t : Fin cfg0.N) (r : Fin 1024) (l : Fin 3072) :
    (iblk m c 4 t : Vec Ideal S1024x3072 .bf16) (ix2 r l) = (m ((c : Thread nD τ).loc main_arg4) : Vec Ideal S1024x3072 .bf16)
      (ix2 r l) := by
  obtain ⟨h0, h1⟩ := idx4 t
  unfold iblk
  rw [View.read_apply]
  show V m c main_arg4 _ = _
  rw [V_main_arg4]
  congr 1
  funext a
  apply Fin.ext
  match a with
  | ⟨0, _⟩ => show win0_4.index t 0 * 1024 + 1 * r.val = r.val; rw [h0]; try omega
  | ⟨1, _⟩ => show win0_4.index t 1 * 3072 + 1 * l.val = l.val; rw [h1]; try omega

/-- The projection of a grid point's rows is that of the reference's rows. -/
theorem proj_block (c : Dev nD) (t : Fin cfg0.N) (r : Fin 256) (l : Fin 3072) :
    k0_pay7 (iblk m c 0 t) (iblk m c 3 t) (iblk m c 1 t) (iblk m c 2 t) (iblk m c 4 t) (ix2 r l)
      = proj (m ((c : Thread nD τ).loc main_arg0)) (m ((c : Thread nD τ).loc main_arg1)) (m ((c : Thread nD τ).loc main_arg2)) (m ((c : Thread nD τ).loc main_arg3)) (m ((c : Thread nD τ).loc main_arg4))
        (ix3 ⟨t.val / 32, by have := points t; omega⟩ ⟨t.val % 32 * 256 + r.val, by omega⟩ l) := by
  have ht := points t
  rw [pay7_apply, proj_apply]
  refine Finset.sum_congr rfl fun x _ => ?_
  rw [normed_apply _ _ _ _ ⟨t.val / 32, by omega⟩ ⟨t.val % 32 * 256 + r.val, by omega⟩ ⟨t.val * 256 + r.val, by omega⟩ (by
    show t.val * 256 + r.val = t.val / 32 * 8192 + (t.val % 32 * 256 + r.val); omega)]
  simp only [block0, block1, block2, block3, block4]

/-- The row of a grid point, by batch element and position. -/
theorem row_split (t : Fin cfg0.N) (r : Fin 256) :
    (⟨(t.val * 256 + r.val) / 8192, by have := points t; omega⟩ : Fin 2) = ⟨t.val / 32, by have := points t; omega⟩
      ∧ (⟨(t.val * 256 + r.val) % 8192, by omega⟩ : Fin 8192) = ⟨t.val % 32 * 256 + r.val, by omega⟩ := by
  have ht := points t
  exact ⟨Fin.ext (by show (t.val * 256 + r.val) / 8192 = t.val / 32; omega), Fin.ext (by
    show (t.val * 256 + r.val) % 8192 = t.val % 32 * 256 + r.val; omega)⟩

/-- Output 5: what the reference gives from the same arguments. -/
def result0 (c : Dev nD) : Buf (Elt Ideal) ((c : Thread nD τ).loc main_v1_0) :=
  res0 (m ((c : Thread nD τ).loc main_arg0)) (m ((c : Thread nD τ).loc main_arg1)) (m ((c : Thread nD τ).loc main_arg2)) (m ((c : Thread nD τ).loc main_arg3)) (m ((c : Thread nD τ).loc main_arg4))

/-- What the body leaves at an entry of output 5's block at a grid point. -/
theorem out_entry5 (c : Dev nD) (t : Fin cfg0.N) (r : Fin 256) (l : Fin 1024) :
    out0_5 (iblk m c 0 t) (iblk m c 1 t) (iblk m c 2 t) (iblk m c 3 t) (iblk m c 4 t) (ix2 r l)
      = (result0 m c : Vec Ideal S16384x1024 .bf16) (ix2 ⟨t.val * 256 + r.val, by have := points t; omega⟩ l) := by
  have ht := points t
  obtain ⟨e1, e2⟩ := row_split t r
  unfold out0_5 result0
  rw [View.canon_unit_zero off2, View.ld_unit_zero off2, View.ld_unit_zero off2, View.ld_unit_zero off3, View.ld_unit_zero off3, View.ld_unit_zero off2,
    pay8_apply, res0_apply, e1, e2, proj_block]

/-- Each grid point writes its block of output 5. -/
theorem flushed_eq5 (c : Dev nD) (t : Fin cfg0.N) :
    (dats m 0 c).flushed 5 t = ((cfg0.win 5).blk t).view.read (Elt Ideal) (result0 m c) := by
  have ht := points t
  obtain ⟨w0, w1⟩ := idx5 t
  rw [flushed5]
  funext j
  rw [View.read_apply]
  obtain ⟨r, l, rfl⟩ : ∃ (r : Fin 256) (l : Fin 1024), j = (ix2 r l : S256x1024.Idx) := by
    refine ⟨j 0, j 1, funext fun a => ?_⟩
    match a with
    | ⟨0, _⟩ => rfl
    | ⟨1, _⟩ => rfl
  refine (out_entry5 m c t r l).trans ?_
  have e : ((cfg0.win 5).blk t).view.emb (ix2 r l : S256x1024.Idx) = (ix2 ⟨t.val * 256 + r.val, by omega⟩ l : S16384x1024.Idx) := by
    funext a
    apply Fin.ext
    match a with
    | ⟨0, _⟩ => show win0_5.index t 0 * 256 + 1 * r.val = t.val * 256 + r.val; rw [w0]; omega
    | ⟨1, _⟩ => show win0_5.index t 1 * 1024 + 1 * l.val = l.val; rw [w1]; omega
  show _ = result0 m c (((cfg0.win 5).blk t).view.emb (ix2 r l : S256x1024.Idx))
  rw [e]

/-- Output 5 after the run. -/
theorem final5 (c : Dev nD) : (dats m 0 c).arrAt 5 cfg0.N = result0 m c :=
  (dats m 0 c).arrAt_eq_of_cover 5 (result0 m c) (fun t _ => flushed_eq5 m c t) fun i => by
    have h0 : (i 0 : Nat) < 16384 := (i 0).isLt
    have h1 : (i 1 : Nat) < 1024 := (i 1).isLt
    have hN : cfg0.N = 64 := N_0
    let t : Fin cfg0.N := ⟨(i 0 : Nat) / 256, by omega⟩
    have ht : t.val = (i 0 : Nat) / 256 := rfl
    obtain ⟨w0, w1⟩ := idx5 t
    refine ⟨t, flush0_5 t, ?_⟩
    show i ∈ ((View.whole main_v1_0).slice (win0_5.rect t)).set
    rw [View.set_slice_whole, Rect.mem_set_unit]
    intro a
    match a with
    | ⟨0, _⟩ =>
      show win0_5.index t 0 * 256 ≤ (i 0 : Nat) ∧ (i 0 : Nat) < win0_5.index t 0 * 256 + 256
      rw [w0]; omega
    | ⟨1, _⟩ =>
      show win0_5.index t 1 * 1024 ≤ (i 1 : Nat) ∧ (i 1 : Nat) < win0_5.index t 1 * 1024 + 1024
      rw [w1]; omega

/-- Output 6: what the reference gives from the same arguments. -/
def result1 (c : Dev nD) : Buf (Elt Ideal) ((c : Thread nD τ).loc main_v1_1) :=
  res1 (m ((c : Thread nD τ).loc main_arg0)) (m ((c : Thread nD τ).loc main_arg1)) (m ((c : Thread nD τ).loc main_arg2)) (m ((c : Thread nD τ).loc main_arg3)) (m ((c : Thread nD τ).loc main_arg4))

/-- What the body leaves at an entry of output 6's block at a grid point. -/
theorem out_entry6 (c : Dev nD) (t : Fin cfg0.N) (r : Fin 256) (l : Fin 1024) :
    out0_6 (iblk m c 0 t) (iblk m c 1 t) (iblk m c 2 t) (iblk m c 3 t) (iblk m c 4 t) (ix3 0 l r)
      = (result1 m c : Vec Ideal S2x1024x8192 .f32) (ix3 ⟨t.val / 32, by have := points t; omega⟩ l ⟨t.val % 32 * 256 + r.val, by omega⟩) := by
  have ht := points t
  unfold out0_6 result1 k0_pay9
  rw [View.canon_unit_zero off3, View.ld_unit_zero off2, View.ld_unit_zero off2, View.ld_unit_zero off3, View.ld_unit_zero off3, View.ld_unit_zero off2,
    pay3_apply, res1_apply, proj_block]

/-- Each grid point writes its block of output 6. -/
theorem flushed_eq6 (c : Dev nD) (t : Fin cfg0.N) :
    (dats m 0 c).flushed 6 t = ((cfg0.win 6).blk t).view.read (Elt Ideal) (result1 m c) := by
  have ht := points t
  obtain ⟨w0, w1, w2⟩ := idx6 t
  rw [flushed6]
  funext j
  rw [View.read_apply]
  obtain ⟨l, r, rfl⟩ : ∃ (l : Fin 1024) (r : Fin 256), j = (ix3 0 l r : S1x1024x256.Idx) := by
    refine ⟨j 1, j 2, funext fun a => Fin.ext ?_⟩
    match a with
    | ⟨0, _⟩ => have h : (j 0).val < 1 := (j 0).isLt; show (j 0).val = 0; omega
    | ⟨1, _⟩ => rfl
    | ⟨2, _⟩ => rfl
  refine (out_entry6 m c t r l).trans ?_
  have e : ((cfg0.win 6).blk t).view.emb (ix3 0 l r : S1x1024x256.Idx) = (ix3 ⟨t.val / 32, by omega⟩ l ⟨t.val % 32 * 256 + r.val, by omega⟩ : S2x1024x8192.Idx) := by
    funext a
    apply Fin.ext
    match a with
    | ⟨0, _⟩ => show win0_6.index t 0 * 1 + 1 * 0 = t.val / 32; rw [w0]; omega
    | ⟨1, _⟩ => show win0_6.index t 1 * 1024 + 1 * l.val = l.val; rw [w1]; omega
    | ⟨2, _⟩ => show win0_6.index t 2 * 256 + 1 * r.val = t.val % 32 * 256 + r.val; rw [w2]; omega
  show _ = result1 m c (((cfg0.win 6).blk t).view.emb (ix3 0 l r : S1x1024x256.Idx))
  rw [e]

/-- Output 6 after the run. -/
theorem final6 (c : Dev nD) : (dats m 0 c).arrAt 6 cfg0.N = result1 m c :=
  (dats m 0 c).arrAt_eq_of_cover 6 (result1 m c) (fun t _ => flushed_eq6 m c t) fun i => by
    have h0 : (i 0 : Nat) < 2 := (i 0).isLt
    have h1 : (i 1 : Nat) < 1024 := (i 1).isLt
    have h2 : (i 2 : Nat) < 8192 := (i 2).isLt
    have hN : cfg0.N = 64 := N_0
    let t : Fin cfg0.N := ⟨(i 0 : Nat) * 32 + (i 2 : Nat) / 256, by omega⟩
    have ht : t.val = (i 0 : Nat) * 32 + (i 2 : Nat) / 256 := rfl
    obtain ⟨w0, w1, w2⟩ := idx6 t
    refine ⟨t, flush0_6 t, ?_⟩
    show i ∈ ((View.whole main_v1_1).slice (win0_6.rect t)).set
    rw [View.set_slice_whole, Rect.mem_set_unit]
    intro a
    match a with
    | ⟨0, _⟩ =>
      show win0_6.index t 0 * 1 ≤ (i 0 : Nat) ∧ (i 0 : Nat) < win0_6.index t 0 * 1 + 1
      rw [w0]; omega
    | ⟨1, _⟩ =>
      show win0_6.index t 1 * 1024 ≤ (i 1 : Nat) ∧ (i 1 : Nat) < win0_6.index t 1 * 1024 + 1024
      rw [w1]; omega
    | ⟨2, _⟩ =>
      show win0_6.index t 2 * 256 ≤ (i 2 : Nat) ∧ (i 2 : Nat) < win0_6.index t 2 * 256 + 256
      rw [w2]; omega

/-- Output 7: what the reference gives from the same arguments. -/
def result2 (c : Dev nD) : Buf (Elt Ideal) ((c : Thread nD τ).loc main_v1_2) :=
  res2 (m ((c : Thread nD τ).loc main_arg0)) (m ((c : Thread nD τ).loc main_arg1)) (m ((c : Thread nD τ).loc main_arg2)) (m ((c : Thread nD τ).loc main_arg3)) (m ((c : Thread nD τ).loc main_arg4))

/-- What the body leaves at an entry of output 7's block at a grid point. -/
theorem out_entry7 (c : Dev nD) (t : Fin cfg0.N) (r : Fin 256) (l : Fin 1024) :
    out0_7 (iblk m c 0 t) (iblk m c 1 t) (iblk m c 2 t) (iblk m c 3 t) (iblk m c 4 t) (ix3 0 l r)
      = (result2 m c : Vec Ideal S2x1024x8192 .f32) (ix3 ⟨t.val / 32, by have := points t; omega⟩ l ⟨t.val % 32 * 256 + r.val, by omega⟩) := by
  have ht := points t
  unfold out0_7 result2 k0_pay9
  rw [View.canon_unit_zero off3, View.ld_unit_zero off2, View.ld_unit_zero off2, View.ld_unit_zero off3, View.ld_unit_zero off3, View.ld_unit_zero off2,
    pay4_apply, res2_apply, proj_block]

/-- Each grid point writes its block of output 7. -/
theorem flushed_eq7 (c : Dev nD) (t : Fin cfg0.N) :
    (dats m 0 c).flushed 7 t = ((cfg0.win 7).blk t).view.read (Elt Ideal) (result2 m c) := by
  have ht := points t
  obtain ⟨w0, w1, w2⟩ := idx7 t
  rw [flushed7]
  funext j
  rw [View.read_apply]
  obtain ⟨l, r, rfl⟩ : ∃ (l : Fin 1024) (r : Fin 256), j = (ix3 0 l r : S1x1024x256.Idx) := by
    refine ⟨j 1, j 2, funext fun a => Fin.ext ?_⟩
    match a with
    | ⟨0, _⟩ => have h : (j 0).val < 1 := (j 0).isLt; show (j 0).val = 0; omega
    | ⟨1, _⟩ => rfl
    | ⟨2, _⟩ => rfl
  refine (out_entry7 m c t r l).trans ?_
  have e : ((cfg0.win 7).blk t).view.emb (ix3 0 l r : S1x1024x256.Idx) = (ix3 ⟨t.val / 32, by omega⟩ l ⟨t.val % 32 * 256 + r.val, by omega⟩ : S2x1024x8192.Idx) := by
    funext a
    apply Fin.ext
    match a with
    | ⟨0, _⟩ => show win0_7.index t 0 * 1 + 1 * 0 = t.val / 32; rw [w0]; omega
    | ⟨1, _⟩ => show win0_7.index t 1 * 1024 + 1 * l.val = l.val; rw [w1]; omega
    | ⟨2, _⟩ => show win0_7.index t 2 * 256 + 1 * r.val = t.val % 32 * 256 + r.val; rw [w2]; omega
  show _ = result2 m c (((cfg0.win 7).blk t).view.emb (ix3 0 l r : S1x1024x256.Idx))
  rw [e]

/-- Output 7 after the run. -/
theorem final7 (c : Dev nD) : (dats m 0 c).arrAt 7 cfg0.N = result2 m c :=
  (dats m 0 c).arrAt_eq_of_cover 7 (result2 m c) (fun t _ => flushed_eq7 m c t) fun i => by
    have h0 : (i 0 : Nat) < 2 := (i 0).isLt
    have h1 : (i 1 : Nat) < 1024 := (i 1).isLt
    have h2 : (i 2 : Nat) < 8192 := (i 2).isLt
    have hN : cfg0.N = 64 := N_0
    let t : Fin cfg0.N := ⟨(i 0 : Nat) * 32 + (i 2 : Nat) / 256, by omega⟩
    have ht : t.val = (i 0 : Nat) * 32 + (i 2 : Nat) / 256 := rfl
    obtain ⟨w0, w1, w2⟩ := idx7 t
    refine ⟨t, flush0_7 t, ?_⟩
    show i ∈ ((View.whole main_v1_2).slice (win0_7.rect t)).set
    rw [View.set_slice_whole, Rect.mem_set_unit]
    intro a
    match a with
    | ⟨0, _⟩ =>
      show win0_7.index t 0 * 1 ≤ (i 0 : Nat) ∧ (i 0 : Nat) < win0_7.index t 0 * 1 + 1
      rw [w0]; omega
    | ⟨1, _⟩ =>
      show win0_7.index t 1 * 1024 ≤ (i 1 : Nat) ∧ (i 1 : Nat) < win0_7.index t 1 * 1024 + 1024
      rw [w1]; omega
    | ⟨2, _⟩ =>
      show win0_7.index t 2 * 256 ≤ (i 2 : Nat) ∧ (i 2 : Nat) < win0_7.index t 2 * 256 + 256
      rw [w2]; omega

/-- Output 8: what the reference gives from the same arguments. -/
def result3 (c : Dev nD) : Buf (Elt Ideal) ((c : Thread nD τ).loc main_v1_3) :=
  res3 (m ((c : Thread nD τ).loc main_arg0)) (m ((c : Thread nD τ).loc main_arg1)) (m ((c : Thread nD τ).loc main_arg2)) (m ((c : Thread nD τ).loc main_arg3)) (m ((c : Thread nD τ).loc main_arg4))

/-- What the body leaves at an entry of output 8's block at a grid point. -/
theorem out_entry8 (c : Dev nD) (t : Fin cfg0.N) (r : Fin 256) (l : Fin 1024) :
    out0_8 (iblk m c 0 t) (iblk m c 1 t) (iblk m c 2 t) (iblk m c 3 t) (iblk m c 4 t) (ix2 r l)
      = (result3 m c : Vec Ideal S16384x1024 .bf16) (ix2 ⟨t.val * 256 + r.val, by have := points t; omega⟩ l) := by
  have ht := points t
  obtain ⟨e1, e2⟩ := row_split t r
  unfold out0_8 result3 k0_pay9
  rw [View.canon_unit_zero off2, View.ld_unit_zero off2, View.ld_unit_zero off2, View.ld_unit_zero off3, View.ld_unit_zero off3, View.ld_unit_zero off2,
    pay5_apply, res3_apply, e1, e2, proj_block]

/-- Each grid point writes its block of output 8. -/
theorem flushed_eq8 (c : Dev nD) (t : Fin cfg0.N) :
    (dats m 0 c).flushed 8 t = ((cfg0.win 8).blk t).view.read (Elt Ideal) (result3 m c) := by
  have ht := points t
  obtain ⟨w0, w1⟩ := idx8 t
  rw [flushed8]
  funext j
  rw [View.read_apply]
  obtain ⟨r, l, rfl⟩ : ∃ (r : Fin 256) (l : Fin 1024), j = (ix2 r l : S256x1024.Idx) := by
    refine ⟨j 0, j 1, funext fun a => ?_⟩
    match a with
    | ⟨0, _⟩ => rfl
    | ⟨1, _⟩ => rfl
  refine (out_entry8 m c t r l).trans ?_
  have e : ((cfg0.win 8).blk t).view.emb (ix2 r l : S256x1024.Idx) = (ix2 ⟨t.val * 256 + r.val, by omega⟩ l : S16384x1024.Idx) := by
    funext a
    apply Fin.ext
    match a with
    | ⟨0, _⟩ => show win0_8.index t 0 * 256 + 1 * r.val = t.val * 256 + r.val; rw [w0]; omega
    | ⟨1, _⟩ => show win0_8.index t 1 * 1024 + 1 * l.val = l.val; rw [w1]; omega
  show _ = result3 m c (((cfg0.win 8).blk t).view.emb (ix2 r l : S256x1024.Idx))
  rw [e]

/-- Output 8 after the run. -/
theorem final8 (c : Dev nD) : (dats m 0 c).arrAt 8 cfg0.N = result3 m c :=
  (dats m 0 c).arrAt_eq_of_cover 8 (result3 m c) (fun t _ => flushed_eq8 m c t) fun i => by
    have h0 : (i 0 : Nat) < 16384 := (i 0).isLt
    have h1 : (i 1 : Nat) < 1024 := (i 1).isLt
    have hN : cfg0.N = 64 := N_0
    let t : Fin cfg0.N := ⟨(i 0 : Nat) / 256, by omega⟩
    have ht : t.val = (i 0 : Nat) / 256 := rfl
    obtain ⟨w0, w1⟩ := idx8 t
    refine ⟨t, flush0_8 t, ?_⟩
    show i ∈ ((View.whole main_v1_3).slice (win0_8.rect t)).set
    rw [View.set_slice_whole, Rect.mem_set_unit]
    intro a
    match a with
    | ⟨0, _⟩ =>
      show win0_8.index t 0 * 256 ≤ (i 0 : Nat) ∧ (i 0 : Nat) < win0_8.index t 0 * 256 + 256
      rw [w0]; omega
    | ⟨1, _⟩ =>
      show win0_8.index t 1 * 1024 ≤ (i 1 : Nat) ∧ (i 1 : Nat) < win0_8.index t 1 * 1024 + 1024
      rw [w1]; omega

/-- Output 9: what the reference gives from the same arguments. -/
def result4 (c : Dev nD) : Buf (Elt Ideal) ((c : Thread nD τ).loc main_v1_4) :=
  res4 (m ((c : Thread nD τ).loc main_arg0)) (m ((c : Thread nD τ).loc main_arg1)) (m ((c : Thread nD τ).loc main_arg2)) (m ((c : Thread nD τ).loc main_arg3)) (m ((c : Thread nD τ).loc main_arg4))

/-- What the body leaves at an entry of output 9's block at a grid point. -/
theorem out_entry9 (c : Dev nD) (t : Fin cfg0.N) (r : Fin 256) (l : Fin 1024) :
    out0_9 (iblk m c 0 t) (iblk m c 1 t) (iblk m c 2 t) (iblk m c 3 t) (iblk m c 4 t) (ix2 r l)
      = (result4 m c : Vec Ideal S16384x1024 .bf16) (ix2 ⟨t.val * 256 + r.val, by have := points t; omega⟩ l) := by
  have ht := points t
  obtain ⟨e1, e2⟩ := row_split t r
  unfold out0_9 result4 k0_pay9
  rw [View.canon_unit_zero off2, View.ld_unit_zero off2, View.ld_unit_zero off2, View.ld_unit_zero off3, View.ld_unit_zero off3, View.ld_unit_zero off2,
    pay6_apply, res4_apply, e1, e2, proj_block]

/-- Each grid point writes its block of output 9. -/
theorem flushed_eq9 (c : Dev nD) (t : Fin cfg0.N) :
    (dats m 0 c).flushed 9 t = ((cfg0.win 9).blk t).view.read (Elt Ideal) (result4 m c) := by
  have ht := points t
  obtain ⟨w0, w1⟩ := idx9 t
  rw [flushed9]
  funext j
  rw [View.read_apply]
  obtain ⟨r, l, rfl⟩ : ∃ (r : Fin 256) (l : Fin 1024), j = (ix2 r l : S256x1024.Idx) := by
    refine ⟨j 0, j 1, funext fun a => ?_⟩
    match a with
    | ⟨0, _⟩ => rfl
    | ⟨1, _⟩ => rfl
  refine (out_entry9 m c t r l).trans ?_
  have e : ((cfg0.win 9).blk t).view.emb (ix2 r l : S256x1024.Idx) = (ix2 ⟨t.val * 256 + r.val, by omega⟩ l : S16384x1024.Idx) := by
    funext a
    apply Fin.ext
    match a with
    | ⟨0, _⟩ => show win0_9.index t 0 * 256 + 1 * r.val = t.val * 256 + r.val; rw [w0]; omega
    | ⟨1, _⟩ => show win0_9.index t 1 * 1024 + 1 * l.val = l.val; rw [w1]; omega
  show _ = result4 m c (((cfg0.win 9).blk t).view.emb (ix2 r l : S256x1024.Idx))
  rw [e]

/-- Output 9 after the run. -/
theorem final9 (c : Dev nD) : (dats m 0 c).arrAt 9 cfg0.N = result4 m c :=
  (dats m 0 c).arrAt_eq_of_cover 9 (result4 m c) (fun t _ => flushed_eq9 m c t) fun i => by
    have h0 : (i 0 : Nat) < 16384 := (i 0).isLt
    have h1 : (i 1 : Nat) < 1024 := (i 1).isLt
    have hN : cfg0.N = 64 := N_0
    let t : Fin cfg0.N := ⟨(i 0 : Nat) / 256, by omega⟩
    have ht : t.val = (i 0 : Nat) / 256 := rfl
    obtain ⟨w0, w1⟩ := idx9 t
    refine ⟨t, flush0_9 t, ?_⟩
    show i ∈ ((View.whole main_v1_4).slice (win0_9.rect t)).set
    rw [View.set_slice_whole, Rect.mem_set_unit]
    intro a
    match a with
    | ⟨0, _⟩ =>
      show win0_9.index t 0 * 256 ≤ (i 0 : Nat) ∧ (i 0 : Nat) < win0_9.index t 0 * 256 + 256
      rw [w0]; omega
    | ⟨1, _⟩ =>
      show win0_9.index t 1 * 1024 ≤ (i 1 : Nat) ∧ (i 1 : Nat) < win0_9.index t 1 * 1024 + 1024
      rw [w1]; omega

end Cert.Kernel3Ideal.Rows

end
-- ==== Proof.AttnOut.lean ====
/-
  The projection of the two attentions' outputs, the residual and the next norm.
-/
module

public import proofs.«01_k».proof.Proof.Gen.Kernel4Ideal.Value
public import proofs.«01_k».proof.Proof.Gen.Reference4Ideal.Run
public import proofs.«01_k».proof.Proof.Zero
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.Reference4Ideal.Rows

open Cert.Reference4Ideal Cert.Reference4Ideal.Gen

/-- Both attentions' outputs side by side, projected. -/
def mixed (a0 a1 : FVec Ideal S16384x512 .bf16) (a3 : FVec Ideal S1024x1024 .bf16) : FVec Ideal S16384x1024 .f32 :=
  Host.dotGeneral dot_S16384x1024_S1024x1024_S16384x1024_1_0_0_1_n_n none (extf .f32 (concatenate S16384x1024 1 [⟨S16384x512, a0⟩, ⟨S16384x512, a1⟩] concatenates_S16384x512_S16384x512_S16384x1024_d1) bitsLt_bf16_f32) (extf .f32 a3 bitsLt_bf16_f32)

/-- The residual stream after the attention. -/
def residual (a0 a1 : FVec Ideal S16384x512 .bf16) (a2 : FVec Ideal S16384x1024 .f32) (a3 : FVec Ideal S1024x1024 .bf16) (a4 : FVec Ideal S1024 .f32) (a5 : FVec Ideal S2x1x1024 .f32) : FVec Ideal S2x8192x1024 .f32 :=
  addf (shapeCast _ a2 shapeCasts_S16384x1024_S2x8192x1024) (mulf (broadcastInDim S2x8192x1024 ![0, 1, 2] bcast_S2x1x1024_S2x8192x1024_0_1_2 a5) (mulf (mulf (shapeCast _ (mixed a0 a1 a3) shapeCasts_S16384x1024_S2x8192x1024) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (shapeCast _ (mixed a0 a1 a3) shapeCasts_S16384x1024_S2x8192x1024) (shapeCast _ (mixed a0 a1 a3) shapeCasts_S16384x1024_S2x8192x1024)) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 a4))))

/-- The residual stream in rows. -/
def res0 (a0 a1 : FVec Ideal S16384x512 .bf16) (a2 : FVec Ideal S16384x1024 .f32) (a3 : FVec Ideal S1024x1024 .bf16) (a4 : FVec Ideal S1024 .f32) (a5 : FVec Ideal S2x1x1024 .f32) : FVec Ideal S16384x1024 .f32 :=
  shapeCast _ (residual a0 a1 a2 a3 a4 a5) shapeCasts_S2x8192x1024_S16384x1024

/-- Its modulated norm in rows. -/
def res1 (a0 a1 : FVec Ideal S16384x512 .bf16) (a2 : FVec Ideal S16384x1024 .f32) (a3 : FVec Ideal S1024x1024 .bf16) (a4 : FVec Ideal S1024 .f32) (a5 : FVec Ideal S2x1x1024 .f32) (a6 : FVec Ideal S1024 .f32) (a7 a8 : FVec Ideal S2x1x1024 .f32) : FVec Ideal S16384x1024 .bf16 :=
  truncf .bf16 (shapeCast _ (addf (mulf (mulf (mulf (residual a0 a1 a2 a3 a4 a5) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (residual a0 a1 a2 a3 a4 a5) (residual a0 a1 a2 a3 a4 a5)) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 a6))) (broadcastInDim S2x8192x1024 ![0, 1, 2] bcast_S2x1x1024_S2x8192x1024_0_1_2 (addf (broadcastInDim S2x1x1024 ![] bcast_S_S2x1x1024 (constant S_ .f32 0x3F800000#32)) a7))) (broadcastInDim S2x8192x1024 ![0, 1, 2] bcast_S2x1x1024_S2x8192x1024_0_1_2 a8)) shapeCasts_S2x8192x1024_S16384x1024) bitsLt_bf16_f32

/-- The projection at an entry: the sum of the two attentions' shares. -/
theorem mixed_apply (a0 a1 : FVec Ideal S16384x512 .bf16) (a3 : FVec Ideal S1024x1024 .bf16) (r : Fin 16384) (l : Fin 1024) :
    mixed a0 a1 a3 (ix2 r l) = ∑ x : Fin 512, a0 (ix2 r x) * a3 (ix2 ⟨x.val, by omega⟩ l)
      + ∑ x : Fin 512, a1 (ix2 r x) * a3 (ix2 ⟨512 + x.val, by omega⟩ l) := by
  pointwise [mixed]

/-- The residual stream at an entry. -/
theorem residual_apply (a0 a1 : FVec Ideal S16384x512 .bf16) (a2 : FVec Ideal S16384x1024 .f32) (a3 : FVec Ideal S1024x1024 .bf16) (a4 : FVec Ideal S1024 .f32) (a5 : FVec Ideal S2x1x1024 .f32) (b : Fin 2) (s : Fin 8192) (R : Fin 16384) (h : R.val = b.val * 8192 + s.val) (l : Fin 1024) :
    residual a0 a1 a2 a3 a4 a5 (ix3 b s l) = a2 (ix2 R l) + a5 (ix3 b 0 l) * (mixed a0 a1 a3 (ix2 R l) *
            Ideal.rsqrt
              (Ideal.div (∑ x, mixed a0 a1 a3 (ix2 R x) * mixed a0 a1 a3 (ix2 R x)) (Ideal.ofBits FTy.f32 0x44800000#32) + Ideal.ofBits FTy.f32 0x358637BD#32) *
          a4 (ix1 l)) := by
  have hlt : b.val * 8192 + s.val < 16384 := by omega
  obtain rfl : R = ⟨b.val * 8192 + s.val, hlt⟩ := Fin.ext h
  pointwise [residual]

/-- The rows of the residual stream at an entry. -/
theorem res0_apply (a0 a1 : FVec Ideal S16384x512 .bf16) (a2 : FVec Ideal S16384x1024 .f32) (a3 : FVec Ideal S1024x1024 .bf16) (a4 : FVec Ideal S1024 .f32) (a5 : FVec Ideal S2x1x1024 .f32) (r : Fin 16384) (l : Fin 1024) :
    res0 a0 a1 a2 a3 a4 a5 (ix2 r l) = residual a0 a1 a2 a3 a4 a5 (ix3 ⟨r.val / 8192, by omega⟩ ⟨r.val % 8192, by omega⟩ l) := by
  pointwise [res0]

/-- The rows of the modulated norm at an entry. -/
theorem res1_apply (a0 a1 : FVec Ideal S16384x512 .bf16) (a2 : FVec Ideal S16384x1024 .f32) (a3 : FVec Ideal S1024x1024 .bf16) (a4 : FVec Ideal S1024 .f32) (a5 : FVec Ideal S2x1x1024 .f32) (a6 : FVec Ideal S1024 .f32) (a7 a8 : FVec Ideal S2x1x1024 .f32) (r : Fin 16384) (l : Fin 1024) (b : Fin 2) (s : Fin 8192) (hb : b.val = r.val / 8192) (hs : s.val = r.val % 8192) :
    res1 a0 a1 a2 a3 a4 a5 a6 a7 a8 (ix2 r l) = residual a0 a1 a2 a3 a4 a5 (ix3 b s l) *
            Ideal.rsqrt
              (Ideal.div (∑ x, residual a0 a1 a2 a3 a4 a5 (ix3 b s x) * residual a0 a1 a2 a3 a4 a5 (ix3 b s x))
                (Ideal.ofBits FTy.f32 0x44800000#32) + Ideal.ofBits FTy.f32 0x358637BD#32) *
          a6 (ix1 l) * (1 + a7 (ix3 b 0 l)) + a8 (ix3 b 0 l) := by
  have h1 : r.val / 8192 < 2 := by omega
  have h2 : r.val % 8192 < 8192 := by omega
  obtain rfl : b = ⟨r.val / 8192, h1⟩ := Fin.ext hb
  obtain rfl : s = ⟨r.val % 8192, h2⟩ := Fin.ext hs
  pointwise [res1]

end Cert.Reference4Ideal.Rows

namespace Cert.Kernel4Ideal.Rows

open Cert.Kernel4Ideal Cert.Kernel4Ideal.Gen Cert.Kernel4Ideal.Value Cert.Rows
open Cert.Reference4Ideal.Rows

/-- The body's projection of a row. -/
def mix (v0 v3 : Vec Ideal S256x512 .bf16) (v1 v4 : Vec Ideal S512x1024 .bf16) (r : Fin 256) (l : Fin 1024) : EReal :=
  ∑ x, v0 (ix2 r x) * v1 (ix2 x l) + ∑ x, v3 (ix2 r x) * v4 (ix2 x l)

/-- The body's residual stream at an entry. -/
theorem pay2_apply (v0 : Vec Ideal S256x512 .bf16) (v1 : Vec Ideal S512x1024 .bf16) (v3 : Vec Ideal S256x512 .bf16) (v4 : Vec Ideal S512x1024 .bf16)
    (v7 : Vec Ideal S256x1024 .f32) (v8 : Vec Ideal S1x1x1024 .f32) (v10 : Vec Ideal S1x1024 .f32) (r : Fin 256) (l : Fin 1024) :
    k0_pay2 v0 v1 v3 v4 v7 v8 v10 (ix2 r l) = v7 (ix2 r l) + v8 (ix3 0 0 l) * (mix v0 v3 v1 v4 r l *
            Ideal.rsqrt
              (Ideal.div (∑ x, mix v0 v3 v1 v4 r x * mix v0 v3 v1 v4 r x) (Ideal.ofBits FTy.f32 0x44800000#32) + Ideal.ofBits FTy.f32 0x358637BD#32) *
          v10 (ix2 0 l)) := by
  pointwise [k0_pay2]
  rfl

/-- The body's modulated norm at an entry. -/
theorem pay1_apply (v26 : FVec Ideal S256x1024 .f32) (v28 : Vec Ideal S1x1024 .f32) (v32 : FVec Ideal S256x1 .f32) (v42 v48 : Vec Ideal S1x1x1024 .f32)
    (r : Fin 256) (l : Fin 1024) :
    k0_pay1 v26 (k0_pay3 v28) v32 v42 v48 (ix2 r l) = v26 (ix2 r l) *
            Ideal.rsqrt (Ideal.div (v32 (ix2 r 0)) (Ideal.ofBits FTy.f32 0x44800000#32) + Ideal.ofBits FTy.f32 0x358637BD#32) *
          v28 (ix2 0 l) * (1 + v42 (ix3 0 0 l)) + v48 (ix3 0 0 l) := by
  pointwise [k0_pay1, k0_pay3]

/-- The body's sum of squares of a row. -/
theorem pay4_apply (v0 : Vec Ideal S256x512 .bf16) (v1 : Vec Ideal S512x1024 .bf16) (v3 : Vec Ideal S256x512 .bf16) (v4 : Vec Ideal S512x1024 .bf16)
    (v7 : Vec Ideal S256x1024 .f32) (v8 : Vec Ideal S1x1x1024 .f32) (v10 : Vec Ideal S1x1024 .f32) (r : Fin 256) :
    k0_pay4 v0 v1 v3 v4 v7 v8 v10 (ix2 r 0) = ∑ x, k0_pay2 v0 v1 v3 v4 v7 v8 v10 (ix2 r x) * k0_pay2 v0 v1 v3 v4 v7 v8 v10 (ix2 r x) := by
  pointwise [k0_pay4]

variable (m : (ℓ : Loc nD τ sig) → Buf (Elt Ideal) ℓ)

/-- There are 64 grid points. -/
theorem points (t : Fin cfg0.N) : t.val < 64 := by
  have := t.isLt
  have hN : cfg0.N = 64 := N_0
  omega

/-- Where window 0's block lies at a grid point. -/
theorem idx0 : ∀ t : Fin cfg0.N, win0_0.index t 0 = t.val ∧ win0_0.index t 1 = 0 := by
  decide +kernel

/-- Where window 1's block lies at a grid point. -/
theorem idx1 : ∀ t : Fin cfg0.N, win0_1.index t 0 = t.val ∧ win0_1.index t 1 = 0 := by
  decide +kernel

/-- Where window 2's block lies at a grid point. -/
theorem idx2 : ∀ t : Fin cfg0.N, win0_2.index t 0 = t.val ∧ win0_2.index t 1 = 0 := by
  decide +kernel

/-- Where window 3's block lies at a grid point. -/
theorem idx3 : ∀ t : Fin cfg0.N, win0_3.index t 0 = 0 ∧ win0_3.index t 1 = 0 := by
  decide +kernel

/-- Where window 4's block lies at a grid point. -/
theorem idx4 : ∀ t : Fin cfg0.N, win0_4.index t 0 = 1 ∧ win0_4.index t 1 = 0 := by
  decide +kernel

/-- Where window 5's block lies at a grid point. -/
theorem idx5 : ∀ t : Fin cfg0.N, win0_5.index t 0 = 0 ∧ win0_5.index t 1 = 0 := by
  decide +kernel

/-- Where window 6's block lies at a grid point. -/
theorem idx6 : ∀ t : Fin cfg0.N, win0_6.index t 0 = t.val / 32 ∧ win0_6.index t 1 = 0 ∧ win0_6.index t 2 = 0 := by
  decide +kernel

/-- Where window 7's block lies at a grid point. -/
theorem idx7 : ∀ t : Fin cfg0.N, win0_7.index t 0 = 0 ∧ win0_7.index t 1 = 0 := by
  decide +kernel

/-- Where window 8's block lies at a grid point. -/
theorem idx8 : ∀ t : Fin cfg0.N, win0_8.index t 0 = t.val / 32 ∧ win0_8.index t 1 = 0 ∧ win0_8.index t 2 = 0 := by
  decide +kernel

/-- Where window 9's block lies at a grid point. -/
theorem idx9 : ∀ t : Fin cfg0.N, win0_9.index t 0 = t.val / 32 ∧ win0_9.index t 1 = 0 ∧ win0_9.index t 2 = 0 := by
  decide +kernel

/-- Where window 10's block lies at a grid point. -/
theorem idx10 : ∀ t : Fin cfg0.N, win0_10.index t 0 = t.val ∧ win0_10.index t 1 = 0 := by
  decide +kernel

/-- Where window 11's block lies at a grid point. -/
theorem idx11 : ∀ t : Fin cfg0.N, win0_11.index t 0 = t.val ∧ win0_11.index t 1 = 0 := by
  decide +kernel

/-- The first attention's rows at a grid point. -/
theorem block0 (c : Dev nD) (t : Fin cfg0.N) (r : Fin 256) (l : Fin 512) :
    (iblk m c 0 t : Vec Ideal S256x512 .bf16) (ix2 r l) = (m ((c : Thread nD τ).loc main_arg0) : Vec Ideal S16384x512 .bf16)
      (ix2 ⟨t.val * 256 + r.val, by have := points t; omega⟩ l) := by
  obtain ⟨h0, h1⟩ := idx0 t
  unfold iblk
  rw [View.read_apply]
  show V m c main_arg0 _ = _
  rw [V_main_arg0]
  congr 1
  funext a
  apply Fin.ext
  match a with
  | ⟨0, _⟩ => show win0_0.index t 0 * 256 + 1 * r.val = t.val * 256 + r.val; rw [h0]; try omega
  | ⟨1, _⟩ => show win0_0.index t 1 * 512 + 1 * l.val = l.val; rw [h1]; try omega

/-- The second attention's rows at a grid point. -/
theorem block1 (c : Dev nD) (t : Fin cfg0.N) (r : Fin 256) (l : Fin 512) :
    (iblk m c 1 t : Vec Ideal S256x512 .bf16) (ix2 r l) = (m ((c : Thread nD τ).loc main_arg1) : Vec Ideal S16384x512 .bf16)
      (ix2 ⟨t.val * 256 + r.val, by have := points t; omega⟩ l) := by
  obtain ⟨h0, h1⟩ := idx1 t
  unfold iblk
  rw [View.read_apply]
  show V m c main_arg1 _ = _
  rw [V_main_arg1]
  congr 1
  funext a
  apply Fin.ext
  match a with
  | ⟨0, _⟩ => show win0_1.index t 0 * 256 + 1 * r.val = t.val * 256 + r.val; rw [h0]; try omega
  | ⟨1, _⟩ => show win0_1.index t 1 * 512 + 1 * l.val = l.val; rw [h1]; try omega

/-- The residual's rows at a grid point. -/
theorem block2 (c : Dev nD) (t : Fin cfg0.N) (r : Fin 256) (l : Fin 1024) :
    (iblk m c 2 t : Vec Ideal S256x1024 .f32) (ix2 r l) = (m ((c : Thread nD τ).loc main_arg2) : Vec Ideal S16384x1024 .f32)
      (ix2 ⟨t.val * 256 + r.val, by have := points t; omega⟩ l) := by
  obtain ⟨h0, h1⟩ := idx2 t
  unfold iblk
  rw [View.read_apply]
  show V m c main_arg2 _ = _
  rw [V_main_arg2]
  congr 1
  funext a
  apply Fin.ext
  match a with
  | ⟨0, _⟩ => show win0_2.index t 0 * 256 + 1 * r.val = t.val * 256 + r.val; rw [h0]; try omega
  | ⟨1, _⟩ => show win0_2.index t 1 * 1024 + 1 * l.val = l.val; rw [h1]; try omega

/-- The first attention's weights. -/
theorem block3 (c : Dev nD) (t : Fin cfg0.N) (r : Fin 512) (l : Fin 1024) :
    (iblk m c 3 t : Vec Ideal S512x1024 .bf16) (ix2 r l) = (m ((c : Thread nD τ).loc main_arg3) : Vec Ideal S1024x1024 .bf16)
      (ix2 ⟨r.val, by omega⟩ l) := by
  obtain ⟨h0, h1⟩ := idx3 t
  unfold iblk
  rw [View.read_apply]
  show V m c main_arg3 _ = _
  rw [V_main_arg3]
  congr 1
  funext a
  apply Fin.ext
  match a with
  | ⟨0, _⟩ => show win0_3.index t 0 * 512 + 1 * r.val = r.val; rw [h0]; try omega
  | ⟨1, _⟩ => show win0_3.index t 1 * 1024 + 1 * l.val = l.val; rw [h1]; try omega

/-- The second attention's weights. -/
theorem block4 (c : Dev nD) (t : Fin cfg0.N) (r : Fin 512) (l : Fin 1024) :
    (iblk m c 4 t : Vec Ideal S512x1024 .bf16) (ix2 r l) = (m ((c : Thread nD τ).loc main_arg3) : Vec Ideal S1024x1024 .bf16)
      (ix2 ⟨512 + r.val, by omega⟩ l) := by
  obtain ⟨h0, h1⟩ := idx4 t
  unfold iblk
  rw [View.read_apply]
  show V m c main_arg3 _ = _
  rw [V_main_arg3]
  congr 1
  funext a
  apply Fin.ext
  match a with
  | ⟨0, _⟩ => show win0_4.index t 0 * 512 + 1 * r.val = 512 + r.val; rw [h0]; try omega
  | ⟨1, _⟩ => show win0_4.index t 1 * 1024 + 1 * l.val = l.val; rw [h1]; try omega

/-- The outer norm's scale, laid out as one row. -/
theorem scale5 (c : Dev nD) : (V m c main_v0 : FVec Ideal S1x1024 .f32)
    = shapeCast _ (m ((c : Thread nD τ).loc main_arg4) : FVec Ideal S1024 .f32) shapeCasts_S1024_S1x1024 := by
  unfold V hostOps0
  after_results_simp
  rfl

/-- The outer norm's scale at a grid point. -/
theorem block5 (c : Dev nD) (t : Fin cfg0.N) (l : Fin 1024) :
    (iblk m c 5 t : Vec Ideal S1x1024 .f32) (ix2 0 l) = (m ((c : Thread nD τ).loc main_arg4) : Vec Ideal S1024 .f32) (ix1 l) := by
  obtain ⟨h0, h1⟩ := idx5 t
  unfold iblk
  rw [View.read_apply]
  show (V m c main_v0 : FVec Ideal S1x1024 .f32) _ = _
  rw [scale5]
  have e : ((cfg0.win 5).blk t).view.emb (ix2 0 l : S1x1024.Idx) = (ix2 0 l : S1x1024.Idx) := by
    funext a
    apply Fin.ext
    match a with
    | ⟨0, _⟩ => show win0_5.index t 0 * 1 + 1 * 0 = 0; rw [h0]
    | ⟨1, _⟩ => show win0_5.index t 1 * 1024 + 1 * l.val = l.val; rw [h1]; omega
  rw [e]
  pointwise

/-- The residual's gate at a grid point. -/
theorem block6 (c : Dev nD) (t : Fin cfg0.N) (l : Fin 1024) :
    (iblk m c 6 t : Vec Ideal S1x1x1024 .f32) (ix3 0 0 l) = (m ((c : Thread nD τ).loc main_arg5) : Vec Ideal S2x1x1024 .f32)
      (ix3 ⟨t.val / 32, by have := points t; omega⟩ 0 l) := by
  obtain ⟨h0, h1, h2⟩ := idx6 t
  unfold iblk
  rw [View.read_apply]
  show V m c main_arg5 _ = _
  rw [V_main_arg5]
  congr 1
  funext a
  apply Fin.ext
  match a with
  | ⟨0, _⟩ => show win0_6.index t 0 * 1 + 1 * 0 = t.val / 32; rw [h0]; try omega
  | ⟨1, _⟩ => show win0_6.index t 1 * 1 + 1 * 0 = 0; rw [h1]; try omega
  | ⟨2, _⟩ => show win0_6.index t 2 * 1024 + 1 * l.val = l.val; rw [h2]; try omega

/-- The next norm's scale, laid out as one row. -/
theorem scale7 (c : Dev nD) : (V m c main_v1 : FVec Ideal S1x1024 .f32)
    = shapeCast _ (m ((c : Thread nD τ).loc main_arg6) : FVec Ideal S1024 .f32) shapeCasts_S1024_S1x1024 := by
  unfold V hostOps0
  after_results_simp
  rfl

/-- The next norm's scale at a grid point. -/
theorem block7 (c : Dev nD) (t : Fin cfg0.N) (l : Fin 1024) :
    (iblk m c 7 t : Vec Ideal S1x1024 .f32) (ix2 0 l) = (m ((c : Thread nD τ).loc main_arg6) : Vec Ideal S1024 .f32) (ix1 l) := by
  obtain ⟨h0, h1⟩ := idx7 t
  unfold iblk
  rw [View.read_apply]
  show (V m c main_v1 : FVec Ideal S1x1024 .f32) _ = _
  rw [scale7]
  have e : ((cfg0.win 7).blk t).view.emb (ix2 0 l : S1x1024.Idx) = (ix2 0 l : S1x1024.Idx) := by
    funext a
    apply Fin.ext
    match a with
    | ⟨0, _⟩ => show win0_7.index t 0 * 1 + 1 * 0 = 0; rw [h0]
    | ⟨1, _⟩ => show win0_7.index t 1 * 1024 + 1 * l.val = l.val; rw [h1]; omega
  rw [e]
  pointwise

/-- The modulation's scale at a grid point. -/
theorem block8 (c : Dev nD) (t : Fin cfg0.N) (l : Fin 1024) :
    (iblk m c 8 t : Vec Ideal S1x1x1024 .f32) (ix3 0 0 l) = (m ((c : Thread nD τ).loc main_arg7) : Vec Ideal S2x1x1024 .f32)
      (ix3 ⟨t.val / 32, by have := points t; omega⟩ 0 l) := by
  obtain ⟨h0, h1, h2⟩ := idx8 t
  unfold iblk
  rw [View.read_apply]
  show V m c main_arg7 _ = _
  rw [V_main_arg7]
  congr 1
  funext a
  apply Fin.ext
  match a with
  | ⟨0, _⟩ => show win0_8.index t 0 * 1 + 1 * 0 = t.val / 32; rw [h0]; try omega
  | ⟨1, _⟩ => show win0_8.index t 1 * 1 + 1 * 0 = 0; rw [h1]; try omega
  | ⟨2, _⟩ => show win0_8.index t 2 * 1024 + 1 * l.val = l.val; rw [h2]; try omega

/-- The modulation's shift at a grid point. -/
theorem block9 (c : Dev nD) (t : Fin cfg0.N) (l : Fin 1024) :
    (iblk m c 9 t : Vec Ideal S1x1x1024 .f32) (ix3 0 0 l) = (m ((c : Thread nD τ).loc main_arg8) : Vec Ideal S2x1x1024 .f32)
      (ix3 ⟨t.val / 32, by have := points t; omega⟩ 0 l) := by
  obtain ⟨h0, h1, h2⟩ := idx9 t
  unfold iblk
  rw [View.read_apply]
  show V m c main_arg8 _ = _
  rw [V_main_arg8]
  congr 1
  funext a
  apply Fin.ext
  match a with
  | ⟨0, _⟩ => show win0_9.index t 0 * 1 + 1 * 0 = t.val / 32; rw [h0]; try omega
  | ⟨1, _⟩ => show win0_9.index t 1 * 1 + 1 * 0 = 0; rw [h1]; try omega
  | ⟨2, _⟩ => show win0_9.index t 2 * 1024 + 1 * l.val = l.val; rw [h2]; try omega

/-- The projection of a grid point's row is the reference's. -/
theorem mix_block (c : Dev nD) (t : Fin cfg0.N) (r : Fin 256) (l : Fin 1024) :
    mix (iblk m c 0 t) (iblk m c 1 t) (iblk m c 3 t) (iblk m c 4 t) r l
      = mixed (m ((c : Thread nD τ).loc main_arg0)) (m ((c : Thread nD τ).loc main_arg1)) (m ((c : Thread nD τ).loc main_arg3))
        (ix2 ⟨t.val * 256 + r.val, by have := points t; omega⟩ l) := by
  rw [mixed_apply]
  unfold mix
  simp only [block0, block1, block3, block4]

/-- The residual stream of a grid point's row is the reference's. -/
theorem residual_block (c : Dev nD) (t : Fin cfg0.N) (r : Fin 256) (l : Fin 1024) :
    k0_pay2 (iblk m c 0 t) (iblk m c 3 t) (iblk m c 1 t) (iblk m c 4 t) (iblk m c 2 t) (iblk m c 6 t) (iblk m c 5 t) (ix2 r l)
      = residual (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (ix3 ⟨t.val / 32, by have := points t; omega⟩ ⟨t.val % 32 * 256 + r.val, by omega⟩ l) := by
  have ht := points t
  rw [pay2_apply, residual_apply _ _ _ _ _ _ ⟨t.val / 32, by omega⟩ ⟨t.val % 32 * 256 + r.val, by omega⟩ ⟨t.val * 256 + r.val, by omega⟩ (by
    show t.val * 256 + r.val = t.val / 32 * 8192 + (t.val % 32 * 256 + r.val); omega)]
  simp only [mix_block, block2, block5, block6]

/-- The first output: what the reference gives from the same arguments. -/
def result0 (c : Dev nD) : Buf (Elt Ideal) ((c : Thread nD τ).loc main_v2_0) :=
  res0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The second output: what the reference gives from the same arguments. -/
def result1 (c : Dev nD) : Buf (Elt Ideal) ((c : Thread nD τ).loc main_v2_1) :=
  res1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- What the body leaves at an entry of the first output's block at a grid point. -/
theorem out_entry10 (c : Dev nD) (t : Fin cfg0.N) (r : Fin 256) (l : Fin 1024) :
    out0_10 (iblk m c 0 t) (iblk m c 1 t) (iblk m c 2 t) (iblk m c 3 t) (iblk m c 4 t) (iblk m c 5 t) (iblk m c 6 t) (iblk m c 7 t) (iblk m c 8 t) (iblk m c 9 t) (ix2 r l)
      = (result0 m c : Vec Ideal S16384x1024 .f32) (ix2 ⟨t.val * 256 + r.val, by have := points t; omega⟩ l) := by
  have ht := points t
  have e1 : (⟨(t.val * 256 + r.val) / 8192, by omega⟩ : Fin 2) = ⟨t.val / 32, by omega⟩ := Fin.ext (by
    show (t.val * 256 + r.val) / 8192 = t.val / 32; omega)
  have e2 : (⟨(t.val * 256 + r.val) % 8192, by omega⟩ : Fin 8192) = ⟨t.val % 32 * 256 + r.val, by omega⟩ := Fin.ext (by
    show (t.val * 256 + r.val) % 8192 = t.val % 32 * 256 + r.val; omega)
  unfold out0_10 result0
  rw [View.canon_unit_zero off2]
  rw [View.ld_unit_zero off2, View.ld_unit_zero off2, View.ld_unit_zero off2, View.ld_unit_zero off2, View.ld_unit_zero off2, View.ld_unit_zero off3, View.ld_unit_zero off2]
  rw [res0_apply, e1, e2, residual_block]

/-- What the body leaves at an entry of the second output's block at a grid point. -/
theorem out_entry11 (c : Dev nD) (t : Fin cfg0.N) (r : Fin 256) (l : Fin 1024) :
    out0_11 (iblk m c 0 t) (iblk m c 1 t) (iblk m c 2 t) (iblk m c 3 t) (iblk m c 4 t) (iblk m c 5 t) (iblk m c 6 t) (iblk m c 7 t) (iblk m c 8 t) (iblk m c 9 t) (ix2 r l)
      = (result1 m c : Vec Ideal S16384x1024 .bf16) (ix2 ⟨t.val * 256 + r.val, by have := points t; omega⟩ l) := by
  have ht := points t
  unfold out0_11 result1
  rw [View.canon_unit_zero off2]
  rw [View.ld_unit_zero off2, View.ld_unit_zero off2, View.ld_unit_zero off2, View.ld_unit_zero off2, View.ld_unit_zero off2, View.ld_unit_zero off3, View.ld_unit_zero off2, View.ld_unit_zero off2, View.ld_unit_zero off3, View.ld_unit_zero off3]
  rw [pay1_apply, pay4_apply, res1_apply _ _ _ _ _ _ _ _ _ ⟨t.val * 256 + r.val, by omega⟩ l ⟨t.val / 32, by omega⟩ ⟨t.val % 32 * 256 + r.val, by omega⟩
    (by show t.val / 32 = (t.val * 256 + r.val) / 8192; omega) (by show t.val % 32 * 256 + r.val = (t.val * 256 + r.val) % 8192; omega)]
  simp only [residual_block, block7, block8, block9]

/-- Each grid point writes its block of output 10. -/
theorem flushed_eq10 (c : Dev nD) (t : Fin cfg0.N) :
    (dats m 0 c).flushed 10 t = ((cfg0.win 10).blk t).view.read (Elt Ideal) (result0 m c) := by
  have ht := points t
  obtain ⟨w0, w1⟩ := idx10 t
  rw [flushed10]
  funext j
  rw [View.read_apply]
  obtain ⟨r, l, rfl⟩ : ∃ (r : Fin 256) (l : Fin 1024), j = (ix2 r l : S256x1024.Idx) := by
    refine ⟨j 0, j 1, funext fun a => ?_⟩
    match a with
    | ⟨0, _⟩ => rfl
    | ⟨1, _⟩ => rfl
  refine (out_entry10 m c t r l).trans ?_
  have e : ((cfg0.win 10).blk t).view.emb (ix2 r l : S256x1024.Idx) = (ix2 ⟨t.val * 256 + r.val, by omega⟩ l : S16384x1024.Idx) := by
    funext a
    apply Fin.ext
    match a with
    | ⟨0, _⟩ => show win0_10.index t 0 * 256 + 1 * r.val = t.val * 256 + r.val; rw [w0]; omega
    | ⟨1, _⟩ => show win0_10.index t 1 * 1024 + 1 * l.val = l.val; rw [w1]; omega
  show _ = result0 m c (((cfg0.win 10).blk t).view.emb (ix2 r l : S256x1024.Idx))
  rw [e]

/-- Output 10 after the run. -/
theorem final10 (c : Dev nD) : (dats m 0 c).arrAt 10 cfg0.N = result0 m c :=
  (dats m 0 c).arrAt_eq_of_cover 10 (result0 m c) (fun t _ => flushed_eq10 m c t) fun i => by
    have h0 : (i 0 : Nat) < 16384 := (i 0).isLt
    have h1 : (i 1 : Nat) < 1024 := (i 1).isLt
    have hN : cfg0.N = 64 := N_0
    let t : Fin cfg0.N := ⟨(i 0 : Nat) / 256, by omega⟩
    have ht : t.val = (i 0 : Nat) / 256 := rfl
    obtain ⟨w0, w1⟩ := idx10 t
    refine ⟨t, flush0_10 t, ?_⟩
    show i ∈ ((View.whole main_v2_0).slice (win0_10.rect t)).set
    rw [View.set_slice_whole, Rect.mem_set_unit]
    intro a
    match a with
    | ⟨0, _⟩ =>
      show win0_10.index t 0 * 256 ≤ (i 0 : Nat) ∧ (i 0 : Nat) < win0_10.index t 0 * 256 + 256
      rw [w0]; omega
    | ⟨1, _⟩ =>
      show win0_10.index t 1 * 1024 ≤ (i 1 : Nat) ∧ (i 1 : Nat) < win0_10.index t 1 * 1024 + 1024
      rw [w1]; omega

/-- Each grid point writes its block of output 11. -/
theorem flushed_eq11 (c : Dev nD) (t : Fin cfg0.N) :
    (dats m 0 c).flushed 11 t = ((cfg0.win 11).blk t).view.read (Elt Ideal) (result1 m c) := by
  have ht := points t
  obtain ⟨w0, w1⟩ := idx11 t
  rw [flushed11]
  funext j
  rw [View.read_apply]
  obtain ⟨r, l, rfl⟩ : ∃ (r : Fin 256) (l : Fin 1024), j = (ix2 r l : S256x1024.Idx) := by
    refine ⟨j 0, j 1, funext fun a => ?_⟩
    match a with
    | ⟨0, _⟩ => rfl
    | ⟨1, _⟩ => rfl
  refine (out_entry11 m c t r l).trans ?_
  have e : ((cfg0.win 11).blk t).view.emb (ix2 r l : S256x1024.Idx) = (ix2 ⟨t.val * 256 + r.val, by omega⟩ l : S16384x1024.Idx) := by
    funext a
    apply Fin.ext
    match a with
    | ⟨0, _⟩ => show win0_11.index t 0 * 256 + 1 * r.val = t.val * 256 + r.val; rw [w0]; omega
    | ⟨1, _⟩ => show win0_11.index t 1 * 1024 + 1 * l.val = l.val; rw [w1]; omega
  show _ = result1 m c (((cfg0.win 11).blk t).view.emb (ix2 r l : S256x1024.Idx))
  rw [e]

/-- Output 11 after the run. -/
theorem final11 (c : Dev nD) : (dats m 0 c).arrAt 11 cfg0.N = result1 m c :=
  (dats m 0 c).arrAt_eq_of_cover 11 (result1 m c) (fun t _ => flushed_eq11 m c t) fun i => by
    have h0 : (i 0 : Nat) < 16384 := (i 0).isLt
    have h1 : (i 1 : Nat) < 1024 := (i 1).isLt
    have hN : cfg0.N = 64 := N_0
    let t : Fin cfg0.N := ⟨(i 0 : Nat) / 256, by omega⟩
    have ht : t.val = (i 0 : Nat) / 256 := rfl
    obtain ⟨w0, w1⟩ := idx11 t
    refine ⟨t, flush0_11 t, ?_⟩
    show i ∈ ((View.whole main_v2_1).slice (win0_11.rect t)).set
    rw [View.set_slice_whole, Rect.mem_set_unit]
    intro a
    match a with
    | ⟨0, _⟩ =>
      show win0_11.index t 0 * 256 ≤ (i 0 : Nat) ∧ (i 0 : Nat) < win0_11.index t 0 * 256 + 256
      rw [w0]; omega
    | ⟨1, _⟩ =>
      show win0_11.index t 1 * 1024 ≤ (i 1 : Nat) ∧ (i 1 : Nat) < win0_11.index t 1 * 1024 + 1024
      rw [w1]; omega

end Cert.Kernel4Ideal.Rows

end
-- ==== Proof.UpTile.lean ====
/-
  The up projection with its convolution along the positions and its gate: the reference at an entry,
  and what one run of the kernel's body leaves.
-/
module

public import proofs.«01_k».proof.Proof.Zero
public import proofs.«01_k».proof.Proof.Gen.Kernel5Ideal.Value
public import proofs.«01_k».proof.Proof.Gen.Reference5Ideal.Run
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.Reference5Ideal.Rows

open Cert.Reference5Ideal Cert.Reference5Ideal.Gen

/-- The up projection behind the two rows before it. -/
def full (a0 : FVec Ideal S2x8192x1024 .bf16) (a1 : FVec Ideal S2x2x5632 .f32) (a2 : FVec Ideal S1024x5632 .bf16) : FVec Ideal S2x8194x5632 .f32 :=
  concatenate S2x8194x5632 1 [⟨S2x2x5632, a1⟩, ⟨S2x8192x5632, (Host.dotGeneral dot_S2x8192x1024_S1024x5632_S2x8192x5632_2_0_01_1_n_n none (extf .f32 a0 bitsLt_bf16_f32) (extf .f32 a2 bitsLt_bf16_f32))⟩] concatenates_S2x2x5632_S2x8192x5632_S2x8194x5632_d1

/-- The convolution along the positions. -/
def conv (a0 : FVec Ideal S2x8192x1024 .bf16) (a1 : FVec Ideal S2x2x5632 .f32) (a2 : FVec Ideal S1024x5632 .bf16) (a3 : FVec Ideal S3x5632 .f32) (a4 : FVec Ideal S5632 .f32) : FVec Ideal S2x8192x5632 .f32 :=
  addf (broadcastInDim S2x8192x5632 ![0, 1, 2] bcast_S1x1x5632_S2x8192x5632_0_1_2 (broadcastInDim S1x1x5632 ![2] bcast_S5632_S1x1x5632_2 a4)) (addf (addf (addf (broadcastInDim S2x8192x5632 ![] bcast_S_S2x8192x5632 (constant S_ .f32 0x00000000#32)) (mulf (broadcastInDim S2x8192x5632 ![0, 1, 2] bcast_S1x1x5632_S2x8192x5632_0_1_2 (broadcastInDim S1x1x5632 ![2] bcast_S5632_S1x1x5632_2 (shapeCast _ (extractStridedSlice S1x5632 ![0, 0] a3 slices_S3x5632_S1x5632_0_0) shapeCasts_S1x5632_S5632))) (extractStridedSlice S2x8192x5632 ![0, 0, 0] (full a0 a1 a2) slices_S2x8194x5632_S2x8192x5632_0_0_0))) (mulf (broadcastInDim S2x8192x5632 ![0, 1, 2] bcast_S1x1x5632_S2x8192x5632_0_1_2 (broadcastInDim S1x1x5632 ![2] bcast_S5632_S1x1x5632_2 (shapeCast _ (extractStridedSlice S1x5632 ![1, 0] a3 slices_S3x5632_S1x5632_1_0) shapeCasts_S1x5632_S5632))) (extractStridedSlice S2x8192x5632 ![0, 1, 0] (full a0 a1 a2) slices_S2x8194x5632_S2x8192x5632_0_1_0))) (mulf (broadcastInDim S2x8192x5632 ![0, 1, 2] bcast_S1x1x5632_S2x8192x5632_0_1_2 (broadcastInDim S1x1x5632 ![2] bcast_S5632_S1x1x5632_2 (shapeCast _ (extractStridedSlice S1x5632 ![2, 0] a3 slices_S3x5632_S1x5632_2_0) shapeCasts_S1x5632_S5632))) (extractStridedSlice S2x8192x5632 ![0, 2, 0] (full a0 a1 a2) slices_S2x8194x5632_S2x8192x5632_0_2_0)))

/-- The gated activation, from the arguments. -/
def res0 (a0 : FVec Ideal S2x8192x1024 .bf16) (a1 : FVec Ideal S2x2x5632 .f32) (a2 : FVec Ideal S1024x5632 .bf16) (a3 : FVec Ideal S3x5632 .f32) (a4 : FVec Ideal S5632 .f32) : FVec Ideal S2x8192x2816 .bf16 :=
  truncf .bf16 (mulf (mulf (extractStridedSlice S2x8192x2816 ![0, 0, 0] (conv a0 a1 a2 a3 a4) slices_S2x8192x5632_S2x8192x2816_0_0_0) (Host.divf (broadcastInDim S2x8192x2816 ![] bcast_S_S2x8192x2816 (constant S_ .f32 0x3F800000#32)) (addf (broadcastInDim S2x8192x2816 ![] bcast_S_S2x8192x2816 (constant S_ .f32 0x3F800000#32)) (Host.exp (Host.negf (extractStridedSlice S2x8192x2816 ![0, 0, 0] (conv a0 a1 a2 a3 a4) slices_S2x8192x5632_S2x8192x2816_0_0_0)))))) (extractStridedSlice S2x8192x2816 ![0, 0, 2816] (conv a0 a1 a2 a3 a4) slices_S2x8192x5632_S2x8192x2816_0_0_2816)) bitsLt_bf16_f32

/-- The last two rows, from the arguments. -/
def res1 (a0 : FVec Ideal S2x8192x1024 .bf16) (a1 : FVec Ideal S2x2x5632 .f32) (a2 : FVec Ideal S1024x5632 .bf16) : FVec Ideal S2x2x5632 .f32 :=
  extractStridedSlice S2x2x5632 ![0, 8192, 0] (full a0 a1 a2) slices_S2x8194x5632_S2x2x5632_0_8192_0

/-- The up projection of a position, on a lane. -/
def up (a0 : FVec Ideal S2x8192x1024 .bf16) (a2 : FVec Ideal S1024x5632 .bf16) (b : Fin 2) (s : Fin 8192) (j : Fin 5632) : EReal :=
  ∑ k, a0 (ix3 b s k) * a2 (ix2 k j)

/-- The gate of one half of the lanes by the other. -/
def gated (x y : EReal) : EReal := x * Ideal.div 1 (1 + Ideal.exp (-x)) * y

/-- A row of `full` at an entry: one of the two rows before, or the up projection two positions back. -/
theorem full_apply (a0 : FVec Ideal S2x8192x1024 .bf16) (a1 : FVec Ideal S2x2x5632 .f32) (a2 : FVec Ideal S1024x5632 .bf16) (b : Fin 2) (p : Fin 8194) (j : Fin 5632) :
    full a0 a1 a2 (ix3 b p j) = if h : p.val < 2 then a1 (ix3 b ⟨p.val, h⟩ j) else up a0 a2 b ⟨p.val - 2, by omega⟩ j := by
  pointwise [full, up]

/-- The convolution at an entry. -/
theorem conv_apply (a0 : FVec Ideal S2x8192x1024 .bf16) (a1 : FVec Ideal S2x2x5632 .f32) (a2 : FVec Ideal S1024x5632 .bf16) (a3 : FVec Ideal S3x5632 .f32) (a4 : FVec Ideal S5632 .f32) (b : Fin 2) (s : Fin 8192) (j : Fin 5632) :
    conv a0 a1 a2 a3 a4 (ix3 b s j) = a4 (ix1 j) + a3 (ix2 0 j) * full a0 a1 a2 (ix3 b ⟨s.val, by omega⟩ j)
      + a3 (ix2 1 j) * full a0 a1 a2 (ix3 b ⟨1 + s.val, by omega⟩ j) + a3 (ix2 2 j) * full a0 a1 a2 (ix3 b ⟨2 + s.val, by omega⟩ j) := by
  pointwise [conv]
  simp only [add_assoc]

/-- The gated activation at an entry. -/
theorem res0_apply (a0 : FVec Ideal S2x8192x1024 .bf16) (a1 : FVec Ideal S2x2x5632 .f32) (a2 : FVec Ideal S1024x5632 .bf16) (a3 : FVec Ideal S3x5632 .f32) (a4 : FVec Ideal S5632 .f32) (b : Fin 2) (s : Fin 8192) (j : Fin 2816) :
    res0 a0 a1 a2 a3 a4 (ix3 b s j) = gated (conv a0 a1 a2 a3 a4 (ix3 b s ⟨j.val, by omega⟩)) (conv a0 a1 a2 a3 a4 (ix3 b s ⟨2816 + j.val, by omega⟩)) := by
  pointwise [res0, gated]

/-- The last two rows at an entry. -/
theorem res1_apply (a0 : FVec Ideal S2x8192x1024 .bf16) (a1 : FVec Ideal S2x2x5632 .f32) (a2 : FVec Ideal S1024x5632 .bf16) (b : Fin 2) (p : Fin 2) (j : Fin 5632) :
    res1 a0 a1 a2 (ix3 b p j) = up a0 a2 b ⟨8190 + p.val, by omega⟩ j := by
  have h : res1 a0 a1 a2 (ix3 b p j) = full a0 a1 a2 (ix3 b ⟨8192 + p.val, by omega⟩ j) := by pointwise [res1]
  rw [h, full_apply, dif_neg (by show ¬8192 + p.val < 2; omega)]
  congr 1
  apply Fin.ext
  show 8192 + p.val - 2 = 8190 + p.val
  omega

/-- A row of `full` two positions on is the up projection. -/
theorem full_up (a0 : FVec Ideal S2x8192x1024 .bf16) (a1 : FVec Ideal S2x2x5632 .f32) (a2 : FVec Ideal S1024x5632 .bf16) (b : Fin 2) (P : Fin 8194) (s : Fin 8192) (j : Fin 5632) (h : P.val = s.val + 2) :
    full a0 a1 a2 (ix3 b P j) = up a0 a2 b s j := by
  rw [full_apply, dif_neg (by omega)]
  congr 1
  apply Fin.ext
  show P.val - 2 = s.val
  omega

end Cert.Reference5Ideal.Rows

namespace Cert.Kernel5Ideal.Rows

open Cert.Kernel5Ideal Cert.Kernel5Ideal.Gen Cert.Kernel5Ideal.Value Cert.Rows
open Cert.Reference5Ideal.Rows

/-- The row before, of the rows `f` behind a row `c1`. -/
def prev1 (c1 : EReal) (f : Fin 256 → EReal) (r : Fin 256) : EReal :=
  if r.val = 0 then c1 else f ⟨r.val - 1, by omega⟩

/-- The row before that, of the rows `f` behind the rows `c0` and `c1`. -/
def prev2 (c0 c1 : EReal) (f : Fin 256 → EReal) (r : Fin 256) : EReal :=
  if r.val = 0 then c0 else if r.val = 1 then c1 else f ⟨r.val - 2, by omega⟩

/-- The convolution of a lane's rows with the weights `a`, `b`, `d` and the bias `z`. -/
def cv (f : Fin 256 → EReal) (c0 c1 a b d z : EReal) (r : Fin 256) : EReal :=
  z + a * prev2 c0 c1 f r + b * prev1 c1 f r + d * f r

/-- The block's up projection on a lane. -/
def tile (x0 : Vec Ideal S1x256x1024 .bf16) (x2 : Vec Ideal S1024x5632 .bf16) (r : Fin 256) (j : Fin 5632) : EReal :=
  ∑ k, x0 (ix3 0 r k) * x2 (ix2 k j)

/-- The block's convolution on a lane, behind the two rows `c0` and `c1`. -/
def tconv (x0 : Vec Ideal S1x256x1024 .bf16) (x2 : Vec Ideal S1024x5632 .bf16) (x3 : Vec Ideal S3x5632 .f32) (x4 : Vec Ideal S1x5632 .f32) (cr : Fin 2 → Fin 5632 → EReal) (r : Fin 256) (j : Fin 5632) : EReal :=
  cv (fun s => tile x0 x2 s j) (cr 0 j) (cr 1 j) (x3 (ix2 0 j)) (x3 (ix2 1 j)) (x3 (ix2 2 j)) (x4 (ix2 0 j)) r

/-- A choice on the row being the first, or the second. -/
theorem select_row (r : Fin 256) (x y : EReal) :
    Scalar.select (IntOp.cmpi CmpIPredicate.eq (BitVec.ofNat 32 r.val) 0#32) x y = (if r.val = 0 then x else y) ∧
    Scalar.select (IntOp.cmpi CmpIPredicate.eq (BitVec.ofNat 32 r.val) 1#32) x y = (if r.val = 1 then x else y) := by
  have h0 : IntOp.cmpi CmpIPredicate.eq (BitVec.ofNat 32 r.val) 0#32 = if r.val = 0 then 1#1 else 0#1 := by
    revert r; decide +kernel
  have h1 : IntOp.cmpi CmpIPredicate.eq (BitVec.ofNat 32 r.val) 1#32 = if r.val = 1 then 1#1 else 0#1 := by
    revert r; decide +kernel
  rw [h0, h1]
  constructor <;> (unfold Scalar.select; split <;> simp_all)

/-- A choice between the carried rows and the rows rotated by one, and by two. -/
theorem select_prev (f : Fin 256 → EReal) (c0 c1 : EReal) (r : Fin 256) (h1 : (r.val + 256 - 1) % 256 < 256) (h2 : (r.val + 256 - 2) % 256 < 256) :
    (if r.val = 0 then c1 else f ⟨(r.val + 256 - 1) % 256, h1⟩) = prev1 c1 f r ∧
    (if r.val = 0 then c0 else if r.val = 1 then c1 else f ⟨(r.val + 256 - 2) % 256, h2⟩) = prev2 c0 c1 f r := by
  unfold prev1 prev2
  constructor
  · split
    · rfl
    · congr 1; apply Fin.ext; show (r.val + 256 - 1) % 256 = r.val - 1; omega
  · split
    · rfl
    · split
      · rfl
      · congr 1; apply Fin.ext; show (r.val + 256 - 2) % 256 = r.val - 2; omega

/-- A chunk of the up projection, at an entry. -/
def dotW (x0 : Vec Ideal S1x256x1024 .bf16) (W : Vec Ideal S1024x1408 .bf16) (l : Fin 1408) (r : Fin 256) : EReal :=
  ∑ k, x0 (ix3 0 r k) * W (ix2 k l)

/-- The chunk at the first half's offset, gated, at an entry. -/
theorem gate0 (x0 : Vec Ideal S1x256x1024 .bf16) (W W' : Vec Ideal S1024x1408 .bf16) (p q a b d z p' q' a' b' d' z' : Vec Ideal S1x1408 .f32) (r : Fin 256) (l : Fin 1408) :
    k0_pay20 (k0_pay19 (k0_pay7 (k0_pay4 x0 W) (k0_pay5 x0 W q) (k0_pay6 x0 W p q) a b d z)
      (k0_pay11 (k0_pay3 x0) W') p' q' (k0_pay12 (k0_pay3 x0) (iota Kind.tc S256x1 32 [0] iota_S256x1_d0_w32) W' q')
      (k0_pay13 (iota Kind.tc S256x1 32 [0] iota_S256x1_d0_w32)) (k0_pay14 (k0_pay3 x0) W') (k0_pay15 (iota Kind.tc S256x1 32 [0] iota_S256x1_d0_w32)) a' b' d' z') (ix3 0 r l)
    = gated (cv (dotW x0 W l) (p (ix2 0 l)) (q (ix2 0 l)) (a (ix2 0 l)) (b (ix2 0 l)) (d (ix2 0 l)) (z (ix2 0 l)) r)
        (cv (dotW x0 W' l) (p' (ix2 0 l)) (q' (ix2 0 l)) (a' (ix2 0 l)) (b' (ix2 0 l)) (d' (ix2 0 l)) (z' (ix2 0 l)) r) := by
  pointwise [k0_pay20, k0_pay19, k0_pay7, k0_pay6, k0_pay5, k0_pay4, k0_pay3, k0_pay11, k0_pay12, k0_pay13, k0_pay14, k0_pay15]
  simp only [(select_row r _ _).1, (select_row r _ _).2, zero_sub]
  unfold gated cv
  rw [← (select_prev (dotW x0 W l) (p (ix2 0 l)) (q (ix2 0 l)) r (by omega) (by omega)).1,
    ← (select_prev (dotW x0 W l) (p (ix2 0 l)) (q (ix2 0 l)) r (by omega) (by omega)).2,
    ← (select_prev (dotW x0 W' l) (p' (ix2 0 l)) (q' (ix2 0 l)) r (by omega) (by omega)).1,
    ← (select_prev (dotW x0 W' l) (p' (ix2 0 l)) (q' (ix2 0 l)) r (by omega) (by omega)).2]
  rfl

/-- The chunk at the second half's offset, gated, at an entry. -/
theorem gate1 (x0 : Vec Ideal S1x256x1024 .bf16) (W W' : Vec Ideal S1024x1408 .bf16) (p q a b d z p' q' a' b' d' z' : Vec Ideal S1x1408 .f32) (r : Fin 256) (l : Fin 1408) :
    k0_pay1 (k0_pay37 (k0_pay25 (k0_pay21 (k0_pay3 x0) W) (k0_pay22 (k0_pay3 x0) (iota Kind.tc S256x1 32 [0] iota_S256x1_d0_w32) W q) b d (k0_pay23 z) (k0_pay24 (k0_pay3 x0) (iota Kind.tc S256x1 32 [0] iota_S256x1_d0_w32) W p q a))
      (k0_pay29 (k0_pay3 x0) W') (k0_pay30 (k0_pay3 x0) (iota Kind.tc S256x1 32 [0] iota_S256x1_d0_w32) W' q') (k0_pay31 (k0_pay3 x0) (iota Kind.tc S256x1 32 [0] iota_S256x1_d0_w32) W' q') (k0_pay32 (iota Kind.tc S256x1 32 [0] iota_S256x1_d0_w32)) (k0_pay33 p') a' b' d' z') (ix3 0 r l)
    = gated (cv (dotW x0 W l) (p (ix2 0 l)) (q (ix2 0 l)) (a (ix2 0 l)) (b (ix2 0 l)) (d (ix2 0 l)) (z (ix2 0 l)) r)
        (cv (dotW x0 W' l) (p' (ix2 0 l)) (q' (ix2 0 l)) (a' (ix2 0 l)) (b' (ix2 0 l)) (d' (ix2 0 l)) (z' (ix2 0 l)) r) := by
  pointwise [k0_pay1, k0_pay37, k0_pay25, k0_pay21, k0_pay22, k0_pay23, k0_pay24, k0_pay29, k0_pay30, k0_pay31, k0_pay32, k0_pay33, k0_pay3]
  simp only [(select_row r _ _).1, (select_row r _ _).2, zero_sub]
  unfold gated cv
  rw [← (select_prev (dotW x0 W l) (p (ix2 0 l)) (q (ix2 0 l)) r (by omega) (by omega)).1,
    ← (select_prev (dotW x0 W l) (p (ix2 0 l)) (q (ix2 0 l)) r (by omega) (by omega)).2,
    ← (select_prev (dotW x0 W' l) (p' (ix2 0 l)) (q' (ix2 0 l)) r (by omega) (by omega)).1,
    ← (select_prev (dotW x0 W' l) (p' (ix2 0 l)) (q' (ix2 0 l)) r (by omega) (by omega)).2]
  rfl

/-- The last two rows of a chunk, carried and written out, at an entry. -/
theorem last_apply (x0 : Vec Ideal S1x256x1024 .bf16) (W : Vec Ideal S1024x1408 .bf16) (p : Fin 2) (l : Fin 1408) :
    k0_pay9 (k0_pay4 x0 W) (ix2 p l) = dotW x0 W l ⟨254 + p.val, by omega⟩ ∧ k0_pay17 (k0_pay11 (k0_pay3 x0) W) (ix2 p l) = dotW x0 W l ⟨254 + p.val, by omega⟩ ∧
    k0_pay27 (k0_pay21 (k0_pay3 x0) W) (ix2 p l) = dotW x0 W l ⟨254 + p.val, by omega⟩ ∧ k0_pay35 (k0_pay29 (k0_pay3 x0) W) (ix2 p l) = dotW x0 W l ⟨254 + p.val, by omega⟩ ∧
    k0_pay10 (k0_pay4 x0 W) (ix3 0 p l) = dotW x0 W l ⟨254 + p.val, by omega⟩ ∧ k0_pay18 (k0_pay11 (k0_pay3 x0) W) (ix3 0 p l) = dotW x0 W l ⟨254 + p.val, by omega⟩ ∧
    k0_pay28 (k0_pay21 (k0_pay3 x0) W) (ix3 0 p l) = dotW x0 W l ⟨254 + p.val, by omega⟩ ∧ k0_pay36 (k0_pay29 (k0_pay3 x0) W) (ix3 0 p l) = dotW x0 W l ⟨254 + p.val, by omega⟩ := by
  refine ⟨?_, ?_, ?_, ?_, ?_, ?_, ?_, ?_⟩
  · pointwise [k0_pay9, k0_pay8, k0_pay4, k0_pay3, dotW]
  · pointwise [k0_pay17, k0_pay16, k0_pay11, k0_pay3, dotW]
  · pointwise [k0_pay27, k0_pay26, k0_pay21, k0_pay3, dotW]
  · pointwise [k0_pay35, k0_pay34, k0_pay29, k0_pay3, dotW]
  · pointwise [k0_pay10, k0_pay8, k0_pay4, k0_pay3, dotW]
  · pointwise [k0_pay18, k0_pay16, k0_pay11, k0_pay3, dotW]
  · pointwise [k0_pay28, k0_pay26, k0_pay21, k0_pay3, dotW]
  · pointwise [k0_pay36, k0_pay34, k0_pay29, k0_pay3, dotW]

/-- The carried rows at the start, at an entry. -/
theorem start_apply (x1 : Vec Ideal S1x2x5632 .f32) (p : Fin 2) (j : Fin 5632) : k0_pay2 x1 (ix2 p j) = x1 (ix3 0 p j) := by
  pointwise [k0_pay2]

/-- A load of a box of a matrix, at an entry. -/
theorem ld2 {e : EltTy} {N M n m : ℕ} (X : (⟨2, ![N, M]⟩ : Shape).Idx → Elt Ideal e) (o q : ℕ) (inb : ∀ a : Fin 2, ![o, q] a + ![n, m] a ≤ (⟨2, ![N, M]⟩ : Shape).size a) (r : Fin n) (l : Fin m) :
    View.ld X (Rect.unit (s := ⟨2, ![N, M]⟩) ![o, q] ![n, m] inb) (ix2 r l) = X (ix2 ⟨o + r.val, lt_of_lt_of_le (Nat.add_lt_add_left r.isLt o) (inb 0)⟩ ⟨q + l.val, lt_of_lt_of_le (Nat.add_lt_add_left l.isLt q) (inb 1)⟩) :=
  congrArg X (funext fun a => Fin.ext (by
    match a with
    | ⟨0, _⟩ => show o + 1 * r.val = o + r.val; omega
    | ⟨1, _⟩ => show q + 1 * l.val = q + l.val; omega))

/-- A store over whole columns of a matrix, read inside it. -/
theorem hit2 {e : EltTy} {N M m : ℕ} (q : ℕ) (inb : ∀ a : Fin 2, ![0, q] a + ![N, m] a ≤ (⟨2, ![N, M]⟩ : Shape).size a) (w : (⟨2, ![N, m]⟩ : Shape).Idx → Elt Ideal e) (L : List (View.Piece (Elt Ideal) ⟨2, ![N, M]⟩ e)) (r : Fin N) (j : Fin M) (l : Fin m) (h : j.val = q + l.val) :
    View.canon (⟨Rect.unit (s := ⟨2, ![N, M]⟩) ![0, q] ![N, m] inb, w⟩ :: L) (ix2 r j) = w (ix2 r l) := by
  have e' : (ix2 r j : (⟨2, ![N, M]⟩ : Shape).Idx) = (Rect.unit (s := ⟨2, ![N, M]⟩) ![0, q] ![N, m] inb).emb (ix2 r l) := funext fun a => Fin.ext (by
    match a with
    | ⟨0, _⟩ => show r.val = 0 + 1 * r.val; omega
    | ⟨1, _⟩ => show j.val = q + 1 * l.val; omega)
  rw [e']
  exact View.canon_cons_emb (Rect.unit (s := ⟨2, ![N, M]⟩) ![0, q] ![N, m] inb) w L (ix2 r l)

/-- A store over whole columns of a matrix, read outside it. -/
theorem miss2 {e : EltTy} {N M m : ℕ} (q : ℕ) (inb : ∀ a : Fin 2, ![0, q] a + ![N, m] a ≤ (⟨2, ![N, M]⟩ : Shape).size a) (w : (⟨2, ![N, m]⟩ : Shape).Idx → Elt Ideal e) (L : List (View.Piece (Elt Ideal) ⟨2, ![N, M]⟩ e)) (r : Fin N) (j : Fin M) (h : j.val < q ∨ q + m ≤ j.val) :
    View.canon (⟨Rect.unit (s := ⟨2, ![N, M]⟩) ![0, q] ![N, m] inb, w⟩ :: L) (ix2 r j) = View.canon L (ix2 r j) := by
  refine View.canon_cons_of_not_mem _ L fun hm => ?_
  have h2 := (Rect.mem_set_unit (inb := inb)).1 hm 1
  have h3 : q ≤ j.val ∧ j.val < q + m := h2
  omega

/-- A store over whole columns of a stack of one matrix, read inside it. -/
theorem hit3 {e : EltTy} {N M m : ℕ} (q : ℕ) (inb : ∀ a : Fin 3, ![0, 0, q] a + ![1, N, m] a ≤ (⟨3, ![1, N, M]⟩ : Shape).size a) (w : (⟨3, ![1, N, m]⟩ : Shape).Idx → Elt Ideal e) (L : List (View.Piece (Elt Ideal) ⟨3, ![1, N, M]⟩ e)) (r : Fin N) (j : Fin M) (l : Fin m) (h : j.val = q + l.val) :
    View.canon (⟨Rect.unit (s := ⟨3, ![1, N, M]⟩) ![0, 0, q] ![1, N, m] inb, w⟩ :: L) (ix3 0 r j) = w (ix3 0 r l) := by
  have e' : (ix3 0 r j : (⟨3, ![1, N, M]⟩ : Shape).Idx) = (Rect.unit (s := ⟨3, ![1, N, M]⟩) ![0, 0, q] ![1, N, m] inb).emb (ix3 0 r l) := funext fun a => Fin.ext (by
    match a with
    | ⟨0, _⟩ => rfl
    | ⟨1, _⟩ => show r.val = 0 + 1 * r.val; omega
    | ⟨2, _⟩ => show j.val = q + 1 * l.val; omega)
  rw [e']
  exact View.canon_cons_emb (Rect.unit (s := ⟨3, ![1, N, M]⟩) ![0, 0, q] ![1, N, m] inb) w L (ix3 0 r l)

/-- A store over whole columns of a stack of one matrix, read outside it. -/
theorem miss3 {e : EltTy} {N M m : ℕ} (q : ℕ) (inb : ∀ a : Fin 3, ![0, 0, q] a + ![1, N, m] a ≤ (⟨3, ![1, N, M]⟩ : Shape).size a) (w : (⟨3, ![1, N, m]⟩ : Shape).Idx → Elt Ideal e) (L : List (View.Piece (Elt Ideal) ⟨3, ![1, N, M]⟩ e)) (r : Fin N) (j : Fin M) (h : j.val < q ∨ q + m ≤ j.val) :
    View.canon (⟨Rect.unit (s := ⟨3, ![1, N, M]⟩) ![0, 0, q] ![1, N, m] inb, w⟩ :: L) (ix3 0 r j) = View.canon L (ix3 0 r j) := by
  refine View.canon_cons_of_not_mem _ L fun hm => ?_
  have h2 := (Rect.mem_set_unit (inb := inb)).1 hm 2
  have h3 : q ≤ j.val ∧ j.val < q + m := h2
  omega

/-- A chunk of the up projection is the block's, on the chunk's lanes. -/
theorem dotW_ld (x0 : Vec Ideal S1x256x1024 .bf16) (x2 : Vec Ideal S1024x5632 .bf16) (q : ℕ) (inb : ∀ a : Fin 2, ![0, q] a + ![1024, 1408] a ≤ S1024x5632.size a) (l : Fin 1408) (J : Fin 5632) (hJ : J.val = q + l.val) (r : Fin 256) :
    dotW x0 (View.ld x2 (Rect.unit (s := S1024x5632) ![0, q] ![1024, 1408] inb)) l r = tile x0 x2 r J := by
  have hlt : q + l.val < 5632 := hJ ▸ J.isLt
  obtain rfl : J = ⟨q + l.val, hlt⟩ := Fin.ext hJ
  unfold dotW tile
  refine Finset.sum_congr rfl fun k _ => congrArg (x0 (ix3 0 r k) * ·) ?_
  refine (ld2 (N := 1024) (M := 5632) (n := 1024) (m := 1408) x2 0 q inb k l).trans (congrArg x2 ?_)
  exact congrArg₂ ix2 (Fin.ext (Nat.zero_add k.val)) rfl

/-- A load of a part of a row, at an entry. -/
theorem row_ld {e : EltTy} {N : ℕ} (X : (⟨2, ![N, 5632]⟩ : Shape).Idx → Elt Ideal e) (o q : ℕ) (inb : ∀ a : Fin 2, ![o, q] a + ![1, 1408] a ≤ (⟨2, ![N, 5632]⟩ : Shape).size a) (l : Fin 1408) (R : Fin N) (J : Fin 5632) (hR : R.val = o) (hJ : J.val = q + l.val) :
    View.ld X (Rect.unit (s := ⟨2, ![N, 5632]⟩) ![o, q] ![1, 1408] inb) (ix2 0 l) = X (ix2 R J) :=
  (ld2 X o q inb 0 l).trans (congrArg X (congrArg₂ ix2 (Fin.ext hR.symm) (Fin.ext hJ.symm)))

/-- A chunk's convolution is the block's, on the chunk's lanes. -/
theorem cv_eq (x0 : Vec Ideal S1x256x1024 .bf16) (x2 : Vec Ideal S1024x5632 .bf16) (x3 : Vec Ideal S3x5632 .f32) (x4 : Vec Ideal S1x5632 .f32) (cr : Fin 2 → Fin 5632 → EReal) (q : ℕ)
    (i0 : ∀ a : Fin 2, ![0, q] a + ![1024, 1408] a ≤ S1024x5632.size a) (i1 : ∀ a : Fin 2, ![0, q] a + ![1, 1408] a ≤ S3x5632.size a) (i2 : ∀ a : Fin 2, ![1, q] a + ![1, 1408] a ≤ S3x5632.size a) (i3 : ∀ a : Fin 2, ![2, q] a + ![1, 1408] a ≤ S3x5632.size a) (i4 : ∀ a : Fin 2, ![0, q] a + ![1, 1408] a ≤ S1x5632.size a)
    (l : Fin 1408) (J : Fin 5632) (hJ : J.val = q + l.val) (c0 c1 : EReal) (h0 : c0 = cr 0 J) (h1 : c1 = cr 1 J) (r : Fin 256) :
    cv (dotW x0 (View.ld x2 (Rect.unit (s := S1024x5632) ![0, q] ![1024, 1408] i0)) l) c0 c1 (View.ld x3 (Rect.unit (s := S3x5632) ![0, q] ![1, 1408] i1) (ix2 0 l))
      (View.ld x3 (Rect.unit (s := S3x5632) ![1, q] ![1, 1408] i2) (ix2 0 l)) (View.ld x3 (Rect.unit (s := S3x5632) ![2, q] ![1, 1408] i3) (ix2 0 l))
      (View.ld x4 (Rect.unit (s := S1x5632) ![0, q] ![1, 1408] i4) (ix2 0 l)) r = tconv x0 x2 x3 x4 cr r J := by
  have e0 := row_ld (N := 3) x3 0 q i1 l 0 J rfl hJ
  have e1 := row_ld (N := 3) x3 1 q i2 l 1 J rfl hJ
  have e2 := row_ld (N := 3) x3 2 q i3 l 2 J rfl hJ
  have e3 := row_ld (N := 1) x4 0 q i4 l 0 J rfl hJ
  have ed : dotW x0 (View.ld x2 (Rect.unit (s := S1024x5632) ![0, q] ![1024, 1408] i0)) l = fun s => tile x0 x2 s J := funext fun s => dotW_ld x0 x2 q i0 l J hJ s
  unfold tconv
  rw [ed, h0, h1]
  exact congr (congr (congr (congr (congrArg (cv (fun s => tile x0 x2 s J) (cr 0 J) (cr 1 J)) e0) e1) e2) e3) rfl

/-- A load of a part of the carried rows, after stores the last of which was whole. -/
theorem carry_ld (v : View sig .tc .vmem S2x5632 .f32) (L : List (View.Piece (Elt Ideal) S2x5632 .f32)) (inb : ∀ a : Fin 2, ![0, 0] a + S2x5632.size a ≤ S2x5632.size a) (w : Vec Ideal S2x5632 .f32)
    (hm : (⟨Rect.unit (s := S2x5632) ![0, 0] S2x5632.size inb, w⟩ : View.Piece (Elt Ideal) S2x5632 .f32) ∈ L) (o q : ℕ) (inb' : ∀ a : Fin 2, ![o, q] a + ![1, 1408] a ≤ S2x5632.size a) (l : Fin 1408) (R : Fin 2) (J : Fin 5632) (hR : R.val = o) (hJ : J.val = q + l.val) :
    v.readCov L (Rect.unit (s := S2x5632) ![o, q] ![1, 1408] inb').toLoadRect (ix2 0 l) = View.canon L (ix2 R J) := by
  rw [View.readCov_eq_canon_ld v L _ (fun y => ⟨_, hm, (Rect.mem_set_unit (inb := inb)).2 fun a => by
    have := (y a).isLt
    match a with
    | ⟨0, _⟩ => exact ⟨Nat.zero_le _, by show (y 0).val < 0 + 2; have : (y 0).val < 2 := (y 0).isLt; omega⟩
    | ⟨1, _⟩ => exact ⟨Nat.zero_le _, by show (y 1).val < 0 + 5632; have : (y 1).val < 5632 := (y 1).isLt; omega⟩⟩)]
  exact row_ld (N := 2) (View.canon L) o q inb' l R J hR hJ

/-- At a batch's first point, what the body leaves in the gated block, at an entry. -/
theorem gate_A (c : Dev nD) (i : grid0.Coords) (arg2 : Memref sig .tc .vmem S1x256x1024 .bf16) (harg2 : arg2.IsWhole) (arg3 : Memref sig .tc .vmem S1x2x5632 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S1x256x2816 .bf16) (harg7 : arg7.IsWhole) (arg8 : Memref sig .tc .vmem S1x2x5632 .f32) (harg8 : arg8.IsWhole) (arg9 : Memref sig .tc .vmem S2x5632 .f32) (harg9 : arg9.IsWhole) (hc0 : cond0_0 i)
    (x0 : Vec Ideal S1x256x1024 .bf16) (x1 : Vec Ideal S1x2x5632 .f32) (x2 : Vec Ideal S1024x5632 .bf16) (x3 : Vec Ideal S3x5632 .f32) (x4 : Vec Ideal S1x5632 .f32) (r : Fin 256) (j : Fin 2816) :
    out0_A_5 c i arg2 harg2 arg3 harg3 arg4 harg4 arg5 harg5 arg6 harg6 arg7 harg7 arg8 harg8 arg9 harg9 hc0 x0 x1 x2 x3 x4 (ix3 0 r j) = gated (tconv x0 x2 x3 x4 (fun p j => x1 (ix3 0 p j)) r ⟨j.val, by omega⟩) (tconv x0 x2 x3 x4 (fun p j => x1 (ix3 0 p j)) r ⟨2816 + j.val, by omega⟩) := by
  have eX : View.ld x0 (Rect.unit (s := S1x256x1024) ![0, 0, 0] S1x256x1024.size inb_S1x256x1024_S1x256x1024_0_0_0) = x0 := View.ld_unit_zero off3 _ _
  have eP : View.ld x1 (Rect.unit (s := S1x2x5632) ![0, 0, 0] S1x2x5632.size inb_S1x2x5632_S1x2x5632_0_0_0) = x1 := View.ld_unit_zero off3 _ _
  dsimp only at eX eP
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  sl_unfold_words
  simp only [View.readAt_eq_ld, harg2.read_unread, harg3.read_unread, harg4.read_unread, harg5.read_unread, harg6.read_unread, harg9.read_unread, eX, eP]
  by_cases h : j.val < 1408
  · refine (miss3 (N := 256) (M := 2816) (m := 1408) _ _ _ _ _ _ (Or.inl h)).trans ?_
    refine (hit3 (N := 256) (M := 2816) (m := 1408) _ _ _ _ _ _ ⟨j.val, h⟩ (Nat.zero_add _).symm).trans ?_
    refine (gate0 ..).trans ?_
    exact congrArg₂ gated
      (cv_eq x0 x2 x3 x4 (fun p j => x1 (ix3 0 p j)) 0 _ _ _ _ _ _ _ (Nat.zero_add _).symm _ _ ((carry_ld _ _ _ _ (.head _) 0 0 _ _ 0 _ rfl ((Nat.zero_add _).symm)).trans ((hit2 (N := 2) (M := 5632) (m := 5632) 0 _ _ _ _ _ _ (Nat.zero_add _).symm).trans (start_apply x1 _ _))) ((carry_ld _ _ _ _ (.head _) 1 0 _ _ 1 _ rfl ((Nat.zero_add _).symm)).trans ((hit2 (N := 2) (M := 5632) (m := 5632) 0 _ _ _ _ _ _ (Nat.zero_add _).symm).trans (start_apply x1 _ _))) r)
      (cv_eq x0 x2 x3 x4 (fun p j => x1 (ix3 0 p j)) 2816 _ _ _ _ _ _ _ rfl _ _ ((carry_ld _ _ _ _ (.tail _ (.head _)) 0 2816 _ _ 0 _ rfl (rfl)).trans ((miss2 (N := 2) (M := 5632) (m := 1408) _ _ _ _ _ _ (by dsimp only; omega)).trans ((hit2 (N := 2) (M := 5632) (m := 5632) 0 _ _ _ _ _ _ (Nat.zero_add _).symm).trans (start_apply x1 _ _)))) ((carry_ld _ _ _ _ (.tail _ (.head _)) 1 2816 _ _ 1 _ rfl (rfl)).trans ((miss2 (N := 2) (M := 5632) (m := 1408) _ _ _ _ _ _ (by dsimp only; omega)).trans ((hit2 (N := 2) (M := 5632) (m := 5632) 0 _ _ _ _ _ _ (Nat.zero_add _).symm).trans (start_apply x1 _ _)))) r)
  · refine (hit3 (N := 256) (M := 2816) (m := 1408) _ _ _ _ _ _ ⟨j.val - 1408, by omega⟩ (by dsimp only; omega)).trans ?_
    refine (gate1 ..).trans ?_
    exact congrArg₂ gated
      (cv_eq x0 x2 x3 x4 (fun p j => x1 (ix3 0 p j)) 1408 _ _ _ _ _ _ _ (by dsimp only; omega) _ _ ((carry_ld _ _ _ _ (.tail _ (.tail _ (.head _))) 0 1408 _ _ 0 _ rfl (by dsimp only; omega)).trans ((miss2 (N := 2) (M := 5632) (m := 1408) _ _ _ _ _ _ (by dsimp only; omega)).trans ((miss2 (N := 2) (M := 5632) (m := 1408) _ _ _ _ _ _ (by dsimp only; omega)).trans ((hit2 (N := 2) (M := 5632) (m := 5632) 0 _ _ _ _ _ _ (Nat.zero_add _).symm).trans (start_apply x1 _ _))))) ((carry_ld _ _ _ _ (.tail _ (.tail _ (.head _))) 1 1408 _ _ 1 _ rfl (by dsimp only; omega)).trans ((miss2 (N := 2) (M := 5632) (m := 1408) _ _ _ _ _ _ (by dsimp only; omega)).trans ((miss2 (N := 2) (M := 5632) (m := 1408) _ _ _ _ _ _ (by dsimp only; omega)).trans ((hit2 (N := 2) (M := 5632) (m := 5632) 0 _ _ _ _ _ _ (Nat.zero_add _).symm).trans (start_apply x1 _ _))))) r)
      (cv_eq x0 x2 x3 x4 (fun p j => x1 (ix3 0 p j)) 4224 _ _ _ _ _ _ _ (by dsimp only; omega) _ _ ((carry_ld _ _ _ _ (.tail _ (.tail _ (.tail _ (.head _)))) 0 4224 _ _ 0 _ rfl (by dsimp only; omega)).trans ((miss2 (N := 2) (M := 5632) (m := 1408) _ _ _ _ _ _ (by dsimp only; omega)).trans ((miss2 (N := 2) (M := 5632) (m := 1408) _ _ _ _ _ _ (by dsimp only; omega)).trans ((miss2 (N := 2) (M := 5632) (m := 1408) _ _ _ _ _ _ (by dsimp only; omega)).trans ((hit2 (N := 2) (M := 5632) (m := 5632) 0 _ _ _ _ _ _ (Nat.zero_add _).symm).trans (start_apply x1 _ _)))))) ((carry_ld _ _ _ _ (.tail _ (.tail _ (.tail _ (.head _)))) 1 4224 _ _ 1 _ rfl (by dsimp only; omega)).trans ((miss2 (N := 2) (M := 5632) (m := 1408) _ _ _ _ _ _ (by dsimp only; omega)).trans ((miss2 (N := 2) (M := 5632) (m := 1408) _ _ _ _ _ _ (by dsimp only; omega)).trans ((miss2 (N := 2) (M := 5632) (m := 1408) _ _ _ _ _ _ (by dsimp only; omega)).trans ((hit2 (N := 2) (M := 5632) (m := 5632) 0 _ _ _ _ _ _ (Nat.zero_add _).symm).trans (start_apply x1 _ _)))))) r)

/-- At a batch's first point, what the body leaves in the carried rows, at an entry. -/
theorem carry_A (c : Dev nD) (i : grid0.Coords) (arg2 : Memref sig .tc .vmem S1x256x1024 .bf16) (harg2 : arg2.IsWhole) (arg3 : Memref sig .tc .vmem S1x2x5632 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S1x256x2816 .bf16) (harg7 : arg7.IsWhole) (arg8 : Memref sig .tc .vmem S1x2x5632 .f32) (harg8 : arg8.IsWhole) (arg9 : Memref sig .tc .vmem S2x5632 .f32) (harg9 : arg9.IsWhole) (hc0 : cond0_0 i)
    (x0 : Vec Ideal S1x256x1024 .bf16) (x1 : Vec Ideal S1x2x5632 .f32) (x2 : Vec Ideal S1024x5632 .bf16) (x3 : Vec Ideal S3x5632 .f32) (x4 : Vec Ideal S1x5632 .f32) (p : Fin 2) (j : Fin 5632) :
    sout0_A_0 c i arg2 harg2 arg3 harg3 arg4 harg4 arg5 harg5 arg6 harg6 arg7 harg7 arg8 harg8 arg9 harg9 hc0 x0 x1 x2 x3 x4 (ix2 p j) = tile x0 x2 ⟨254 + p.val, by omega⟩ j := by
  have eX : View.ld x0 (Rect.unit (s := S1x256x1024) ![0, 0, 0] S1x256x1024.size inb_S1x256x1024_S1x256x1024_0_0_0) = x0 := View.ld_unit_zero off3 _ _
  have eP : View.ld x1 (Rect.unit (s := S1x2x5632) ![0, 0, 0] S1x2x5632.size inb_S1x2x5632_S1x2x5632_0_0_0) = x1 := View.ld_unit_zero off3 _ _
  dsimp only at eX eP
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4)]
  unfold kernelRun0_A
  dsimp only
  sl_unfold_words
  simp only [View.readAt_eq_ld, harg2.read_unread, harg3.read_unread, harg4.read_unread, harg5.read_unread, harg6.read_unread, harg9.read_unread, eX, eP]
  obtain h | h | h | h : j.val < 1408 ∨ (1408 ≤ j.val ∧ j.val < 2816) ∨ (2816 ≤ j.val ∧ j.val < 4224) ∨ 4224 ≤ j.val := by omega
  · refine (miss2 (N := 2) (M := 5632) (m := 1408) _ _ _ _ _ _ (by omega)).trans ?_
    refine (miss2 (N := 2) (M := 5632) (m := 1408) _ _ _ _ _ _ (by omega)).trans ?_
    refine (miss2 (N := 2) (M := 5632) (m := 1408) _ _ _ _ _ _ (by omega)).trans ?_
    refine (hit2 (N := 2) (M := 5632) (m := 1408) _ _ _ _ _ _ ⟨j.val - 0, by omega⟩ (by dsimp only; omega)).trans ?_
    exact ((last_apply x0 _ p _).1).trans (dotW_ld x0 x2 0 _ _ j (by dsimp only; omega) _)
  · refine (miss2 (N := 2) (M := 5632) (m := 1408) _ _ _ _ _ _ (by omega)).trans ?_
    refine (hit2 (N := 2) (M := 5632) (m := 1408) _ _ _ _ _ _ ⟨j.val - 1408, by omega⟩ (by dsimp only; omega)).trans ?_
    exact ((last_apply x0 _ p _).2.2.1).trans (dotW_ld x0 x2 1408 _ _ j (by dsimp only; omega) _)
  · refine (miss2 (N := 2) (M := 5632) (m := 1408) _ _ _ _ _ _ (by omega)).trans ?_
    refine (miss2 (N := 2) (M := 5632) (m := 1408) _ _ _ _ _ _ (by omega)).trans ?_
    refine (hit2 (N := 2) (M := 5632) (m := 1408) _ _ _ _ _ _ ⟨j.val - 2816, by omega⟩ (by dsimp only; omega)).trans ?_
    exact ((last_apply x0 _ p _).2.1).trans (dotW_ld x0 x2 2816 _ _ j (by dsimp only; omega) _)
  · refine (hit2 (N := 2) (M := 5632) (m := 1408) _ _ _ _ _ _ ⟨j.val - 4224, by omega⟩ (by dsimp only; omega)).trans ?_
    exact ((last_apply x0 _ p _).2.2.2.1).trans (dotW_ld x0 x2 4224 _ _ j (by dsimp only; omega) _)

/-- At a batch's first point, what the body leaves in the rows written out, at an entry. -/
theorem state_A (c : Dev nD) (i : grid0.Coords) (arg2 : Memref sig .tc .vmem S1x256x1024 .bf16) (harg2 : arg2.IsWhole) (arg3 : Memref sig .tc .vmem S1x2x5632 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S1x256x2816 .bf16) (harg7 : arg7.IsWhole) (arg8 : Memref sig .tc .vmem S1x2x5632 .f32) (harg8 : arg8.IsWhole) (arg9 : Memref sig .tc .vmem S2x5632 .f32) (harg9 : arg9.IsWhole) (hc0 : cond0_0 i)
    (x0 : Vec Ideal S1x256x1024 .bf16) (x1 : Vec Ideal S1x2x5632 .f32) (x2 : Vec Ideal S1024x5632 .bf16) (x3 : Vec Ideal S3x5632 .f32) (x4 : Vec Ideal S1x5632 .f32) (p : Fin 2) (j : Fin 5632) :
    out0_A_6 c i arg2 harg2 arg3 harg3 arg4 harg4 arg5 harg5 arg6 harg6 arg7 harg7 arg8 harg8 arg9 harg9 hc0 x0 x1 x2 x3 x4 (ix3 0 p j) = tile x0 x2 ⟨254 + p.val, by omega⟩ j := by
  have eX : View.ld x0 (Rect.unit (s := S1x256x1024) ![0, 0, 0] S1x256x1024.size inb_S1x256x1024_S1x256x1024_0_0_0) = x0 := View.ld_unit_zero off3 _ _
  have eP : View.ld x1 (Rect.unit (s := S1x2x5632) ![0, 0, 0] S1x2x5632.size inb_S1x2x5632_S1x2x5632_0_0_0) = x1 := View.ld_unit_zero off3 _ _
  dsimp only at eX eP
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4)]
  unfold kernelRun0_A
  dsimp only
  sl_unfold_words
  simp only [View.readAt_eq_ld, harg2.read_unread, harg3.read_unread, harg4.read_unread, harg5.read_unread, harg6.read_unread, harg9.read_unread, eX, eP]
  obtain h | h | h | h : j.val < 1408 ∨ (1408 ≤ j.val ∧ j.val < 2816) ∨ (2816 ≤ j.val ∧ j.val < 4224) ∨ 4224 ≤ j.val := by omega
  · refine (miss3 (N := 2) (M := 5632) (m := 1408) _ _ _ _ _ _ (by omega)).trans ?_
    refine (miss3 (N := 2) (M := 5632) (m := 1408) _ _ _ _ _ _ (by omega)).trans ?_
    refine (miss3 (N := 2) (M := 5632) (m := 1408) _ _ _ _ _ _ (by omega)).trans ?_
    refine (hit3 (N := 2) (M := 5632) (m := 1408) _ _ _ _ _ _ ⟨j.val - 0, by omega⟩ (by dsimp only; omega)).trans ?_
    exact ((last_apply x0 _ p _).2.2.2.2.1).trans (dotW_ld x0 x2 0 _ _ j (by dsimp only; omega) _)
  · refine (miss3 (N := 2) (M := 5632) (m := 1408) _ _ _ _ _ _ (by omega)).trans ?_
    refine (hit3 (N := 2) (M := 5632) (m := 1408) _ _ _ _ _ _ ⟨j.val - 1408, by omega⟩ (by dsimp only; omega)).trans ?_
    exact ((last_apply x0 _ p _).2.2.2.2.2.2.1).trans (dotW_ld x0 x2 1408 _ _ j (by dsimp only; omega) _)
  · refine (miss3 (N := 2) (M := 5632) (m := 1408) _ _ _ _ _ _ (by omega)).trans ?_
    refine (miss3 (N := 2) (M := 5632) (m := 1408) _ _ _ _ _ _ (by omega)).trans ?_
    refine (hit3 (N := 2) (M := 5632) (m := 1408) _ _ _ _ _ _ ⟨j.val - 2816, by omega⟩ (by dsimp only; omega)).trans ?_
    exact ((last_apply x0 _ p _).2.2.2.2.2.1).trans (dotW_ld x0 x2 2816 _ _ j (by dsimp only; omega) _)
  · refine (hit3 (N := 2) (M := 5632) (m := 1408) _ _ _ _ _ _ ⟨j.val - 4224, by omega⟩ (by dsimp only; omega)).trans ?_
    exact ((last_apply x0 _ p _).2.2.2.2.2.2.2).trans (dotW_ld x0 x2 4224 _ _ j (by dsimp only; omega) _)

/-- At a later point, what the body leaves in the gated block, at an entry. -/
theorem gate_B (c : Dev nD) (i : grid0.Coords) (arg2 : Memref sig .tc .vmem S1x256x1024 .bf16) (harg2 : arg2.IsWhole) (arg3 : Memref sig .tc .vmem S1x2x5632 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S1x256x2816 .bf16) (harg7 : arg7.IsWhole) (arg8 : Memref sig .tc .vmem S1x2x5632 .f32) (harg8 : arg8.IsWhole) (arg9 : Memref sig .tc .vmem S2x5632 .f32) (harg9 : arg9.IsWhole) (hc0 : ¬cond0_0 i)
    (x0 : Vec Ideal S1x256x1024 .bf16) (x1 : Vec Ideal S1x2x5632 .f32) (x2 : Vec Ideal S1024x5632 .bf16) (x3 : Vec Ideal S3x5632 .f32) (x4 : Vec Ideal S1x5632 .f32) (xs0 : Vec Ideal S2x5632 .f32) (r : Fin 256) (j : Fin 2816) :
    out0_B_5 c i arg2 harg2 arg3 harg3 arg4 harg4 arg5 harg5 arg6 harg6 arg7 harg7 arg8 harg8 arg9 harg9 hc0 x0 x1 x2 x3 x4 xs0 (ix3 0 r j) = gated (tconv x0 x2 x3 x4 (fun p j => xs0 (ix2 p j)) r ⟨j.val, by omega⟩) (tconv x0 x2 x3 x4 (fun p j => xs0 (ix2 p j)) r ⟨2816 + j.val, by omega⟩) := by
  have eX : View.ld x0 (Rect.unit (s := S1x256x1024) ![0, 0, 0] S1x256x1024.size inb_S1x256x1024_S1x256x1024_0_0_0) = x0 := View.ld_unit_zero off3 _ _
  have eP : View.ld x1 (Rect.unit (s := S1x2x5632) ![0, 0, 0] S1x2x5632.size inb_S1x2x5632_S1x2x5632_0_0_0) = x1 := View.ld_unit_zero off3 _ _
  dsimp only at eX eP
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 x4 xs0)]
  unfold kernelRun0_B
  dsimp only
  sl_unfold_words
  simp only [View.readAt_eq_ld, harg2.read_unread, harg3.read_unread, harg4.read_unread, harg5.read_unread, harg6.read_unread, harg9.read_unread, eX, eP]
  by_cases h : j.val < 1408
  · refine (miss3 (N := 256) (M := 2816) (m := 1408) _ _ _ _ _ _ (Or.inl h)).trans ?_
    refine (hit3 (N := 256) (M := 2816) (m := 1408) _ _ _ _ _ _ ⟨j.val, h⟩ (Nat.zero_add _).symm).trans ?_
    refine (gate0 ..).trans ?_
    exact congrArg₂ gated
      (cv_eq x0 x2 x3 x4 (fun p j => xs0 (ix2 p j)) 0 _ _ _ _ _ _ _ (Nat.zero_add _).symm _ _ (row_ld (N := 2) xs0 0 0 _ _ 0 _ rfl ((Nat.zero_add _).symm)) (row_ld (N := 2) xs0 1 0 _ _ 1 _ rfl ((Nat.zero_add _).symm)) r)
      (cv_eq x0 x2 x3 x4 (fun p j => xs0 (ix2 p j)) 2816 _ _ _ _ _ _ _ rfl _ _ (row_ld (N := 2) xs0 0 2816 _ _ 0 _ rfl (rfl)) (row_ld (N := 2) xs0 1 2816 _ _ 1 _ rfl (rfl)) r)
  · refine (hit3 (N := 256) (M := 2816) (m := 1408) _ _ _ _ _ _ ⟨j.val - 1408, by omega⟩ (by dsimp only; omega)).trans ?_
    refine (gate1 ..).trans ?_
    exact congrArg₂ gated
      (cv_eq x0 x2 x3 x4 (fun p j => xs0 (ix2 p j)) 1408 _ _ _ _ _ _ _ (by dsimp only; omega) _ _ (row_ld (N := 2) xs0 0 1408 _ _ 0 _ rfl (by dsimp only; omega)) (row_ld (N := 2) xs0 1 1408 _ _ 1 _ rfl (by dsimp only; omega)) r)
      (cv_eq x0 x2 x3 x4 (fun p j => xs0 (ix2 p j)) 4224 _ _ _ _ _ _ _ (by dsimp only; omega) _ _ (row_ld (N := 2) xs0 0 4224 _ _ 0 _ rfl (by dsimp only; omega)) (row_ld (N := 2) xs0 1 4224 _ _ 1 _ rfl (by dsimp only; omega)) r)

/-- At a later point, what the body leaves in the carried rows, at an entry. -/
theorem carry_B (c : Dev nD) (i : grid0.Coords) (arg2 : Memref sig .tc .vmem S1x256x1024 .bf16) (harg2 : arg2.IsWhole) (arg3 : Memref sig .tc .vmem S1x2x5632 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S1x256x2816 .bf16) (harg7 : arg7.IsWhole) (arg8 : Memref sig .tc .vmem S1x2x5632 .f32) (harg8 : arg8.IsWhole) (arg9 : Memref sig .tc .vmem S2x5632 .f32) (harg9 : arg9.IsWhole) (hc0 : ¬cond0_0 i)
    (x0 : Vec Ideal S1x256x1024 .bf16) (x1 : Vec Ideal S1x2x5632 .f32) (x2 : Vec Ideal S1024x5632 .bf16) (x3 : Vec Ideal S3x5632 .f32) (x4 : Vec Ideal S1x5632 .f32) (xs0 : Vec Ideal S2x5632 .f32) (p : Fin 2) (j : Fin 5632) :
    sout0_B_0 c i arg2 harg2 arg3 harg3 arg4 harg4 arg5 harg5 arg6 harg6 arg7 harg7 arg8 harg8 arg9 harg9 hc0 x0 x1 x2 x3 x4 xs0 (ix2 p j) = tile x0 x2 ⟨254 + p.val, by omega⟩ j := by
  have eX : View.ld x0 (Rect.unit (s := S1x256x1024) ![0, 0, 0] S1x256x1024.size inb_S1x256x1024_S1x256x1024_0_0_0) = x0 := View.ld_unit_zero off3 _ _
  have eP : View.ld x1 (Rect.unit (s := S1x2x5632) ![0, 0, 0] S1x2x5632.size inb_S1x2x5632_S1x2x5632_0_0_0) = x1 := View.ld_unit_zero off3 _ _
  dsimp only at eX eP
  unfold sout0_B_0
  rw [View.read_writes_eq_canon _ _ _ (scover0_B_0 c i arg2 harg2 arg3 harg3 arg4 harg4 arg5 harg5 arg6 harg6 arg7 harg7 arg8 harg8 arg9 harg9 hc0 x0 x1 x2 x3 x4 xs0)]
  unfold kernelRun0_B
  dsimp only
  sl_unfold_words
  simp only [View.readAt_eq_ld, harg2.read_unread, harg3.read_unread, harg4.read_unread, harg5.read_unread, harg6.read_unread, harg9.read_unread, eX, eP]
  obtain h | h | h | h : j.val < 1408 ∨ (1408 ≤ j.val ∧ j.val < 2816) ∨ (2816 ≤ j.val ∧ j.val < 4224) ∨ 4224 ≤ j.val := by omega
  · refine (miss2 (N := 2) (M := 5632) (m := 1408) _ _ _ _ _ _ (by omega)).trans ?_
    refine (miss2 (N := 2) (M := 5632) (m := 1408) _ _ _ _ _ _ (by omega)).trans ?_
    refine (miss2 (N := 2) (M := 5632) (m := 1408) _ _ _ _ _ _ (by omega)).trans ?_
    refine (hit2 (N := 2) (M := 5632) (m := 1408) _ _ _ _ _ _ ⟨j.val - 0, by omega⟩ (by dsimp only; omega)).trans ?_
    exact ((last_apply x0 _ p _).1).trans (dotW_ld x0 x2 0 _ _ j (by dsimp only; omega) _)
  · refine (miss2 (N := 2) (M := 5632) (m := 1408) _ _ _ _ _ _ (by omega)).trans ?_
    refine (hit2 (N := 2) (M := 5632) (m := 1408) _ _ _ _ _ _ ⟨j.val - 1408, by omega⟩ (by dsimp only; omega)).trans ?_
    exact ((last_apply x0 _ p _).2.2.1).trans (dotW_ld x0 x2 1408 _ _ j (by dsimp only; omega) _)
  · refine (miss2 (N := 2) (M := 5632) (m := 1408) _ _ _ _ _ _ (by omega)).trans ?_
    refine (miss2 (N := 2) (M := 5632) (m := 1408) _ _ _ _ _ _ (by omega)).trans ?_
    refine (hit2 (N := 2) (M := 5632) (m := 1408) _ _ _ _ _ _ ⟨j.val - 2816, by omega⟩ (by dsimp only; omega)).trans ?_
    exact ((last_apply x0 _ p _).2.1).trans (dotW_ld x0 x2 2816 _ _ j (by dsimp only; omega) _)
  · refine (hit2 (N := 2) (M := 5632) (m := 1408) _ _ _ _ _ _ ⟨j.val - 4224, by omega⟩ (by dsimp only; omega)).trans ?_
    exact ((last_apply x0 _ p _).2.2.2.1).trans (dotW_ld x0 x2 4224 _ _ j (by dsimp only; omega) _)

/-- At a later point, what the body leaves in the rows written out, at an entry. -/
theorem state_B (c : Dev nD) (i : grid0.Coords) (arg2 : Memref sig .tc .vmem S1x256x1024 .bf16) (harg2 : arg2.IsWhole) (arg3 : Memref sig .tc .vmem S1x2x5632 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S1x256x2816 .bf16) (harg7 : arg7.IsWhole) (arg8 : Memref sig .tc .vmem S1x2x5632 .f32) (harg8 : arg8.IsWhole) (arg9 : Memref sig .tc .vmem S2x5632 .f32) (harg9 : arg9.IsWhole) (hc0 : ¬cond0_0 i)
    (x0 : Vec Ideal S1x256x1024 .bf16) (x1 : Vec Ideal S1x2x5632 .f32) (x2 : Vec Ideal S1024x5632 .bf16) (x3 : Vec Ideal S3x5632 .f32) (x4 : Vec Ideal S1x5632 .f32) (xs0 : Vec Ideal S2x5632 .f32) (p : Fin 2) (j : Fin 5632) :
    out0_B_6 c i arg2 harg2 arg3 harg3 arg4 harg4 arg5 harg5 arg6 harg6 arg7 harg7 arg8 harg8 arg9 harg9 hc0 x0 x1 x2 x3 x4 xs0 (ix3 0 p j) = tile x0 x2 ⟨254 + p.val, by omega⟩ j := by
  have eX : View.ld x0 (Rect.unit (s := S1x256x1024) ![0, 0, 0] S1x256x1024.size inb_S1x256x1024_S1x256x1024_0_0_0) = x0 := View.ld_unit_zero off3 _ _
  have eP : View.ld x1 (Rect.unit (s := S1x2x5632) ![0, 0, 0] S1x2x5632.size inb_S1x2x5632_S1x2x5632_0_0_0) = x1 := View.ld_unit_zero off3 _ _
  dsimp only at eX eP
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 xs0)]
  unfold kernelRun0_B
  dsimp only
  sl_unfold_words
  simp only [View.readAt_eq_ld, harg2.read_unread, harg3.read_unread, harg4.read_unread, harg5.read_unread, harg6.read_unread, harg9.read_unread, eX, eP]
  obtain h | h | h | h : j.val < 1408 ∨ (1408 ≤ j.val ∧ j.val < 2816) ∨ (2816 ≤ j.val ∧ j.val < 4224) ∨ 4224 ≤ j.val := by omega
  · refine (miss3 (N := 2) (M := 5632) (m := 1408) _ _ _ _ _ _ (by omega)).trans ?_
    refine (miss3 (N := 2) (M := 5632) (m := 1408) _ _ _ _ _ _ (by omega)).trans ?_
    refine (miss3 (N := 2) (M := 5632) (m := 1408) _ _ _ _ _ _ (by omega)).trans ?_
    refine (hit3 (N := 2) (M := 5632) (m := 1408) _ _ _ _ _ _ ⟨j.val - 0, by omega⟩ (by dsimp only; omega)).trans ?_
    exact ((last_apply x0 _ p _).2.2.2.2.1).trans (dotW_ld x0 x2 0 _ _ j (by dsimp only; omega) _)
  · refine (miss3 (N := 2) (M := 5632) (m := 1408) _ _ _ _ _ _ (by omega)).trans ?_
    refine (hit3 (N := 2) (M := 5632) (m := 1408) _ _ _ _ _ _ ⟨j.val - 1408, by omega⟩ (by dsimp only; omega)).trans ?_
    exact ((last_apply x0 _ p _).2.2.2.2.2.2.1).trans (dotW_ld x0 x2 1408 _ _ j (by dsimp only; omega) _)
  · refine (miss3 (N := 2) (M := 5632) (m := 1408) _ _ _ _ _ _ (by omega)).trans ?_
    refine (miss3 (N := 2) (M := 5632) (m := 1408) _ _ _ _ _ _ (by omega)).trans ?_
    refine (hit3 (N := 2) (M := 5632) (m := 1408) _ _ _ _ _ _ ⟨j.val - 2816, by omega⟩ (by dsimp only; omega)).trans ?_
    exact ((last_apply x0 _ p _).2.2.2.2.2.1).trans (dotW_ld x0 x2 2816 _ _ j (by dsimp only; omega) _)
  · refine (hit3 (N := 2) (M := 5632) (m := 1408) _ _ _ _ _ _ ⟨j.val - 4224, by omega⟩ (by dsimp only; omega)).trans ?_
    exact ((last_apply x0 _ p _).2.2.2.2.2.2.2).trans (dotW_ld x0 x2 4224 _ _ j (by dsimp only; omega) _)

end Cert.Kernel5Ideal.Rows

end
-- ==== Proof.UpConv.lean ====
/-
  The up projection with its convolution along the positions and its gate: over the grid.
-/
module

public import proofs.«01_k».proof.Proof.UpTile
public import proofs.«01_k».proof.Proof.Gen.Kernel5Ideal.Value
public import proofs.«01_k».proof.Proof.Gen.Reference5Ideal.Run
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.Kernel5Ideal.Rows

open Cert.Kernel5Ideal Cert.Kernel5Ideal.Gen Cert.Kernel5Ideal.Value Cert.Rows
open Cert.Reference5Ideal.Rows

variable (m : (ℓ : Loc nD τ sig) → Buf (Elt Ideal) ℓ)

/-- There are 64 grid points. -/
theorem points (t : Fin cfg0.N) : t.val < 64 := by
  have := t.isLt
  have hN : cfg0.N = 64 := N_0
  omega

/-- Where window 0's block lies at a grid point. -/
theorem idx0 : ∀ t : Fin cfg0.N, win0_0.index t 0 = t.val / 32 ∧ win0_0.index t 1 = t.val % 32 ∧ win0_0.index t 2 = 0 := by
  decide +kernel

/-- Where window 1's block lies at a grid point. -/
theorem idx1 : ∀ t : Fin cfg0.N, win0_1.index t 0 = t.val / 32 ∧ win0_1.index t 1 = 0 ∧ win0_1.index t 2 = 0 := by
  decide +kernel

/-- Where window 2's block lies at a grid point. -/
theorem idx2 : ∀ t : Fin cfg0.N, win0_2.index t 0 = 0 ∧ win0_2.index t 1 = 0 := by
  decide +kernel

/-- Where window 3's block lies at a grid point. -/
theorem idx3 : ∀ t : Fin cfg0.N, win0_3.index t 0 = 0 ∧ win0_3.index t 1 = 0 := by
  decide +kernel

/-- Where window 4's block lies at a grid point. -/
theorem idx4 : ∀ t : Fin cfg0.N, win0_4.index t 0 = 0 ∧ win0_4.index t 1 = 0 := by
  decide +kernel

/-- Where window 5's block lies at a grid point. -/
theorem idx5 : ∀ t : Fin cfg0.N, win0_5.index t 0 = t.val / 32 ∧ win0_5.index t 1 = t.val % 32 ∧ win0_5.index t 2 = 0 := by
  decide +kernel

/-- Where window 6's block lies at a grid point. -/
theorem idx6 : ∀ t : Fin cfg0.N, win0_6.index t 0 = t.val / 32 ∧ win0_6.index t 1 = 0 ∧ win0_6.index t 2 = 0 := by
  decide +kernel

/-- The rows at a grid point. -/
theorem block0 (c : Dev nD) (t : Fin cfg0.N) (r : Fin 256) (l : Fin 1024) :
    (iblk m c 0 t : Vec Ideal S1x256x1024 .bf16) (ix3 0 r l) = (m ((c : Thread nD τ).loc main_arg0) : Vec Ideal S2x8192x1024 .bf16)
      (ix3 ⟨t.val / 32, by have := points t; omega⟩ ⟨t.val % 32 * 256 + r.val, by have := points t; omega⟩ l) := by
  obtain ⟨h0, h1, h2⟩ := idx0 t
  unfold iblk
  rw [View.read_apply]
  show V m c main_arg0 _ = _
  rw [V_main_arg0]
  congr 1
  funext a
  apply Fin.ext
  match a with
  | ⟨0, _⟩ => show win0_0.index t 0 * 1 + 1 * 0 = t.val / 32; rw [h0]; try omega
  | ⟨1, _⟩ => show win0_0.index t 1 * 256 + 1 * r.val = t.val % 32 * 256 + r.val; rw [h1]; try omega
  | ⟨2, _⟩ => show win0_0.index t 2 * 1024 + 1 * l.val = l.val; rw [h2]; try omega

/-- The rows before the first, at a grid point. -/
theorem block1 (c : Dev nD) (t : Fin cfg0.N) (p : Fin 2) (l : Fin 5632) :
    (iblk m c 1 t : Vec Ideal S1x2x5632 .f32) (ix3 0 p l) = (m ((c : Thread nD τ).loc main_arg1) : Vec Ideal S2x2x5632 .f32)
      (ix3 ⟨t.val / 32, by have := points t; omega⟩ p l) := by
  obtain ⟨h0, h1, h2⟩ := idx1 t
  unfold iblk
  rw [View.read_apply]
  show V m c main_arg1 _ = _
  rw [V_main_arg1]
  congr 1
  funext a
  apply Fin.ext
  match a with
  | ⟨0, _⟩ => show win0_1.index t 0 * 1 + 1 * 0 = t.val / 32; rw [h0]; try omega
  | ⟨1, _⟩ => show win0_1.index t 1 * 2 + 1 * p.val = p.val; rw [h1]; try omega
  | ⟨2, _⟩ => show win0_1.index t 2 * 5632 + 1 * l.val = l.val; rw [h2]; try omega

/-- The weights of the up projection. -/
theorem block2 (c : Dev nD) (t : Fin cfg0.N) (r : Fin 1024) (l : Fin 5632) :
    (iblk m c 2 t : Vec Ideal S1024x5632 .bf16) (ix2 r l) = (m ((c : Thread nD τ).loc main_arg2) : Vec Ideal S1024x5632 .bf16)
      (ix2 r l) := by
  obtain ⟨h0, h1⟩ := idx2 t
  unfold iblk
  rw [View.read_apply]
  show V m c main_arg2 _ = _
  rw [V_main_arg2]
  congr 1
  funext a
  apply Fin.ext
  match a with
  | ⟨0, _⟩ => show win0_2.index t 0 * 1024 + 1 * r.val = r.val; rw [h0]; try omega
  | ⟨1, _⟩ => show win0_2.index t 1 * 5632 + 1 * l.val = l.val; rw [h1]; try omega

/-- The weights of the convolution. -/
theorem block3 (c : Dev nD) (t : Fin cfg0.N) (r : Fin 3) (l : Fin 5632) :
    (iblk m c 3 t : Vec Ideal S3x5632 .f32) (ix2 r l) = (m ((c : Thread nD τ).loc main_arg3) : Vec Ideal S3x5632 .f32)
      (ix2 r l) := by
  obtain ⟨h0, h1⟩ := idx3 t
  unfold iblk
  rw [View.read_apply]
  show V m c main_arg3 _ = _
  rw [V_main_arg3]
  congr 1
  funext a
  apply Fin.ext
  match a with
  | ⟨0, _⟩ => show win0_3.index t 0 * 3 + 1 * r.val = r.val; rw [h0]; try omega
  | ⟨1, _⟩ => show win0_3.index t 1 * 5632 + 1 * l.val = l.val; rw [h1]; try omega

/-- The bias of the convolution, laid out as one row. -/
theorem scale4 (c : Dev nD) : (V m c main_v0 : FVec Ideal S1x5632 .f32)
    = shapeCast _ (m ((c : Thread nD τ).loc main_arg4) : FVec Ideal S5632 .f32) shapeCasts_S5632_S1x5632 := by
  unfold V hostOps0
  after_results_simp
  rfl

set_option maxRecDepth 131072 in
/-- The bias of the convolution at a grid point. -/
theorem block4 (c : Dev nD) (t : Fin cfg0.N) (l : Fin 5632) :
    (iblk m c 4 t : Vec Ideal S1x5632 .f32) (ix2 0 l) = (m ((c : Thread nD τ).loc main_arg4) : Vec Ideal S5632 .f32) (ix1 l) := by
  obtain ⟨h0, h1⟩ := idx4 t
  unfold iblk
  rw [View.read_apply]
  show (V m c main_v0 : FVec Ideal S1x5632 .f32) _ = _
  rw [scale4]
  have e : ((cfg0.win 4).blk t).view.emb (ix2 0 l : S1x5632.Idx) = (ix2 0 l : S1x5632.Idx) := by
    funext a
    apply Fin.ext
    match a with
    | ⟨0, _⟩ => show win0_4.index t 0 * 1 + 1 * 0 = 0; rw [h0]
    | ⟨1, _⟩ => show win0_4.index t 1 * 5632 + 1 * l.val = l.val; rw [h1]; omega
  rw [e]
  pointwise

/-- The up projection of a grid point's rows is the reference's. -/
theorem tile_block (c : Dev nD) (t : Fin cfg0.N) (r : Fin 256) (j : Fin 5632) :
    tile (iblk m c 0 t) (iblk m c 2 t) r j = up (m ((c : Thread nD τ).loc main_arg0)) (m ((c : Thread nD τ).loc main_arg2)) ⟨t.val / 32, by have := points t; omega⟩ ⟨t.val % 32 * 256 + r.val, by omega⟩ j := by
  unfold tile up
  simp only [block0, block2]

/-- The convolution of a grid point's rows is the reference's, when the carried rows are the two before. -/
theorem conv_block (c : Dev nD) (t : Fin cfg0.N) (cr : Fin 2 → Fin 5632 → EReal)
    (hcr : ∀ (p : Fin 2) (j : Fin 5632), cr p j = full (m ((c : Thread nD τ).loc main_arg0)) (m ((c : Thread nD τ).loc main_arg1)) (m ((c : Thread nD τ).loc main_arg2)) (ix3 ⟨t.val / 32, by have := points t; omega⟩ ⟨t.val % 32 * 256 + p.val, by omega⟩ j)) (r : Fin 256) (j : Fin 5632) :
    tconv (iblk m c 0 t) (iblk m c 2 t) (iblk m c 3 t) (iblk m c 4 t) cr r j = conv (m ((c : Thread nD τ).loc main_arg0)) (m ((c : Thread nD τ).loc main_arg1)) (m ((c : Thread nD τ).loc main_arg2)) (m ((c : Thread nD τ).loc main_arg3)) (m ((c : Thread nD τ).loc main_arg4)) (ix3 ⟨t.val / 32, by have := points t; omega⟩ ⟨t.val % 32 * 256 + r.val, by omega⟩ j) := by
  have ht := points t
  rw [conv_apply, full_up _ _ _ _ ⟨2 + (t.val % 32 * 256 + r.val), by omega⟩ ⟨t.val % 32 * 256 + r.val, by omega⟩ j (Nat.add_comm 2 _)]
  have e1 : prev1 (cr 1 j) (fun s => tile (iblk m c 0 t) (iblk m c 2 t) s j) r = full (m ((c : Thread nD τ).loc main_arg0)) (m ((c : Thread nD τ).loc main_arg1)) (m ((c : Thread nD τ).loc main_arg2)) (ix3 ⟨t.val / 32, by have := points t; omega⟩ ⟨1 + (t.val % 32 * 256 + r.val), by omega⟩ j) := by
    unfold prev1
    split
    · rename_i h
      rw [hcr]
      congr 2
      apply Fin.ext
      show t.val % 32 * 256 + 1 = 1 + (t.val % 32 * 256 + r.val)
      omega
    · rename_i h
      beta_reduce
      rw [tile_block, full_up]
      show 1 + (t.val % 32 * 256 + r.val) = t.val % 32 * 256 + (r.val - 1) + 2
      omega
  have e2 : prev2 (cr 0 j) (cr 1 j) (fun s => tile (iblk m c 0 t) (iblk m c 2 t) s j) r = full (m ((c : Thread nD τ).loc main_arg0)) (m ((c : Thread nD τ).loc main_arg1)) (m ((c : Thread nD τ).loc main_arg2)) (ix3 ⟨t.val / 32, by have := points t; omega⟩ ⟨t.val % 32 * 256 + r.val, by omega⟩ j) := by
    unfold prev2
    split
    · rename_i h
      rw [hcr]
      congr 2
      apply Fin.ext
      show t.val % 32 * 256 + 0 = t.val % 32 * 256 + r.val
      omega
    · split
      · rename_i h
        rw [hcr]
        congr 2
        apply Fin.ext
        show t.val % 32 * 256 + 1 = t.val % 32 * 256 + r.val
        omega
      · refine (tile_block m c t _ j).trans ?_
        rw [full_up]
        show t.val % 32 * 256 + r.val = t.val % 32 * 256 + (r.val - 2) + 2
        omega
  unfold tconv cv
  rw [e1, e2]
  beta_reduce
  rw [tile_block, block3, block3, block3, block4]

/-- What a grid point leaves in the carried rows: the last two rows of its up projection. -/
theorem carried (c : Dev nD) (t : Fin cfg0.N) (p : Fin 2) (j : Fin 5632) :
    (outsAt0 m c t.val t.isLt).2.2 (ix2 p j) = tile (iblk m c 0 t) (iblk m c 2 t) ⟨254 + p.val, by omega⟩ j := by
  by_cases h0 : t.val % 32 = 0
  · have e := carry_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) p j
    refine (congrArg (fun x => x.2.2 (ix2 p j)) (outsAt0_A m c t h0)).trans ?_
    dsimp only
    rw [e]
  · have e := carry_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2 p j
    refine (congrArg (fun x => x.2.2 (ix2 p j)) (outsAt0_B m c t h0)).trans ?_
    dsimp only
    rw [e]

/-- The gated block a batch's first point leaves. -/
theorem gate_first (c : Dev nD) (t : Fin cfg0.N) (h0 : t.val % 32 = 0) (r : Fin 256) (j : Fin 2816) :
    (outsAt0 m c t.val t.isLt).1 (ix3 0 r j) = gated (tconv (iblk m c 0 t) (iblk m c 2 t) (iblk m c 3 t) (iblk m c 4 t) (fun p j => (iblk m c 1 t : Vec Ideal S1x2x5632 .f32) (ix3 0 p j)) r ⟨j.val, by omega⟩) (tconv (iblk m c 0 t) (iblk m c 2 t) (iblk m c 3 t) (iblk m c 4 t) (fun p j => (iblk m c 1 t : Vec Ideal S1x2x5632 .f32) (ix3 0 p j)) r ⟨2816 + j.val, by omega⟩) := by
  have e := gate_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) r j
  refine (congrArg (fun x => x.1 (ix3 0 r j)) (outsAt0_A m c t h0)).trans ?_
  dsimp only
  rw [e]

/-- The gated block a later point leaves. -/
theorem gate_later (c : Dev nD) (t : Fin cfg0.N) (h0 : ¬t.val % 32 = 0) (r : Fin 256) (j : Fin 2816) :
    (outsAt0 m c t.val t.isLt).1 (ix3 0 r j) = gated (tconv (iblk m c 0 t) (iblk m c 2 t) (iblk m c 3 t) (iblk m c 4 t) (fun p j => (outsAt0 m c (t.val - 1) (Nat.lt_of_le_of_lt (Nat.sub_le _ _) t.isLt)).2.2 (ix2 p j)) r ⟨j.val, by omega⟩) (tconv (iblk m c 0 t) (iblk m c 2 t) (iblk m c 3 t) (iblk m c 4 t) (fun p j => (outsAt0 m c (t.val - 1) (Nat.lt_of_le_of_lt (Nat.sub_le _ _) t.isLt)).2.2 (ix2 p j)) r ⟨2816 + j.val, by omega⟩) := by
  have e := gate_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2 r j
  refine (congrArg (fun x => x.1 (ix3 0 r j)) (outsAt0_B m c t h0)).trans ?_
  dsimp only
  rw [e]

/-- The rows written out a later point leaves. -/
theorem rows_later (c : Dev nD) (t : Fin cfg0.N) (h0 : ¬t.val % 32 = 0) (p : Fin 2) (j : Fin 5632) :
    (outsAt0 m c t.val t.isLt).2.1 (ix3 0 p j) = tile (iblk m c 0 t) (iblk m c 2 t) ⟨254 + p.val, by omega⟩ j := by
  have e := state_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2 p j
  refine (congrArg (fun x => x.2.1 (ix3 0 p j)) (outsAt0_B m c t h0)).trans ?_
  dsimp only
  rw [e]

/-- The gated activation: what the reference gives from the same arguments. -/
def result0 (c : Dev nD) : Buf (Elt Ideal) ((c : Thread nD τ).loc main_v1_0) :=
  res0 (m ((c : Thread nD τ).loc main_arg0)) (m ((c : Thread nD τ).loc main_arg1)) (m ((c : Thread nD τ).loc main_arg2)) (m ((c : Thread nD τ).loc main_arg3)) (m ((c : Thread nD τ).loc main_arg4))

/-- The last two rows: what the reference gives from the same arguments. -/
def result1 (c : Dev nD) : Buf (Elt Ideal) ((c : Thread nD τ).loc main_v1_1) :=
  res1 (m ((c : Thread nD τ).loc main_arg0)) (m ((c : Thread nD τ).loc main_arg1)) (m ((c : Thread nD τ).loc main_arg2))

/-- What a grid point leaves at an entry of the gated block. -/
theorem out_entry5 (c : Dev nD) (t : Fin cfg0.N) (r : Fin 256) (j : Fin 2816) :
    (outsAt0 m c t.val t.isLt).1 (ix3 0 r j) = (result0 m c : Vec Ideal S2x8192x2816 .bf16) (ix3 ⟨t.val / 32, by have := points t; omega⟩ ⟨t.val % 32 * 256 + r.val, by omega⟩ j) := by
  have ht := points t
  unfold result0
  rw [res0_apply]
  by_cases h0 : t.val % 32 = 0
  · refine (gate_first m c t h0 r j).trans ?_
    have hcr : ∀ (p : Fin 2) (j : Fin 5632), (fun p j => (iblk m c 1 t : Vec Ideal S1x2x5632 .f32) (ix3 0 p j)) p j = full (m ((c : Thread nD τ).loc main_arg0)) (m ((c : Thread nD τ).loc main_arg1)) (m ((c : Thread nD τ).loc main_arg2)) (ix3 ⟨t.val / 32, by have := points t; omega⟩ ⟨t.val % 32 * 256 + p.val, by omega⟩ j) := fun p j => by
      rw [full_apply, dif_pos (by show t.val % 32 * 256 + p.val < 2; omega)]
      refine (block1 m c t p j).trans ?_
      congr 2
      apply Fin.ext
      show p.val = t.val % 32 * 256 + p.val
      omega
    exact congrArg₂ gated (conv_block m c t _ hcr r _) (conv_block m c t _ hcr r _)
  · refine (gate_later m c t h0 r j).trans ?_
    have hcr : ∀ (p : Fin 2) (j : Fin 5632), (fun p j => (outsAt0 m c (t.val - 1) (Nat.lt_of_le_of_lt (Nat.sub_le _ _) t.isLt)).2.2 (ix2 p j)) p j = full (m ((c : Thread nD τ).loc main_arg0)) (m ((c : Thread nD τ).loc main_arg1)) (m ((c : Thread nD τ).loc main_arg2)) (ix3 ⟨t.val / 32, by have := points t; omega⟩ ⟨t.val % 32 * 256 + p.val, by omega⟩ j) := fun p j => by
      refine (carried m c ⟨t.val - 1, Nat.lt_of_le_of_lt (Nat.sub_le _ _) t.isLt⟩ p j).trans ?_
      rw [tile_block]
      have hb : (t.val - 1) / 32 = t.val / 32 := by omega
      rw [full_up _ _ _ _ ⟨t.val % 32 * 256 + p.val, by omega⟩ ⟨(t.val - 1) % 32 * 256 + (254 + p.val), by omega⟩ j (by
        show t.val % 32 * 256 + p.val = (t.val - 1) % 32 * 256 + (254 + p.val) + 2
        omega)]
      exact congrArg (fun b => up (m ((c : Thread nD τ).loc main_arg0)) (m ((c : Thread nD τ).loc main_arg2)) b _ j) (Fin.ext hb)
    exact congrArg₂ gated (conv_block m c t _ hcr r _) (conv_block m c t _ hcr r _)

/-- What a batch's last grid point leaves at an entry of the rows written out. -/
theorem out_entry6 (c : Dev nD) (t : Fin cfg0.N) (hl : t.val % 32 = 31) (p : Fin 2) (j : Fin 5632) :
    (outsAt0 m c t.val t.isLt).2.1 (ix3 0 p j) = (result1 m c : Vec Ideal S2x2x5632 .f32) (ix3 ⟨t.val / 32, by have := points t; omega⟩ p j) := by
  have ht := points t
  unfold result1
  have h0 : ¬t.val % 32 = 0 := by omega
  rw [res1_apply]
  refine (rows_later m c t h0 p j).trans ?_
  rw [tile_block]
  congr 1
  apply Fin.ext
  show t.val % 32 * 256 + (254 + p.val) = 8190 + p.val
  omega

/-- Each grid point writes its block of the gated activation. -/
theorem flushed_eq5 (c : Dev nD) (t : Fin cfg0.N) :
    (dats m 0 c).flushed 5 t = ((cfg0.win 5).blk t).view.read (Elt Ideal) (result0 m c) := by
  have ht := points t
  obtain ⟨w0, w1, w2⟩ := idx5 t
  rw [flushed5]
  funext j
  rw [View.read_apply]
  obtain ⟨r, l, rfl⟩ : ∃ (r : Fin 256) (l : Fin 2816), j = (ix3 0 r l : S1x256x2816.Idx) := by
    refine ⟨j 1, j 2, funext fun a => Fin.ext ?_⟩
    match a with
    | ⟨0, _⟩ => have h : (j 0).val < 1 := (j 0).isLt; show (j 0).val = 0; omega
    | ⟨1, _⟩ => rfl
    | ⟨2, _⟩ => rfl
  refine (out_entry5 m c t r l).trans ?_
  have e : ((cfg0.win 5).blk t).view.emb (ix3 0 r l : S1x256x2816.Idx) = (ix3 ⟨t.val / 32, by omega⟩ ⟨t.val % 32 * 256 + r.val, by omega⟩ l : S2x8192x2816.Idx) := by
    funext a
    apply Fin.ext
    match a with
    | ⟨0, _⟩ => show win0_5.index t 0 * 1 + 1 * 0 = t.val / 32; rw [w0]; omega
    | ⟨1, _⟩ => show win0_5.index t 1 * 256 + 1 * r.val = t.val % 32 * 256 + r.val; rw [w1]; omega
    | ⟨2, _⟩ => show win0_5.index t 2 * 2816 + 1 * l.val = l.val; rw [w2]; omega
  show _ = result0 m c (((cfg0.win 5).blk t).view.emb (ix3 0 r l : S1x256x2816.Idx))
  rw [e]

/-- The gated activation after the run. -/
theorem final5 (c : Dev nD) : (dats m 0 c).arrAt 5 cfg0.N = result0 m c :=
  (dats m 0 c).arrAt_eq_of_cover 5 (result0 m c) (fun t _ => flushed_eq5 m c t) fun i => by
    have h0 : (i 0 : Nat) < 2 := (i 0).isLt
    have h1 : (i 1 : Nat) < 8192 := (i 1).isLt
    have h2 : (i 2 : Nat) < 2816 := (i 2).isLt
    have hN : cfg0.N = 64 := N_0
    let t : Fin cfg0.N := ⟨(i 0 : Nat) * 32 + (i 1 : Nat) / 256, by omega⟩
    have ht : t.val = (i 0 : Nat) * 32 + (i 1 : Nat) / 256 := rfl
    obtain ⟨w0, w1, w2⟩ := idx5 t
    refine ⟨t, flush0_5 t, ?_⟩
    show i ∈ ((View.whole main_v1_0).slice (win0_5.rect t)).set
    rw [View.set_slice_whole, Rect.mem_set_unit]
    intro a
    match a with
    | ⟨0, _⟩ =>
      show win0_5.index t 0 * 1 ≤ (i 0 : Nat) ∧ (i 0 : Nat) < win0_5.index t 0 * 1 + 1
      rw [w0]; omega
    | ⟨1, _⟩ =>
      show win0_5.index t 1 * 256 ≤ (i 1 : Nat) ∧ (i 1 : Nat) < win0_5.index t 1 * 256 + 256
      rw [w1]; omega
    | ⟨2, _⟩ =>
      show win0_5.index t 2 * 2816 ≤ (i 2 : Nat) ∧ (i 2 : Nat) < win0_5.index t 2 * 2816 + 2816
      rw [w2]; omega

/-- A batch's last grid point writes its block of the last two rows. -/
theorem flushed_eq6 (c : Dev nD) (t : Fin cfg0.N) (hl : t.val % 32 = 31) :
    (dats m 0 c).flushed 6 t = ((cfg0.win 6).blk t).view.read (Elt Ideal) (result1 m c) := by
  have ht := points t
  obtain ⟨w0, w1, w2⟩ := idx6 t
  rw [flushed6]
  funext j
  rw [View.read_apply]
  obtain ⟨p, l, rfl⟩ : ∃ (p : Fin 2) (l : Fin 5632), j = (ix3 0 p l : S1x2x5632.Idx) := by
    refine ⟨j 1, j 2, funext fun a => Fin.ext ?_⟩
    match a with
    | ⟨0, _⟩ => have h : (j 0).val < 1 := (j 0).isLt; show (j 0).val = 0; omega
    | ⟨1, _⟩ => rfl
    | ⟨2, _⟩ => rfl
  refine (out_entry6 m c t hl p l).trans ?_
  have e : ((cfg0.win 6).blk t).view.emb (ix3 0 p l : S1x2x5632.Idx) = (ix3 ⟨t.val / 32, by omega⟩ p l : S2x2x5632.Idx) := by
    funext a
    apply Fin.ext
    match a with
    | ⟨0, _⟩ => show win0_6.index t 0 * 1 + 1 * 0 = t.val / 32; rw [w0]; omega
    | ⟨1, _⟩ => show win0_6.index t 1 * 2 + 1 * p.val = p.val; rw [w1]; omega
    | ⟨2, _⟩ => show win0_6.index t 2 * 5632 + 1 * l.val = l.val; rw [w2]; omega
  show _ = result1 m c (((cfg0.win 6).blk t).view.emb (ix3 0 p l : S1x2x5632.Idx))
  rw [e]

/-- The last two rows after the run. -/
theorem final6 (c : Dev nD) : (dats m 0 c).arrAt 6 cfg0.N = result1 m c :=
  (dats m 0 c).arrAt_eq_of_cover 6 (result1 m c) (fun t hf => flushed_eq6 m c t ((flush0_6 t).mp hf)) fun i => by
    have h0 : (i 0 : Nat) < 2 := (i 0).isLt
    have h1 : (i 1 : Nat) < 2 := (i 1).isLt
    have h2 : (i 2 : Nat) < 5632 := (i 2).isLt
    have hN : cfg0.N = 64 := N_0
    let t : Fin cfg0.N := ⟨(i 0 : Nat) * 32 + 31, by omega⟩
    have ht : t.val = (i 0 : Nat) * 32 + 31 := rfl
    obtain ⟨w0, w1, w2⟩ := idx6 t
    refine ⟨t, (flush0_6 t).mpr (by omega), ?_⟩
    show i ∈ ((View.whole main_v1_1).slice (win0_6.rect t)).set
    rw [View.set_slice_whole, Rect.mem_set_unit]
    intro a
    match a with
    | ⟨0, _⟩ =>
      show win0_6.index t 0 * 1 ≤ (i 0 : Nat) ∧ (i 0 : Nat) < win0_6.index t 0 * 1 + 1
      rw [w0]; omega
    | ⟨1, _⟩ =>
      show win0_6.index t 1 * 2 ≤ (i 1 : Nat) ∧ (i 1 : Nat) < win0_6.index t 1 * 2 + 2
      rw [w1]; omega
    | ⟨2, _⟩ =>
      show win0_6.index t 2 * 5632 ≤ (i 2 : Nat) ∧ (i 2 : Nat) < win0_6.index t 2 * 5632 + 5632
      rw [w2]; omega

end Cert.Kernel5Ideal.Rows

end
-- ==== Proof.DownS.lean ====
/-
  The sample's down projection: the reference at an entry, what the kernel's body stores, and the
  result array after the run.
-/
module

public import proofs.«01_k».proof.Proof.Zero
public import proofs.«01_k».proof.Proof.Gen.Kernel7Ideal.Value
public import proofs.«01_k».proof.Proof.Gen.Reference7Ideal.Run
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.Reference7Ideal.Rows

open Cert.Reference7Ideal Cert.Reference7Ideal.Gen

/-- The reference's result, from its arguments. -/
def resOf (a0 : FVec Ideal S256x2816 .bf16) (a1 : FVec Ideal S256x1024 .f32) (a2 : FVec Ideal S2816x1024 .bf16) (a3 : FVec Ideal S1024 .f32) (a4 : FVec Ideal S1x256x1024 .f32) : FVec Ideal S256x1024 .f32 :=
  addf a1 (mulf (shapeCast _ a4 shapeCasts_S1x256x1024_S256x1024) (mulf (mulf (Host.dotGeneral dot_S256x2816_S2816x1024_S256x1024_1_0_0_1_n_n none (extf .f32 a0 bitsLt_bf16_f32) (extf .f32 a2 bitsLt_bf16_f32)) (broadcastInDim S256x1024 ![0, 1] bcast_S256x1_S256x1024_0_1 (Host.rsqrt (addf (Host.divf (broadcastInDim S256x1 ![0] bcast_S256_S256x1_0 (Host.reduceAdd (mulf (Host.dotGeneral dot_S256x2816_S2816x1024_S256x1024_1_0_0_1_n_n none (extf .f32 a0 bitsLt_bf16_f32) (extf .f32 a2 bitsLt_bf16_f32)) (Host.dotGeneral dot_S256x2816_S2816x1024_S256x1024_1_0_0_1_n_n none (extf .f32 a0 bitsLt_bf16_f32) (extf .f32 a2 bitsLt_bf16_f32))) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))) (broadcastInDim S256x1024 ![0, 1] bcast_S1x1024_S256x1024_0_1 (broadcastInDim S1x1024 ![1] bcast_S1024_S1x1024_1 a3))))

/-- The reference's result at an entry. -/
theorem res_apply (a0 : FVec Ideal S256x2816 .bf16) (a1 : FVec Ideal S256x1024 .f32) (a2 : FVec Ideal S2816x1024 .bf16) (a3 : FVec Ideal S1024 .f32) (a4 : FVec Ideal S1x256x1024 .f32) (r : Fin 256) (l : Fin 1024) :
    resOf a0 a1 a2 a3 a4 (ix2 r l) = a1 (ix2 r l) + a4 (ix3 0 r l) *
        ((∑ x, a0 (ix2 r x) * a2 (ix2 x l)) *
            Ideal.rsqrt
              (Ideal.div (∑ x, (∑ x_1, a0 (ix2 r x_1) * a2 (ix2 x_1 x)) * ∑ x_1, a0 (ix2 r x_1) * a2 (ix2 x_1 x))
                  (Ideal.ofBits FTy.f32 0x44800000#32) + Ideal.ofBits FTy.f32 0x358637BD#32) * a3 (ix1 l)) := by
  pointwise [resOf]

end Cert.Reference7Ideal.Rows

namespace Cert.Kernel7Ideal.Rows

open Cert.Kernel7Ideal Cert.Kernel7Ideal.Gen Cert.Kernel7Ideal.Value Cert.Rows
open Cert.Reference7Ideal.Rows (resOf res_apply)

/-- What the body stores at an entry. -/
theorem pay_apply (v0 : Vec Ideal S256x2816 .bf16) (v1 : Vec Ideal S2816x1024 .bf16) (v3 : Vec Ideal S256x1024 .f32)
    (v4 : Vec Ideal S1x256x1024 .f32) (v6 : Vec Ideal S1x1024 .f32) (r : Fin 256) (l : Fin 1024) :
    k0_pay1 v0 v1 v3 v4 v6 (ix2 r l) = v3 (ix2 r l) + v4 (ix3 0 r l) *
        ((∑ x, v0 (ix2 r x) * v1 (ix2 x l)) *
            Ideal.rsqrt
              (Ideal.div (∑ x, (∑ x_1, v0 (ix2 r x_1) * v1 (ix2 x_1 x)) * ∑ x_1, v0 (ix2 r x_1) * v1 (ix2 x_1 x))
                  (Ideal.ofBits FTy.f32 0x44800000#32) + Ideal.ofBits FTy.f32 0x358637BD#32) * v6 (ix2 0 l)) := by
  pointwise [k0_pay1]

variable (m : (ℓ : Loc nD τ sig) → Buf (Elt Ideal) ℓ)

/-- Window 0's block lies at the start of its array. -/
theorem idx0 : ∀ t : Fin cfg0.N, win0_0.index t 0 = 0 ∧ win0_0.index t 1 = 0 := by
  decide +kernel

/-- Window 1's block lies at the start of its array. -/
theorem idx1 : ∀ t : Fin cfg0.N, win0_1.index t 0 = 0 ∧ win0_1.index t 1 = 0 := by
  decide +kernel

/-- Window 2's block lies at the start of its array. -/
theorem idx2 : ∀ t : Fin cfg0.N, win0_2.index t 0 = 0 ∧ win0_2.index t 1 = 0 := by
  decide +kernel

/-- Window 3's block lies at the start of its array. -/
theorem idx3 : ∀ t : Fin cfg0.N, win0_3.index t 0 = 0 ∧ win0_3.index t 1 = 0 := by
  decide +kernel

/-- Window 4's block lies at the start of its array. -/
theorem idx4 : ∀ t : Fin cfg0.N, win0_4.index t 0 = 0 ∧ win0_4.index t 1 = 0 ∧ win0_4.index t 2 = 0 := by
  decide +kernel

/-- Window 5's block lies at the start of its array. -/
theorem idx5 : ∀ t : Fin cfg0.N, win0_5.index t 0 = 0 ∧ win0_5.index t 1 = 0 := by
  decide +kernel

/-- The gated activation at a grid point: all of it. -/
theorem block0 (c : Dev nD) (t : Fin cfg0.N) (r : Fin 256) (l : Fin 2816) :
    (iblk m c 0 t : Vec Ideal S256x2816 .bf16) (ix2 r l) = (m ((c : Thread nD τ).loc main_arg0) : Vec Ideal S256x2816 .bf16) (ix2 r l) := by
  obtain ⟨h0, h1⟩ := idx0 t
  unfold iblk
  rw [View.read_apply]
  show V m c main_arg0 _ = _
  rw [V_main_arg0]
  congr 1
  funext a
  apply Fin.ext
  match a with
  | ⟨0, _⟩ => show win0_0.index t 0 * 256 + 1 * r.val = r.val; rw [h0]; try omega
  | ⟨1, _⟩ => show win0_0.index t 1 * 2816 + 1 * l.val = l.val; rw [h1]; try omega

/-- The residual at a grid point: all of it. -/
theorem block1 (c : Dev nD) (t : Fin cfg0.N) (r : Fin 256) (l : Fin 1024) :
    (iblk m c 1 t : Vec Ideal S256x1024 .f32) (ix2 r l) = (m ((c : Thread nD τ).loc main_arg1) : Vec Ideal S256x1024 .f32) (ix2 r l) := by
  obtain ⟨h0, h1⟩ := idx1 t
  unfold iblk
  rw [View.read_apply]
  show V m c main_arg1 _ = _
  rw [V_main_arg1]
  congr 1
  funext a
  apply Fin.ext
  match a with
  | ⟨0, _⟩ => show win0_1.index t 0 * 256 + 1 * r.val = r.val; rw [h0]; try omega
  | ⟨1, _⟩ => show win0_1.index t 1 * 1024 + 1 * l.val = l.val; rw [h1]; try omega

/-- The weights' array at a grid point: all of it. -/
theorem block2 (c : Dev nD) (t : Fin cfg0.N) (r : Fin 2816) (l : Fin 1024) :
    (iblk m c 2 t : Vec Ideal S2816x1024 .bf16) (ix2 r l) = (m ((c : Thread nD τ).loc main_arg2) : Vec Ideal S2816x1024 .bf16) (ix2 r l) := by
  obtain ⟨h0, h1⟩ := idx2 t
  unfold iblk
  rw [View.read_apply]
  show V m c main_arg2 _ = _
  rw [V_main_arg2]
  congr 1
  funext a
  apply Fin.ext
  match a with
  | ⟨0, _⟩ => show win0_2.index t 0 * 2816 + 1 * r.val = r.val; rw [h0]; try omega
  | ⟨1, _⟩ => show win0_2.index t 1 * 1024 + 1 * l.val = l.val; rw [h1]; try omega

/-- The norm's scale, laid out as one row. -/
theorem scale3 (c : Dev nD) : (V m c main_v0 : FVec Ideal S1x1024 .f32)
    = shapeCast _ (m ((c : Thread nD τ).loc main_arg3) : FVec Ideal S1024 .f32) shapeCasts_S1024_S1x1024 := by
  unfold V hostOps0
  after_results_simp
  rfl

/-- The norm's scale at a grid point. -/
theorem block3 (c : Dev nD) (t : Fin cfg0.N) (l : Fin 1024) :
    (iblk m c 3 t : Vec Ideal S1x1024 .f32) (ix2 0 l) = (m ((c : Thread nD τ).loc main_arg3) : Vec Ideal S1024 .f32) (ix1 l) := by
  obtain ⟨h0, h1⟩ := idx3 t
  unfold iblk
  rw [View.read_apply]
  show (V m c main_v0 : FVec Ideal S1x1024 .f32) _ = _
  rw [scale3]
  have e : ((cfg0.win 3).blk t).view.emb (ix2 0 l : S1x1024.Idx) = (ix2 0 l : S1x1024.Idx) := by
    funext a
    apply Fin.ext
    match a with
    | ⟨0, _⟩ => show win0_3.index t 0 * 1 + 1 * 0 = 0; rw [h0]
    | ⟨1, _⟩ => show win0_3.index t 1 * 1024 + 1 * l.val = l.val; rw [h1]; omega
  rw [e]
  pointwise

/-- The gate of the residual at a grid point: all of it. -/
theorem block4 (c : Dev nD) (t : Fin cfg0.N) (r : Fin 256) (l : Fin 1024) :
    (iblk m c 4 t : Vec Ideal S1x256x1024 .f32) (ix3 0 r l) = (m ((c : Thread nD τ).loc main_arg4) : Vec Ideal S1x256x1024 .f32) (ix3 0 r l) := by
  obtain ⟨h0, h1, h2⟩ := idx4 t
  unfold iblk
  rw [View.read_apply]
  show V m c main_arg4 _ = _
  rw [V_main_arg4]
  congr 1
  funext a
  apply Fin.ext
  match a with
  | ⟨0, _⟩ => show win0_4.index t 0 * 1 + 1 * 0 = 0; rw [h0]; try omega
  | ⟨1, _⟩ => show win0_4.index t 1 * 256 + 1 * r.val = r.val; rw [h1]; try omega
  | ⟨2, _⟩ => show win0_4.index t 2 * 1024 + 1 * l.val = l.val; rw [h2]; try omega

/-- The result array: what the reference gives from the same arguments. -/
def result (c : Dev nD) : Buf (Elt Ideal) ((c : Thread nD τ).loc main_v1) :=
  resOf (m ((c : Thread nD τ).loc main_arg0)) (m ((c : Thread nD τ).loc main_arg1)) (m ((c : Thread nD τ).loc main_arg2)) (m ((c : Thread nD τ).loc main_arg3)) (m ((c : Thread nD τ).loc main_arg4))

/-- What the body leaves at an entry of output 5's block at a grid point. -/
theorem out_entry5 (c : Dev nD) (t : Fin cfg0.N) (r : Fin 256) (l : Fin 1024) :
    out0_5 (iblk m c 0 t) (iblk m c 1 t) (iblk m c 2 t) (iblk m c 3 t) (iblk m c 4 t) (ix2 r l)
      = (result m c : Vec Ideal S256x1024 .f32) (ix2 r l) := by
  unfold out0_5 result
  rw [View.canon_unit_zero off2, View.ld_unit_zero off2, View.ld_unit_zero off2, View.ld_unit_zero off2, View.ld_unit_zero off3, View.ld_unit_zero off2,
    pay_apply, res_apply]
  simp only [block0, block1, block2, block3, block4]

/-- Each grid point writes its block of output 5. -/
theorem flushed_eq5 (c : Dev nD) (t : Fin cfg0.N) :
    (dats m 0 c).flushed 5 t = ((cfg0.win 5).blk t).view.read (Elt Ideal) (result m c) := by
  obtain ⟨w0, w1⟩ := idx5 t
  rw [flushed5]
  funext j
  rw [View.read_apply]
  obtain ⟨r, l, rfl⟩ : ∃ (r : Fin 256) (l : Fin 1024), j = (ix2 r l : S256x1024.Idx) := by
    refine ⟨j 0, j 1, funext fun a => ?_⟩
    match a with
    | ⟨0, _⟩ => rfl
    | ⟨1, _⟩ => rfl
  refine (out_entry5 m c t r l).trans ?_
  have e : ((cfg0.win 5).blk t).view.emb (ix2 r l : S256x1024.Idx) = (ix2 r l : S256x1024.Idx) := by
    funext a
    apply Fin.ext
    match a with
    | ⟨0, _⟩ => show win0_5.index t 0 * 256 + 1 * r.val = r.val; rw [w0]; omega
    | ⟨1, _⟩ => show win0_5.index t 1 * 1024 + 1 * l.val = l.val; rw [w1]; omega
  show _ = result m c (((cfg0.win 5).blk t).view.emb (ix2 r l : S256x1024.Idx))
  rw [e]

/-- Output 5 after the run. -/
theorem final5 (c : Dev nD) : (dats m 0 c).arrAt 5 cfg0.N = result m c :=
  (dats m 0 c).arrAt_eq_of_cover 5 (result m c) (fun t _ => flushed_eq5 m c t) fun i => by
    have h0 : (i 0 : Nat) < 256 := (i 0).isLt
    have h1 : (i 1 : Nat) < 1024 := (i 1).isLt
    have hN : cfg0.N = 1 := N_0
    let t : Fin cfg0.N := ⟨0, by omega⟩
    obtain ⟨w0, w1⟩ := idx5 t
    refine ⟨t, flush0_5 t, ?_⟩
    show i ∈ ((View.whole main_v1).slice (win0_5.rect t)).set
    rw [View.set_slice_whole, Rect.mem_set_unit]
    intro a
    match a with
    | ⟨0, _⟩ =>
      show win0_5.index t 0 * 256 ≤ (i 0 : Nat) ∧ (i 0 : Nat) < win0_5.index t 0 * 256 + 256
      rw [w0]; omega
    | ⟨1, _⟩ =>
      show win0_5.index t 1 * 1024 ≤ (i 1 : Nat) ∧ (i 1 : Nat) < win0_5.index t 1 * 1024 + 1024
      rw [w1]; omega

end Cert.Kernel7Ideal.Rows

end
-- ==== Proof.QkvS.lean ====
/-
  The sample's projection to queries, keys and values: the reference at an entry, what the kernel's
  body stores, and the five result arrays after the run.
-/
module

public import proofs.«01_k».proof.Proof.Zero
public import proofs.«01_k».proof.Proof.Gen.Kernel8Ideal.Value
public import proofs.«01_k».proof.Proof.Gen.Reference8Ideal.Run
public import Idealize.ShloMosaic.Lib.Pipeline.Value
public import Idealize.ShloMosaic.Lib.Pointwise
public import Idealize.ShloMosaic.Lib.Tactic
public import proofs.«01_k».proof.Proof.Qkv

@[expose] public section

set_option maxRecDepth 16384

noncomputable section

open Idealize.ShloMosaic Idealize.ShloMosaic.TcCoe Idealize.SL.Sem

namespace Cert.Reference8Ideal.Rows

open Cert.Reference8Ideal Cert.Reference8Ideal.Gen

open Cert.Reference3Ideal.Rows (headScale)

/-- The modulated norm of the rows. -/
def normed (a0 : FVec Ideal S256x1024 .f32) (a1 a2 : FVec Ideal S1x256x1024 .f32) (a3 : FVec Ideal S1024 .f32) : FVec Ideal S256x1024 .f32 :=
  addf (mulf (mulf (mulf a0 (broadcastInDim S256x1024 ![0, 1] bcast_S256x1_S256x1024_0_1 (Host.rsqrt (addf (Host.divf (broadcastInDim S256x1 ![0] bcast_S256_S256x1_0 (Host.reduceAdd (mulf a0 a0) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))) (broadcastInDim S256x1024 ![0, 1] bcast_S1x1024_S256x1024_0_1 (broadcastInDim S1x1024 ![1] bcast_S1024_S1x1024_1 a3))) (addf (broadcastInDim S256x1024 ![] bcast_S_S256x1024 (constant S_ .f32 0x3F800000#32)) (shapeCast _ a1 shapeCasts_S1x256x1024_S256x1024))) (shapeCast _ a2 shapeCasts_S1x256x1024_S256x1024)

/-- Queries, keys and values side by side. -/
def proj (a0 : FVec Ideal S256x1024 .f32) (a1 a2 : FVec Ideal S1x256x1024 .f32) (a3 : FVec Ideal S1024 .f32) (a4 : FVec Ideal S1024x3072 .bf16) : FVec Ideal S256x3072 .f32 :=
  Host.dotGeneral dot_S256x1024_S1024x3072_S256x3072_1_0_0_1_n_n none (normed a0 a1 a2 a3) (extf .f32 a4 bitsLt_bf16_f32)

/-- The scaled queries, from the arguments. -/
def res0 (a0 : FVec Ideal S256x1024 .f32) (a1 a2 : FVec Ideal S1x256x1024 .f32) (a3 : FVec Ideal S1024 .f32) (a4 : FVec Ideal S1024x3072 .bf16) : FVec Ideal S256x1024 .bf16 :=
  truncf .bf16 (shapeCast _ (concatenate S256x16x64 1 [⟨S256x8x64, (mulf (extractStridedSlice S256x8x64 ![0, 0, 0] (shapeCast _ (extractStridedSlice S256x1x16x64 ![0, 0, 0, 0] (shapeCast _ (proj a0 a1 a2 a3 a4) shapeCasts_S256x3072_S256x3x16x64) slices_S256x3x16x64_S256x1x16x64_0_0_0_0) shapeCasts_S256x1x16x64_S256x16x64) slices_S256x16x64_S256x8x64_0_0_0) (broadcastInDim S256x8x64 ![] bcast_S_S256x8x64 (constant S_ .f32 0x3E000000#32)))⟩, ⟨S256x8x64, (mulf (extractStridedSlice S256x8x64 ![0, 8, 0] (shapeCast _ (extractStridedSlice S256x1x16x64 ![0, 0, 0, 0] (shapeCast _ (proj a0 a1 a2 a3 a4) shapeCasts_S256x3072_S256x3x16x64) slices_S256x3x16x64_S256x1x16x64_0_0_0_0) shapeCasts_S256x1x16x64_S256x16x64) slices_S256x16x64_S256x8x64_0_8_0) (broadcastInDim S256x8x64 ![] bcast_S_S256x8x64 (constant S_ .f32 0x3E3504F3#32)))⟩] concatenates_S256x8x64_S256x8x64_S256x16x64_d1) shapeCasts_S256x16x64_S256x1024) bitsLt_bf16_f32

/-- The keys, from the arguments. -/
def res1 (a0 : FVec Ideal S256x1024 .f32) (a1 a2 : FVec Ideal S1x256x1024 .f32) (a3 : FVec Ideal S1024 .f32) (a4 : FVec Ideal S1024x3072 .bf16) : FVec Ideal S256x1024 .f32 :=
  shapeCast _ (shapeCast _ (extractStridedSlice S256x1x16x64 ![0, 1, 0, 0] (shapeCast _ (proj a0 a1 a2 a3 a4) shapeCasts_S256x3072_S256x3x16x64) slices_S256x3x16x64_S256x1x16x64_0_1_0_0) shapeCasts_S256x1x16x64_S256x16x64) shapeCasts_S256x16x64_S256x1024

/-- The values, from the arguments. -/
def res2 (a0 : FVec Ideal S256x1024 .f32) (a1 a2 : FVec Ideal S1x256x1024 .f32) (a3 : FVec Ideal S1024 .f32) (a4 : FVec Ideal S1024x3072 .bf16) : FVec Ideal S256x1024 .f32 :=
  shapeCast _ (shapeCast _ (extractStridedSlice S256x1x16x64 ![0, 2, 0, 0] (shapeCast _ (proj a0 a1 a2 a3 a4) shapeCasts_S256x3072_S256x3x16x64) slices_S256x3x16x64_S256x1x16x64_0_2_0_0) shapeCasts_S256x1x16x64_S256x16x64) shapeCasts_S256x16x64_S256x1024

/-- The keys, rounded, from the arguments. -/
def res3 (a0 : FVec Ideal S256x1024 .f32) (a1 a2 : FVec Ideal S1x256x1024 .f32) (a3 : FVec Ideal S1024 .f32) (a4 : FVec Ideal S1024x3072 .bf16) : FVec Ideal S256x1024 .bf16 :=
  truncf .bf16 (shapeCast _ (shapeCast _ (extractStridedSlice S256x1x16x64 ![0, 1, 0, 0] (shapeCast _ (proj a0 a1 a2 a3 a4) shapeCasts_S256x3072_S256x3x16x64) slices_S256x3x16x64_S256x1x16x64_0_1_0_0) shapeCasts_S256x1x16x64_S256x16x64) shapeCasts_S256x16x64_S256x1024) bitsLt_bf16_f32

/-- The values, rounded, from the arguments. -/
def res4 (a0 : FVec Ideal S256x1024 .f32) (a1 a2 : FVec Ideal S1x256x1024 .f32) (a3 : FVec Ideal S1024 .f32) (a4 : FVec Ideal S1024x3072 .bf16) : FVec Ideal S256x1024 .bf16 :=
  truncf .bf16 (shapeCast _ (shapeCast _ (extractStridedSlice S256x1x16x64 ![0, 2, 0, 0] (shapeCast _ (proj a0 a1 a2 a3 a4) shapeCasts_S256x3072_S256x3x16x64) slices_S256x3x16x64_S256x1x16x64_0_2_0_0) shapeCasts_S256x1x16x64_S256x16x64) shapeCasts_S256x16x64_S256x1024) bitsLt_bf16_f32

/-- The modulated norm at an entry. -/
theorem normed_apply (a0 : FVec Ideal S256x1024 .f32) (a1 a2 : FVec Ideal S1x256x1024 .f32) (a3 : FVec Ideal S1024 .f32) (r : Fin 256) (l : Fin 1024) :
    normed a0 a1 a2 a3 (ix2 r l) = a0 (ix2 r l) *
            Ideal.rsqrt
              (Ideal.div (∑ x, a0 (ix2 r x) * a0 (ix2 r x)) (Ideal.ofBits FTy.f32 0x44800000#32) + Ideal.ofBits FTy.f32 0x358637BD#32) *
          a3 (ix1 l) * (1 + a1 (ix3 0 r l)) + a2 (ix3 0 r l) := by
  pointwise [normed]

/-- The projection at an entry. -/
theorem proj_apply (a0 : FVec Ideal S256x1024 .f32) (a1 a2 : FVec Ideal S1x256x1024 .f32) (a3 : FVec Ideal S1024 .f32) (a4 : FVec Ideal S1024x3072 .bf16) (r : Fin 256) (l : Fin 3072) :
    proj a0 a1 a2 a3 a4 (ix2 r l) = ∑ x, normed a0 a1 a2 a3 (ix2 r x) * a4 (ix2 x l) := by
  pointwise [proj]

/-- The scaled queries at an entry: the two halves of the heads carry their own scale. -/
theorem res0_apply (a0 : FVec Ideal S256x1024 .f32) (a1 a2 : FVec Ideal S1x256x1024 .f32) (a3 : FVec Ideal S1024 .f32) (a4 : FVec Ideal S1024x3072 .bf16) (r : Fin 256) (l : Fin 1024) :
    res0 a0 a1 a2 a3 a4 (ix2 r l) = proj a0 a1 a2 a3 a4 (ix2 r ⟨l.val, by omega⟩) * headScale l.val := by
  pointwise [res0]
  have key : ∀ (k : ℕ) (hk : k < 3072), k = l.val →
      proj a0 a1 a2 a3 a4 (ix2 r ⟨k, hk⟩) = proj a0 a1 a2 a3 a4 (ix2 r ⟨l.val, by omega⟩) := by
    rintro k hk rfl
    rfl
  by_cases h : l.val < 512
  · have d : l.val / 64 < 8 := by omega
    have g : headScale l.val = Ideal.ofBits FTy.f32 0x3E000000#32 := if_pos h
    refine (dif_pos d).trans ?_
    exact congrArg₂ (fun x y : EReal => x * y) (key _ _ (by omega)) g.symm
  · have d : ¬ l.val / 64 < 8 := by omega
    have g : headScale l.val = Ideal.ofBits FTy.f32 0x3E3504F3#32 := if_neg h
    refine (dif_neg d).trans ?_
    exact congrArg₂ (fun x y : EReal => x * y) (key _ _ (by omega)) g.symm

/-- The keys, at an entry. -/
theorem res1_apply (a0 : FVec Ideal S256x1024 .f32) (a1 a2 : FVec Ideal S1x256x1024 .f32) (a3 : FVec Ideal S1024 .f32) (a4 : FVec Ideal S1024x3072 .bf16) (r : Fin 256) (l : Fin 1024) :
    res1 a0 a1 a2 a3 a4 (ix2 r l) = proj a0 a1 a2 a3 a4 (ix2 r ⟨1024 + l.val, by omega⟩) := by
  have e : ∀ h, (⟨1024 + l.val / 64 * 64 + l.val % 64, h⟩ : Fin 3072) = ⟨1024 + l.val, by omega⟩ := fun _ => Fin.ext (by
    show 1024 + l.val / 64 * 64 + l.val % 64 = 1024 + l.val; omega)
  pointwise [res1]
  rw [e]

/-- The values, at an entry. -/
theorem res2_apply (a0 : FVec Ideal S256x1024 .f32) (a1 a2 : FVec Ideal S1x256x1024 .f32) (a3 : FVec Ideal S1024 .f32) (a4 : FVec Ideal S1024x3072 .bf16) (r : Fin 256) (l : Fin 1024) :
    res2 a0 a1 a2 a3 a4 (ix2 r l) = proj a0 a1 a2 a3 a4 (ix2 r ⟨2048 + l.val, by omega⟩) := by
  have e : ∀ h, (⟨2048 + l.val / 64 * 64 + l.val % 64, h⟩ : Fin 3072) = ⟨2048 + l.val, by omega⟩ := fun _ => Fin.ext (by
    show 2048 + l.val / 64 * 64 + l.val % 64 = 2048 + l.val; omega)
  pointwise [res2]
  rw [e]

/-- The keys, rounded, at an entry. -/
theorem res3_apply (a0 : FVec Ideal S256x1024 .f32) (a1 a2 : FVec Ideal S1x256x1024 .f32) (a3 : FVec Ideal S1024 .f32) (a4 : FVec Ideal S1024x3072 .bf16) (r : Fin 256) (l : Fin 1024) :
    res3 a0 a1 a2 a3 a4 (ix2 r l) = proj a0 a1 a2 a3 a4 (ix2 r ⟨1024 + l.val, by omega⟩) := by
  have e : ∀ h, (⟨1024 + l.val / 64 * 64 + l.val % 64, h⟩ : Fin 3072) = ⟨1024 + l.val, by omega⟩ := fun _ => Fin.ext (by
    show 1024 + l.val / 64 * 64 + l.val % 64 = 1024 + l.val; omega)
  pointwise [res3]
  rw [e]

/-- The values, rounded, at an entry. -/
theorem res4_apply (a0 : FVec Ideal S256x1024 .f32) (a1 a2 : FVec Ideal S1x256x1024 .f32) (a3 : FVec Ideal S1024 .f32) (a4 : FVec Ideal S1024x3072 .bf16) (r : Fin 256) (l : Fin 1024) :
    res4 a0 a1 a2 a3 a4 (ix2 r l) = proj a0 a1 a2 a3 a4 (ix2 r ⟨2048 + l.val, by omega⟩) := by
  have e : ∀ h, (⟨2048 + l.val / 64 * 64 + l.val % 64, h⟩ : Fin 3072) = ⟨2048 + l.val, by omega⟩ := fun _ => Fin.ext (by
    show 2048 + l.val / 64 * 64 + l.val % 64 = 2048 + l.val; omega)
  pointwise [res4]
  rw [e]

end Cert.Reference8Ideal.Rows

namespace Cert.Kernel8Ideal.Rows

open Cert.Kernel8Ideal Cert.Kernel8Ideal.Gen Cert.Kernel8Ideal.Value Cert.Rows
open Cert.Reference8Ideal.Rows
open Cert.Reference3Ideal.Rows (headScale)

/-- The body's projection at an entry. -/
theorem pay5_apply (v0 : Vec Ideal S256x1024 .f32) (v1 : Vec Ideal S1x1024 .f32) (v15 v20 : Vec Ideal S1x256x1024 .f32) (v24 : Vec Ideal S1024x3072 .bf16)
    (r : Fin 256) (l : Fin 3072) :
    k0_pay5 v0 v1 v15 v20 v24 (ix2 r l) = ∑ x, (v0 (ix2 r x) *
            Ideal.rsqrt
              (Ideal.div (∑ x, v0 (ix2 r x) * v0 (ix2 r x)) (Ideal.ofBits FTy.f32 0x44800000#32) + Ideal.ofBits FTy.f32 0x358637BD#32) *
          v1 (ix2 0 x) * (1 + v15 (ix3 0 r x)) + v20 (ix3 0 r x)) * v24 (ix2 x l) := by
  pointwise [k0_pay5]

/-- The body's scaled queries at an entry. -/
theorem pay6_apply (v0 : Vec Ideal S256x1024 .f32) (v1 : Vec Ideal S1x1024 .f32) (v15 v20 : Vec Ideal S1x256x1024 .f32) (v24 : Vec Ideal S1024x3072 .bf16)
    (r : Fin 256) (l : Fin 1024) :
    k0_pay6 v0 v1 v15 v20 v24 (ix2 r l) = k0_pay5 v0 v1 v15 v20 v24 (ix2 r ⟨l.val, by omega⟩) * headScale l.val := by
  pointwise [k0_pay6]
  rw [show (512#32 : BitVec 32) = BitVec.ofNat 32 512 from rfl, WordCmp.cmpi_slt_ofNat (by omega) (by omega)]
  unfold Scalar.select headScale
  by_cases h : l.val < 512 <;> simp [h]

/-- The keys, as the body stores them, at an entry. -/
theorem pay1_apply (v : FVec Ideal S256x3072 .f32) (r : Fin 256) (l : Fin 1024) :
    k0_pay1 v (ix2 r l) = v (ix2 r ⟨1024 + l.val, by omega⟩) := by
  pointwise [k0_pay1]

/-- The values, as the body stores them, at an entry. -/
theorem pay2_apply (v : FVec Ideal S256x3072 .f32) (r : Fin 256) (l : Fin 1024) :
    k0_pay2 v (ix2 r l) = v (ix2 r ⟨2048 + l.val, by omega⟩) := by
  pointwise [k0_pay2]

/-- The keys, rounded, as the body stores them, at an entry. -/
theorem pay3_apply (v : FVec Ideal S256x3072 .f32) (r : Fin 256) (l : Fin 1024) :
    k0_pay3 v (ix2 r l) = v (ix2 r ⟨1024 + l.val, by omega⟩) := by
  pointwise [k0_pay3, k0_pay1]

/-- The values, rounded, as the body stores them, at an entry. -/
theorem pay4_apply (v : FVec Ideal S256x3072 .f32) (r : Fin 256) (l : Fin 1024) :
    k0_pay4 v (ix2 r l) = v (ix2 r ⟨2048 + l.val, by omega⟩) := by
  pointwise [k0_pay4, k0_pay2]

variable (m : (ℓ : Loc nD τ sig) → Buf (Elt Ideal) ℓ)

/-- Window 0's block lies at the start of its array. -/
theorem idx0 : ∀ t : Fin cfg0.N, win0_0.index t 0 = 0 ∧ win0_0.index t 1 = 0 := by
  decide +kernel

/-- Window 1's block lies at the start of its array. -/
theorem idx1 : ∀ t : Fin cfg0.N, win0_1.index t 0 = 0 ∧ win0_1.index t 1 = 0 ∧ win0_1.index t 2 = 0 := by
  decide +kernel

/-- Window 2's block lies at the start of its array. -/
theorem idx2 : ∀ t : Fin cfg0.N, win0_2.index t 0 = 0 ∧ win0_2.index t 1 = 0 ∧ win0_2.index t 2 = 0 := by
  decide +kernel

/-- Window 3's block lies at the start of its array. -/
theorem idx3 : ∀ t : Fin cfg0.N, win0_3.index t 0 = 0 ∧ win0_3.index t 1 = 0 := by
  decide +kernel

/-- Window 4's block lies at the start of its array. -/
theorem idx4 : ∀ t : Fin cfg0.N, win0_4.index t 0 = 0 ∧ win0_4.index t 1 = 0 := by
  decide +kernel

/-- Window 5's block lies at the start of its array. -/
theorem idx5 : ∀ t : Fin cfg0.N, win0_5.index t 0 = 0 ∧ win0_5.index t 1 = 0 := by
  decide +kernel

/-- Window 6's block lies at the start of its array. -/
theorem idx6 : ∀ t : Fin cfg0.N, win0_6.index t 0 = 0 ∧ win0_6.index t 1 = 0 := by
  decide +kernel

/-- Window 7's block lies at the start of its array. -/
theorem idx7 : ∀ t : Fin cfg0.N, win0_7.index t 0 = 0 ∧ win0_7.index t 1 = 0 := by
  decide +kernel

/-- Window 8's block lies at the start of its array. -/
theorem idx8 : ∀ t : Fin cfg0.N, win0_8.index t 0 = 0 ∧ win0_8.index t 1 = 0 := by
  decide +kernel

/-- Window 9's block lies at the start of its array. -/
theorem idx9 : ∀ t : Fin cfg0.N, win0_9.index t 0 = 0 ∧ win0_9.index t 1 = 0 := by
  decide +kernel

/-- The rows at a grid point: all of it. -/
theorem block0 (c : Dev nD) (t : Fin cfg0.N) (r : Fin 256) (l : Fin 1024) :
    (iblk m c 0 t : Vec Ideal S256x1024 .f32) (ix2 r l) = (m ((c : Thread nD τ).loc main_arg0) : Vec Ideal S256x1024 .f32) (ix2 r l) := by
  obtain ⟨h0, h1⟩ := idx0 t
  unfold iblk
  rw [View.read_apply]
  show V m c main_arg0 _ = _
  rw [V_main_arg0]
  congr 1
  funext a
  apply Fin.ext
  match a with
  | ⟨0, _⟩ => show win0_0.index t 0 * 256 + 1 * r.val = r.val; rw [h0]; try omega
  | ⟨1, _⟩ => show win0_0.index t 1 * 1024 + 1 * l.val = l.val; rw [h1]; try omega

/-- The modulation's scale at a grid point: all of it. -/
theorem block1 (c : Dev nD) (t : Fin cfg0.N) (r : Fin 256) (l : Fin 1024) :
    (iblk m c 1 t : Vec Ideal S1x256x1024 .f32) (ix3 0 r l) = (m ((c : Thread nD τ).loc main_arg1) : Vec Ideal S1x256x1024 .f32) (ix3 0 r l) := by
  obtain ⟨h0, h1, h2⟩ := idx1 t
  unfold iblk
  rw [View.read_apply]
  show V m c main_arg1 _ = _
  rw [V_main_arg1]
  congr 1
  funext a
  apply Fin.ext
  match a with
  | ⟨0, _⟩ => show win0_1.index t 0 * 1 + 1 * 0 = 0; rw [h0]; try omega
  | ⟨1, _⟩ => show win0_1.index t 1 * 256 + 1 * r.val = r.val; rw [h1]; try omega
  | ⟨2, _⟩ => show win0_1.index t 2 * 1024 + 1 * l.val = l.val; rw [h2]; try omega

/-- The modulation's shift at a grid point: all of it. -/
theorem block2 (c : Dev nD) (t : Fin cfg0.N) (r : Fin 256) (l : Fin 1024) :
    (iblk m c 2 t : Vec Ideal S1x256x1024 .f32) (ix3 0 r l) = (m ((c : Thread nD τ).loc main_arg2) : Vec Ideal S1x256x1024 .f32) (ix3 0 r l) := by
  obtain ⟨h0, h1, h2⟩ := idx2 t
  unfold iblk
  rw [View.read_apply]
  show V m c main_arg2 _ = _
  rw [V_main_arg2]
  congr 1
  funext a
  apply Fin.ext
  match a with
  | ⟨0, _⟩ => show win0_2.index t 0 * 1 + 1 * 0 = 0; rw [h0]; try omega
  | ⟨1, _⟩ => show win0_2.index t 1 * 256 + 1 * r.val = r.val; rw [h1]; try omega
  | ⟨2, _⟩ => show win0_2.index t 2 * 1024 + 1 * l.val = l.val; rw [h2]; try omega

/-- The norm's scale, laid out as one row. -/
theorem scale3 (c : Dev nD) : (V m c main_v0 : FVec Ideal S1x1024 .f32)
    = shapeCast _ (m ((c : Thread nD τ).loc main_arg3) : FVec Ideal S1024 .f32) shapeCasts_S1024_S1x1024 := by
  unfold V hostOps0
  after_results_simp
  rfl

/-- The norm's scale at a grid point. -/
theorem block3 (c : Dev nD) (t : Fin cfg0.N) (l : Fin 1024) :
    (iblk m c 3 t : Vec Ideal S1x1024 .f32) (ix2 0 l) = (m ((c : Thread nD τ).loc main_arg3) : Vec Ideal S1024 .f32) (ix1 l) := by
  obtain ⟨h0, h1⟩ := idx3 t
  unfold iblk
  rw [View.read_apply]
  show (V m c main_v0 : FVec Ideal S1x1024 .f32) _ = _
  rw [scale3]
  have e : ((cfg0.win 3).blk t).view.emb (ix2 0 l : S1x1024.Idx) = (ix2 0 l : S1x1024.Idx) := by
    funext a
    apply Fin.ext
    match a with
    | ⟨0, _⟩ => show win0_3.index t 0 * 1 + 1 * 0 = 0; rw [h0]
    | ⟨1, _⟩ => show win0_3.index t 1 * 1024 + 1 * l.val = l.val; rw [h1]; omega
  rw [e]
  pointwise

/-- The weights' array at a grid point: all of it. -/
theorem block4 (c : Dev nD) (t : Fin cfg0.N) (r : Fin 1024) (l : Fin 3072) :
    (iblk m c 4 t : Vec Ideal S1024x3072 .bf16) (ix2 r l) = (m ((c : Thread nD τ).loc main_arg4) : Vec Ideal S1024x3072 .bf16) (ix2 r l) := by
  obtain ⟨h0, h1⟩ := idx4 t
  unfold iblk
  rw [View.read_apply]
  show V m c main_arg4 _ = _
  rw [V_main_arg4]
  congr 1
  funext a
  apply Fin.ext
  match a with
  | ⟨0, _⟩ => show win0_4.index t 0 * 1024 + 1 * r.val = r.val; rw [h0]; try omega
  | ⟨1, _⟩ => show win0_4.index t 1 * 3072 + 1 * l.val = l.val; rw [h1]; try omega

/-- The body's projection is the reference's. -/
theorem proj_block (c : Dev nD) (t : Fin cfg0.N) (r : Fin 256) (l : Fin 3072) :
    k0_pay5 (iblk m c 0 t) (iblk m c 3 t) (iblk m c 1 t) (iblk m c 2 t) (iblk m c 4 t) (ix2 r l)
      = proj (m ((c : Thread nD τ).loc main_arg0)) (m ((c : Thread nD τ).loc main_arg1)) (m ((c : Thread nD τ).loc main_arg2)) (m ((c : Thread nD τ).loc main_arg3)) (m ((c : Thread nD τ).loc main_arg4)) (ix2 r l) := by
  rw [pay5_apply, proj_apply]
  refine Finset.sum_congr rfl fun x _ => ?_
  rw [normed_apply]
  simp only [block0, block1, block2, block3, block4]

/-- Output 5: what the reference gives from the same arguments. -/
def result0 (c : Dev nD) : Buf (Elt Ideal) ((c : Thread nD τ).loc main_v1_0) :=
  res0 (m ((c : Thread nD τ).loc main_arg0)) (m ((c : Thread nD τ).loc main_arg1)) (m ((c : Thread nD τ).loc main_arg2)) (m ((c : Thread nD τ).loc main_arg3)) (m ((c : Thread nD τ).loc main_arg4))

/-- What the body leaves at an entry of output 5's block at a grid point. -/
theorem out_entry5 (c : Dev nD) (t : Fin cfg0.N) (r : Fin 256) (l : Fin 1024) :
    out0_5 (iblk m c 0 t) (iblk m c 1 t) (iblk m c 2 t) (iblk m c 3 t) (iblk m c 4 t) (ix2 r l)
      = (result0 m c : Vec Ideal S256x1024 .bf16) (ix2 r l) := by
  unfold out0_5 result0
  rw [View.canon_unit_zero off2, View.ld_unit_zero off2, View.ld_unit_zero off2, View.ld_unit_zero off3, View.ld_unit_zero off3, View.ld_unit_zero off2,
    pay6_apply, res0_apply, proj_block]

/-- Each grid point writes its block of output 5. -/
theorem flushed_eq5 (c : Dev nD) (t : Fin cfg0.N) :
    (dats m 0 c).flushed 5 t = ((cfg0.win 5).blk t).view.read (Elt Ideal) (result0 m c) := by
  obtain ⟨w0, w1⟩ := idx5 t
  rw [flushed5]
  funext j
  rw [View.read_apply]
  obtain ⟨r, l, rfl⟩ : ∃ (r : Fin 256) (l : Fin 1024), j = (ix2 r l : S256x1024.Idx) := by
    refine ⟨j 0, j 1, funext fun a => ?_⟩
    match a with
    | ⟨0, _⟩ => rfl
    | ⟨1, _⟩ => rfl
  refine (out_entry5 m c t r l).trans ?_
  have e : ((cfg0.win 5).blk t).view.emb (ix2 r l : S256x1024.Idx) = (ix2 r l : S256x1024.Idx) := by
    funext a
    apply Fin.ext
    match a with
    | ⟨0, _⟩ => show win0_5.index t 0 * 256 + 1 * r.val = r.val; rw [w0]; omega
    | ⟨1, _⟩ => show win0_5.index t 1 * 1024 + 1 * l.val = l.val; rw [w1]; omega
  show _ = result0 m c (((cfg0.win 5).blk t).view.emb (ix2 r l : S256x1024.Idx))
  rw [e]

/-- Output 5 after the run. -/
theorem final5 (c : Dev nD) : (dats m 0 c).arrAt 5 cfg0.N = result0 m c :=
  (dats m 0 c).arrAt_eq_of_cover 5 (result0 m c) (fun t _ => flushed_eq5 m c t) fun i => by
    have h0 : (i 0 : Nat) < 256 := (i 0).isLt
    have h1 : (i 1 : Nat) < 1024 := (i 1).isLt
    have hN : cfg0.N = 1 := N_0
    let t : Fin cfg0.N := ⟨0, by omega⟩
    obtain ⟨w0, w1⟩ := idx5 t
    refine ⟨t, flush0_5 t, ?_⟩
    show i ∈ ((View.whole main_v1_0).slice (win0_5.rect t)).set
    rw [View.set_slice_whole, Rect.mem_set_unit]
    intro a
    match a with
    | ⟨0, _⟩ =>
      show win0_5.index t 0 * 256 ≤ (i 0 : Nat) ∧ (i 0 : Nat) < win0_5.index t 0 * 256 + 256
      rw [w0]; omega
    | ⟨1, _⟩ =>
      show win0_5.index t 1 * 1024 ≤ (i 1 : Nat) ∧ (i 1 : Nat) < win0_5.index t 1 * 1024 + 1024
      rw [w1]; omega

/-- Output 6: what the reference gives from the same arguments. -/
def result1 (c : Dev nD) : Buf (Elt Ideal) ((c : Thread nD τ).loc main_v1_1) :=
  res1 (m ((c : Thread nD τ).loc main_arg0)) (m ((c : Thread nD τ).loc main_arg1)) (m ((c : Thread nD τ).loc main_arg2)) (m ((c : Thread nD τ).loc main_arg3)) (m ((c : Thread nD τ).loc main_arg4))

/-- What the body leaves at an entry of output 6's block at a grid point. -/
theorem out_entry6 (c : Dev nD) (t : Fin cfg0.N) (r : Fin 256) (l : Fin 1024) :
    out0_6 (iblk m c 0 t) (iblk m c 1 t) (iblk m c 2 t) (iblk m c 3 t) (iblk m c 4 t) (ix2 r l)
      = (result1 m c : Vec Ideal S256x1024 .f32) (ix2 r l) := by
  unfold out0_6 result1 k0_pay7
  rw [View.canon_unit_zero off2, View.ld_unit_zero off2, View.ld_unit_zero off2, View.ld_unit_zero off3, View.ld_unit_zero off3, View.ld_unit_zero off2,
    pay1_apply, res1_apply, proj_block]

/-- Each grid point writes its block of output 6. -/
theorem flushed_eq6 (c : Dev nD) (t : Fin cfg0.N) :
    (dats m 0 c).flushed 6 t = ((cfg0.win 6).blk t).view.read (Elt Ideal) (result1 m c) := by
  obtain ⟨w0, w1⟩ := idx6 t
  rw [flushed6]
  funext j
  rw [View.read_apply]
  obtain ⟨r, l, rfl⟩ : ∃ (r : Fin 256) (l : Fin 1024), j = (ix2 r l : S256x1024.Idx) := by
    refine ⟨j 0, j 1, funext fun a => ?_⟩
    match a with
    | ⟨0, _⟩ => rfl
    | ⟨1, _⟩ => rfl
  refine (out_entry6 m c t r l).trans ?_
  have e : ((cfg0.win 6).blk t).view.emb (ix2 r l : S256x1024.Idx) = (ix2 r l : S256x1024.Idx) := by
    funext a
    apply Fin.ext
    match a with
    | ⟨0, _⟩ => show win0_6.index t 0 * 256 + 1 * r.val = r.val; rw [w0]; omega
    | ⟨1, _⟩ => show win0_6.index t 1 * 1024 + 1 * l.val = l.val; rw [w1]; omega
  show _ = result1 m c (((cfg0.win 6).blk t).view.emb (ix2 r l : S256x1024.Idx))
  rw [e]

/-- Output 6 after the run. -/
theorem final6 (c : Dev nD) : (dats m 0 c).arrAt 6 cfg0.N = result1 m c :=
  (dats m 0 c).arrAt_eq_of_cover 6 (result1 m c) (fun t _ => flushed_eq6 m c t) fun i => by
    have h0 : (i 0 : Nat) < 256 := (i 0).isLt
    have h1 : (i 1 : Nat) < 1024 := (i 1).isLt
    have hN : cfg0.N = 1 := N_0
    let t : Fin cfg0.N := ⟨0, by omega⟩
    obtain ⟨w0, w1⟩ := idx6 t
    refine ⟨t, flush0_6 t, ?_⟩
    show i ∈ ((View.whole main_v1_1).slice (win0_6.rect t)).set
    rw [View.set_slice_whole, Rect.mem_set_unit]
    intro a
    match a with
    | ⟨0, _⟩ =>
      show win0_6.index t 0 * 256 ≤ (i 0 : Nat) ∧ (i 0 : Nat) < win0_6.index t 0 * 256 + 256
      rw [w0]; omega
    | ⟨1, _⟩ =>
      show win0_6.index t 1 * 1024 ≤ (i 1 : Nat) ∧ (i 1 : Nat) < win0_6.index t 1 * 1024 + 1024
      rw [w1]; omega

/-- Output 7: what the reference gives from the same arguments. -/
def result2 (c : Dev nD) : Buf (Elt Ideal) ((c : Thread nD τ).loc main_v1_2) :=
  res2 (m ((c : Thread nD τ).loc main_arg0)) (m ((c : Thread nD τ).loc main_arg1)) (m ((c : Thread nD τ).loc main_arg2)) (m ((c : Thread nD τ).loc main_arg3)) (m ((c : Thread nD τ).loc main_arg4))

/-- What the body leaves at an entry of output 7's block at a grid point. -/
theorem out_entry7 (c : Dev nD) (t : Fin cfg0.N) (r : Fin 256) (l : Fin 1024) :
    out0_7 (iblk m c 0 t) (iblk m c 1 t) (iblk m c 2 t) (iblk m c 3 t) (iblk m c 4 t) (ix2 r l)
      = (result2 m c : Vec Ideal S256x1024 .f32) (ix2 r l) := by
  unfold out0_7 result2 k0_pay7
  rw [View.canon_unit_zero off2, View.ld_unit_zero off2, View.ld_unit_zero off2, View.ld_unit_zero off3, View.ld_unit_zero off3, View.ld_unit_zero off2,
    pay2_apply, res2_apply, proj_block]

/-- Each grid point writes its block of output 7. -/
theorem flushed_eq7 (c : Dev nD) (t : Fin cfg0.N) :
    (dats m 0 c).flushed 7 t = ((cfg0.win 7).blk t).view.read (Elt Ideal) (result2 m c) := by
  obtain ⟨w0, w1⟩ := idx7 t
  rw [flushed7]
  funext j
  rw [View.read_apply]
  obtain ⟨r, l, rfl⟩ : ∃ (r : Fin 256) (l : Fin 1024), j = (ix2 r l : S256x1024.Idx) := by
    refine ⟨j 0, j 1, funext fun a => ?_⟩
    match a with
    | ⟨0, _⟩ => rfl
    | ⟨1, _⟩ => rfl
  refine (out_entry7 m c t r l).trans ?_
  have e : ((cfg0.win 7).blk t).view.emb (ix2 r l : S256x1024.Idx) = (ix2 r l : S256x1024.Idx) := by
    funext a
    apply Fin.ext
    match a with
    | ⟨0, _⟩ => show win0_7.index t 0 * 256 + 1 * r.val = r.val; rw [w0]; omega
    | ⟨1, _⟩ => show win0_7.index t 1 * 1024 + 1 * l.val = l.val; rw [w1]; omega
  show _ = result2 m c (((cfg0.win 7).blk t).view.emb (ix2 r l : S256x1024.Idx))
  rw [e]

/-- Output 7 after the run. -/
theorem final7 (c : Dev nD) : (dats m 0 c).arrAt 7 cfg0.N = result2 m c :=
  (dats m 0 c).arrAt_eq_of_cover 7 (result2 m c) (fun t _ => flushed_eq7 m c t) fun i => by
    have h0 : (i 0 : Nat) < 256 := (i 0).isLt
    have h1 : (i 1 : Nat) < 1024 := (i 1).isLt
    have hN : cfg0.N = 1 := N_0
    let t : Fin cfg0.N := ⟨0, by omega⟩
    obtain ⟨w0, w1⟩ := idx7 t
    refine ⟨t, flush0_7 t, ?_⟩
    show i ∈ ((View.whole main_v1_2).slice (win0_7.rect t)).set
    rw [View.set_slice_whole, Rect.mem_set_unit]
    intro a
    match a with
    | ⟨0, _⟩ =>
      show win0_7.index t 0 * 256 ≤ (i 0 : Nat) ∧ (i 0 : Nat) < win0_7.index t 0 * 256 + 256
      rw [w0]; omega
    | ⟨1, _⟩ =>
      show win0_7.index t 1 * 1024 ≤ (i 1 : Nat) ∧ (i 1 : Nat) < win0_7.index t 1 * 1024 + 1024
      rw [w1]; omega

/-- Output 8: what the reference gives from the same arguments. -/
def result3 (c : Dev nD) : Buf (Elt Ideal) ((c : Thread nD τ).loc main_v1_3) :=
  res3 (m ((c : Thread nD τ).loc main_arg0)) (m ((c : Thread nD τ).loc main_arg1)) (m ((c : Thread nD τ).loc main_arg2)) (m ((c : Thread nD τ).loc main_arg3)) (m ((c : Thread nD τ).loc main_arg4))

/-- What the body leaves at an entry of output 8's block at a grid point. -/
theorem out_entry8 (c : Dev nD) (t : Fin cfg0.N) (r : Fin 256) (l : Fin 1024) :
    out0_8 (iblk m c 0 t) (iblk m c 1 t) (iblk m c 2 t) (iblk m c 3 t) (iblk m c 4 t) (ix2 r l)
      = (result3 m c : Vec Ideal S256x1024 .bf16) (ix2 r l) := by
  unfold out0_8 result3 k0_pay7
  rw [View.canon_unit_zero off2, View.ld_unit_zero off2, View.ld_unit_zero off2, View.ld_unit_zero off3, View.ld_unit_zero off3, View.ld_unit_zero off2,
    pay3_apply, res3_apply, proj_block]

/-- Each grid point writes its block of output 8. -/
theorem flushed_eq8 (c : Dev nD) (t : Fin cfg0.N) :
    (dats m 0 c).flushed 8 t = ((cfg0.win 8).blk t).view.read (Elt Ideal) (result3 m c) := by
  obtain ⟨w0, w1⟩ := idx8 t
  rw [flushed8]
  funext j
  rw [View.read_apply]
  obtain ⟨r, l, rfl⟩ : ∃ (r : Fin 256) (l : Fin 1024), j = (ix2 r l : S256x1024.Idx) := by
    refine ⟨j 0, j 1, funext fun a => ?_⟩
    match a with
    | ⟨0, _⟩ => rfl
    | ⟨1, _⟩ => rfl
  refine (out_entry8 m c t r l).trans ?_
  have e : ((cfg0.win 8).blk t).view.emb (ix2 r l : S256x1024.Idx) = (ix2 r l : S256x1024.Idx) := by
    funext a
    apply Fin.ext
    match a with
    | ⟨0, _⟩ => show win0_8.index t 0 * 256 + 1 * r.val = r.val; rw [w0]; omega
    | ⟨1, _⟩ => show win0_8.index t 1 * 1024 + 1 * l.val = l.val; rw [w1]; omega
  show _ = result3 m c (((cfg0.win 8).blk t).view.emb (ix2 r l : S256x1024.Idx))
  rw [e]

/-- Output 8 after the run. -/
theorem final8 (c : Dev nD) : (dats m 0 c).arrAt 8 cfg0.N = result3 m c :=
  (dats m 0 c).arrAt_eq_of_cover 8 (result3 m c) (fun t _ => flushed_eq8 m c t) fun i => by
    have h0 : (i 0 : Nat) < 256 := (i 0).isLt
    have h1 : (i 1 : Nat) < 1024 := (i 1).isLt
    have hN : cfg0.N = 1 := N_0
    let t : Fin cfg0.N := ⟨0, by omega⟩
    obtain ⟨w0, w1⟩ := idx8 t
    refine ⟨t, flush0_8 t, ?_⟩
    show i ∈ ((View.whole main_v1_3).slice (win0_8.rect t)).set
    rw [View.set_slice_whole, Rect.mem_set_unit]
    intro a
    match a with
    | ⟨0, _⟩ =>
      show win0_8.index t 0 * 256 ≤ (i 0 : Nat) ∧ (i 0 : Nat) < win0_8.index t 0 * 256 + 256
      rw [w0]; omega
    | ⟨1, _⟩ =>
      show win0_8.index t 1 * 1024 ≤ (i 1 : Nat) ∧ (i 1 : Nat) < win0_8.index t 1 * 1024 + 1024
      rw [w1]; omega

/-- Output 9: what the reference gives from the same arguments. -/
def result4 (c : Dev nD) : Buf (Elt Ideal) ((c : Thread nD τ).loc main_v1_4) :=
  res4 (m ((c : Thread nD τ).loc main_arg0)) (m ((c : Thread nD τ).loc main_arg1)) (m ((c : Thread nD τ).loc main_arg2)) (m ((c : Thread nD τ).loc main_arg3)) (m ((c : Thread nD τ).loc main_arg4))

/-- What the body leaves at an entry of output 9's block at a grid point. -/
theorem out_entry9 (c : Dev nD) (t : Fin cfg0.N) (r : Fin 256) (l : Fin 1024) :
    out0_9 (iblk m c 0 t) (iblk m c 1 t) (iblk m c 2 t) (iblk m c 3 t) (iblk m c 4 t) (ix2 r l)
      = (result4 m c : Vec Ideal S256x1024 .bf16) (ix2 r l) := by
  unfold out0_9 result4 k0_pay7
  rw [View.canon_unit_zero off2, View.ld_unit_zero off2, View.ld_unit_zero off2, View.ld_unit_zero off3, View.ld_unit_zero off3, View.ld_unit_zero off2,
    pay4_apply, res4_apply, proj_block]

/-- Each grid point writes its block of output 9. -/
theorem flushed_eq9 (c : Dev nD) (t : Fin cfg0.N) :
    (dats m 0 c).flushed 9 t = ((cfg0.win 9).blk t).view.read (Elt Ideal) (result4 m c) := by
  obtain ⟨w0, w1⟩ := idx9 t
  rw [flushed9]
  funext j
  rw [View.read_apply]
  obtain ⟨r, l, rfl⟩ : ∃ (r : Fin 256) (l : Fin 1024), j = (ix2 r l : S256x1024.Idx) := by
    refine ⟨j 0, j 1, funext fun a => ?_⟩
    match a with
    | ⟨0, _⟩ => rfl
    | ⟨1, _⟩ => rfl
  refine (out_entry9 m c t r l).trans ?_
  have e : ((cfg0.win 9).blk t).view.emb (ix2 r l : S256x1024.Idx) = (ix2 r l : S256x1024.Idx) := by
    funext a
    apply Fin.ext
    match a with
    | ⟨0, _⟩ => show win0_9.index t 0 * 256 + 1 * r.val = r.val; rw [w0]; omega
    | ⟨1, _⟩ => show win0_9.index t 1 * 1024 + 1 * l.val = l.val; rw [w1]; omega
  show _ = result4 m c (((cfg0.win 9).blk t).view.emb (ix2 r l : S256x1024.Idx))
  rw [e]

/-- Output 9 after the run. -/
theorem final9 (c : Dev nD) : (dats m 0 c).arrAt 9 cfg0.N = result4 m c :=
  (dats m 0 c).arrAt_eq_of_cover 9 (result4 m c) (fun t _ => flushed_eq9 m c t) fun i => by
    have h0 : (i 0 : Nat) < 256 := (i 0).isLt
    have h1 : (i 1 : Nat) < 1024 := (i 1).isLt
    have hN : cfg0.N = 1 := N_0
    let t : Fin cfg0.N := ⟨0, by omega⟩
    obtain ⟨w0, w1⟩ := idx9 t
    refine ⟨t, flush0_9 t, ?_⟩
    show i ∈ ((View.whole main_v1_4).slice (win0_9.rect t)).set
    rw [View.set_slice_whole, Rect.mem_set_unit]
    intro a
    match a with
    | ⟨0, _⟩ =>
      show win0_9.index t 0 * 256 ≤ (i 0 : Nat) ∧ (i 0 : Nat) < win0_9.index t 0 * 256 + 256
      rw [w0]; omega
    | ⟨1, _⟩ =>
      show win0_9.index t 1 * 1024 ≤ (i 1 : Nat) ∧ (i 1 : Nat) < win0_9.index t 1 * 1024 + 1024
      rw [w1]; omega

end Cert.Kernel8Ideal.Rows

end
-- ==== Proof.UpTileS.lean ====
/-
  The sample's up projection with its convolution along the positions and its gate: the reference at an
  entry, and what one run of the kernel's body leaves.
-/
module

public import proofs.«01_k».proof.Proof.UpTile
public import proofs.«01_k».proof.Proof.Gen.Kernel9Ideal.Value
public import proofs.«01_k».proof.Proof.Gen.Reference9Ideal.Run
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.Reference9Ideal.Rows

open Cert.Reference9Ideal Cert.Reference9Ideal.Gen
open Cert.Reference5Ideal.Rows (gated)

/-- The up projection behind the two rows before it. -/
def full (a0 : FVec Ideal S32x8x1024 .bf16) (a1 : FVec Ideal S32x2x5632 .f32) (a2 : FVec Ideal S1024x5632 .bf16) : FVec Ideal S32x10x5632 .f32 :=
  concatenate S32x10x5632 1 [⟨S32x2x5632, a1⟩, ⟨S32x8x5632, (Host.dotGeneral dot_S32x8x1024_S1024x5632_S32x8x5632_2_0_01_1_n_n none (extf .f32 a0 bitsLt_bf16_f32) (extf .f32 a2 bitsLt_bf16_f32))⟩] concatenates_S32x2x5632_S32x8x5632_S32x10x5632_d1

/-- The convolution along the positions. -/
def conv (a0 : FVec Ideal S32x8x1024 .bf16) (a1 : FVec Ideal S32x2x5632 .f32) (a2 : FVec Ideal S1024x5632 .bf16) (a3 : FVec Ideal S3x5632 .f32) (a4 : FVec Ideal S5632 .f32) : FVec Ideal S32x8x5632 .f32 :=
  addf (broadcastInDim S32x8x5632 ![0, 1, 2] bcast_S1x1x5632_S32x8x5632_0_1_2 (broadcastInDim S1x1x5632 ![2] bcast_S5632_S1x1x5632_2 a4)) (addf (addf (addf (broadcastInDim S32x8x5632 ![] bcast_S_S32x8x5632 (constant S_ .f32 0x00000000#32)) (mulf (broadcastInDim S32x8x5632 ![0, 1, 2] bcast_S1x1x5632_S32x8x5632_0_1_2 (broadcastInDim S1x1x5632 ![2] bcast_S5632_S1x1x5632_2 (shapeCast _ (extractStridedSlice S1x5632 ![0, 0] a3 slices_S3x5632_S1x5632_0_0) shapeCasts_S1x5632_S5632))) (extractStridedSlice S32x8x5632 ![0, 0, 0] (full a0 a1 a2) slices_S32x10x5632_S32x8x5632_0_0_0))) (mulf (broadcastInDim S32x8x5632 ![0, 1, 2] bcast_S1x1x5632_S32x8x5632_0_1_2 (broadcastInDim S1x1x5632 ![2] bcast_S5632_S1x1x5632_2 (shapeCast _ (extractStridedSlice S1x5632 ![1, 0] a3 slices_S3x5632_S1x5632_1_0) shapeCasts_S1x5632_S5632))) (extractStridedSlice S32x8x5632 ![0, 1, 0] (full a0 a1 a2) slices_S32x10x5632_S32x8x5632_0_1_0))) (mulf (broadcastInDim S32x8x5632 ![0, 1, 2] bcast_S1x1x5632_S32x8x5632_0_1_2 (broadcastInDim S1x1x5632 ![2] bcast_S5632_S1x1x5632_2 (shapeCast _ (extractStridedSlice S1x5632 ![2, 0] a3 slices_S3x5632_S1x5632_2_0) shapeCasts_S1x5632_S5632))) (extractStridedSlice S32x8x5632 ![0, 2, 0] (full a0 a1 a2) slices_S32x10x5632_S32x8x5632_0_2_0)))

/-- The gated activation, from the arguments. -/
def res0 (a0 : FVec Ideal S32x8x1024 .bf16) (a1 : FVec Ideal S32x2x5632 .f32) (a2 : FVec Ideal S1024x5632 .bf16) (a3 : FVec Ideal S3x5632 .f32) (a4 : FVec Ideal S5632 .f32) : FVec Ideal S32x8x2816 .bf16 :=
  truncf .bf16 (mulf (mulf (extractStridedSlice S32x8x2816 ![0, 0, 0] (conv a0 a1 a2 a3 a4) slices_S32x8x5632_S32x8x2816_0_0_0) (Host.divf (broadcastInDim S32x8x2816 ![] bcast_S_S32x8x2816 (constant S_ .f32 0x3F800000#32)) (addf (broadcastInDim S32x8x2816 ![] bcast_S_S32x8x2816 (constant S_ .f32 0x3F800000#32)) (Host.exp (Host.negf (extractStridedSlice S32x8x2816 ![0, 0, 0] (conv a0 a1 a2 a3 a4) slices_S32x8x5632_S32x8x2816_0_0_0)))))) (extractStridedSlice S32x8x2816 ![0, 0, 2816] (conv a0 a1 a2 a3 a4) slices_S32x8x5632_S32x8x2816_0_0_2816)) bitsLt_bf16_f32

/-- The last two rows, from the arguments. -/
def res1 (a0 : FVec Ideal S32x8x1024 .bf16) (a1 : FVec Ideal S32x2x5632 .f32) (a2 : FVec Ideal S1024x5632 .bf16) : FVec Ideal S32x2x5632 .f32 :=
  extractStridedSlice S32x2x5632 ![0, 8, 0] (full a0 a1 a2) slices_S32x10x5632_S32x2x5632_0_8_0

/-- The up projection of a position, on a lane. -/
def up (a0 : FVec Ideal S32x8x1024 .bf16) (a2 : FVec Ideal S1024x5632 .bf16) (b : Fin 32) (s : Fin 8) (j : Fin 5632) : EReal :=
  ∑ k, a0 (ix3 b s k) * a2 (ix2 k j)

/-- A row of `full` at an entry: one of the two rows before, or the up projection two positions back. -/
theorem full_apply (a0 : FVec Ideal S32x8x1024 .bf16) (a1 : FVec Ideal S32x2x5632 .f32) (a2 : FVec Ideal S1024x5632 .bf16) (b : Fin 32) (p : Fin 10) (j : Fin 5632) :
    full a0 a1 a2 (ix3 b p j) = if h : p.val < 2 then a1 (ix3 b ⟨p.val, h⟩ j) else up a0 a2 b ⟨p.val - 2, by omega⟩ j := by
  pointwise [full, up]

/-- The convolution at an entry. -/
theorem conv_apply (a0 : FVec Ideal S32x8x1024 .bf16) (a1 : FVec Ideal S32x2x5632 .f32) (a2 : FVec Ideal S1024x5632 .bf16) (a3 : FVec Ideal S3x5632 .f32) (a4 : FVec Ideal S5632 .f32) (b : Fin 32) (s : Fin 8) (j : Fin 5632) :
    conv a0 a1 a2 a3 a4 (ix3 b s j) = a4 (ix1 j) + a3 (ix2 0 j) * full a0 a1 a2 (ix3 b ⟨s.val, by omega⟩ j)
      + a3 (ix2 1 j) * full a0 a1 a2 (ix3 b ⟨1 + s.val, by omega⟩ j) + a3 (ix2 2 j) * full a0 a1 a2 (ix3 b ⟨2 + s.val, by omega⟩ j) := by
  pointwise [conv]
  simp only [add_assoc]

/-- The gated activation at an entry. -/
theorem res0_apply (a0 : FVec Ideal S32x8x1024 .bf16) (a1 : FVec Ideal S32x2x5632 .f32) (a2 : FVec Ideal S1024x5632 .bf16) (a3 : FVec Ideal S3x5632 .f32) (a4 : FVec Ideal S5632 .f32) (b : Fin 32) (s : Fin 8) (j : Fin 2816) :
    res0 a0 a1 a2 a3 a4 (ix3 b s j) = gated (conv a0 a1 a2 a3 a4 (ix3 b s ⟨j.val, by omega⟩)) (conv a0 a1 a2 a3 a4 (ix3 b s ⟨2816 + j.val, by omega⟩)) := by
  pointwise [res0, gated]

/-- The last two rows at an entry. -/
theorem res1_apply (a0 : FVec Ideal S32x8x1024 .bf16) (a1 : FVec Ideal S32x2x5632 .f32) (a2 : FVec Ideal S1024x5632 .bf16) (b : Fin 32) (p : Fin 2) (j : Fin 5632) :
    res1 a0 a1 a2 (ix3 b p j) = up a0 a2 b ⟨6 + p.val, by omega⟩ j := by
  have h : res1 a0 a1 a2 (ix3 b p j) = full a0 a1 a2 (ix3 b ⟨8 + p.val, by omega⟩ j) := by pointwise [res1]
  rw [h, full_apply, dif_neg (by show ¬8 + p.val < 2; omega)]
  congr 1
  apply Fin.ext
  show 8 + p.val - 2 = 6 + p.val
  omega

/-- A row of `full` two positions on is the up projection. -/
theorem full_up (a0 : FVec Ideal S32x8x1024 .bf16) (a1 : FVec Ideal S32x2x5632 .f32) (a2 : FVec Ideal S1024x5632 .bf16) (b : Fin 32) (P : Fin 10) (s : Fin 8) (j : Fin 5632) (h : P.val = s.val + 2) :
    full a0 a1 a2 (ix3 b P j) = up a0 a2 b s j := by
  rw [full_apply, dif_neg (by omega)]
  congr 1
  apply Fin.ext
  show P.val - 2 = s.val
  omega

end Cert.Reference9Ideal.Rows

namespace Cert.Kernel9Ideal.Rows

open Cert.Kernel9Ideal Cert.Kernel9Ideal.Gen Cert.Kernel9Ideal.Value Cert.Rows
open Cert.Reference9Ideal.Rows
open Cert.Reference5Ideal.Rows (gated)
open Cert.Kernel5Ideal.Rows (hit2 hit3 miss2 miss3 row_ld ld2)

/-- The row before, of the rows `f` behind a row `c1`. -/
def prev1 (c1 : EReal) (f : Fin 8 → EReal) (r : Fin 8) : EReal :=
  if r.val = 0 then c1 else f ⟨r.val - 1, by omega⟩

/-- The row before that, of the rows `f` behind the rows `c0` and `c1`. -/
def prev2 (c0 c1 : EReal) (f : Fin 8 → EReal) (r : Fin 8) : EReal :=
  if r.val = 0 then c0 else if r.val = 1 then c1 else f ⟨r.val - 2, by omega⟩

/-- The convolution of a lane's rows with the weights `a`, `b`, `d` and the bias `z`. -/
def cv (f : Fin 8 → EReal) (c0 c1 a b d z : EReal) (r : Fin 8) : EReal :=
  z + a * prev2 c0 c1 f r + b * prev1 c1 f r + d * f r

/-- The block's up projection on a lane. -/
def tile (x0 : Vec Ideal S1x8x1024 .bf16) (x2 : Vec Ideal S1024x5632 .bf16) (r : Fin 8) (j : Fin 5632) : EReal :=
  ∑ k, x0 (ix3 0 r k) * x2 (ix2 k j)

/-- The block's convolution on a lane, behind the two rows `c0` and `c1`. -/
def tconv (x0 : Vec Ideal S1x8x1024 .bf16) (x2 : Vec Ideal S1024x5632 .bf16) (x3 : Vec Ideal S3x5632 .f32) (x4 : Vec Ideal S1x5632 .f32) (cr : Fin 2 → Fin 5632 → EReal) (r : Fin 8) (j : Fin 5632) : EReal :=
  cv (fun s => tile x0 x2 s j) (cr 0 j) (cr 1 j) (x3 (ix2 0 j)) (x3 (ix2 1 j)) (x3 (ix2 2 j)) (x4 (ix2 0 j)) r

/-- A choice on the row being the first, or the second. -/
theorem select_row (r : Fin 8) (x y : EReal) :
    Scalar.select (IntOp.cmpi CmpIPredicate.eq (BitVec.ofNat 32 r.val) 0#32) x y = (if r.val = 0 then x else y) ∧
    Scalar.select (IntOp.cmpi CmpIPredicate.eq (BitVec.ofNat 32 r.val) 1#32) x y = (if r.val = 1 then x else y) := by
  have h0 : IntOp.cmpi CmpIPredicate.eq (BitVec.ofNat 32 r.val) 0#32 = if r.val = 0 then 1#1 else 0#1 := by
    revert r; decide +kernel
  have h1 : IntOp.cmpi CmpIPredicate.eq (BitVec.ofNat 32 r.val) 1#32 = if r.val = 1 then 1#1 else 0#1 := by
    revert r; decide +kernel
  rw [h0, h1]
  constructor <;> (unfold Scalar.select; split <;> simp_all)

/-- A choice between the carried rows and the rows rotated by one, and by two. -/
theorem select_prev (f : Fin 8 → EReal) (c0 c1 : EReal) (r : Fin 8) (h1 : (r.val + 8 - 1) % 8 < 8) (h2 : (r.val + 8 - 2) % 8 < 8) :
    (if r.val = 0 then c1 else f ⟨(r.val + 8 - 1) % 8, h1⟩) = prev1 c1 f r ∧
    (if r.val = 0 then c0 else if r.val = 1 then c1 else f ⟨(r.val + 8 - 2) % 8, h2⟩) = prev2 c0 c1 f r := by
  unfold prev1 prev2
  constructor
  · split
    · rfl
    · congr 1; apply Fin.ext; show (r.val + 8 - 1) % 8 = r.val - 1; omega
  · split
    · rfl
    · split
      · rfl
      · congr 1; apply Fin.ext; show (r.val + 8 - 2) % 8 = r.val - 2; omega

/-- A chunk of the up projection, at an entry. -/
def dotW (x0 : Vec Ideal S1x8x1024 .bf16) (W : Vec Ideal S1024x1408 .bf16) (l : Fin 1408) (r : Fin 8) : EReal :=
  ∑ k, x0 (ix3 0 r k) * W (ix2 k l)

/-- The chunk at the first half's offset, gated, at an entry. -/
theorem gate0 (x0 : Vec Ideal S1x8x1024 .bf16) (W W' : Vec Ideal S1024x1408 .bf16) (p q a b d z p' q' a' b' d' z' : Vec Ideal S1x1408 .f32) (r : Fin 8) (l : Fin 1408) :
    k0_pay20 (k0_pay19 (k0_pay7 (k0_pay4 x0 W) (k0_pay5 x0 W q) (k0_pay6 x0 W p q) a b d z)
      (k0_pay11 (k0_pay3 x0) W') p' q' (k0_pay12 (k0_pay3 x0) (iota Kind.tc S8x1 32 [0] iota_S8x1_d0_w32) W' q')
      (k0_pay13 (iota Kind.tc S8x1 32 [0] iota_S8x1_d0_w32)) (k0_pay14 (k0_pay3 x0) W') (k0_pay15 (iota Kind.tc S8x1 32 [0] iota_S8x1_d0_w32)) a' b' d' z') (ix3 0 r l)
    = gated (cv (dotW x0 W l) (p (ix2 0 l)) (q (ix2 0 l)) (a (ix2 0 l)) (b (ix2 0 l)) (d (ix2 0 l)) (z (ix2 0 l)) r)
        (cv (dotW x0 W' l) (p' (ix2 0 l)) (q' (ix2 0 l)) (a' (ix2 0 l)) (b' (ix2 0 l)) (d' (ix2 0 l)) (z' (ix2 0 l)) r) := by
  pointwise [k0_pay20, k0_pay19, k0_pay7, k0_pay6, k0_pay5, k0_pay4, k0_pay3, k0_pay11, k0_pay12, k0_pay13, k0_pay14, k0_pay15]
  simp only [(select_row r _ _).1, (select_row r _ _).2, zero_sub]
  unfold gated cv
  rw [← (select_prev (dotW x0 W l) (p (ix2 0 l)) (q (ix2 0 l)) r (by omega) (by omega)).1,
    ← (select_prev (dotW x0 W l) (p (ix2 0 l)) (q (ix2 0 l)) r (by omega) (by omega)).2,
    ← (select_prev (dotW x0 W' l) (p' (ix2 0 l)) (q' (ix2 0 l)) r (by omega) (by omega)).1,
    ← (select_prev (dotW x0 W' l) (p' (ix2 0 l)) (q' (ix2 0 l)) r (by omega) (by omega)).2]
  rfl

/-- The chunk at the second half's offset, gated, at an entry. -/
theorem gate1 (x0 : Vec Ideal S1x8x1024 .bf16) (W W' : Vec Ideal S1024x1408 .bf16) (p q a b d z p' q' a' b' d' z' : Vec Ideal S1x1408 .f32) (r : Fin 8) (l : Fin 1408) :
    k0_pay1 (k0_pay37 (k0_pay25 (k0_pay21 (k0_pay3 x0) W) (k0_pay22 (k0_pay3 x0) (iota Kind.tc S8x1 32 [0] iota_S8x1_d0_w32) W q) b d (k0_pay23 z) (k0_pay24 (k0_pay3 x0) (iota Kind.tc S8x1 32 [0] iota_S8x1_d0_w32) W p q a))
      (k0_pay29 (k0_pay3 x0) W') (k0_pay30 (k0_pay3 x0) (iota Kind.tc S8x1 32 [0] iota_S8x1_d0_w32) W' q') (k0_pay31 (k0_pay3 x0) (iota Kind.tc S8x1 32 [0] iota_S8x1_d0_w32) W' q') (k0_pay32 (iota Kind.tc S8x1 32 [0] iota_S8x1_d0_w32)) (k0_pay33 p') a' b' d' z') (ix3 0 r l)
    = gated (cv (dotW x0 W l) (p (ix2 0 l)) (q (ix2 0 l)) (a (ix2 0 l)) (b (ix2 0 l)) (d (ix2 0 l)) (z (ix2 0 l)) r)
        (cv (dotW x0 W' l) (p' (ix2 0 l)) (q' (ix2 0 l)) (a' (ix2 0 l)) (b' (ix2 0 l)) (d' (ix2 0 l)) (z' (ix2 0 l)) r) := by
  pointwise [k0_pay1, k0_pay37, k0_pay25, k0_pay21, k0_pay22, k0_pay23, k0_pay24, k0_pay29, k0_pay30, k0_pay31, k0_pay32, k0_pay33, k0_pay3]
  simp only [(select_row r _ _).1, (select_row r _ _).2, zero_sub]
  unfold gated cv
  rw [← (select_prev (dotW x0 W l) (p (ix2 0 l)) (q (ix2 0 l)) r (by omega) (by omega)).1,
    ← (select_prev (dotW x0 W l) (p (ix2 0 l)) (q (ix2 0 l)) r (by omega) (by omega)).2,
    ← (select_prev (dotW x0 W' l) (p' (ix2 0 l)) (q' (ix2 0 l)) r (by omega) (by omega)).1,
    ← (select_prev (dotW x0 W' l) (p' (ix2 0 l)) (q' (ix2 0 l)) r (by omega) (by omega)).2]
  rfl

/-- The last two rows of a chunk, carried and written out, at an entry. -/
theorem last_apply (x0 : Vec Ideal S1x8x1024 .bf16) (W : Vec Ideal S1024x1408 .bf16) (p : Fin 2) (l : Fin 1408) :
    k0_pay9 (k0_pay4 x0 W) (ix2 p l) = dotW x0 W l ⟨6 + p.val, by omega⟩ ∧ k0_pay17 (k0_pay11 (k0_pay3 x0) W) (ix2 p l) = dotW x0 W l ⟨6 + p.val, by omega⟩ ∧
    k0_pay27 (k0_pay21 (k0_pay3 x0) W) (ix2 p l) = dotW x0 W l ⟨6 + p.val, by omega⟩ ∧ k0_pay35 (k0_pay29 (k0_pay3 x0) W) (ix2 p l) = dotW x0 W l ⟨6 + p.val, by omega⟩ ∧
    k0_pay10 (k0_pay4 x0 W) (ix3 0 p l) = dotW x0 W l ⟨6 + p.val, by omega⟩ ∧ k0_pay18 (k0_pay11 (k0_pay3 x0) W) (ix3 0 p l) = dotW x0 W l ⟨6 + p.val, by omega⟩ ∧
    k0_pay28 (k0_pay21 (k0_pay3 x0) W) (ix3 0 p l) = dotW x0 W l ⟨6 + p.val, by omega⟩ ∧ k0_pay36 (k0_pay29 (k0_pay3 x0) W) (ix3 0 p l) = dotW x0 W l ⟨6 + p.val, by omega⟩ := by
  refine ⟨?_, ?_, ?_, ?_, ?_, ?_, ?_, ?_⟩
  · pointwise [k0_pay9, k0_pay8, k0_pay4, k0_pay3, dotW]
  · pointwise [k0_pay17, k0_pay16, k0_pay11, k0_pay3, dotW]
  · pointwise [k0_pay27, k0_pay26, k0_pay21, k0_pay3, dotW]
  · pointwise [k0_pay35, k0_pay34, k0_pay29, k0_pay3, dotW]
  · pointwise [k0_pay10, k0_pay8, k0_pay4, k0_pay3, dotW]
  · pointwise [k0_pay18, k0_pay16, k0_pay11, k0_pay3, dotW]
  · pointwise [k0_pay28, k0_pay26, k0_pay21, k0_pay3, dotW]
  · pointwise [k0_pay36, k0_pay34, k0_pay29, k0_pay3, dotW]

/-- The carried rows at the start, at an entry. -/
theorem start_apply (x1 : Vec Ideal S1x2x5632 .f32) (p : Fin 2) (j : Fin 5632) : k0_pay2 x1 (ix2 p j) = x1 (ix3 0 p j) := by
  pointwise [k0_pay2]

/-- A chunk of the up projection is the block's, on the chunk's lanes. -/
theorem dotW_ld (x0 : Vec Ideal S1x8x1024 .bf16) (x2 : Vec Ideal S1024x5632 .bf16) (q : ℕ) (inb : ∀ a : Fin 2, ![0, q] a + ![1024, 1408] a ≤ S1024x5632.size a) (l : Fin 1408) (J : Fin 5632) (hJ : J.val = q + l.val) (r : Fin 8) :
    dotW x0 (View.ld x2 (Rect.unit (s := S1024x5632) ![0, q] ![1024, 1408] inb)) l r = tile x0 x2 r J := by
  have hlt : q + l.val < 5632 := hJ ▸ J.isLt
  obtain rfl : J = ⟨q + l.val, hlt⟩ := Fin.ext hJ
  unfold dotW tile
  refine Finset.sum_congr rfl fun k _ => congrArg (x0 (ix3 0 r k) * ·) ?_
  refine (ld2 (N := 1024) (M := 5632) (n := 1024) (m := 1408) x2 0 q inb k l).trans (congrArg x2 ?_)
  exact congrArg₂ ix2 (Fin.ext (Nat.zero_add k.val)) rfl

/-- A chunk's convolution is the block's, on the chunk's lanes. -/
theorem cv_eq (x0 : Vec Ideal S1x8x1024 .bf16) (x2 : Vec Ideal S1024x5632 .bf16) (x3 : Vec Ideal S3x5632 .f32) (x4 : Vec Ideal S1x5632 .f32) (cr : Fin 2 → Fin 5632 → EReal) (q : ℕ)
    (i0 : ∀ a : Fin 2, ![0, q] a + ![1024, 1408] a ≤ S1024x5632.size a) (i1 : ∀ a : Fin 2, ![0, q] a + ![1, 1408] a ≤ S3x5632.size a) (i2 : ∀ a : Fin 2, ![1, q] a + ![1, 1408] a ≤ S3x5632.size a) (i3 : ∀ a : Fin 2, ![2, q] a + ![1, 1408] a ≤ S3x5632.size a) (i4 : ∀ a : Fin 2, ![0, q] a + ![1, 1408] a ≤ S1x5632.size a)
    (l : Fin 1408) (J : Fin 5632) (hJ : J.val = q + l.val) (c0 c1 : EReal) (h0 : c0 = cr 0 J) (h1 : c1 = cr 1 J) (r : Fin 8) :
    cv (dotW x0 (View.ld x2 (Rect.unit (s := S1024x5632) ![0, q] ![1024, 1408] i0)) l) c0 c1 (View.ld x3 (Rect.unit (s := S3x5632) ![0, q] ![1, 1408] i1) (ix2 0 l))
      (View.ld x3 (Rect.unit (s := S3x5632) ![1, q] ![1, 1408] i2) (ix2 0 l)) (View.ld x3 (Rect.unit (s := S3x5632) ![2, q] ![1, 1408] i3) (ix2 0 l))
      (View.ld x4 (Rect.unit (s := S1x5632) ![0, q] ![1, 1408] i4) (ix2 0 l)) r = tconv x0 x2 x3 x4 cr r J := by
  have e0 := row_ld (N := 3) x3 0 q i1 l 0 J rfl hJ
  have e1 := row_ld (N := 3) x3 1 q i2 l 1 J rfl hJ
  have e2 := row_ld (N := 3) x3 2 q i3 l 2 J rfl hJ
  have e3 := row_ld (N := 1) x4 0 q i4 l 0 J rfl hJ
  have ed : dotW x0 (View.ld x2 (Rect.unit (s := S1024x5632) ![0, q] ![1024, 1408] i0)) l = fun s => tile x0 x2 s J := funext fun s => dotW_ld x0 x2 q i0 l J hJ s
  unfold tconv
  rw [ed, h0, h1]
  exact congr (congr (congr (congr (congrArg (cv (fun s => tile x0 x2 s J) (cr 0 J) (cr 1 J)) e0) e1) e2) e3) rfl

/-- A load of a part of the carried rows, after stores the last of which was whole. -/
theorem carry_ld (v : View sig .tc .vmem S2x5632 .f32) (L : List (View.Piece (Elt Ideal) S2x5632 .f32)) (inb : ∀ a : Fin 2, ![0, 0] a + S2x5632.size a ≤ S2x5632.size a) (w : Vec Ideal S2x5632 .f32)
    (hm : (⟨Rect.unit (s := S2x5632) ![0, 0] S2x5632.size inb, w⟩ : View.Piece (Elt Ideal) S2x5632 .f32) ∈ L) (o q : ℕ) (inb' : ∀ a : Fin 2, ![o, q] a + ![1, 1408] a ≤ S2x5632.size a) (l : Fin 1408) (R : Fin 2) (J : Fin 5632) (hR : R.val = o) (hJ : J.val = q + l.val) :
    v.readCov L (Rect.unit (s := S2x5632) ![o, q] ![1, 1408] inb').toLoadRect (ix2 0 l) = View.canon L (ix2 R J) := by
  rw [View.readCov_eq_canon_ld v L _ (fun y => ⟨_, hm, (Rect.mem_set_unit (inb := inb)).2 fun a => by
    have := (y a).isLt
    match a with
    | ⟨0, _⟩ => exact ⟨Nat.zero_le _, by show (y 0).val < 0 + 2; have : (y 0).val < 2 := (y 0).isLt; omega⟩
    | ⟨1, _⟩ => exact ⟨Nat.zero_le _, by show (y 1).val < 0 + 5632; have : (y 1).val < 5632 := (y 1).isLt; omega⟩⟩)]
  exact row_ld (N := 2) (View.canon L) o q inb' l R J hR hJ

/-- What the body leaves in the gated block, at an entry. -/
theorem gate_A (c : Dev nD) (i : grid0.Coords) (arg2 : Memref sig .tc .vmem S1x8x1024 .bf16) (harg2 : arg2.IsWhole) (arg3 : Memref sig .tc .vmem S1x2x5632 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S1x8x2816 .bf16) (harg7 : arg7.IsWhole) (arg8 : Memref sig .tc .vmem S1x2x5632 .f32) (harg8 : arg8.IsWhole) (arg9 : Memref sig .tc .vmem S2x5632 .f32) (harg9 : arg9.IsWhole) (hc0 : cond0_0 i)
    (x0 : Vec Ideal S1x8x1024 .bf16) (x1 : Vec Ideal S1x2x5632 .f32) (x2 : Vec Ideal S1024x5632 .bf16) (x3 : Vec Ideal S3x5632 .f32) (x4 : Vec Ideal S1x5632 .f32) (r : Fin 8) (j : Fin 2816) :
    out0_A_5 c i arg2 harg2 arg3 harg3 arg4 harg4 arg5 harg5 arg6 harg6 arg7 harg7 arg8 harg8 arg9 harg9 hc0 x0 x1 x2 x3 x4 (ix3 0 r j) = gated (tconv x0 x2 x3 x4 (fun p j => x1 (ix3 0 p j)) r ⟨j.val, by omega⟩) (tconv x0 x2 x3 x4 (fun p j => x1 (ix3 0 p j)) r ⟨2816 + j.val, by omega⟩) := by
  have eX : View.ld x0 (Rect.unit (s := S1x8x1024) ![0, 0, 0] S1x8x1024.size inb_S1x8x1024_S1x8x1024_0_0_0) = x0 := View.ld_unit_zero off3 _ _
  have eP : View.ld x1 (Rect.unit (s := S1x2x5632) ![0, 0, 0] S1x2x5632.size inb_S1x2x5632_S1x2x5632_0_0_0) = x1 := View.ld_unit_zero off3 _ _
  dsimp only at eX eP
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  sl_unfold_words
  simp only [View.readAt_eq_ld, harg2.read_unread, harg3.read_unread, harg4.read_unread, harg5.read_unread, harg6.read_unread, harg9.read_unread, eX, eP]
  by_cases h : j.val < 1408
  · refine (miss3 (N := 8) (M := 2816) (m := 1408) _ _ _ _ _ _ (Or.inl h)).trans ?_
    refine (hit3 (N := 8) (M := 2816) (m := 1408) _ _ _ _ _ _ ⟨j.val, h⟩ (Nat.zero_add _).symm).trans ?_
    refine (gate0 ..).trans ?_
    exact congrArg₂ gated
      (cv_eq x0 x2 x3 x4 (fun p j => x1 (ix3 0 p j)) 0 _ _ _ _ _ _ _ (Nat.zero_add _).symm _ _ ((carry_ld _ _ _ _ (.head _) 0 0 _ _ 0 _ rfl ((Nat.zero_add _).symm)).trans ((hit2 (N := 2) (M := 5632) (m := 5632) 0 _ _ _ _ _ _ (Nat.zero_add _).symm).trans (start_apply x1 _ _))) ((carry_ld _ _ _ _ (.head _) 1 0 _ _ 1 _ rfl ((Nat.zero_add _).symm)).trans ((hit2 (N := 2) (M := 5632) (m := 5632) 0 _ _ _ _ _ _ (Nat.zero_add _).symm).trans (start_apply x1 _ _))) r)
      (cv_eq x0 x2 x3 x4 (fun p j => x1 (ix3 0 p j)) 2816 _ _ _ _ _ _ _ rfl _ _ ((carry_ld _ _ _ _ (.tail _ (.head _)) 0 2816 _ _ 0 _ rfl (rfl)).trans ((miss2 (N := 2) (M := 5632) (m := 1408) _ _ _ _ _ _ (by dsimp only; omega)).trans ((hit2 (N := 2) (M := 5632) (m := 5632) 0 _ _ _ _ _ _ (Nat.zero_add _).symm).trans (start_apply x1 _ _)))) ((carry_ld _ _ _ _ (.tail _ (.head _)) 1 2816 _ _ 1 _ rfl (rfl)).trans ((miss2 (N := 2) (M := 5632) (m := 1408) _ _ _ _ _ _ (by dsimp only; omega)).trans ((hit2 (N := 2) (M := 5632) (m := 5632) 0 _ _ _ _ _ _ (Nat.zero_add _).symm).trans (start_apply x1 _ _)))) r)
  · refine (hit3 (N := 8) (M := 2816) (m := 1408) _ _ _ _ _ _ ⟨j.val - 1408, by omega⟩ (by dsimp only; omega)).trans ?_
    refine (gate1 ..).trans ?_
    exact congrArg₂ gated
      (cv_eq x0 x2 x3 x4 (fun p j => x1 (ix3 0 p j)) 1408 _ _ _ _ _ _ _ (by dsimp only; omega) _ _ ((carry_ld _ _ _ _ (.tail _ (.tail _ (.head _))) 0 1408 _ _ 0 _ rfl (by dsimp only; omega)).trans ((miss2 (N := 2) (M := 5632) (m := 1408) _ _ _ _ _ _ (by dsimp only; omega)).trans ((miss2 (N := 2) (M := 5632) (m := 1408) _ _ _ _ _ _ (by dsimp only; omega)).trans ((hit2 (N := 2) (M := 5632) (m := 5632) 0 _ _ _ _ _ _ (Nat.zero_add _).symm).trans (start_apply x1 _ _))))) ((carry_ld _ _ _ _ (.tail _ (.tail _ (.head _))) 1 1408 _ _ 1 _ rfl (by dsimp only; omega)).trans ((miss2 (N := 2) (M := 5632) (m := 1408) _ _ _ _ _ _ (by dsimp only; omega)).trans ((miss2 (N := 2) (M := 5632) (m := 1408) _ _ _ _ _ _ (by dsimp only; omega)).trans ((hit2 (N := 2) (M := 5632) (m := 5632) 0 _ _ _ _ _ _ (Nat.zero_add _).symm).trans (start_apply x1 _ _))))) r)
      (cv_eq x0 x2 x3 x4 (fun p j => x1 (ix3 0 p j)) 4224 _ _ _ _ _ _ _ (by dsimp only; omega) _ _ ((carry_ld _ _ _ _ (.tail _ (.tail _ (.tail _ (.head _)))) 0 4224 _ _ 0 _ rfl (by dsimp only; omega)).trans ((miss2 (N := 2) (M := 5632) (m := 1408) _ _ _ _ _ _ (by dsimp only; omega)).trans ((miss2 (N := 2) (M := 5632) (m := 1408) _ _ _ _ _ _ (by dsimp only; omega)).trans ((miss2 (N := 2) (M := 5632) (m := 1408) _ _ _ _ _ _ (by dsimp only; omega)).trans ((hit2 (N := 2) (M := 5632) (m := 5632) 0 _ _ _ _ _ _ (Nat.zero_add _).symm).trans (start_apply x1 _ _)))))) ((carry_ld _ _ _ _ (.tail _ (.tail _ (.tail _ (.head _)))) 1 4224 _ _ 1 _ rfl (by dsimp only; omega)).trans ((miss2 (N := 2) (M := 5632) (m := 1408) _ _ _ _ _ _ (by dsimp only; omega)).trans ((miss2 (N := 2) (M := 5632) (m := 1408) _ _ _ _ _ _ (by dsimp only; omega)).trans ((miss2 (N := 2) (M := 5632) (m := 1408) _ _ _ _ _ _ (by dsimp only; omega)).trans ((hit2 (N := 2) (M := 5632) (m := 5632) 0 _ _ _ _ _ _ (Nat.zero_add _).symm).trans (start_apply x1 _ _)))))) r)

/-- What the body leaves in the rows written out, at an entry. -/
theorem state_A (c : Dev nD) (i : grid0.Coords) (arg2 : Memref sig .tc .vmem S1x8x1024 .bf16) (harg2 : arg2.IsWhole) (arg3 : Memref sig .tc .vmem S1x2x5632 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S1x8x2816 .bf16) (harg7 : arg7.IsWhole) (arg8 : Memref sig .tc .vmem S1x2x5632 .f32) (harg8 : arg8.IsWhole) (arg9 : Memref sig .tc .vmem S2x5632 .f32) (harg9 : arg9.IsWhole) (hc0 : cond0_0 i)
    (x0 : Vec Ideal S1x8x1024 .bf16) (x1 : Vec Ideal S1x2x5632 .f32) (x2 : Vec Ideal S1024x5632 .bf16) (x3 : Vec Ideal S3x5632 .f32) (x4 : Vec Ideal S1x5632 .f32) (p : Fin 2) (j : Fin 5632) :
    out0_A_6 c i arg2 harg2 arg3 harg3 arg4 harg4 arg5 harg5 arg6 harg6 arg7 harg7 arg8 harg8 arg9 harg9 hc0 x0 x1 x2 x3 x4 (ix3 0 p j) = tile x0 x2 ⟨6 + p.val, by omega⟩ j := by
  have eX : View.ld x0 (Rect.unit (s := S1x8x1024) ![0, 0, 0] S1x8x1024.size inb_S1x8x1024_S1x8x1024_0_0_0) = x0 := View.ld_unit_zero off3 _ _
  have eP : View.ld x1 (Rect.unit (s := S1x2x5632) ![0, 0, 0] S1x2x5632.size inb_S1x2x5632_S1x2x5632_0_0_0) = x1 := View.ld_unit_zero off3 _ _
  dsimp only at eX eP
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4)]
  unfold kernelRun0_A
  dsimp only
  sl_unfold_words
  simp only [View.readAt_eq_ld, harg2.read_unread, harg3.read_unread, harg4.read_unread, harg5.read_unread, harg6.read_unread, harg9.read_unread, eX, eP]
  obtain h | h | h | h : j.val < 1408 ∨ (1408 ≤ j.val ∧ j.val < 2816) ∨ (2816 ≤ j.val ∧ j.val < 4224) ∨ 4224 ≤ j.val := by omega
  · refine (miss3 (N := 2) (M := 5632) (m := 1408) _ _ _ _ _ _ (by omega)).trans ?_
    refine (miss3 (N := 2) (M := 5632) (m := 1408) _ _ _ _ _ _ (by omega)).trans ?_
    refine (miss3 (N := 2) (M := 5632) (m := 1408) _ _ _ _ _ _ (by omega)).trans ?_
    refine (hit3 (N := 2) (M := 5632) (m := 1408) _ _ _ _ _ _ ⟨j.val - 0, by omega⟩ (by dsimp only; omega)).trans ?_
    exact ((last_apply x0 _ p _).2.2.2.2.1).trans (dotW_ld x0 x2 0 _ _ j (by dsimp only; omega) _)
  · refine (miss3 (N := 2) (M := 5632) (m := 1408) _ _ _ _ _ _ (by omega)).trans ?_
    refine (hit3 (N := 2) (M := 5632) (m := 1408) _ _ _ _ _ _ ⟨j.val - 1408, by omega⟩ (by dsimp only; omega)).trans ?_
    exact ((last_apply x0 _ p _).2.2.2.2.2.2.1).trans (dotW_ld x0 x2 1408 _ _ j (by dsimp only; omega) _)
  · refine (miss3 (N := 2) (M := 5632) (m := 1408) _ _ _ _ _ _ (by omega)).trans ?_
    refine (miss3 (N := 2) (M := 5632) (m := 1408) _ _ _ _ _ _ (by omega)).trans ?_
    refine (hit3 (N := 2) (M := 5632) (m := 1408) _ _ _ _ _ _ ⟨j.val - 2816, by omega⟩ (by dsimp only; omega)).trans ?_
    exact ((last_apply x0 _ p _).2.2.2.2.2.1).trans (dotW_ld x0 x2 2816 _ _ j (by dsimp only; omega) _)
  · refine (hit3 (N := 2) (M := 5632) (m := 1408) _ _ _ _ _ _ ⟨j.val - 4224, by omega⟩ (by dsimp only; omega)).trans ?_
    exact ((last_apply x0 _ p _).2.2.2.2.2.2.2).trans (dotW_ld x0 x2 4224 _ _ j (by dsimp only; omega) _)

end Cert.Kernel9Ideal.Rows

end
-- ==== Proof.UpConvS.lean ====
/-
  The sample's up projection with its convolution along the positions and its gate: over the grid.
-/
module

public import proofs.«01_k».proof.Proof.UpTileS
public import proofs.«01_k».proof.Proof.Gen.Kernel9Ideal.Value
public import proofs.«01_k».proof.Proof.Gen.Reference9Ideal.Run
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.Kernel9Ideal.Rows

open Cert.Kernel9Ideal Cert.Kernel9Ideal.Gen Cert.Kernel9Ideal.Value Cert.Rows
open Cert.Reference9Ideal.Rows
open Cert.Reference5Ideal.Rows (gated)

variable (m : (ℓ : Loc nD τ sig) → Buf (Elt Ideal) ℓ)

/-- There are 32 grid points. -/
theorem points (t : Fin cfg0.N) : t.val < 32 := by
  have := t.isLt
  have hN : cfg0.N = 32 := N_0
  omega

/-- Where window 0's block lies at a grid point. -/
theorem idx0 : ∀ t : Fin cfg0.N, win0_0.index t 0 = t.val ∧ win0_0.index t 1 = 0 ∧ win0_0.index t 2 = 0 := by
  decide +kernel

/-- Where window 1's block lies at a grid point. -/
theorem idx1 : ∀ t : Fin cfg0.N, win0_1.index t 0 = t.val ∧ win0_1.index t 1 = 0 ∧ win0_1.index t 2 = 0 := by
  decide +kernel

/-- Where window 2's block lies at a grid point. -/
theorem idx2 : ∀ t : Fin cfg0.N, win0_2.index t 0 = 0 ∧ win0_2.index t 1 = 0 := by
  decide +kernel

/-- Where window 3's block lies at a grid point. -/
theorem idx3 : ∀ t : Fin cfg0.N, win0_3.index t 0 = 0 ∧ win0_3.index t 1 = 0 := by
  decide +kernel

/-- Where window 4's block lies at a grid point. -/
theorem idx4 : ∀ t : Fin cfg0.N, win0_4.index t 0 = 0 ∧ win0_4.index t 1 = 0 := by
  decide +kernel

/-- Where window 5's block lies at a grid point. -/
theorem idx5 : ∀ t : Fin cfg0.N, win0_5.index t 0 = t.val ∧ win0_5.index t 1 = 0 ∧ win0_5.index t 2 = 0 := by
  decide +kernel

/-- Where window 6's block lies at a grid point. -/
theorem idx6 : ∀ t : Fin cfg0.N, win0_6.index t 0 = t.val ∧ win0_6.index t 1 = 0 ∧ win0_6.index t 2 = 0 := by
  decide +kernel

/-- The rows at a grid point. -/
theorem block0 (c : Dev nD) (t : Fin cfg0.N) (r : Fin 8) (l : Fin 1024) :
    (iblk m c 0 t : Vec Ideal S1x8x1024 .bf16) (ix3 0 r l) = (m ((c : Thread nD τ).loc main_arg0) : Vec Ideal S32x8x1024 .bf16)
      (ix3 ⟨t.val, by have := points t; omega⟩ ⟨r.val, by have := points t; omega⟩ l) := by
  obtain ⟨h0, h1, h2⟩ := idx0 t
  unfold iblk
  rw [View.read_apply]
  show V m c main_arg0 _ = _
  rw [V_main_arg0]
  congr 1
  funext a
  apply Fin.ext
  match a with
  | ⟨0, _⟩ => show win0_0.index t 0 * 1 + 1 * 0 = t.val; rw [h0]; try omega
  | ⟨1, _⟩ => show win0_0.index t 1 * 8 + 1 * r.val = r.val; rw [h1]; try omega
  | ⟨2, _⟩ => show win0_0.index t 2 * 1024 + 1 * l.val = l.val; rw [h2]; try omega

/-- The rows before the first, at a grid point. -/
theorem block1 (c : Dev nD) (t : Fin cfg0.N) (p : Fin 2) (l : Fin 5632) :
    (iblk m c 1 t : Vec Ideal S1x2x5632 .f32) (ix3 0 p l) = (m ((c : Thread nD τ).loc main_arg1) : Vec Ideal S32x2x5632 .f32)
      (ix3 ⟨t.val, by have := points t; omega⟩ p l) := by
  obtain ⟨h0, h1, h2⟩ := idx1 t
  unfold iblk
  rw [View.read_apply]
  show V m c main_arg1 _ = _
  rw [V_main_arg1]
  congr 1
  funext a
  apply Fin.ext
  match a with
  | ⟨0, _⟩ => show win0_1.index t 0 * 1 + 1 * 0 = t.val; rw [h0]; try omega
  | ⟨1, _⟩ => show win0_1.index t 1 * 2 + 1 * p.val = p.val; rw [h1]; try omega
  | ⟨2, _⟩ => show win0_1.index t 2 * 5632 + 1 * l.val = l.val; rw [h2]; try omega

/-- The weights of the up projection. -/
theorem block2 (c : Dev nD) (t : Fin cfg0.N) (r : Fin 1024) (l : Fin 5632) :
    (iblk m c 2 t : Vec Ideal S1024x5632 .bf16) (ix2 r l) = (m ((c : Thread nD τ).loc main_arg2) : Vec Ideal S1024x5632 .bf16)
      (ix2 r l) := by
  obtain ⟨h0, h1⟩ := idx2 t
  unfold iblk
  rw [View.read_apply]
  show V m c main_arg2 _ = _
  rw [V_main_arg2]
  congr 1
  funext a
  apply Fin.ext
  match a with
  | ⟨0, _⟩ => show win0_2.index t 0 * 1024 + 1 * r.val = r.val; rw [h0]; try omega
  | ⟨1, _⟩ => show win0_2.index t 1 * 5632 + 1 * l.val = l.val; rw [h1]; try omega

/-- The weights of the convolution. -/
theorem block3 (c : Dev nD) (t : Fin cfg0.N) (r : Fin 3) (l : Fin 5632) :
    (iblk m c 3 t : Vec Ideal S3x5632 .f32) (ix2 r l) = (m ((c : Thread nD τ).loc main_arg3) : Vec Ideal S3x5632 .f32)
      (ix2 r l) := by
  obtain ⟨h0, h1⟩ := idx3 t
  unfold iblk
  rw [View.read_apply]
  show V m c main_arg3 _ = _
  rw [V_main_arg3]
  congr 1
  funext a
  apply Fin.ext
  match a with
  | ⟨0, _⟩ => show win0_3.index t 0 * 3 + 1 * r.val = r.val; rw [h0]; try omega
  | ⟨1, _⟩ => show win0_3.index t 1 * 5632 + 1 * l.val = l.val; rw [h1]; try omega

/-- The bias of the convolution, laid out as one row. -/
theorem scale4 (c : Dev nD) : (V m c main_v0 : FVec Ideal S1x5632 .f32)
    = shapeCast _ (m ((c : Thread nD τ).loc main_arg4) : FVec Ideal S5632 .f32) shapeCasts_S5632_S1x5632 := by
  unfold V hostOps0
  after_results_simp
  rfl

set_option maxRecDepth 131072 in
/-- The bias of the convolution at a grid point. -/
theorem block4 (c : Dev nD) (t : Fin cfg0.N) (l : Fin 5632) :
    (iblk m c 4 t : Vec Ideal S1x5632 .f32) (ix2 0 l) = (m ((c : Thread nD τ).loc main_arg4) : Vec Ideal S5632 .f32) (ix1 l) := by
  obtain ⟨h0, h1⟩ := idx4 t
  unfold iblk
  rw [View.read_apply]
  show (V m c main_v0 : FVec Ideal S1x5632 .f32) _ = _
  rw [scale4]
  have e : ((cfg0.win 4).blk t).view.emb (ix2 0 l : S1x5632.Idx) = (ix2 0 l : S1x5632.Idx) := by
    funext a
    apply Fin.ext
    match a with
    | ⟨0, _⟩ => show win0_4.index t 0 * 1 + 1 * 0 = 0; rw [h0]
    | ⟨1, _⟩ => show win0_4.index t 1 * 5632 + 1 * l.val = l.val; rw [h1]; omega
  rw [e]
  pointwise

/-- The up projection of a grid point's rows is the reference's. -/
theorem tile_block (c : Dev nD) (t : Fin cfg0.N) (r : Fin 8) (j : Fin 5632) :
    tile (iblk m c 0 t) (iblk m c 2 t) r j = up (m ((c : Thread nD τ).loc main_arg0)) (m ((c : Thread nD τ).loc main_arg2)) ⟨t.val, by have := points t; omega⟩ ⟨r.val, by omega⟩ j := by
  unfold tile up
  simp only [block0, block2]

/-- The convolution of a grid point's rows is the reference's, when the carried rows are the two before. -/
theorem conv_block (c : Dev nD) (t : Fin cfg0.N) (cr : Fin 2 → Fin 5632 → EReal)
    (hcr : ∀ (p : Fin 2) (j : Fin 5632), cr p j = full (m ((c : Thread nD τ).loc main_arg0)) (m ((c : Thread nD τ).loc main_arg1)) (m ((c : Thread nD τ).loc main_arg2)) (ix3 ⟨t.val, by have := points t; omega⟩ ⟨p.val, by omega⟩ j)) (r : Fin 8) (j : Fin 5632) :
    tconv (iblk m c 0 t) (iblk m c 2 t) (iblk m c 3 t) (iblk m c 4 t) cr r j = conv (m ((c : Thread nD τ).loc main_arg0)) (m ((c : Thread nD τ).loc main_arg1)) (m ((c : Thread nD τ).loc main_arg2)) (m ((c : Thread nD τ).loc main_arg3)) (m ((c : Thread nD τ).loc main_arg4)) (ix3 ⟨t.val, by have := points t; omega⟩ ⟨r.val, by omega⟩ j) := by
  have ht := points t
  rw [conv_apply, full_up _ _ _ _ ⟨2 + (r.val), by omega⟩ ⟨r.val, by omega⟩ j (Nat.add_comm 2 _)]
  have e1 : prev1 (cr 1 j) (fun s => tile (iblk m c 0 t) (iblk m c 2 t) s j) r = full (m ((c : Thread nD τ).loc main_arg0)) (m ((c : Thread nD τ).loc main_arg1)) (m ((c : Thread nD τ).loc main_arg2)) (ix3 ⟨t.val, by have := points t; omega⟩ ⟨1 + (r.val), by omega⟩ j) := by
    unfold prev1
    split
    · rename_i h
      rw [hcr]
      congr 2
      apply Fin.ext
      show 1 = 1 + (r.val)
      omega
    · rename_i h
      beta_reduce
      rw [tile_block, full_up]
      show 1 + (r.val) = (r.val - 1) + 2
      omega
  have e2 : prev2 (cr 0 j) (cr 1 j) (fun s => tile (iblk m c 0 t) (iblk m c 2 t) s j) r = full (m ((c : Thread nD τ).loc main_arg0)) (m ((c : Thread nD τ).loc main_arg1)) (m ((c : Thread nD τ).loc main_arg2)) (ix3 ⟨t.val, by have := points t; omega⟩ ⟨r.val, by omega⟩ j) := by
    unfold prev2
    split
    · rename_i h
      rw [hcr]
      congr 2
      apply Fin.ext
      show 0 = r.val
      omega
    · split
      · rename_i h
        rw [hcr]
        congr 2
        apply Fin.ext
        show 1 = r.val
        omega
      · refine (tile_block m c t _ j).trans ?_
        rw [full_up]
        show r.val = (r.val - 2) + 2
        omega
  unfold tconv cv
  rw [e1, e2]
  beta_reduce
  rw [tile_block, block3, block3, block3, block4]

/-- The gated activation: what the reference gives from the same arguments. -/
def result0 (c : Dev nD) : Buf (Elt Ideal) ((c : Thread nD τ).loc main_v1_0) :=
  res0 (m ((c : Thread nD τ).loc main_arg0)) (m ((c : Thread nD τ).loc main_arg1)) (m ((c : Thread nD τ).loc main_arg2)) (m ((c : Thread nD τ).loc main_arg3)) (m ((c : Thread nD τ).loc main_arg4))

/-- The last two rows: what the reference gives from the same arguments. -/
def result1 (c : Dev nD) : Buf (Elt Ideal) ((c : Thread nD τ).loc main_v1_1) :=
  res1 (m ((c : Thread nD τ).loc main_arg0)) (m ((c : Thread nD τ).loc main_arg1)) (m ((c : Thread nD τ).loc main_arg2))

/-- What a grid point leaves at an entry of the gated block. -/
theorem out_entry5 (c : Dev nD) (t : Fin cfg0.N) (r : Fin 8) (j : Fin 2816) :
    (outsAt0 m c t).1 (ix3 0 r j) = (result0 m c : Vec Ideal S32x8x2816 .bf16) (ix3 ⟨t.val, by have := points t; omega⟩ r j) := by
  have hcr : ∀ (p : Fin 2) (j : Fin 5632), (fun p j => (iblk m c 1 t : Vec Ideal S1x2x5632 .f32) (ix3 0 p j)) p j = full (m ((c : Thread nD τ).loc main_arg0)) (m ((c : Thread nD τ).loc main_arg1)) (m ((c : Thread nD τ).loc main_arg2)) (ix3 ⟨t.val, by have := points t; omega⟩ ⟨p.val, by omega⟩ j) := fun p j => by
    rw [full_apply, dif_pos (by show p.val < 2; omega)]
    exact block1 m c t p j
  unfold result0
  rw [res0_apply]
  have e := gate_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (hcond0_0 t) (iblk m c 0 t) (iblk m c 1 t) (iblk m c 2 t) (iblk m c 3 t) (iblk m c 4 t) r j
  unfold outsAt0
  dsimp only
  rw [e]
  exact congrArg₂ gated (conv_block m c t _ hcr r _) (conv_block m c t _ hcr r _)

/-- What a grid point leaves at an entry of the rows written out. -/
theorem out_entry6 (c : Dev nD) (t : Fin cfg0.N) (p : Fin 2) (j : Fin 5632) :
    (outsAt0 m c t).2 (ix3 0 p j) = (result1 m c : Vec Ideal S32x2x5632 .f32) (ix3 ⟨t.val, by have := points t; omega⟩ p j) := by
  unfold result1
  rw [res1_apply]
  have e := state_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (hcond0_0 t) (iblk m c 0 t) (iblk m c 1 t) (iblk m c 2 t) (iblk m c 3 t) (iblk m c 4 t) p j
  unfold outsAt0
  dsimp only
  rw [e, tile_block]

/-- Each grid point writes its block of the gated activation. -/
theorem flushed_eq5 (c : Dev nD) (t : Fin cfg0.N) :
    (dats m 0 c).flushed 5 t = ((cfg0.win 5).blk t).view.read (Elt Ideal) (result0 m c) := by
  have ht := points t
  obtain ⟨w0, w1, w2⟩ := idx5 t
  rw [flushed5]
  funext j
  rw [View.read_apply]
  obtain ⟨r, l, rfl⟩ : ∃ (r : Fin 8) (l : Fin 2816), j = (ix3 0 r l : S1x8x2816.Idx) := by
    refine ⟨j 1, j 2, funext fun a => Fin.ext ?_⟩
    match a with
    | ⟨0, _⟩ => have h : (j 0).val < 1 := (j 0).isLt; show (j 0).val = 0; omega
    | ⟨1, _⟩ => rfl
    | ⟨2, _⟩ => rfl
  refine (out_entry5 m c t r l).trans ?_
  have e : ((cfg0.win 5).blk t).view.emb (ix3 0 r l : S1x8x2816.Idx) = (ix3 ⟨t.val, by omega⟩ ⟨r.val, by omega⟩ l : S32x8x2816.Idx) := by
    funext a
    apply Fin.ext
    match a with
    | ⟨0, _⟩ => show win0_5.index t 0 * 1 + 1 * 0 = t.val; rw [w0]; omega
    | ⟨1, _⟩ => show win0_5.index t 1 * 8 + 1 * r.val = r.val; rw [w1]; omega
    | ⟨2, _⟩ => show win0_5.index t 2 * 2816 + 1 * l.val = l.val; rw [w2]; omega
  show _ = result0 m c (((cfg0.win 5).blk t).view.emb (ix3 0 r l : S1x8x2816.Idx))
  rw [e]

/-- The gated activation after the run. -/
theorem final5 (c : Dev nD) : (dats m 0 c).arrAt 5 cfg0.N = result0 m c :=
  (dats m 0 c).arrAt_eq_of_cover 5 (result0 m c) (fun t _ => flushed_eq5 m c t) fun i => by
    have h0 : (i 0 : Nat) < 32 := (i 0).isLt
    have h1 : (i 1 : Nat) < 8 := (i 1).isLt
    have h2 : (i 2 : Nat) < 2816 := (i 2).isLt
    have hN : cfg0.N = 32 := N_0
    let t : Fin cfg0.N := ⟨(i 0 : Nat), by omega⟩
    have ht : t.val = (i 0 : Nat) := rfl
    obtain ⟨w0, w1, w2⟩ := idx5 t
    refine ⟨t, flush0_5 t, ?_⟩
    show i ∈ ((View.whole main_v1_0).slice (win0_5.rect t)).set
    rw [View.set_slice_whole, Rect.mem_set_unit]
    intro a
    match a with
    | ⟨0, _⟩ =>
      show win0_5.index t 0 * 1 ≤ (i 0 : Nat) ∧ (i 0 : Nat) < win0_5.index t 0 * 1 + 1
      rw [w0]; omega
    | ⟨1, _⟩ =>
      show win0_5.index t 1 * 8 ≤ (i 1 : Nat) ∧ (i 1 : Nat) < win0_5.index t 1 * 8 + 8
      rw [w1]; omega
    | ⟨2, _⟩ =>
      show win0_5.index t 2 * 2816 ≤ (i 2 : Nat) ∧ (i 2 : Nat) < win0_5.index t 2 * 2816 + 2816
      rw [w2]; omega

/-- Each grid point writes its block of the last two rows. -/
theorem flushed_eq6 (c : Dev nD) (t : Fin cfg0.N) :
    (dats m 0 c).flushed 6 t = ((cfg0.win 6).blk t).view.read (Elt Ideal) (result1 m c) := by
  have ht := points t
  obtain ⟨w0, w1, w2⟩ := idx6 t
  rw [flushed6]
  funext j
  rw [View.read_apply]
  obtain ⟨p, l, rfl⟩ : ∃ (p : Fin 2) (l : Fin 5632), j = (ix3 0 p l : S1x2x5632.Idx) := by
    refine ⟨j 1, j 2, funext fun a => Fin.ext ?_⟩
    match a with
    | ⟨0, _⟩ => have h : (j 0).val < 1 := (j 0).isLt; show (j 0).val = 0; omega
    | ⟨1, _⟩ => rfl
    | ⟨2, _⟩ => rfl
  refine (out_entry6 m c t p l).trans ?_
  have e : ((cfg0.win 6).blk t).view.emb (ix3 0 p l : S1x2x5632.Idx) = (ix3 ⟨t.val, by omega⟩ p l : S32x2x5632.Idx) := by
    funext a
    apply Fin.ext
    match a with
    | ⟨0, _⟩ => show win0_6.index t 0 * 1 + 1 * 0 = t.val; rw [w0]; omega
    | ⟨1, _⟩ => show win0_6.index t 1 * 2 + 1 * p.val = p.val; rw [w1]; omega
    | ⟨2, _⟩ => show win0_6.index t 2 * 5632 + 1 * l.val = l.val; rw [w2]; omega
  show _ = result1 m c (((cfg0.win 6).blk t).view.emb (ix3 0 p l : S1x2x5632.Idx))
  rw [e]

/-- The last two rows after the run. -/
theorem final6 (c : Dev nD) : (dats m 0 c).arrAt 6 cfg0.N = result1 m c :=
  (dats m 0 c).arrAt_eq_of_cover 6 (result1 m c) (fun t _ => flushed_eq6 m c t) fun i => by
    have h0 : (i 0 : Nat) < 32 := (i 0).isLt
    have h1 : (i 1 : Nat) < 2 := (i 1).isLt
    have h2 : (i 2 : Nat) < 5632 := (i 2).isLt
    have hN : cfg0.N = 32 := N_0
    let t : Fin cfg0.N := ⟨(i 0 : Nat), by omega⟩
    have ht : t.val = (i 0 : Nat) := rfl
    obtain ⟨w0, w1, w2⟩ := idx6 t
    refine ⟨t, flush0_6 t, ?_⟩
    show i ∈ ((View.whole main_v1_1).slice (win0_6.rect t)).set
    rw [View.set_slice_whole, Rect.mem_set_unit]
    intro a
    match a with
    | ⟨0, _⟩ =>
      show win0_6.index t 0 * 1 ≤ (i 0 : Nat) ∧ (i 0 : Nat) < win0_6.index t 0 * 1 + 1
      rw [w0]; omega
    | ⟨1, _⟩ =>
      show win0_6.index t 1 * 2 ≤ (i 1 : Nat) ∧ (i 1 : Nat) < win0_6.index t 1 * 2 + 2
      rw [w1]; omega
    | ⟨2, _⟩ =>
      show win0_6.index t 2 * 5632 ≤ (i 2 : Nat) ∧ (i 2 : Nat) < win0_6.index t 2 * 5632 + 5632
      rw [w2]; omega

end Cert.Kernel9Ideal.Rows

end
-- ==== Proof.Tri0.lean ====
/-
  The rows from 0 on of the table of zeros and ones that the kernel multiplies by to sum the later keys of a block.
-/
module

public import proofs.«01_k».proof.Proof.Gen.KernelIdeal.Value

@[expose] public section

set_option maxRecDepth 16384

noncomputable section

namespace Cert.KernelIdeal.Tri

open Idealize.ShloMosaic Cert.KernelIdeal

set_option maxHeartbeats 4000000 in
/-- In each of these rows the entries left of the diagonal are one and the others are zero. -/
theorem rows0 : ∀ a : Fin 32, ∀ b : Fin 256,
    lit0t (256 * (a.val + 0) + b.val) = if b.val < a.val + 0 then 0x3F80#16 else 0x0000#16 := by
  decide +kernel

end Cert.KernelIdeal.Tri

end
-- ==== Proof.Tri1.lean ====
/-
  The rows from 32 on of the table of zeros and ones that the kernel multiplies by to sum the later keys of a block.
-/
module

public import proofs.«01_k».proof.Proof.Tri0

@[expose] public section

set_option maxRecDepth 16384

noncomputable section

namespace Cert.KernelIdeal.Tri

open Idealize.ShloMosaic Cert.KernelIdeal

set_option maxHeartbeats 4000000 in
/-- In each of these rows the entries left of the diagonal are one and the others are zero. -/
theorem rows1 : ∀ a : Fin 32, ∀ b : Fin 256,
    lit0t (256 * (a.val + 32) + b.val) = if b.val < a.val + 32 then 0x3F80#16 else 0x0000#16 := by
  decide +kernel

end Cert.KernelIdeal.Tri

end
-- ==== Proof.Tri2.lean ====
/-
  The rows from 64 on of the table of zeros and ones that the kernel multiplies by to sum the later keys of a block.
-/
module

public import proofs.«01_k».proof.Proof.Tri1

@[expose] public section

set_option maxRecDepth 16384

noncomputable section

namespace Cert.KernelIdeal.Tri

open Idealize.ShloMosaic Cert.KernelIdeal

set_option maxHeartbeats 4000000 in
/-- In each of these rows the entries left of the diagonal are one and the others are zero. -/
theorem rows2 : ∀ a : Fin 32, ∀ b : Fin 256,
    lit0t (256 * (a.val + 64) + b.val) = if b.val < a.val + 64 then 0x3F80#16 else 0x0000#16 := by
  decide +kernel

end Cert.KernelIdeal.Tri

end
-- ==== Proof.Tri3.lean ====
/-
  The rows from 96 on of the table of zeros and ones that the kernel multiplies by to sum the later keys of a block.
-/
module

public import proofs.«01_k».proof.Proof.Gen.KernelIdeal.Value

@[expose] public section

set_option maxRecDepth 16384

noncomputable section

namespace Cert.KernelIdeal.Tri

open Idealize.ShloMosaic Cert.KernelIdeal

set_option maxHeartbeats 4000000 in
/-- In each of these rows the entries left of the diagonal are one and the others are zero. -/
theorem rows3 : ∀ a : Fin 32, ∀ b : Fin 256,
    lit0t (256 * (a.val + 96) + b.val) = if b.val < a.val + 96 then 0x3F80#16 else 0x0000#16 := by
  decide +kernel

end Cert.KernelIdeal.Tri

end
-- ==== Proof.Tri4.lean ====
/-
  The rows from 128 on of the table of zeros and ones that the kernel multiplies by to sum the later keys of a block.
-/
module

public import proofs.«01_k».proof.Proof.Tri3

@[expose] public section

set_option maxRecDepth 16384

noncomputable section

namespace Cert.KernelIdeal.Tri

open Idealize.ShloMosaic Cert.KernelIdeal

set_option maxHeartbeats 4000000 in
/-- In each of these rows the entries left of the diagonal are one and the others are zero. -/
theorem rows4 : ∀ a : Fin 32, ∀ b : Fin 256,
    lit0t (256 * (a.val + 128) + b.val) = if b.val < a.val + 128 then 0x3F80#16 else 0x0000#16 := by
  decide +kernel

end Cert.KernelIdeal.Tri

end
-- ==== Proof.Tri5.lean ====
/-
  The rows from 160 on of the table of zeros and ones that the kernel multiplies by to sum the later keys of a block.
-/
module

public import proofs.«01_k».proof.Proof.Tri4

@[expose] public section

set_option maxRecDepth 16384

noncomputable section

namespace Cert.KernelIdeal.Tri

open Idealize.ShloMosaic Cert.KernelIdeal

set_option maxHeartbeats 4000000 in
/-- In each of these rows the entries left of the diagonal are one and the others are zero. -/
theorem rows5 : ∀ a : Fin 32, ∀ b : Fin 256,
    lit0t (256 * (a.val + 160) + b.val) = if b.val < a.val + 160 then 0x3F80#16 else 0x0000#16 := by
  decide +kernel

end Cert.KernelIdeal.Tri

end
-- ==== Proof.Tri6.lean ====
/-
  The rows from 192 on of the table of zeros and ones that the kernel multiplies by to sum the later keys of a block.
-/
module

public import proofs.«01_k».proof.Proof.Gen.KernelIdeal.Value

@[expose] public section

set_option maxRecDepth 16384

noncomputable section

namespace Cert.KernelIdeal.Tri

open Idealize.ShloMosaic Cert.KernelIdeal

set_option maxHeartbeats 4000000 in
/-- In each of these rows the entries left of the diagonal are one and the others are zero. -/
theorem rows6 : ∀ a : Fin 32, ∀ b : Fin 256,
    lit0t (256 * (a.val + 192) + b.val) = if b.val < a.val + 192 then 0x3F80#16 else 0x0000#16 := by
  decide +kernel

end Cert.KernelIdeal.Tri

end
-- ==== Proof.Tri7.lean ====
/-
  The rows from 224 on of the table of zeros and ones that the kernel multiplies by to sum the later keys of a block.
-/
module

public import proofs.«01_k».proof.Proof.Tri6

@[expose] public section

set_option maxRecDepth 16384

noncomputable section

namespace Cert.KernelIdeal.Tri

open Idealize.ShloMosaic Cert.KernelIdeal

set_option maxHeartbeats 4000000 in
/-- In each of these rows the entries left of the diagonal are one and the others are zero. -/
theorem rows7 : ∀ a : Fin 32, ∀ b : Fin 256,
    lit0t (256 * (a.val + 224) + b.val) = if b.val < a.val + 224 then 0x3F80#16 else 0x0000#16 := by
  decide +kernel

end Cert.KernelIdeal.Tri

end
-- ==== Proof.Tri.lean ====
/-
  The table of zeros and ones that the kernel multiplies by to sum the later keys of a block.
-/
module

public import proofs.«01_k».proof.Proof.Tri0
public import proofs.«01_k».proof.Proof.Tri1
public import proofs.«01_k».proof.Proof.Tri2
public import proofs.«01_k».proof.Proof.Tri3
public import proofs.«01_k».proof.Proof.Tri4
public import proofs.«01_k».proof.Proof.Tri5
public import proofs.«01_k».proof.Proof.Tri6
public import proofs.«01_k».proof.Proof.Tri7
public import Idealize.ShloMosaic.Lib.Pointwise
public import Idealize.ShloMosaic.Lib.IdealHost

@[expose] public section

set_option maxRecDepth 16384

noncomputable section

namespace Cert.KernelIdeal.Tri

open Idealize.ShloMosaic Cert.KernelIdeal

/-- The entries left of the diagonal are one and the others are zero. -/
theorem lit_entry (a b : Fin 256) : lit0t (256 * a.val + b.val) = if b.val < a.val then 0x3F80#16 else 0x0000#16 := by
  have ha := a.isLt
  by_cases h0 : a.val < 32
  · have h := rows0 ⟨a.val - 0, by omega⟩ b
    dsimp only at h
    rwa [show a.val - 0 + 0 = a.val by omega] at h
  by_cases h1 : a.val < 64
  · have h := rows1 ⟨a.val - 32, by omega⟩ b
    dsimp only at h
    rwa [show a.val - 32 + 32 = a.val by omega] at h
  by_cases h2 : a.val < 96
  · have h := rows2 ⟨a.val - 64, by omega⟩ b
    dsimp only at h
    rwa [show a.val - 64 + 64 = a.val by omega] at h
  by_cases h3 : a.val < 128
  · have h := rows3 ⟨a.val - 96, by omega⟩ b
    dsimp only at h
    rwa [show a.val - 96 + 96 = a.val by omega] at h
  by_cases h4 : a.val < 160
  · have h := rows4 ⟨a.val - 128, by omega⟩ b
    dsimp only at h
    rwa [show a.val - 128 + 128 = a.val by omega] at h
  by_cases h5 : a.val < 192
  · have h := rows5 ⟨a.val - 160, by omega⟩ b
    dsimp only at h
    rwa [show a.val - 160 + 160 = a.val by omega] at h
  by_cases h6 : a.val < 224
  · have h := rows6 ⟨a.val - 192, by omega⟩ b
    dsimp only at h
    rwa [show a.val - 192 + 192 = a.val by omega] at h
  by_cases h7 : a.val < 256
  · have h := rows7 ⟨a.val - 224, by omega⟩ b
    dsimp only at h
    rwa [show a.val - 224 + 224 = a.val by omega] at h
  omega

/-- The table at an entry, as a number. -/
theorem table_entry (a b : Fin 256) :
    (FloatOps.ofBits .bf16 (lit0 (S256x256.rowMajor (ix2 a b))) : Ideal .bf16) = if b.val < a.val then 1 else 0 := by
  have e : lit0 (S256x256.rowMajor (ix2 a b)) = lit0t (256 * a.val + b.val) := by
    show lit0t (S256x256.rowMajor (ix2 a b)).val = _
    rw [Shape.rowMajor_val_two]
    congr 1
    show a.val * 256 + b.val = _
    omega
  rw [e, lit_entry]
  split
  · exact Ideal.ofBits_one_bf16
  · exact Ideal.ofBits_zero_bf16

end Cert.KernelIdeal.Tri

end
-- ==== Proof.KTable.lean ====
/-
  The block of the table that the kernel's body reads.
-/
module

public import proofs.«01_k».proof.Proof.Tri
public import proofs.«01_k».proof.Proof.Gen.KernelIdeal.Value
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.KernelIdeal.Final

open Cert.KernelIdeal Cert.KernelIdeal.Gen Cert.KernelIdeal.Value

variable (m : (ℓ : Loc nD τ sig) → Buf (Elt Ideal) ℓ)

/-- The table is one block. -/
theorem idx3 : ∀ t : Fin cfg0.N, win0_3.index t 0 = 0 ∧ win0_3.index t 1 = 0 := by
  decide +kernel

/-- The table's entries are one left of the diagonal and zero elsewhere. -/
theorem block3 (c : Dev nD) (t : Fin cfg0.N) (a b : Fin 256) :
    (iblk m c 3 t : Vec Ideal S256x256 .bf16) (ix2 a b) = if b.val < a.val then (1 : EReal) else 0 := by
  obtain ⟨h0, h1⟩ := idx3 t
  rw [← Tri.table_entry a b]
  unfold iblk
  rw [View.read_apply]
  show V m c main_cst _ = _
  have e : V m c main_cst = (fun i : S256x256.Idx => (FloatOps.ofBits .bf16 (lit0 (S256x256.rowMajor i)) : Ideal .bf16)) := by
    unfold V hostOps0
    after_results_simp
    rfl
  rw [e]
  congr 3
  funext d
  apply Fin.ext
  match d with
  | ⟨0, _⟩ => show win0_3.index t 0 * 256 + 1 * a.val = a.val; rw [h0]; omega
  | ⟨1, _⟩ => show win0_3.index t 1 * 256 + 1 * b.val = b.val; rw [h1]; omega

end Cert.KernelIdeal.Final

end
-- ==== Proof.SoftMath.lean ====
/-
  The mathematics of one row of softmax attention over the extended reals: running maximum, running sum and running
  weighted sum over blocks of keys, and the weighted average they end in.
-/
module

public import Idealize.ShloMosaic.PureOps.Ideal
public import Idealize.ShloMosaic.Lib.Pointwise

@[expose] public section

set_option maxRecDepth 65536

noncomputable section

namespace Soft

open Idealize.ShloMosaic

/-- The softmax average of the values `v` over the first `N` keys with real scores `σ`. -/
def avg (σ v : ℕ → ℝ) (N : ℕ) : ℝ :=
  (∑ k ∈ Finset.range N, Real.exp (σ k) * v k) / ∑ k ∈ Finset.range N, Real.exp (σ k)

/-- What the running maximum, sum and weighted sum hold after the first `N` keys: nothing yet, or the sums relative to
some real number. -/
def Inv (σ v : ℕ → ℝ) (N : ℕ) (m l a : EReal) : Prop :=
  (N = 0 ∧ m = ⊥ ∧ l = 0 ∧ a = 0) ∨
    ∃ μ : ℝ, m = (μ : EReal) ∧ l = ((∑ k ∈ Finset.range N, Real.exp (σ k - μ) : ℝ) : EReal) ∧
      a = ((∑ k ∈ Finset.range N, Real.exp (σ k - μ) * v k : ℝ) : EReal)

/-- A finite sum of reals is the same sum over the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The larger of two reals, as an extended real. -/
theorem coe_max (x y : ℝ) : ((max x y : ℝ) : EReal) = max (x : EReal) (y : EReal) :=
  EReal.coe_strictMono.monotone.map_max

/-- The maximum of finitely many entries, none of them the upper infinity and one of them real, is real. -/
theorem fold_real {n : ℕ} (e : Fin n → EReal) (i : Fin n) (r : ℝ) (hi : e i = (r : EReal)) (he : ∀ s, e s ≠ ⊤) :
    ∃ μ : ℝ, Finset.univ.fold max (⊥ : EReal) e = (μ : EReal) := by
  have h1 : e i ≤ Finset.univ.fold max (⊥ : EReal) e := by
    rw [Finset.le_fold_max]; exact Or.inr ⟨i, Finset.mem_univ i, le_refl _⟩
  have h2 : Finset.univ.fold max (⊥ : EReal) e < ⊤ := by
    rw [Finset.fold_max_lt]; exact ⟨bot_lt_top, fun s _ => lt_top_iff_ne_top.2 (he s)⟩
  have h3 : Finset.univ.fold max (⊥ : EReal) e ≠ ⊥ := by
    intro h; rw [h, hi] at h1; exact absurd (le_bot_iff.1 h1) (EReal.coe_ne_bot r)
  exact ⟨_, (EReal.coe_toReal h2.ne h3).symm⟩

/-- A sum over the first `cnt` of 256 entries as a sum over a range. -/
theorem sum_live (f : ℕ → ℝ) (cnt : ℕ) (hc : cnt ≤ 256) :
    ∑ s : Fin 256, (if s.val < cnt then f s.val else 0) = ∑ s ∈ Finset.range cnt, f s := by
  rw [Fin.sum_univ_eq_sum_range (fun s => if s < cnt then f s else 0) 256, ← Finset.sum_filter]
  congr 1
  ext s
  simp only [Finset.mem_filter, Finset.mem_range]
  omega

/-- A sum over the first `N + cnt` keys, the last `cnt` of them numbered from `N`. -/
theorem sum_append (f : ℕ → ℝ) (N cnt : ℕ) :
    ∑ k ∈ Finset.range (N + cnt), f k = ∑ k ∈ Finset.range N, f k + ∑ s ∈ Finset.range cnt, f (N + s) :=
  Finset.sum_range_add f N cnt

/-- One block of keys: the running maximum, sum and weighted sum keep their meaning. -/
theorem step (σ v : ℕ → ℝ) (N cnt : ℕ) (h0 : 0 < cnt) (hc : cnt ≤ 256) (sh : ℝ) (e w : Fin 256 → EReal)
    (he : ∀ s : Fin 256, e s = if s.val < cnt then ((σ (N + s.val) + sh : ℝ) : EReal) else ⊥)
    (hw : ∀ s : Fin 256, w s = ((v (N + s.val) : ℝ) : EReal)) (m l a M m' : EReal) (hI : Inv σ v N m l a)
    (hM : M = Finset.univ.fold max (⊥ : EReal) e) (hm' : m' = max m (M - (sh : EReal))) :
    Inv σ v (N + cnt) m' (Ideal.exp (m - m') * l + ∑ s, Ideal.exp (e s - (m' + (sh : EReal))))
      (Ideal.exp (m - m') * a + ∑ s, Ideal.exp (e s - (m' + (sh : EReal))) * w s) := by
  obtain ⟨μ0, hμ0⟩ := fold_real e ⟨0, by omega⟩ _ (by rw [he, if_pos h0]) (by
    intro s; rw [he]; split
    · exact EReal.coe_ne_top _
    · exact bot_ne_top)
  rw [hμ0] at hM
  rw [hM, ← EReal.coe_sub] at hm'
  have hr : ∃ μ' : ℝ, m' = (μ' : EReal) := by
    rcases hI with ⟨_, hm, _, _⟩ | ⟨μ, hm, _, _⟩
    · exact ⟨μ0 - sh, by rw [hm', hm]; exact max_eq_right bot_le⟩
    · exact ⟨max μ (μ0 - sh), by rw [hm', hm, coe_max]⟩
  obtain ⟨μ', hμ'⟩ := hr
  have hp : ∀ s : Fin 256, Ideal.exp (e s - (m' + (sh : EReal)))
      = (((if s.val < cnt then Real.exp (σ (N + s.val) - μ') else 0) : ℝ) : EReal) := by
    intro s
    rw [he, hμ', ← EReal.coe_add]
    split
    · rw [← EReal.coe_sub, Ideal.exp_coe]; congr 2; ring
    · rw [EReal.bot_sub, Ideal.exp_bot]; rfl
  have hl : ∑ s, Ideal.exp (e s - (m' + (sh : EReal)))
      = ((∑ s ∈ Finset.range cnt, Real.exp (σ (N + s) - μ') : ℝ) : EReal) := by
    rw [← sum_live (fun s => Real.exp (σ (N + s) - μ')) cnt hc, coe_sum]
    exact Finset.sum_congr rfl fun s _ => hp s
  have ha : ∑ s, Ideal.exp (e s - (m' + (sh : EReal))) * w s
      = ((∑ s ∈ Finset.range cnt, Real.exp (σ (N + s) - μ') * v (N + s) : ℝ) : EReal) := by
    rw [← sum_live (fun s => Real.exp (σ (N + s) - μ') * v (N + s)) cnt hc, coe_sum]
    refine Finset.sum_congr rfl fun s _ => ?_
    rw [hp, hw, ← EReal.coe_mul]
    congr 1
    split
    · rfl
    · exact zero_mul _
  refine Or.inr ⟨μ', hμ', ?_, ?_⟩
  · rw [hl, sum_append]
    rcases hI with ⟨hN, hm, hl0, _⟩ | ⟨μ, hm, hl1, _⟩
    · rw [hl0, mul_zero, zero_add, hN, Finset.sum_range_zero, zero_add]
    · rw [hm, hl1, hμ', ← EReal.coe_sub, Ideal.exp_coe, ← EReal.coe_mul, ← EReal.coe_add, Finset.mul_sum]
      congr 2
      refine Finset.sum_congr rfl fun k _ => ?_
      rw [← Real.exp_add]; congr 1; ring
  · rw [ha, sum_append]
    rcases hI with ⟨hN, hm, _, ha0⟩ | ⟨μ, hm, _, ha1⟩
    · rw [ha0, mul_zero, zero_add, hN, Finset.sum_range_zero, zero_add]
    · rw [hm, ha1, hμ', ← EReal.coe_sub, Ideal.exp_coe, ← EReal.coe_mul, ← EReal.coe_add, Finset.mul_sum]
      congr 2
      refine Finset.sum_congr rfl fun k _ => ?_
      rw [← mul_assoc, ← Real.exp_add]; congr 2; ring

/-- A sum of exponentials over at least one key is positive. -/
theorem sum_pos (σ : ℕ → ℝ) (N : ℕ) (h0 : 0 < N) : 0 < ∑ k ∈ Finset.range N, Real.exp (σ k) :=
  Finset.sum_pos (fun k _ => Real.exp_pos _) ⟨0, Finset.mem_range.2 h0⟩

/-- Dividing two reals, the divisor not zero. -/
theorem div_real (x y : ℝ) (h : y ≠ 0) : Ideal.div (x : EReal) (y : EReal) = ((x / y : ℝ) : EReal) := by
  rw [Ideal.div_coe h, ← EReal.coe_mul]; congr 1; ring

/-- The weighted sum over the sum is the softmax average, whatever the two are relative to. -/
theorem finish (σ v : ℕ → ℝ) (N : ℕ) (h0 : 0 < N) (m l a : EReal) (hI : Inv σ v N m l a) :
    Ideal.div a l = ((avg σ v N : ℝ) : EReal) := by
  rcases hI with ⟨h, _, _, _⟩ | ⟨μ, _, hl, ha⟩
  · omega
  rw [hl, ha, div_real _ _ (sum_pos (fun k => σ k - μ) N h0).ne']
  congr 1
  unfold avg
  have e1 : ∑ k ∈ Finset.range N, Real.exp (σ k - μ) = Real.exp (-μ) * ∑ k ∈ Finset.range N, Real.exp (σ k) := by
    rw [Finset.mul_sum]; refine Finset.sum_congr rfl fun k _ => ?_
    rw [← Real.exp_add]; congr 1; ring
  have e2 : ∑ k ∈ Finset.range N, Real.exp (σ k - μ) * v k
      = Real.exp (-μ) * ∑ k ∈ Finset.range N, Real.exp (σ k) * v k := by
    rw [Finset.mul_sum]; refine Finset.sum_congr rfl fun k _ => ?_
    rw [← mul_assoc, ← Real.exp_add]; congr 2; ring
  rw [e1, e2]
  exact mul_div_mul_left _ _ (Real.exp_pos _).ne'

/-- A sum over 8192 keys of which only those before `N` count. -/
theorem sum_keys (f : ℕ → ℝ) (N : ℕ) (hN : N ≤ 8192) :
    ∑ s : Fin 8192, (if s.val < N then f s.val else 0) = ∑ s ∈ Finset.range N, f s := by
  rw [Fin.sum_univ_eq_sum_range (fun s => if s < N then f s else 0) 8192, ← Finset.sum_filter]
  congr 1
  ext s
  simp only [Finset.mem_filter, Finset.mem_range]
  omega

/-- The softmax of a row of 8192 masked scores, at key `k`. -/
theorem weight (σ : ℕ → ℝ) (N : ℕ) (h0 : 0 < N) (hN : N ≤ 8192) (z : Fin 8192 → EReal)
    (hz : ∀ s : Fin 8192, z s = if s.val < N then ((σ s.val : ℝ) : EReal) else ⊥) (M : EReal)
    (hM : M = Finset.univ.fold max (⊥ : EReal) z) (k : Fin 8192) :
    Ideal.div (Ideal.exp (z k - M)) (∑ s, Ideal.exp (z s - M))
      = (((if k.val < N then Real.exp (σ k.val) / ∑ s ∈ Finset.range N, Real.exp (σ s) else 0) : ℝ) : EReal) := by
  obtain ⟨μ, hμ⟩ := fold_real z ⟨0, by omega⟩ _ (by rw [hz, if_pos h0]) (by
    intro s; rw [hz]; split
    · exact EReal.coe_ne_top _
    · exact bot_ne_top)
  rw [hμ] at hM
  have hp : ∀ s : Fin 8192, Ideal.exp (z s - M)
      = (((if s.val < N then Real.exp (-μ) * Real.exp (σ s.val) else 0) : ℝ) : EReal) := by
    intro s
    rw [hz, hM]
    split
    · rw [← EReal.coe_sub, Ideal.exp_coe, ← Real.exp_add]; congr 2; ring
    · rw [EReal.bot_sub, Ideal.exp_bot]; rfl
  have hl : ∑ s, Ideal.exp (z s - M) = ((Real.exp (-μ) * ∑ s ∈ Finset.range N, Real.exp (σ s) : ℝ) : EReal) := by
    rw [Finset.mul_sum, ← sum_keys (fun s => Real.exp (-μ) * Real.exp (σ s)) N hN, coe_sum]
    exact Finset.sum_congr rfl fun s _ => hp s
  have hpos := sum_pos σ N h0
  rw [hl, hp, div_real _ _ (mul_pos (Real.exp_pos _) hpos).ne']
  congr 1
  split
  · exact mul_div_mul_left _ _ (Real.exp_pos _).ne'
  · exact zero_div _

/-- The values weighted by the difference of two softmax rows are the difference of the two averages. -/
theorem diff (σ0 σ1 v : ℕ → ℝ) (lam : ℝ) (N : ℕ) (h0 : 0 < N) (hN : N ≤ 8192) (w p0 p1 : Fin 8192 → EReal)
    (hw : ∀ k : Fin 8192, w k = ((v k.val : ℝ) : EReal))
    (hp0 : ∀ k : Fin 8192, p0 k
      = (((if k.val < N then Real.exp (σ0 k.val) / ∑ s ∈ Finset.range N, Real.exp (σ0 s) else 0) : ℝ) : EReal))
    (hp1 : ∀ k : Fin 8192, p1 k
      = (((if k.val < N then Real.exp (σ1 k.val) / ∑ s ∈ Finset.range N, Real.exp (σ1 s) else 0) : ℝ) : EReal)) :
    ∑ k, w k * (p0 k - (lam : EReal) * p1 k) = ((avg σ0 v N : ℝ) : EReal) - (lam : EReal) * ((avg σ1 v N : ℝ) : EReal) := by
  have e : ∀ k : Fin 8192, w k * (p0 k - (lam : EReal) * p1 k)
      = (((if k.val < N then v k.val * (Real.exp (σ0 k.val) / ∑ s ∈ Finset.range N, Real.exp (σ0 s)
          - lam * (Real.exp (σ1 k.val) / ∑ s ∈ Finset.range N, Real.exp (σ1 s))) else 0) : ℝ) : EReal) := by
    intro k
    rw [hw, hp0, hp1, ← EReal.coe_mul, ← EReal.coe_sub, ← EReal.coe_mul]
    congr 1
    split
    · rfl
    · simp
  rw [Finset.sum_congr rfl fun k _ => e k, ← coe_sum, sum_keys (fun k => v k * (Real.exp (σ0 k)
      / ∑ s ∈ Finset.range N, Real.exp (σ0 s) - lam * (Real.exp (σ1 k) / ∑ s ∈ Finset.range N, Real.exp (σ1 s)))) N hN,
    ← EReal.coe_mul, ← EReal.coe_sub]
  congr 1
  unfold avg
  rw [Finset.sum_div, Finset.sum_div, Finset.mul_sum, ← Finset.sum_sub_distrib]
  refine Finset.sum_congr rfl fun k _ => ?_
  ring

end Soft
-- ==== Proof.DRef.lean ====
/-
  Differential attention in the reference, at an entry: the difference of two softmax averages of the values of the
  entry's head, before the norm over the head.
-/
module

public import proofs.«01_k».proof.Proof.SoftMath
public import proofs.«01_k».proof.Proof.Gen.Reference6Ideal.Run
public import Idealize.ShloMosaic.Lib.Pointwise
public import Idealize.ShloMosaic.Lib.WordCmp
public import Idealize.ShloMosaic.Lib.Tactic

@[expose] public section

set_option maxRecDepth 16384

noncomputable section

open Idealize.ShloMosaic Idealize.ShloMosaic.TcCoe Idealize.SL.Sem

namespace Cert.Reference6Ideal.Attn

open Cert.Reference6Ideal Cert.Reference6Ideal.Gen Cert.Reference6Ideal.Value

/-- The second half of the columns, by heads and the two maps of a head. -/
def maps (x : FVec Ideal S2x8192x1024 .bf16) : FVec Ideal S2x8192x8x2x32 .f32 :=
  shapeCast _ (extf .f32 (extractStridedSlice S2x8192x512 ![0, 0, 512] x slices_S2x8192x1024_S2x8192x512_0_0_512) bitsLt_bf16_f32) shapeCasts_S2x8192x512_S2x8192x8x2x32

/-- The second half of the columns, by heads. -/
def heads (x : FVec Ideal S2x8192x1024 .bf16) : FVec Ideal S2x8192x8x64 .f32 :=
  shapeCast _ (extf .f32 (extractStridedSlice S2x8192x512 ![0, 0, 512] x slices_S2x8192x1024_S2x8192x512_0_0_512) bitsLt_bf16_f32) shapeCasts_S2x8192x512_S2x8192x8x64

/-- Which keys a query sees. -/
def mask : IVec S2x2x8x8192x8192 1 :=
  broadcastInDim S2x2x8x8192x8192 ![3, 4] bcast_S8192x8192_S2x2x8x8192x8192_3_4 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

/-- The distances from a query back to a key. -/
def dist : FVec Ideal S8192x8192 .f32 :=
  sitofp .f32 (subi (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0))))

/-- The slope of each head. -/
def slopes (a : FVec Ideal S4x1x128 .f32) : FVec Ideal S8 .f32 :=
  shapeCast _ (extractStridedSlice S8x1 ![0, 0] (shapeCast _ a shapeCasts_S4x1x128_S8x64) slices_S8x64_S8x1_0_0) shapeCasts_S8x1_S8

/-- The bias by distance. -/
def bias (a : FVec Ideal S4x1x128 .f32) : FVec Ideal S2x2x8x8192x8192 .f32 :=
  broadcastInDim S2x2x8x8192x8192 ![0, 1, 2, 3, 4] bcast_S1x1x8x8192x8192_S2x2x8x8192x8192_0_1_2_3_4 (broadcastInDim S1x1x8x8192x8192 ![2, 3, 4] bcast_S8x8192x8192_S1x1x8x8192x8192_2_3_4 (mulf (broadcastInDim S8x8192x8192 ![0, 1, 2] bcast_S8x1x1_S8x8192x8192_0_1_2 (Host.negf (broadcastInDim S8x1x1 ![0] bcast_S8_S8x1x1_0 (slopes a)))) (broadcastInDim S8x8192x8192 ![0, 1, 2] bcast_S1x8192x8192_S8x8192x8192_0_1_2 (broadcastInDim S1x8192x8192 ![1, 2] bcast_S8192x8192_S1x8192x8192_1_2 dist))))

/-- The products of queries and keys. -/
def dots (q k : FVec Ideal S2x8192x8x2x32 .f32) : FVec Ideal S2x2x8x8192x8192 .f32 :=
  Host.dotGeneral dot_S2x8192x8x2x32_S2x8192x8x2x32_S2x2x8x8192x8192_4_4_1_1_032_032 none q k

/-- The masked scores. -/
def scores (p bi : FVec Ideal S2x2x8x8192x8192 .f32) : FVec Ideal S2x2x8x8192x8192 .f32 :=
  select mask (addf p bi) (broadcastInDim S2x2x8x8192x8192 ![] bcast_S_S2x2x8x8192x8192 (id (constant S_ .f32 0xFF800000#32)))

/-- The largest score of each query. -/
def top (z : FVec Ideal S2x2x8x8192x8192 .f32) : FVec Ideal S2x2x8x8192 .f32 :=
  maximumf (broadcastInDim S2x2x8x8192 ![] bcast_S_S2x2x8x8192 (constant S_ .f32 0xFF800000#32)) (Host.reduce FloatOps.maximumf z (constant S_ .f32 0xFF800000#32) reducesTo_S2x2x8x8192x8192_S2x2x8x8192_d4 h_S_)

/-- The exponentials of the scores relative to the largest. -/
def exps (z : FVec Ideal S2x2x8x8192x8192 .f32) : FVec Ideal S2x2x8x8192x8192 .f32 :=
  Host.exp (subf z (broadcastInDim S2x2x8x8192x8192 ![0, 1, 2, 3, 4] bcast_S2x2x8x8192x1_S2x2x8x8192x8192_0_1_2_3_4 (broadcastInDim S2x2x8x8192x1 ![0, 1, 2, 3] bcast_S2x2x8x8192_S2x2x8x8192x1_0_1_2_3 (top z))))

/-- The softmax weights. -/
def weights (e : FVec Ideal S2x2x8x8192x8192 .f32) : FVec Ideal S2x2x8x8192x8192 .f32 :=
  Host.divf e (broadcastInDim S2x2x8x8192x8192 ![0, 1, 2, 3, 4] bcast_S2x2x8x8192x1_S2x2x8x8192x8192_0_1_2_3_4 (broadcastInDim S2x2x8x8192x1 ![0, 1, 2, 3] bcast_S2x2x8x8192_S2x2x8x8192x1_0_1_2_3 (Host.reduceAdd e (constant S_ .f32 0x00000000#32) reducesTo_S2x2x8x8192x8192_S2x2x8x8192_d4 h_S_)))

/-- The number lambda. -/
def lam (a : FVec Ideal S4x32 .f32) : FVec Ideal S_ .f32 :=
  addf (subf (Host.exp (Host.reduceAdd (mulf (shapeCast _ (extractStridedSlice S1x32 ![0, 0] a slices_S4x32_S1x32_0_0) shapeCasts_S1x32_S32) (shapeCast _ (extractStridedSlice S1x32 ![1, 0] a slices_S4x32_S1x32_1_0) shapeCasts_S1x32_S32)) (constant S_ .f32 0x00000000#32) reducesTo_S32_S_d0 h_S_)) (Host.exp (Host.reduceAdd (mulf (shapeCast _ (extractStridedSlice S1x32 ![2, 0] a slices_S4x32_S1x32_2_0) shapeCasts_S1x32_S32) (shapeCast _ (extractStridedSlice S1x32 ![3, 0] a slices_S4x32_S1x32_3_0) shapeCasts_S1x32_S32)) (constant S_ .f32 0x00000000#32) reducesTo_S32_S_d0 h_S_))) (constant S_ .f32 0x3E4CCCCD#32)

/-- The values weighted by the difference of the two maps. -/
def attn (v : FVec Ideal S2x8192x8x64 .f32) (p : FVec Ideal S2x2x8x8192x8192 .f32) (l : FVec Ideal S_ .f32) : FVec Ideal S2x8192x8x64 .f32 :=
  transpose S2x8192x8x64 [0, 3, 1, 2] (Host.dotGeneral dot_S2x8192x8x64_S2x8x8192x8192_S2x8x64x8192_1_3_3_2_02_01 none v (subf (shapeCast _ (extractStridedSlice S2x1x8x8192x8192 ![0, 0, 0, 0, 0] p slices_S2x2x8x8192x8192_S2x1x8x8192x8192_0_0_0_0_0) shapeCasts_S2x1x8x8192x8192_S2x8x8192x8192) (mulf (broadcastInDim S2x8x8192x8192 ![] bcast_S_S2x8x8192x8192 l) (shapeCast _ (extractStridedSlice S2x1x8x8192x8192 ![0, 1, 0, 0, 0] p slices_S2x2x8x8192x8192_S2x1x8x8192x8192_0_1_0_0_0) shapeCasts_S2x1x8x8192x8192_S2x8x8192x8192)))) transposes_S2x8x64x8192_S2x8192x8x64_0_3_1_2

/-- The norm over each head, scaled. -/
def normed (o : FVec Ideal S2x8192x8x64 .f32) (g : FVec Ideal S64 .f32) : FVec Ideal S2x8192x512 .bf16 :=
  truncf .bf16 (shapeCast _ (mulf (mulf (mulf o (broadcastInDim S2x8192x8x64 ![0, 1, 2, 3] bcast_S2x8192x8x1_S2x8192x8x64_0_1_2_3 (Host.rsqrt (addf (Host.divf (broadcastInDim S2x8192x8x1 ![0, 1, 2] bcast_S2x8192x8_S2x8192x8x1_0_1_2 (Host.reduceAdd (mulf o o) (constant S_ .f32 0x00000000#32) reducesTo_S2x8192x8x64_S2x8192x8_d3 h_S_)) (broadcastInDim S2x8192x8x1 ![] bcast_S_S2x8192x8x1 (constant S_ .f32 0x42800000#32))) (broadcastInDim S2x8192x8x1 ![] bcast_S_S2x8192x8x1 (constant S_ .f32 0x3727C5AC#32)))))) (broadcastInDim S2x8192x8x64 ![0, 1, 2, 3] bcast_S1x1x1x64_S2x8192x8x64_0_1_2_3 (broadcastInDim S1x1x1x64 ![3] bcast_S64_S1x1x1x64_3 g))) (broadcastInDim S2x8192x8x64 ![] bcast_S_S2x8192x8x64 (constant S_ .f32 0x3F4CCCCD#32))) shapeCasts_S2x8192x8x64_S2x8192x512) bitsLt_bf16_f32

/-- The reference's result, by the steps above. -/
theorem res_eq (m : (ℓ : Loc nD τ sig) → Buf (Elt Ideal) ℓ) (c : Dev nD) :
    res_main_v87 m c = normed (attn (heads (m ((c.tc : Thread nD τ).loc main_arg2)))
      (weights (exps (scores (dots (maps (m ((c.tc : Thread nD τ).loc main_arg0))) (maps (m ((c.tc : Thread nD τ).loc main_arg1))))
        (bias (m ((c.tc : Thread nD τ).loc main_arg3)))))) (lam (m ((c.tc : Thread nD τ).loc main_arg4))))
      (m ((c.tc : Thread nD τ).loc main_arg5)) := rfl

/-- An entry by heads and maps is an entry of the array. -/
theorem maps_apply (x : FVec Ideal S2x8192x1024 .bf16) (b : Fin 2) (s : Fin 8192) (h : Fin 8) (c : Fin 2) (d : Fin 32) :
    maps x (ix5 b s h c d) = x (ix3 b s ⟨512 + (h.val * 64 + c.val * 32 + d.val), by omega⟩) := by
  pointwise [maps]
  done

/-- An entry by heads is an entry of the array. -/
theorem heads_apply (x : FVec Ideal S2x8192x1024 .bf16) (b : Fin 2) (s : Fin 8192) (h : Fin 8) (d : Fin 64) :
    heads x (ix4 b s h d) = x (ix3 b s ⟨512 + (h.val * 64 + d.val), by omega⟩) := by
  pointwise [heads]
  done

/-- A query sees the keys up to it. -/
theorem mask_apply (b c : Fin 2) (h : Fin 8) (t s : Fin 8192) : mask (ix5 b c h t s) = BitVec.ofBool (decide (s.val ≤ t.val)) := by
  pointwise [mask]
  exact WordCmp.cmpi_sle_ofNat (by have := s.isLt; omega) (by have := t.isLt; omega)

/-- The difference of two small numbers held as 32-bit words. -/
theorem toInt_sub (a b : ℕ) (ha : a < 8192) (hb : b < 8192) :
    (BitVec.ofNat 32 a - BitVec.ofNat 32 b).toInt = (a : ℤ) - (b : ℤ) := by
  rw [BitVec.toInt_sub, BitVec.toInt_ofNat', BitVec.toInt_ofNat']
  simp only [Int.bmod]
  omega

/-- A distance is the difference of the positions. -/
theorem dist_apply (t s : Fin 8192) : dist (ix2 t s) = (((t.val : ℝ) - (s.val : ℝ) : ℝ) : EReal) := by
  pointwise [dist]
  show (((BitVec.ofNat 32 t.val - BitVec.ofNat 32 s.val).toInt : ℝ) : EReal) = _
  rw [toInt_sub _ _ t.isLt s.isLt]
  push_cast
  rfl

/-- The slope of a head. -/
theorem slopes_apply (a : FVec Ideal S4x1x128 .f32) (h : Fin 8) :
    slopes a (ix1 h) = a (ix3 ⟨h.val / 2, by omega⟩ 0 ⟨h.val % 2 * 64, by omega⟩) := by
  pointwise [slopes]
  done

/-- A bias is minus the slope times the distance. -/
theorem bias_apply (a : FVec Ideal S4x1x128 .f32) (b c : Fin 2) (h : Fin 8) (t s : Fin 8192) :
    bias a (ix5 b c h t s) = -(slopes a (ix1 h)) * dist (ix2 t s) := by
  pointwise [bias]
  done

/-- A product of a query and a key of the same head and map. -/
theorem dots_apply (q k : FVec Ideal S2x8192x8x2x32 .f32) (b c : Fin 2) (h : Fin 8) (t s : Fin 8192) :
    dots q k (ix5 b c h t s) = ∑ d : Fin 32, q (ix5 b t h c d) * k (ix5 b s h c d) := by
  pointwise [dots]
  done

/-- The lower infinity. -/
theorem bot_word : FloatOps.ofBits (F := Ideal) .f32 0xFF800000#32 = ⊥ := by
  show Ideal.ieee 8 23 0xFF800000#32 = ⊥
  simp [Ideal.ieee]

/-- A choice by a comparison. -/
theorem select_bit {α : Type} (p : Prop) [Decidable p] (x y : α) :
    (if BitVec.ofBool (decide p) = 1#1 then x else y) = if p then x else y := by
  by_cases h : p <;> simp [h]

/-- The scalar lower infinity. -/
theorem bot_scalar : (id (constant (F := Ideal) S_ .f32 0xFF800000#32) : FVec Ideal S_ .f32) ix0 = ⊥ := bot_word

/-- A masked score. -/
theorem scores_apply (p bi : FVec Ideal S2x2x8x8192x8192 .f32) (b c : Fin 2) (h : Fin 8) (t s : Fin 8192) :
    scores p bi (ix5 b c h t s) = if s.val ≤ t.val then p (ix5 b c h t s) + bi (ix5 b c h t s) else ⊥ := by
  pointwise [scores]
  rw [mask_apply, bot_scalar]
  exact select_bit _ _ _

/-- The largest of a row. -/
theorem redmax_apply (z : FVec Ideal S2x2x8x8192x8192 .f32) (b c : Fin 2) (h : Fin 8) (t : Fin 8192) :
    Host.reduce FloatOps.maximumf z (constant (F := Ideal) S_ .f32 0xFF800000#32) reducesTo_S2x2x8x8192x8192_S2x2x8x8192_d4 h_S_ (ix4 b c h t)
      = Finset.univ.fold max (⊥ : EReal) fun s : Fin 8192 => z (ix5 b c h t s) := by
  have hR : S2x2x8x8192x8192.Reduces [4] S2x2x8x8192 := by decide
  have e : ∀ s : Fin 8192, hR.lift (ix4 b c h t) s = ix5 b c h t s := fun s => by
    funext a
    fin_cases a <;> rfl
  refine (Host.reduce_eq_fold_single (max : EReal → EReal → EReal) z _ reducesTo_S2x2x8x8192x8192_S2x2x8x8192_d4 hR h_S_ (ix4 b c h t)).trans ?_
  rw [show (constant (F := Ideal) S_ .f32 0xFF800000#32) (Shape.Idx.first h_S_) = (⊥ : EReal) from bot_word]
  exact congrArg (fun f => Finset.fold max (⊥ : EReal) f (Finset.univ : Finset (Fin 8192))) (funext fun s => congrArg z (e s))

/-- The larger of two arrays, at an entry. -/
theorem larger_apply (x y : FVec Ideal S2x2x8x8192 .f32) (b c : Fin 2) (h : Fin 8) (t : Fin 8192) :
    maximumf x y (ix4 b c h t) = max (x (ix4 b c h t)) (y (ix4 b c h t)) := rfl

/-- An array of lower infinities, at an entry. -/
theorem bots_apply (b c : Fin 2) (h : Fin 8) (t : Fin 8192) :
    broadcastInDim S2x2x8x8192 ![] bcast_S_S2x2x8x8192 (constant (F := Ideal) S_ .f32 0xFF800000#32) (ix4 b c h t) = (⊥ : EReal) := bot_word

/-- The largest score of a query. -/
theorem top_apply (z : FVec Ideal S2x2x8x8192x8192 .f32) (b c : Fin 2) (h : Fin 8) (t : Fin 8192) :
    top z (ix4 b c h t) = Finset.univ.fold max (⊥ : EReal) fun s : Fin 8192 => z (ix5 b c h t s) := by
  unfold top
  rw [larger_apply, bots_apply, redmax_apply]
  exact max_eq_right bot_le

/-- An exponential. -/
theorem exps_apply (z : FVec Ideal S2x2x8x8192x8192 .f32) (b c : Fin 2) (h : Fin 8) (t s : Fin 8192) :
    exps z (ix5 b c h t s) = Ideal.exp (z (ix5 b c h t s) - top z (ix4 b c h t)) := by
  pointwise [exps]
  done

/-- A weight. -/
theorem weights_apply (e : FVec Ideal S2x2x8x8192x8192 .f32) (b c : Fin 2) (h : Fin 8) (t s : Fin 8192) :
    weights e (ix5 b c h t s) = Ideal.div (e (ix5 b c h t s)) (∑ u : Fin 8192, e (ix5 b c h t u)) := by
  pointwise [weights]
  done

/-- The number lambda, from the four vectors. -/
theorem lam_apply (a : FVec Ideal S4x32 .f32) :
    lam a ix0 = Ideal.exp (∑ d : Fin 32, a (ix2 0 d) * a (ix2 1 d)) - Ideal.exp (∑ d : Fin 32, a (ix2 2 d) * a (ix2 3 d))
      + FloatOps.ofBits (F := Ideal) .f32 0x3E4CCCCD#32 := by
  pointwise [lam]
  done

/-- An entry before the norm. -/
theorem attn_apply (v : FVec Ideal S2x8192x8x64 .f32) (p : FVec Ideal S2x2x8x8192x8192 .f32) (l : FVec Ideal S_ .f32)
    (b : Fin 2) (t : Fin 8192) (h : Fin 8) (d : Fin 64) :
    attn v p l (ix4 b t h d)
      = ∑ s : Fin 8192, v (ix4 b s h d) * (p (ix5 b 0 h t s) - l ix0 * p (ix5 b 1 h t s)) := by
  pointwise [attn]
  done

/-- An entry of the result. -/
theorem normed_apply (o : FVec Ideal S2x8192x8x64 .f32) (g : FVec Ideal S64 .f32) (b : Fin 2) (t : Fin 8192) (n : Fin 512) :
    normed o g (ix3 b t n) = o (ix4 b t ⟨n.val / 64, by omega⟩ ⟨n.val % 64, by omega⟩)
      * Ideal.rsqrt (Ideal.div (∑ d : Fin 64, o (ix4 b t ⟨n.val / 64, by omega⟩ d) * o (ix4 b t ⟨n.val / 64, by omega⟩ d))
          (FloatOps.ofBits (F := Ideal) .f32 0x42800000#32) + FloatOps.ofBits (F := Ideal) .f32 0x3727C5AC#32)
      * g (ix1 ⟨n.val % 64, by omega⟩) * FloatOps.ofBits (F := Ideal) .f32 0x3F4CCCCD#32 := by
  pointwise [normed]
  done

end Cert.Reference6Ideal.Attn
-- ==== Proof.DFin.lean ====
/-
  What the precondition of the differential attention says: queries, keys, values, slopes and the vectors of lambda hold
  real numbers. And the numbers a few constants' words hold.
-/
module

public import proofs.«01_k».proof.Pre_finite6
public import proofs.«01_k».proof.Proof.SoftMath
public import Idealize.ShloMosaic.Lib.Pointwise

@[expose] public section

set_option maxRecDepth 16384

noncomputable section

open Idealize.ShloMosaic

namespace Cert.Pre_finite6

/-- The shape relations of the precondition. -/
instance shapes : Facts where
  bitsLt_bf16_f32 := by decide
  bcast_S_S2x8192x1024 := by decide
  bcast_S_S4x1x128 := by decide
  bcast_S_S4x32 := by decide

/-- The word of the upper infinity. -/
theorem top_word : FloatOps.ofBits (F := Ideal) .f32 0x7F800000#32 = ⊤ := by
  show Ideal.ofBits .f32 0x7F800000#32 = ⊤
  simp [Ideal.ofBits, Ideal.ieee]

/-- An extended real whose absolute value lies below the upper infinity is real. -/
theorem real_of (x : EReal) (h : Ideal.cmp .olt (max x (-x)) ⊤ = 1#1) : x = ((x.toReal : ℝ) : EReal) := by
  have h' : max x (-x) < ⊤ := by
    unfold Ideal.cmp at h
    by_contra hn
    rw [show decide (max x (-x) < ⊤) = false from decide_eq_false hn] at h
    have h0 : (0#1 : BitVec 1) = 1#1 := h
    exact absurd h0 (by decide)
  rw [max_lt_iff] at h'
  refine (EReal.coe_toReal h'.1.ne ?_).symm
  intro hb
  rw [hb, EReal.neg_bot] at h'
  exact lt_irrefl _ h'.2

variable (a0 a1 a2 : FVec Ideal S2x8192x1024 .bf16) (a3 : FVec Ideal S4x1x128 .f32) (a4 : FVec Ideal S4x32 .f32) (a5 : FVec Ideal S64 .f32)

/-- The queries are real. -/
theorem real0 (h : (fn (F := Ideal) a0 a1 a2 a3 a4 a5).1 = fun _ => 1#1) (j : S2x8192x1024.Idx) : a0 j = ((a0 j).toReal : EReal) := by
  have e := congrFun h j
  refine real_of _ (Eq.trans ?_ e)
  rw [← top_word]
  rfl

/-- The keys are real. -/
theorem real1 (h : (fn (F := Ideal) a0 a1 a2 a3 a4 a5).2.1 = fun _ => 1#1) (j : S2x8192x1024.Idx) : a1 j = ((a1 j).toReal : EReal) := by
  have e := congrFun h j
  refine real_of _ (Eq.trans ?_ e)
  rw [← top_word]
  rfl

/-- The values are real. -/
theorem real2 (h : (fn (F := Ideal) a0 a1 a2 a3 a4 a5).2.2.1 = fun _ => 1#1) (j : S2x8192x1024.Idx) : a2 j = ((a2 j).toReal : EReal) := by
  have e := congrFun h j
  refine real_of _ (Eq.trans ?_ e)
  rw [← top_word]
  rfl

/-- The slopes are real. -/
theorem real3 (h : (fn (F := Ideal) a0 a1 a2 a3 a4 a5).2.2.2.1 = fun _ => 1#1) (j : S4x1x128.Idx) : a3 j = ((a3 j).toReal : EReal) := by
  have e := congrFun h j
  refine real_of _ (Eq.trans ?_ e)
  rw [← top_word]
  rfl

/-- The vectors of lambda are real. -/
theorem real4 (h : (fn (F := Ideal) a0 a1 a2 a3 a4 a5).2.2.2.2 = fun _ => 1#1) (j : S4x32.Idx) : a4 j = ((a4 j).toReal : EReal) := by
  have e := congrFun h j
  refine real_of _ (Eq.trans ?_ e)
  rw [← top_word]
  rfl

/-- Dividing by 64 is multiplying by its inverse. -/
theorem div_64 (x : EReal) : Ideal.div x (FloatOps.ofBits (F := Ideal) .f32 0x42800000#32) = x * FloatOps.ofBits (F := Ideal) .f32 0x3C800000#32 := by
  have e1 : FloatOps.ofBits (F := Ideal) .f32 0x42800000#32 = ((64 : ℝ) : EReal) := by
    show Ideal.ofBits .f32 0x42800000#32 = _
    simp [Ideal.ofBits, Ideal.ieee]
    norm_num
    rw [← EReal.coe_mul]
    norm_num
  have e2 : FloatOps.ofBits (F := Ideal) .f32 0x3C800000#32 = ((1 / 64 : ℝ) : EReal) := by
    show Ideal.ofBits .f32 0x3C800000#32 = _
    simp [Ideal.ofBits, Ideal.ieee]
    norm_num
    rw [← EReal.coe_mul]
    norm_num
  rw [e1, e2]
  exact Ideal.div_coe (by norm_num) x

/-- The constant part of lambda is real. -/
theorem lam_word : ∃ r : ℝ, FloatOps.ofBits (F := Ideal) .f32 0x3E4CCCCD#32 = (r : EReal) := by
  show ∃ r : ℝ, Ideal.ieee 8 23 0x3E4CCCCD#32 = (r : EReal)
  unfold Ideal.ieee
  dsimp only
  rw [if_neg (by decide), if_neg (by decide)]
  exact ⟨_, rfl⟩

end Cert.Pre_finite6
-- ==== Proof.DBlock.lean ====
/-
  What one block of the differential-attention kernel computes, at an entry, over the extended reals: the running
  maximum, sum and weighted sum of a map after a block of keys, and the average after the diagonal block.
-/
module

public import proofs.«01_k».proof.Proof.SoftMath
public import proofs.«01_k».proof.Proof.Gen.Kernel6Ideal.Value
public import Idealize.ShloMosaic.Lib.Pointwise
public import Idealize.ShloMosaic.Lib.WordCmp

@[expose] public section

set_option maxRecDepth 16384

noncomputable section

namespace Cert.Kernel6Ideal.Block

open Idealize.ShloMosaic Cert.Kernel6Ideal Cert.Kernel6Ideal.Gen

/-- The running maximum, sum and weighted sum. -/
abbrev Carry := FVec Ideal S256x1 .f32 × FVec Ideal S256x1 .f32 × FVec Ideal S256x128 .f32

/-- The scores of a block, relative to the block. -/
def score (Q : FVec Ideal S256x128 .bf16) (rel : FVec Ideal S256x256 .f32) (kb : Vec Ideal S1x256x128 .bf16) : FVec Ideal S256x256 .f32 :=
  addf (matmul dot_S256x128_S256x128_S256x256_1_1_0_0_n_n none Q (shapeCast S256x128 kb shapeCasts_S1x256x128_S256x128 : FVec Ideal S256x128 .bf16) (constant S256x256 .f32 0x00000000#32)) rel

/-- The scores of the diagonal block: the keys after the query left out. -/
def masked (s : FVec Ideal S256x256 .f32) : FVec Ideal S256x256 .f32 :=
  select k0_pay3 s (broadcast S256x256 (Named.named (F := Ideal) κ "mask" 0xF149F2CA#32))

/-- How far the scores of a block are from those of the row. -/
def shift (sl : FVec Ideal S1x1 .f32) (w : BitVec 32) : FVec Ideal S1x1 .f32 :=
  mulf sl (broadcast S1x1 (Scalar.sitofp .f32 (Scalar.muli w 256#32)))

/-- The new running maximum. -/
def mNew (s : FVec Ideal S256x256 .f32) (sh : FVec Ideal S1x1 .f32) (m : FVec Ideal S256x1 .f32) : FVec Ideal S256x1 .f32 :=
  maximumf m (subf (shapeCast S256x1 (multiReduction .maximumf [1] S256 s 0xFF800000#32 reduces_S256x256_S256 (.inl rfl) rfl) shapeCasts_S256_S256x1) (broadcastTo S256x1 sh broadcasts_S1x1_S256x1))

/-- The factor that makes the old sums relative to the new maximum. -/
def alpha (m m' : FVec Ideal S256x1 .f32) : FVec Ideal S256x1 .f32 := exp (subf m m')

/-- The exponentials of the block relative to the new maximum. -/
def part (s : FVec Ideal S256x256 .f32) (sh : FVec Ideal S1x1 .f32) (m' : FVec Ideal S256x1 .f32) : FVec Ideal S256x256 .f32 :=
  exp (subf s (broadcastTo S256x256 (addf m' (broadcastTo S256x1 sh broadcasts_S1x1_S256x1)) broadcasts_S256x1_S256x256))

/-- The new running sum. -/
def lNew (al : FVec Ideal S256x1 .f32) (p : FVec Ideal S256x256 .f32) (l : FVec Ideal S256x1 .f32) : FVec Ideal S256x1 .f32 :=
  addf (mulf al l) (shapeCast S256x1 (multiReduction .add [1] S256 p 0x00000000#32 reduces_S256x256_S256 (.inl rfl) rfl) shapeCasts_S256_S256x1)

/-- The new running weighted sum. -/
def aNew (al : FVec Ideal S256x1 .f32) (p : FVec Ideal S256x256 .f32) (vb : Vec Ideal S1x256x128 .bf16) (a : FVec Ideal S256x128 .f32) : FVec Ideal S256x128 .f32 :=
  addf (mulf (broadcastTo S256x128 al broadcasts_S256x1_S256x128) a) (matmul dot_S256x256_S256x128_S256x128_1_0_0_1_n_n none (truncf .bf16 p bitsLt_bf16_f32) (shapeCast S256x128 vb shapeCasts_S1x256x128_S256x128 : FVec Ideal S256x128 .bf16) (constant S256x128 .f32 0x00000000#32))

/-- One block. -/
def step (s : FVec Ideal S256x256 .f32) (sh : FVec Ideal S1x1 .f32) (vb : Vec Ideal S1x256x128 .bf16) (S : Carry) : Carry :=
  (mNew s sh S.1, lNew (alpha S.1 (mNew s sh S.1)) (part s sh (mNew s sh S.1)) S.2.1,
    aNew (alpha S.1 (mNew s sh S.1)) (part s sh (mNew s sh S.1)) vb S.2.2)

/-- The weighted sum over the sum. -/
def fin (S : Carry) : FVec Ideal S256x128 .f32 := divf S.2.2 (broadcastTo S256x128 S.2.1 broadcasts_S256x1_S256x128)

/-- A number chosen by the bit of a proposition. -/
theorem select_ofBool {α : Type} (p : Prop) [Decidable p] (x y : α) :
    Scalar.select (BitVec.ofBool (decide p)) x y = if p then x else y := by
  by_cases h : p
  · rw [decide_eq_true h, if_pos h]; rfl
  · rw [decide_eq_false h, if_neg h]; rfl

/-- The mask's number is the lower infinity. -/
theorem mask_word : Named.named (F := Ideal) (φ := .f32) κ "mask" 0xF149F2CA#32 = (⊥ : EReal) := rfl

/-- The lower infinity. -/
theorem bot_word : FloatOps.ofBits (F := Ideal) .f32 0xFF800000#32 = ⊥ := by
  show Ideal.ieee 8 23 0xFF800000#32 = ⊥
  simp [Ideal.ieee]

/-- A score of a block. -/
theorem score_apply (Q : FVec Ideal S256x128 .bf16) (rel : FVec Ideal S256x256 .f32) (kb : Vec Ideal S1x256x128 .bf16) (r s : Fin 256) :
    score Q rel kb (ix2 r s) = ∑ x : Fin 128, Q (ix2 r x) * kb (ix3 0 s x) + rel (ix2 r s) := by
  pointwise [score]
  done

/-- A query sees the keys up to it. -/
theorem causal_apply (r s : Fin 256) : k0_pay3 (ix2 r s) = BitVec.ofBool (decide (s.val ≤ r.val)) := by
  pointwise [k0_pay3]
  exact WordCmp.cmpi_sle_ofNat (by have := s.isLt; omega) (by have := r.isLt; omega)

/-- A score of the diagonal block. -/
theorem masked_apply (S : FVec Ideal S256x256 .f32) (r s : Fin 256) :
    masked S (ix2 r s) = if s.val ≤ r.val then S (ix2 r s) else ⊥ := by
  pointwise [masked]
  rw [causal_apply, select_ofBool, mask_word]

/-- The new running maximum, of a row. -/
theorem mNew_apply (s : FVec Ideal S256x256 .f32) (sh : FVec Ideal S1x1 .f32) (m : FVec Ideal S256x1 .f32) (r : Fin 256) :
    mNew s sh m (ix2 r 0) = max (m (ix2 r 0)) (Finset.univ.fold max (⊥ : EReal) (fun u : Fin 256 => s (ix2 r u)) - sh (ix2 0 0)) := by
  rw [← bot_word]
  pointwise [mNew]
  done

/-- The factor, of a row. -/
theorem alpha_apply (m m' : FVec Ideal S256x1 .f32) (r : Fin 256) :
    alpha m m' (ix2 r 0) = Ideal.exp (m (ix2 r 0) - m' (ix2 r 0)) := by
  pointwise [alpha]
  done

/-- An exponential of the block. -/
theorem part_apply (s : FVec Ideal S256x256 .f32) (sh : FVec Ideal S1x1 .f32) (m' : FVec Ideal S256x1 .f32) (r u : Fin 256) :
    part s sh m' (ix2 r u) = Ideal.exp (s (ix2 r u) - (m' (ix2 r 0) + sh (ix2 0 0))) := by
  pointwise [part]
  done

/-- The new running sum, of a row. -/
theorem lNew_apply (al : FVec Ideal S256x1 .f32) (p : FVec Ideal S256x256 .f32) (l : FVec Ideal S256x1 .f32) (r : Fin 256) :
    lNew al p l (ix2 r 0) = al (ix2 r 0) * l (ix2 r 0) + ∑ u : Fin 256, p (ix2 r u) := by
  pointwise [lNew]
  done

/-- The new running weighted sum, of a row and a lane. -/
theorem aNew_apply (al : FVec Ideal S256x1 .f32) (p : FVec Ideal S256x256 .f32) (vb : Vec Ideal S1x256x128 .bf16) (a : FVec Ideal S256x128 .f32)
    (r : Fin 256) (l : Fin 128) :
    aNew al p vb a (ix2 r l) = al (ix2 r 0) * a (ix2 r l) + ∑ u : Fin 256, p (ix2 r u) * vb (ix3 0 u l) := by
  pointwise [aNew]
  done

/-- The weighted sum over the sum, of a row and a lane. -/
theorem fin_apply (S : Carry) (r : Fin 256) (l : Fin 128) : fin S (ix2 r l) = Ideal.div (S.2.2 (ix2 r l)) (S.2.1 (ix2 r 0)) := by
  pointwise [fin]
  done

/-- What the carry means for a row and a lane after the first `N` keys. -/
def Holds (σ v : ℕ → ℝ) (N : ℕ) (S : Carry) (r : Fin 256) (l : Fin 128) : Prop :=
  Soft.Inv σ v N (S.1 (ix2 r 0)) (S.2.1 (ix2 r 0)) (S.2.2 (ix2 r l))

/-- One block keeps the carry's meaning. -/
theorem step_holds (σ v : ℕ → ℝ) (N cnt : ℕ) (h0 : 0 < cnt) (hc : cnt ≤ 256) (a : ℝ)
    (s : FVec Ideal S256x256 .f32) (sh : FVec Ideal S1x1 .f32) (vb : Vec Ideal S1x256x128 .bf16) (S : Carry) (r : Fin 256) (l : Fin 128)
    (hsh : sh (ix2 0 0) = (a : EReal))
    (hs : ∀ u : Fin 256, s (ix2 r u) = if u.val < cnt then ((σ (N + u.val) + a : ℝ) : EReal) else ⊥)
    (hv : ∀ u : Fin 256, vb (ix3 0 u l) = ((v (N + u.val) : ℝ) : EReal)) (hS : Holds σ v N S r l) :
    Holds σ v (N + cnt) (step s sh vb S) r l := by
  have hm : mNew s sh S.1 (ix2 r 0) = max (S.1 (ix2 r 0)) (Finset.univ.fold max (⊥ : EReal) (fun u : Fin 256 => s (ix2 r u)) - (a : EReal)) := by
    rw [mNew_apply, hsh]
  have h := Soft.step σ v N cnt h0 hc a (fun u => s (ix2 r u)) (fun u => vb (ix3 0 u l)) hs hv _ _ _ _ _ hS rfl hm
  unfold Holds step
  dsimp only
  rw [lNew_apply, aNew_apply, alpha_apply]
  simp only [part_apply, hsh]
  exact h

/-- The word `(i - k) * 256`, read as an integer. -/
theorem toInt_shift (i k : ℕ) (hi : i < 32) (hk : k ≤ i) :
    (Scalar.muli (Scalar.subi (BitVec.ofNat 32 i) (BitVec.ofNat 32 k)) 256#32).toInt = ((i : ℤ) - (k : ℤ)) * 256 := by
  show ((BitVec.ofNat 32 i - BitVec.ofNat 32 k) * 256#32).toInt = _
  rw [BitVec.toInt_mul, BitVec.toInt_sub, BitVec.toInt_ofNat', BitVec.toInt_ofNat']
  have e : (256#32 : BitVec 32).toInt = 256 := by decide
  rw [e]
  simp only [Int.bmod]
  omega

/-- The shift of block `k` for the queries of block `i`. -/
theorem shift_apply (sl : FVec Ideal S1x1 .f32) (slope : ℝ) (hsl : sl (ix2 0 0) = (slope : EReal)) (i k : ℕ) (hi : i < 32) (hk : k ≤ i) :
    shift sl (Scalar.subi (BitVec.ofNat 32 i) (BitVec.ofNat 32 k)) (ix2 0 0) = ((slope * (((i : ℝ) - (k : ℝ)) * 256) : ℝ) : EReal) := by
  show sl (ix2 0 0) * (((Scalar.muli (Scalar.subi (BitVec.ofNat 32 i) (BitVec.ofNat 32 k)) 256#32).toInt : ℝ) : EReal) = _
  rw [toInt_shift i k hi hk, hsl, ← EReal.coe_mul]
  push_cast
  rfl

/-- The carry before the first block. -/
def start : Carry := (k0_pay12, k0_pay13, k0_pay14)

/-- Before the first block the carry holds nothing. -/
theorem start_holds (σ v : ℕ → ℝ) (r : Fin 256) (l : Fin 128) : Holds σ v 0 start r l := by
  refine Or.inl ⟨rfl, mask_word, ?_, ?_⟩
  · unfold start; pointwise [k0_pay13]
  · unfold start; pointwise [k0_pay14]

/-- A row over all its blocks: the softmax average of the values of the keys up to the query. -/
theorem row_apply (Q : FVec Ideal S256x128 .bf16) (rel : FVec Ideal S256x256 .f32) (sl : FVec Ideal S1x1 .f32) (kb vb : ℕ → Vec Ideal S1x256x128 .bf16)
    (i : ℕ) (hi : i < 32) (S : ℕ → Carry) (h0 : S 0 = start)
    (hS : ∀ k, k < i → S (k + 1) = step (score Q rel (kb k)) (shift sl (Scalar.subi (BitVec.ofNat 32 i) (BitVec.ofNat 32 k))) (vb k) (S k))
    (σ v : ℕ → ℝ) (slope : ℝ) (r : Fin 256) (l : Fin 128) (hsl : sl (ix2 0 0) = (slope : EReal))
    (hs : ∀ (k : ℕ) (u : Fin 256), score Q rel (kb k) (ix2 r u) = ((σ (k * 256 + u.val) + slope * (((i : ℝ) - (k : ℝ)) * 256) : ℝ) : EReal))
    (hv : ∀ (k : ℕ) (u : Fin 256), vb k (ix3 0 u l) = ((v (k * 256 + u.val) : ℝ) : EReal)) :
    fin (step (masked (score Q rel (kb i))) (shift sl (Scalar.subi (BitVec.ofNat 32 i) (BitVec.ofNat 32 i))) (vb i) (S i)) (ix2 r l)
      = ((Soft.avg σ v (i * 256 + r.val + 1) : ℝ) : EReal) := by
  have h : ∀ k, k ≤ i → Holds σ v (k * 256) (S k) r l := by
    intro k
    induction k with
    | zero => intro _; rw [h0, Nat.zero_mul]; exact start_holds σ v r l
    | succ k ih =>
      intro hk
      rw [hS k (by omega), Nat.succ_mul]
      refine step_holds σ v (k * 256) 256 (by norm_num) le_rfl _ _ _ _ _ r l (shift_apply sl slope hsl i k hi (by omega)) (fun u => ?_) (hv k) (ih (by omega))
      rw [if_pos u.isLt, hs]
  have hd := step_holds σ v (i * 256) (r.val + 1) (by omega) (by omega) _ (masked (score Q rel (kb i))) _ (vb i) _ r l
    (shift_apply sl slope hsl i i hi le_rfl) (fun u => by
      rw [masked_apply, hs]
      exact if_congr (by omega) rfl rfl) (hv i) (h i le_rfl)
  rw [fin_apply]
  exact Soft.finish σ v (i * 256 + (r.val + 1)) (by omega) _ _ _ hd

end Cert.Kernel6Ideal.Block
-- ==== Proof.DLane.lean ====
/-
  The lanes of the differential-attention kernel: which queries each map reads, lambda, the slopes, and the norm over
  each head at the end.
-/
module

public import proofs.«01_k».proof.Proof.DBlock

@[expose] public section

set_option maxRecDepth 16384

noncomputable section

namespace Cert.Kernel6Ideal.Block

open Idealize.ShloMosaic Cert.Kernel6Ideal Cert.Kernel6Ideal.Gen

/-- The numbers of the lanes. -/
abbrev lanes : IVec S256x128 32 := iota .tc S256x128 32 [1] iota_S256x128_d1_w32

/-- The lanes from `lo` up to `hi`. -/
theorem lane (lo hi : ℕ) (hlo : lo ≤ 128) (hhi : hi ≤ 128) (x : Fin 128) :
    IntOp.andi (IntOp.cmpi .sge (BitVec.ofNat 32 x.val) (BitVec.ofNat 32 lo)) (IntOp.cmpi .slt (BitVec.ofNat 32 x.val) (BitVec.ofNat 32 hi))
      = BitVec.ofBool (decide (lo ≤ x.val ∧ x.val < hi)) := by
  have hx := x.isLt
  rw [WordCmp.cmpi_sge_ofNat (by omega) (by omega), WordCmp.cmpi_slt_ofNat (by omega) (by omega), WordCmp.andi_ofBool]
  simp

/-- The queries of the first map of the first head. -/
theorem q00_apply (v0 : Vec Ideal S1x256x128 .bf16) (r : Fin 256) (x : Fin 128) :
    k0_pay11 (F := Ideal) (k0_pay2 v0) lanes k0_pay10 (ix2 r x) = if 0 ≤ x.val ∧ x.val < 32 then v0 (ix3 0 r x) else 0 := by
  pointwise [k0_pay11, k0_pay2, k0_pay10]
  refine (congrArg (fun b => Scalar.select b (v0 (ix3 0 r x)) (0 : EReal)) (lane 0 32 (by norm_num) (by norm_num) x)).trans ?_
  rw [select_ofBool]
  exact if_congr (by omega) rfl rfl

/-- The queries of the second map of the first head. -/
theorem q01_apply (v0 : Vec Ideal S1x256x128 .bf16) (r : Fin 256) (x : Fin 128) :
    k0_pay36 (F := Ideal) (k0_pay2 v0) lanes (ix2 r x) = if 32 ≤ x.val ∧ x.val < 64 then v0 (ix3 0 r x) else 0 := by
  pointwise [k0_pay36, k0_pay2]
  refine (congrArg (fun b => Scalar.select b (v0 (ix3 0 r x)) (0 : EReal)) (lane 32 64 (by norm_num) (by norm_num) x)).trans ?_
  rw [select_ofBool]

/-- The queries of the first map of the second head. -/
theorem q10_apply (v0 : Vec Ideal S1x256x128 .bf16) (r : Fin 256) (x : Fin 128) :
    k0_pay61 (F := Ideal) (k0_pay2 v0) (k0_pay60 lanes) (ix2 r x) = if 64 ≤ x.val ∧ x.val < 96 then v0 (ix3 0 r x) else 0 := by
  pointwise [k0_pay61, k0_pay2, k0_pay60]
  refine (congrArg (fun b => Scalar.select b (v0 (ix3 0 r x)) (0 : EReal)) (lane 64 96 (by norm_num) (by norm_num) x)).trans ?_
  rw [select_ofBool]

/-- The queries of the second map of the second head. -/
theorem q11_apply (v0 : Vec Ideal S1x256x128 .bf16) (r : Fin 256) (x : Fin 128) :
    k0_pay87 (F := Ideal) (k0_pay2 v0) lanes (ix2 r x) = if 96 ≤ x.val ∧ x.val < 128 then v0 (ix3 0 r x) else 0 := by
  pointwise [k0_pay87, k0_pay2]
  refine (congrArg (fun b => Scalar.select b (v0 (ix3 0 r x)) (0 : EReal)) (lane 96 128 (by norm_num) (by norm_num) x)).trans ?_
  rw [select_ofBool]
  exact if_congr (by omega) rfl rfl

/-- A sum over 128 lanes of which `n` from `lo` on count. -/
theorem sum_lanes (f : Fin 128 → EReal) (lo n : ℕ) (h : lo + n ≤ 128) :
    ∑ x : Fin 128, (if lo ≤ x.val ∧ x.val < lo + n then f x else 0) = ∑ d : Fin n, f ⟨lo + d.val, by omega⟩ := by
  rw [← Finset.sum_filter]
  refine (Finset.sum_bij (fun (d : Fin n) _ => (⟨lo + d.val, by omega⟩ : Fin 128)) ?_ ?_ ?_ ?_).symm
  · intro d _
    simp
  · intro a _ b _ e
    have := congrArg Fin.val e
    exact Fin.ext (by simpa using this)
  · intro x hx
    simp only [Finset.mem_filter, Finset.mem_univ, true_and] at hx
    exact ⟨⟨x.val - lo, by omega⟩, Finset.mem_univ _, Fin.ext (by simp; omega)⟩
  · intro d _
    rfl

/-- The distances within a block, key minus query. -/
theorem rel_apply (r s : Fin 256) : k0_pay4 (F := Ideal) (ix2 r s) = (((s.val : ℝ) - (r.val : ℝ) : ℝ) : EReal) := by
  pointwise [k0_pay4]
  show (((BitVec.ofNat 32 s.val - BitVec.ofNat 32 r.val).toInt : ℝ) : EReal) = _
  have e : (BitVec.ofNat 32 s.val - BitVec.ofNat 32 r.val).toInt = (s.val : ℤ) - (r.val : ℤ) := by
    rw [BitVec.toInt_sub, BitVec.toInt_ofNat', BitVec.toInt_ofNat']
    simp only [Int.bmod]
    have := s.isLt
    have := r.isLt
    omega
  rw [e]
  push_cast
  rfl

/-- The slope of the first head. -/
theorem slope0_apply (v : Vec Ideal S1x1x1 .f32) : k0_pay8 (F := Ideal) v (ix2 0 0) = v (ix3 0 0 0) := by
  pointwise [k0_pay8]

/-- The slope of the second head. -/
theorem slope1_apply (v : Vec Ideal S1x1x1 .f32) : k0_pay58 (F := Ideal) v (ix2 0 0) = v (ix3 0 0 0) := by
  pointwise [k0_pay58]

/-- The slopes times the distances, first head. -/
theorem bias0_apply (v : Vec Ideal S1x1x1 .f32) (r s : Fin 256) :
    k0_pay9 (F := Ideal) v (ix2 r s) = v (ix3 0 0 0) * (((s.val : ℝ) - (r.val : ℝ) : ℝ) : EReal) := by
  rw [← rel_apply]
  pointwise [k0_pay9, k0_pay8]

/-- The slopes times the distances, second head. -/
theorem bias1_apply (v : Vec Ideal S1x1x1 .f32) (r s : Fin 256) :
    k0_pay59 (F := Ideal) k0_pay4 v (ix2 r s) = v (ix3 0 0 0) * (((s.val : ℝ) - (r.val : ℝ) : ℝ) : EReal) := by
  rw [← rel_apply]
  pointwise [k0_pay59, k0_pay58]

/-- The number lambda. -/
theorem lam_apply (a b c d : Vec Ideal S1x32 .f32) :
    k0_pay5 (F := Ideal) a b c d (ix2 0 0) = Ideal.exp (∑ x : Fin 32, a (ix2 0 x) * b (ix2 0 x)) - Ideal.exp (∑ x : Fin 32, c (ix2 0 x) * d (ix2 0 x))
      + FloatOps.ofBits (F := Ideal) .f32 0x3E4CCCCD#32 := by
  pointwise [k0_pay5]
  done

/-- Both heads' outputs side by side, before the norm. -/
def both (la : FVec Ideal S1x1 .f32) (A0 A1 B0 B1 : FVec Ideal S256x128 .f32) : FVec Ideal S256x128 .f32 :=
  select (k0_pay57 lanes) (subf B0 (mulf (broadcastTo S256x128 la broadcasts_S1x1_S256x128) B1))
    (select k0_pay7 (subf A0 (mulf (broadcastTo S256x128 la broadcasts_S1x1_S256x128) A1)) k0_pay6)

/-- Each lane holds its own head's difference. -/
theorem both_apply (la : FVec Ideal S1x1 .f32) (A0 A1 B0 B1 : FVec Ideal S256x128 .f32) (r : Fin 256) (x : Fin 128) :
    both la A0 A1 B0 B1 (ix2 r x) = if x.val < 64 then A0 (ix2 r x) - la (ix2 0 0) * A1 (ix2 r x) else B0 (ix2 r x) - la (ix2 0 0) * B1 (ix2 r x) := by
  have h1 := lane 64 128 (by norm_num) (by norm_num) x
  have h0 := lane 0 64 (by norm_num) (by norm_num) x
  have hx := x.isLt
  pointwise [both, k0_pay57, k0_pay7, k0_pay6]
  refine (congrArg₂ (fun b1 b0 => Scalar.select b1 _ (Scalar.select b0 _ _)) h1 h0).trans ?_
  rw [select_ofBool, select_ofBool]
  by_cases h : x.val < 64
  · rw [if_neg (by omega), if_pos (by omega), if_pos h]
  · rw [if_pos (by omega), if_neg h]

/-- The norm over each head, scaled. -/
def normed (o : FVec Ideal S256x128 .f32) (g : Vec Ideal S1x128 .f32) : FVec Ideal S1x256x128 .bf16 :=
  k0_pay1 lanes o (k0_pay108 g) (mulf o o) k0_pay110 (k0_pay111 lanes)
    (broadcastTo S256x128 (shapeCast S256x1 (mulf (shapeCast S256x1 (multiReduction .add [1] S256 (select (k0_pay111 lanes) (mulf o o) (broadcast S256x128 (Scalar.ofBits (F := Ideal) .f32 0x00000000#32))) 0x00000000#32 reduces_S256x128_S256 (.inl rfl) rfl) shapeCasts_S256_S256x1) (broadcast S256x1 (Scalar.ofBits (F := Ideal) .f32 0x3C800000#32))) shapeCasts_S256x1_S256x1) broadcasts_S256x1_S256x128)

/-- The mean of the squares of a head. -/
def meanSq (o : FVec Ideal S256x128 .f32) (r : Fin 256) (lo : ℕ) (h : lo + 64 ≤ 128) : EReal :=
  (∑ d : Fin 64, o (ix2 r ⟨lo + d.val, by omega⟩) * o (ix2 r ⟨lo + d.val, by omega⟩)) * FloatOps.ofBits (F := Ideal) .f32 0x3C800000#32

/-- An entry of the result. -/
theorem normed_apply (o : FVec Ideal S256x128 .f32) (g : Vec Ideal S1x128 .f32) (r : Fin 256) (x : Fin 128) :
    normed o g (ix3 0 r x) = o (ix2 r x)
      * Ideal.rsqrt ((if x.val < 64 then meanSq o r 0 (by norm_num) else meanSq o r 64 (by norm_num)) + FloatOps.ofBits (F := Ideal) .f32 0x3727C5AC#32)
      * g (ix2 0 x) * FloatOps.ofBits (F := Ideal) .f32 0x3F4CCCCD#32 := by
  have h1 := lane 64 128 (by norm_num) (by norm_num)
  have h0 := lane 0 64 (by norm_num) (by norm_num)
  have hx := x.isLt
  have e0 : ∑ u : Fin 128, (if 0 ≤ u.val ∧ u.val < 64 then o (ix2 r u) * o (ix2 r u) else 0) = ∑ d : Fin 64, o (ix2 r ⟨0 + d.val, by omega⟩) * o (ix2 r ⟨0 + d.val, by omega⟩) :=
    sum_lanes (fun u => o (ix2 r u) * o (ix2 r u)) 0 64 (by norm_num)
  have e1 : ∑ u : Fin 128, (if 64 ≤ u.val ∧ u.val < 128 then o (ix2 r u) * o (ix2 r u) else 0) = ∑ d : Fin 64, o (ix2 r ⟨64 + d.val, by omega⟩) * o (ix2 r ⟨64 + d.val, by omega⟩) :=
    sum_lanes (fun u => o (ix2 r u) * o (ix2 r u)) 64 64 (by norm_num)
  pointwise [normed, k0_pay1, k0_pay108, k0_pay110, k0_pay111]
  simp only [h1, h0, select_ofBool]
  rw [e0, e1]
  by_cases h : x.val < 64
  · rw [if_neg (by omega), if_pos (by omega), if_pos h]; rfl
  · rw [if_pos (by omega), if_neg h]; rfl

end Cert.Kernel6Ideal.Block
-- ==== Proof.DLoop.lean ====
/-
  The loops of the differential-attention kernel: the keys each trip loads, and what a trip does to the running values.
-/
module

public import proofs.«01_k».proof.Proof.DLane
public import Idealize.ShloMosaic.Lib.Pipeline.Value
public import Idealize.ShloMosaic.Lib.LoopRemainder
public import Idealize.ShloMosaic.Lib.Tactic

@[expose] public section

set_option maxRecDepth 16384

noncomputable section

open Idealize.ShloMosaic Idealize.ShloMosaic.TcCoe Idealize.SL.Sem

namespace Cert.Kernel6Ideal.Out

open Cert.Kernel6Ideal Cert.Kernel6Ideal.Gen Cert.Kernel6Ideal.Block

/-- The diagonal block's keys. -/
theorem off3 : ∀ i : grid0.Coords, k0_off3 i = ![0, (i 2).val * 256, 0] := by decide +kernel

/-- The loop of the first map of the first head makes as many trips as there are earlier blocks. -/
theorem trips1 : ∀ i : grid0.Coords, (k0_t1_loop i).trips = (i 2).val := by decide +kernel

/-- The keys of its trip `k`. -/
theorem off1 : ∀ (i : grid0.Coords) (k : Fin (k0_t1_loop i).trips), k0_off1 i k = ![0, k.val * 256, 0] := by
  decide +kernel

/-- The loop of the second map of the first head makes as many trips as there are earlier blocks. -/
theorem trips3 : ∀ i : grid0.Coords, (k0_t3_loop i).trips = (i 2).val := by decide +kernel

/-- The keys of its trip `k`. -/
theorem off4 : ∀ (i : grid0.Coords) (k : Fin (k0_t3_loop i).trips), k0_off4 i k = ![0, k.val * 256, 0] := by
  decide +kernel

/-- The loop of the first map of the second head makes as many trips as there are earlier blocks. -/
theorem trips5 : ∀ i : grid0.Coords, (k0_t5_loop i).trips = (i 2).val := by decide +kernel

/-- The keys of its trip `k`. -/
theorem off6 : ∀ (i : grid0.Coords) (k : Fin (k0_t5_loop i).trips), k0_off6 i k = ![0, k.val * 256, 0] := by
  decide +kernel

/-- The loop of the second map of the second head makes as many trips as there are earlier blocks. -/
theorem trips7 : ∀ i : grid0.Coords, (k0_t7_loop i).trips = (i 2).val := by decide +kernel

/-- The keys of its trip `k`. -/
theorem off8 : ∀ (i : grid0.Coords) (k : Fin (k0_t7_loop i).trips), k0_off8 i k = ![0, k.val * 256, 0] := by
  decide +kernel

/-- A row of 8192 keys as a function of any number. -/
def key (x : Vec Ideal S1x8192x128 .bf16) (n : ℕ) (l : Fin 128) : EReal :=
  if h : n < 8192 then x (ix3 0 ⟨n, h⟩ l) else 0

/-- Block `b` of the keys. -/
def keyBlock (x : Vec Ideal S1x8192x128 .bf16) (b : ℕ) : Vec Ideal S1x256x128 .bf16 :=
  fun j => key x (b * 256 + (j 1).val) (j 2)

/-- A load of 256 keys from position `o` on. -/
theorem load_eq (a : Memref sig .tc .vmem S1x8192x128 .bf16) (h : a.IsWhole) (x : Vec Ideal S1x8192x128 .bf16)
    (off : Fin 3 → ℕ) (b : ℕ) (ho : off = ![0, b * 256, 0])
    (inb : ∀ k, off k + S1x256x128.size k ≤ S1x8192x128.size k) :
    View.readAt (Elt Ideal) a.view (Rect.unit (s := S1x8192x128) off S1x256x128.size inb).toLoadRect (h.unread x) = keyBlock x b := by
  subst ho
  rw [View.readAt_eq_ld, h.read_unread]
  funext j
  idx_vars j
  have hb := inb 1
  have hb' : b * 256 + 256 ≤ 8192 := hb
  pointwise [keyBlock, key]
  rw [dif_pos (by have := j1.isLt; omega)]

/-- The number of trip `k` of a loop from zero. -/
theorem iv_eq (k : ℕ) : Scf.iv 0#32 1#32 k = BitVec.ofNat 32 k := by
  unfold Scf.iv
  rw [BitVec.mul_one]
  exact BitVec.zero_add _

/-- A trip of the loop of the first map of the first head. -/
theorem st1_step (c : Dev nD) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1x128 .f32) (harg6 : arg6.IsWhole) (arg7 : Memref sig .tc .vmem S4x32 .f32) (harg7 : arg7.IsWhole) (arg8 : Memref sig .tc .vmem S1x128 .f32) (harg8 : arg8.IsWhole) (arg9 : Memref sig .tc .vmem S1x256x128 .bf16) (harg9 : arg9.IsWhole)
    (x1 x2 : Vec Ideal S1x8192x128 .bf16) (arg2 : BitVec 32) (v2 : FVec Ideal S256x128 .f32) (v3 : IVec S256x128 32) (v6 : IVec S256x256 1) (v31 : FVec Ideal S1x1 .f32) (v33 : FVec Ideal S256x256 .f32) (v35 : IVec S256x128 1) (init : Carry) (k : ℕ) (hk : k < (i 2).val) :
    st_k0_t1 (F := Ideal) Variants.none c none i arg3 harg3 arg4 harg4 arg5 harg5 arg6 harg6 arg7 harg7 arg8 harg8 arg9 harg9 arg2 v2 v3 v6 v31 v33 v35 (harg4.unread x1) (harg5.unread x2) init (k + 1)
      = step (score (k0_pay11 v2 v3 v35) v33 (keyBlock x1 k)) (shift v31 (Scalar.subi arg2 (BitVec.ofNat 32 k))) (keyBlock x2 k)
        (st_k0_t1 (F := Ideal) Variants.none c none i arg3 harg3 arg4 harg4 arg5 harg5 arg6 harg6 arg7 harg7 arg8 harg8 arg9 harg9 arg2 v2 v3 v6 v31 v33 v35 (harg4.unread x1) (harg5.unread x2) init k) := by
  have hk' : k < (k0_t1_loop i).trips := by rw [trips1]; exact hk
  refine (st_k0_t1_succ (F := Ideal) Variants.none c none i arg3 harg3 arg4 harg4 arg5 harg5 arg6 harg6 arg7 harg7 arg8 harg8 arg9 harg9 arg2 v2 v3 v6 v31 v33 v35 (harg4.unread x1) (harg5.unread x2) init ⟨k, hk'⟩).trans ?_
  generalize st_k0_t1 (F := Ideal) Variants.none c none i arg3 harg3 arg4 harg4 arg5 harg5 arg6 harg6 arg7 harg7 arg8 harg8 arg9 harg9 arg2 v2 v3 v6 v31 v33 v35 (harg4.unread x1) (harg5.unread x2) init k = S
  unfold tripR_k0_t1 trip_k0_t1
  dsimp only
  have e4 := load_eq arg4 harg4 x1 _ _ (off1 i ⟨k, hk'⟩) (k0_off1_inb i ⟨k, hk'⟩)
  have e5 := load_eq arg5 harg5 x2 _ _ (off1 i ⟨k, hk'⟩) (k0_off1_inb i ⟨k, hk'⟩)
  dsimp only at e4 e5
  rw [e4, e5, ← iv_eq]
  rfl

/-- A trip of the loop of the second map of the first head. -/
theorem st3_step (c : Dev nD) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1x128 .f32) (harg6 : arg6.IsWhole) (arg7 : Memref sig .tc .vmem S4x32 .f32) (harg7 : arg7.IsWhole) (arg8 : Memref sig .tc .vmem S1x128 .f32) (harg8 : arg8.IsWhole) (arg9 : Memref sig .tc .vmem S1x256x128 .bf16) (harg9 : arg9.IsWhole)
    (x1 x2 : Vec Ideal S1x8192x128 .bf16) (arg2 : BitVec 32) (v2 : FVec Ideal S256x128 .f32) (v3 : IVec S256x128 32) (v31 : FVec Ideal S1x1 .f32) (v33 : FVec Ideal S256x256 .f32) (v51_1 : FVec Ideal S256x1 .f32) (v51_2 : FVec Ideal S256x128 .f32) (v59 : FVec Ideal S256x128 .bf16) (v63 : FVec Ideal S256x256 .f32) (v75 : FVec Ideal S256x1 .f32) (v77 : FVec Ideal S256x1 .f32) (init : Carry) (k : ℕ) (hk : k < (i 2).val) :
    st_k0_t3 (F := Ideal) Variants.none c none i arg3 harg3 arg4 harg4 arg5 harg5 arg6 harg6 arg7 harg7 arg8 harg8 arg9 harg9 arg2 v2 v3 v31 v33 v51_1 v51_2 v59 v63 v75 v77 (harg4.unread x1) (harg5.unread x2) init (k + 1)
      = step (score (k0_pay36 v2 v3) v33 (keyBlock x1 k)) (shift v31 (Scalar.subi arg2 (BitVec.ofNat 32 k))) (keyBlock x2 k)
        (st_k0_t3 (F := Ideal) Variants.none c none i arg3 harg3 arg4 harg4 arg5 harg5 arg6 harg6 arg7 harg7 arg8 harg8 arg9 harg9 arg2 v2 v3 v31 v33 v51_1 v51_2 v59 v63 v75 v77 (harg4.unread x1) (harg5.unread x2) init k) := by
  have hk' : k < (k0_t3_loop i).trips := by rw [trips3]; exact hk
  refine (st_k0_t3_succ (F := Ideal) Variants.none c none i arg3 harg3 arg4 harg4 arg5 harg5 arg6 harg6 arg7 harg7 arg8 harg8 arg9 harg9 arg2 v2 v3 v31 v33 v51_1 v51_2 v59 v63 v75 v77 (harg4.unread x1) (harg5.unread x2) init ⟨k, hk'⟩).trans ?_
  generalize st_k0_t3 (F := Ideal) Variants.none c none i arg3 harg3 arg4 harg4 arg5 harg5 arg6 harg6 arg7 harg7 arg8 harg8 arg9 harg9 arg2 v2 v3 v31 v33 v51_1 v51_2 v59 v63 v75 v77 (harg4.unread x1) (harg5.unread x2) init k = S
  unfold tripR_k0_t3 trip_k0_t3
  dsimp only
  have e4 := load_eq arg4 harg4 x1 _ _ (off4 i ⟨k, hk'⟩) (k0_off4_inb i ⟨k, hk'⟩)
  have e5 := load_eq arg5 harg5 x2 _ _ (off4 i ⟨k, hk'⟩) (k0_off4_inb i ⟨k, hk'⟩)
  dsimp only at e4 e5
  rw [e4, e5, ← iv_eq]
  rfl

/-- A trip of the loop of the first map of the second head. -/
theorem st5_step (c : Dev nD) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1x128 .f32) (harg6 : arg6.IsWhole) (arg7 : Memref sig .tc .vmem S4x32 .f32) (harg7 : arg7.IsWhole) (arg8 : Memref sig .tc .vmem S1x128 .f32) (harg8 : arg8.IsWhole) (arg9 : Memref sig .tc .vmem S1x256x128 .bf16) (harg9 : arg9.IsWhole)
    (x1 x2 : Vec Ideal S1x8192x128 .bf16) (arg2 : BitVec 32) (v2 : FVec Ideal S256x128 .f32) (v6 : IVec S256x256 1) (v160 : FVec Ideal S1x1 .f32) (v162 : FVec Ideal S256x256 .f32) (v167 : IVec S256x128 1) (init : Carry) (k : ℕ) (hk : k < (i 2).val) :
    st_k0_t5 (F := Ideal) Variants.none c none i arg3 harg3 arg4 harg4 arg5 harg5 arg6 harg6 arg7 harg7 arg8 harg8 arg9 harg9 arg2 v2 v6 v160 v162 v167 (harg4.unread x1) (harg5.unread x2) init (k + 1)
      = step (score (k0_pay61 v2 v167) v162 (keyBlock x1 k)) (shift v160 (Scalar.subi arg2 (BitVec.ofNat 32 k))) (keyBlock x2 k)
        (st_k0_t5 (F := Ideal) Variants.none c none i arg3 harg3 arg4 harg4 arg5 harg5 arg6 harg6 arg7 harg7 arg8 harg8 arg9 harg9 arg2 v2 v6 v160 v162 v167 (harg4.unread x1) (harg5.unread x2) init k) := by
  have hk' : k < (k0_t5_loop i).trips := by rw [trips5]; exact hk
  refine (st_k0_t5_succ (F := Ideal) Variants.none c none i arg3 harg3 arg4 harg4 arg5 harg5 arg6 harg6 arg7 harg7 arg8 harg8 arg9 harg9 arg2 v2 v6 v160 v162 v167 (harg4.unread x1) (harg5.unread x2) init ⟨k, hk'⟩).trans ?_
  generalize st_k0_t5 (F := Ideal) Variants.none c none i arg3 harg3 arg4 harg4 arg5 harg5 arg6 harg6 arg7 harg7 arg8 harg8 arg9 harg9 arg2 v2 v6 v160 v162 v167 (harg4.unread x1) (harg5.unread x2) init k = S
  unfold tripR_k0_t5 trip_k0_t5
  dsimp only
  have e4 := load_eq arg4 harg4 x1 _ _ (off6 i ⟨k, hk'⟩) (k0_off6_inb i ⟨k, hk'⟩)
  have e5 := load_eq arg5 harg5 x2 _ _ (off6 i ⟨k, hk'⟩) (k0_off6_inb i ⟨k, hk'⟩)
  dsimp only at e4 e5
  rw [e4, e5, ← iv_eq]
  rfl

/-- A trip of the loop of the second map of the second head. -/
theorem st7_step (c : Dev nD) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1x128 .f32) (harg6 : arg6.IsWhole) (arg7 : Memref sig .tc .vmem S4x32 .f32) (harg7 : arg7.IsWhole) (arg8 : Memref sig .tc .vmem S1x128 .f32) (harg8 : arg8.IsWhole) (arg9 : Memref sig .tc .vmem S1x256x128 .bf16) (harg9 : arg9.IsWhole)
    (x1 x2 : Vec Ideal S1x8192x128 .bf16) (arg2 : BitVec 32) (v2 : FVec Ideal S256x128 .f32) (v3 : IVec S256x128 32) (v6 : IVec S256x256 1) (v160 : FVec Ideal S1x1 .f32) (v162 : FVec Ideal S256x256 .f32) (v180_2 : FVec Ideal S256x128 .f32) (v188 : FVec Ideal S256x128 .bf16) (v204 : FVec Ideal S256x1 .f32) (v209 : FVec Ideal S256x256 .f32) (v210 : FVec Ideal S256x1 .f32) (init : Carry) (k : ℕ) (hk : k < (i 2).val) :
    st_k0_t7 (F := Ideal) Variants.none c none i arg3 harg3 arg4 harg4 arg5 harg5 arg6 harg6 arg7 harg7 arg8 harg8 arg9 harg9 arg2 v2 v3 v6 v160 v162 v180_2 v188 v204 v209 v210 (harg4.unread x1) (harg5.unread x2) init (k + 1)
      = step (score (k0_pay87 v2 v3) v162 (keyBlock x1 k)) (shift v160 (Scalar.subi arg2 (BitVec.ofNat 32 k))) (keyBlock x2 k)
        (st_k0_t7 (F := Ideal) Variants.none c none i arg3 harg3 arg4 harg4 arg5 harg5 arg6 harg6 arg7 harg7 arg8 harg8 arg9 harg9 arg2 v2 v3 v6 v160 v162 v180_2 v188 v204 v209 v210 (harg4.unread x1) (harg5.unread x2) init k) := by
  have hk' : k < (k0_t7_loop i).trips := by rw [trips7]; exact hk
  refine (st_k0_t7_succ (F := Ideal) Variants.none c none i arg3 harg3 arg4 harg4 arg5 harg5 arg6 harg6 arg7 harg7 arg8 harg8 arg9 harg9 arg2 v2 v3 v6 v160 v162 v180_2 v188 v204 v209 v210 (harg4.unread x1) (harg5.unread x2) init ⟨k, hk'⟩).trans ?_
  generalize st_k0_t7 (F := Ideal) Variants.none c none i arg3 harg3 arg4 harg4 arg5 harg5 arg6 harg6 arg7 harg7 arg8 harg8 arg9 harg9 arg2 v2 v3 v6 v160 v162 v180_2 v188 v204 v209 v210 (harg4.unread x1) (harg5.unread x2) init k = S
  unfold tripR_k0_t7 trip_k0_t7
  dsimp only
  have e4 := load_eq arg4 harg4 x1 _ _ (off8 i ⟨k, hk'⟩) (k0_off8_inb i ⟨k, hk'⟩)
  have e5 := load_eq arg5 harg5 x2 _ _ (off8 i ⟨k, hk'⟩) (k0_off8_inb i ⟨k, hk'⟩)
  dsimp only at e4 e5
  rw [e4, e5, ← iv_eq]
  rfl

end Cert.Kernel6Ideal.Out
-- ==== Proof.DOut.lean ====
/-
  What the body of the differential-attention kernel leaves in its output block.
-/
module

public import proofs.«01_k».proof.Proof.DLoop
public import proofs.«01_k».proof.Proof.Gen.Kernel6Ideal.Value
public import Idealize.ShloMosaic.Lib.Pipeline.Value
public import Idealize.ShloMosaic.Lib.LoopRemainder
public import Idealize.ShloMosaic.Lib.Tactic

@[expose] public section

set_option maxRecDepth 16384

noncomputable section

open Idealize.ShloMosaic Idealize.ShloMosaic.TcCoe Idealize.SL.Sem

namespace Cert.Kernel6Ideal.Out

open Cert.Kernel6Ideal Cert.Kernel6Ideal.Gen Cert.Kernel6Ideal.Block

/-- The slope held on lane `x`. -/
def slopeAt (v : Vec Ideal S1x1x128 .f32) (x : Fin 128) : Vec Ideal S1x1x1 .f32 := fun _ => v (ix3 0 0 x)

/-- Row `n` of the vectors that make lambda. -/
def lamRow (v : Vec Ideal S4x32 .f32) (n : Fin 4) : Vec Ideal S1x32 .f32 := fun j => v (ix2 n (j 1))

/-- A load of one slope. -/
theorem slope_load (a : Memref sig .tc .vmem S1x1x128 .f32) (h : a.IsWhole) (x : Vec Ideal S1x1x128 .f32) (l : Fin 128)
    (inb : ∀ k, (![0, 0, l.val] : Fin 3 → ℕ) k + S1x1x1.size k ≤ S1x1x128.size k) :
    View.readAt (Elt Ideal) a.view (Rect.unit (s := S1x1x128) ![0, 0, l.val] S1x1x1.size inb).toLoadRect (h.unread x) = slopeAt x l := by
  rw [View.readAt_eq_ld, h.read_unread]
  funext j
  idx_vars j
  pointwise [slopeAt]

/-- A load of one row of the vectors that make lambda. -/
theorem lam_load (a : Memref sig .tc .vmem S4x32 .f32) (h : a.IsWhole) (x : Vec Ideal S4x32 .f32) (n : Fin 4)
    (inb : ∀ k, (![n.val, 0] : Fin 2 → ℕ) k + S1x32.size k ≤ S4x32.size k) :
    View.readAt (Elt Ideal) a.view (Rect.unit (s := S4x32) ![n.val, 0] S1x32.size inb).toLoadRect (h.unread x) = lamRow x n := by
  rw [View.readAt_eq_ld, h.read_unread]
  funext j
  idx_vars j
  pointwise [lamRow]

/-- The running values of a row block before each earlier block of keys. -/
def Runs (Q : FVec Ideal S256x128 .bf16) (rel : FVec Ideal S256x256 .f32) (sl : FVec Ideal S1x1 .f32) (x1 x2 : Vec Ideal S1x8192x128 .bf16) (i : ℕ) (S : ℕ → Carry) : Prop :=
  S 0 = start ∧ ∀ k, k < i → S (k + 1) = step (score Q rel (keyBlock x1 k)) (shift sl (Scalar.subi (BitVec.ofNat 32 i) (BitVec.ofNat 32 k))) (keyBlock x2 k) (S k)

/-- What the diagonal block makes of them. -/
def diag (Q : FVec Ideal S256x128 .bf16) (rel : FVec Ideal S256x256 .f32) (sl : FVec Ideal S1x1 .f32) (x1 x2 : Vec Ideal S1x8192x128 .bf16) (i : ℕ) (S : Carry) : FVec Ideal S256x128 .f32 :=
  fin (step (masked (score Q rel (keyBlock x1 i))) (shift sl (Scalar.subi (BitVec.ofNat 32 i) (BitVec.ofNat 32 i))) (keyBlock x2 i) S)

/-- The queries of each map of each head. -/
def Q00 (x0 : Vec Ideal S1x256x128 .bf16) : FVec Ideal S256x128 .bf16 := k0_pay11 (k0_pay2 x0) lanes k0_pay10
@[inherit_doc Q00] def Q01 (x0 : Vec Ideal S1x256x128 .bf16) : FVec Ideal S256x128 .bf16 := k0_pay36 (k0_pay2 x0) lanes
@[inherit_doc Q00] def Q10 (x0 : Vec Ideal S1x256x128 .bf16) : FVec Ideal S256x128 .bf16 := k0_pay61 (k0_pay2 x0) (k0_pay60 lanes)
@[inherit_doc Q00] def Q11 (x0 : Vec Ideal S1x256x128 .bf16) : FVec Ideal S256x128 .bf16 := k0_pay87 (k0_pay2 x0) lanes

/-- What the body leaves in the output block. -/
theorem out_eq (c : Dev nD) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1x128 .f32) (harg6 : arg6.IsWhole) (arg7 : Memref sig .tc .vmem S4x32 .f32) (harg7 : arg7.IsWhole) (arg8 : Memref sig .tc .vmem S1x128 .f32) (harg8 : arg8.IsWhole) (arg9 : Memref sig .tc .vmem S1x256x128 .bf16) (harg9 : arg9.IsWhole)
    (x0 : Vec Ideal S1x256x128 .bf16) (x1 : Vec Ideal S1x8192x128 .bf16) (x2 : Vec Ideal S1x8192x128 .bf16) (x3 : Vec Ideal S1x1x128 .f32) (x4 : Vec Ideal S4x32 .f32) (x5 : Vec Ideal S1x128 .f32) :
    ∃ S0 S1 S2 S3 : ℕ → Carry,
      Runs (Q00 x0) (k0_pay9 (slopeAt x3 0)) (k0_pay8 (slopeAt x3 0)) x1 x2 (i 2).val S0
      ∧ Runs (Q01 x0) (k0_pay9 (slopeAt x3 0)) (k0_pay8 (slopeAt x3 0)) x1 x2 (i 2).val S1
      ∧ Runs (Q10 x0) (k0_pay59 k0_pay4 (slopeAt x3 64)) (k0_pay58 (slopeAt x3 64)) x1 x2 (i 2).val S2
      ∧ Runs (Q11 x0) (k0_pay59 k0_pay4 (slopeAt x3 64)) (k0_pay58 (slopeAt x3 64)) x1 x2 (i 2).val S3
      ∧ out0_A_6 (F := Ideal) c i arg3 harg3 arg4 harg4 arg5 harg5 arg6 harg6 arg7 harg7 arg8 harg8 arg9 harg9 x0 x1 x2 x3 x4 x5
        = normed (both (k0_pay5 (lamRow x4 0) (lamRow x4 1) (lamRow x4 2) (lamRow x4 3))
            (diag (Q00 x0) (k0_pay9 (slopeAt x3 0)) (k0_pay8 (slopeAt x3 0)) x1 x2 (i 2).val (S0 (i 2).val))
            (diag (Q01 x0) (k0_pay9 (slopeAt x3 0)) (k0_pay8 (slopeAt x3 0)) x1 x2 (i 2).val (S1 (i 2).val))
            (diag (Q10 x0) (k0_pay59 k0_pay4 (slopeAt x3 64)) (k0_pay58 (slopeAt x3 64)) x1 x2 (i 2).val (S2 (i 2).val))
            (diag (Q11 x0) (k0_pay59 k0_pay4 (slopeAt x3 64)) (k0_pay58 (slopeAt x3 64)) x1 x2 (i 2).val (S3 (i 2).val))) x5 := by
  have hz3 : (![0, 0, 0] : Fin 3 → Nat) = fun _ => 0 := funext fun a => by fin_cases a <;> rfl
  have hz2 : (![0, 0] : Fin 2 → Nat) = fun _ => 0 := funext fun a => by fin_cases a <;> rfl
  unfold out0_A_6
  rw [View.read_writes_eq_canon _ _ _ (cover0_A_6 c i arg3 harg3 arg4 harg4 arg5 harg5 arg6 harg6 arg7 harg7 arg8 harg8 arg9 harg9 x0 x1 x2 x3 x4 x5)]
  unfold kernelRun0_A
  dsimp only
  sl_unfold_words
  rw [View.canon_unit_zero hz3]
  simp only [Scf.rem_trips, st_k0_t2_zero, st_k0_t4_zero, st_k0_t6_zero, st_k0_t8_zero]
  have e3 : View.readAt (Elt Ideal) arg3.view (Rect.unit ![0, 0, 0] S1x256x128.size inb_S1x256x128_S1x256x128_0_0_0).toLoadRect (harg3.unread x0) = x0 := by
    rw [View.readAt_eq_ld, harg3.read_unread, View.ld_unit_zero (S := S1x256x128) hz3]
  have e8 : View.readAt (Elt Ideal) arg8.view (Rect.unit ![0, 0] S1x128.size inb_S1x128_S1x128_0_0).toLoadRect (harg8.unread x5) = x5 := by
    rw [View.readAt_eq_ld, harg8.read_unread, View.ld_unit_zero (S := S1x128) hz2]
  have e4 : View.readAt (Elt Ideal) arg4.view (Rect.unit (s := S1x8192x128) ![0, BitVec.toNat (Scalar.indexCast (Scalar.muli (BitVec.ofNat 32 (i 2).val) 256#32)), 0] S1x256x128.size (k0_off3_inb i)).toLoadRect (harg4.unread x1) = keyBlock x1 (i 2).val :=
    load_eq arg4 harg4 x1 (k0_off3 i) _ (off3 i) (k0_off3_inb i)
  have e5 : View.readAt (Elt Ideal) arg5.view (Rect.unit (s := S1x8192x128) ![0, BitVec.toNat (Scalar.indexCast (Scalar.muli (BitVec.ofNat 32 (i 2).val) 256#32)), 0] S1x256x128.size (k0_off3_inb i)).toLoadRect (harg5.unread x2) = keyBlock x2 (i 2).val :=
    load_eq arg5 harg5 x2 (k0_off3 i) _ (off3 i) (k0_off3_inb i)
  have s0 : View.readAt (Elt Ideal) arg6.view (Rect.unit (s := S1x1x128) ![0, 0, 0] S1x1x1.size inb_S1x1x128_S1x1x1_0_0_0).toLoadRect (harg6.unread x3) = slopeAt x3 0 :=
    slope_load arg6 harg6 x3 0 inb_S1x1x128_S1x1x1_0_0_0
  have s1 : View.readAt (Elt Ideal) arg6.view (Rect.unit (s := S1x1x128) ![0, 0, 64] S1x1x1.size inb_S1x1x128_S1x1x1_0_0_64).toLoadRect (harg6.unread x3) = slopeAt x3 64 :=
    slope_load arg6 harg6 x3 64 inb_S1x1x128_S1x1x1_0_0_64
  have l0 : View.readAt (Elt Ideal) arg7.view (Rect.unit (s := S4x32) ![0, 0] S1x32.size inb_S4x32_S1x32_0_0).toLoadRect (harg7.unread x4) = lamRow x4 0 :=
    lam_load arg7 harg7 x4 0 inb_S4x32_S1x32_0_0
  have l1 : View.readAt (Elt Ideal) arg7.view (Rect.unit (s := S4x32) ![1, 0] S1x32.size inb_S4x32_S1x32_1_0).toLoadRect (harg7.unread x4) = lamRow x4 1 :=
    lam_load arg7 harg7 x4 1 inb_S4x32_S1x32_1_0
  have l2 : View.readAt (Elt Ideal) arg7.view (Rect.unit (s := S4x32) ![2, 0] S1x32.size inb_S4x32_S1x32_2_0).toLoadRect (harg7.unread x4) = lamRow x4 2 :=
    lam_load arg7 harg7 x4 2 inb_S4x32_S1x32_2_0
  have l3 : View.readAt (Elt Ideal) arg7.view (Rect.unit (s := S4x32) ![3, 0] S1x32.size inb_S4x32_S1x32_3_0).toLoadRect (harg7.unread x4) = lamRow x4 3 :=
    lam_load arg7 harg7 x4 3 inb_S4x32_S1x32_3_0
  have ht := trips1 i
  dsimp [k0_t1_loop, Scf.Loop.trips] at ht
  dsimp only at e3 e4 e5 e8 s0 s1 l0 l1 l2 l3
  simp only [e3, e8, e4, e5, s0, s1, l0, l1, l2, l3, ht]
  clear e3 e4 e5 e8 s0 s1 l0 l1 l2 l3 ht
  have f0 := fun k hk => st1_step c i arg3 harg3 arg4 harg4 arg5 harg5 arg6 harg6 arg7 harg7 arg8 harg8 arg9 harg9 x1 x2 (BitVec.ofNat 32 (i 2).val) (k0_pay2 x0) lanes k0_pay3 (k0_pay8 (slopeAt x3 0)) (k0_pay9 (slopeAt x3 0)) k0_pay10 (k0_pay12, k0_pay13, k0_pay14) k hk
  have z0 : st_k0_t1 (F := Ideal) Variants.none c none i arg3 harg3 arg4 harg4 arg5 harg5 arg6 harg6 arg7 harg7 arg8 harg8 arg9 harg9 (BitVec.ofNat 32 (i 2).val) (k0_pay2 x0) lanes k0_pay3 (k0_pay8 (slopeAt x3 0)) (k0_pay9 (slopeAt x3 0)) k0_pay10 (harg4.unread x1) (harg5.unread x2) (k0_pay12, k0_pay13, k0_pay14) 0 = start := st_k0_t1_zero ..
  generalize st_k0_t1 (F := Ideal) Variants.none c none i arg3 harg3 arg4 harg4 arg5 harg5 arg6 harg6 arg7 harg7 arg8 harg8 arg9 harg9 (BitVec.ofNat 32 (i 2).val) (k0_pay2 x0) lanes k0_pay3 (k0_pay8 (slopeAt x3 0)) (k0_pay9 (slopeAt x3 0)) k0_pay10 (harg4.unread x1) (harg5.unread x2) (k0_pay12, k0_pay13, k0_pay14) = S0 at f0 z0 ⊢
  have f2 := fun k hk => st5_step c i arg3 harg3 arg4 harg4 arg5 harg5 arg6 harg6 arg7 harg7 arg8 harg8 arg9 harg9 x1 x2 (BitVec.ofNat 32 (i 2).val) (k0_pay2 x0) k0_pay3 (k0_pay58 (slopeAt x3 64)) (k0_pay59 k0_pay4 (slopeAt x3 64)) (k0_pay60 lanes) (k0_pay62, k0_pay63, k0_pay64) k hk
  have z2 : st_k0_t5 (F := Ideal) Variants.none c none i arg3 harg3 arg4 harg4 arg5 harg5 arg6 harg6 arg7 harg7 arg8 harg8 arg9 harg9 (BitVec.ofNat 32 (i 2).val) (k0_pay2 x0) k0_pay3 (k0_pay58 (slopeAt x3 64)) (k0_pay59 k0_pay4 (slopeAt x3 64)) (k0_pay60 lanes) (harg4.unread x1) (harg5.unread x2) (k0_pay62, k0_pay63, k0_pay64) 0 = start := st_k0_t5_zero ..
  generalize st_k0_t5 (F := Ideal) Variants.none c none i arg3 harg3 arg4 harg4 arg5 harg5 arg6 harg6 arg7 harg7 arg8 harg8 arg9 harg9 (BitVec.ofNat 32 (i 2).val) (k0_pay2 x0) k0_pay3 (k0_pay58 (slopeAt x3 64)) (k0_pay59 k0_pay4 (slopeAt x3 64)) (k0_pay60 lanes) (harg4.unread x1) (harg5.unread x2) (k0_pay62, k0_pay63, k0_pay64) = S2 at f2 z2 ⊢
  have f3 := fun k hk => st7_step c i arg3 harg3 arg4 harg4 arg5 harg5 arg6 harg6 arg7 harg7 arg8 harg8 arg9 harg9 x1 x2 (BitVec.ofNat 32 (i 2).val) (k0_pay2 x0) lanes k0_pay3 (k0_pay58 (slopeAt x3 64)) (k0_pay59 k0_pay4 (slopeAt x3 64)) (S2 (i 2).val).2.2 (k0_pay79 (keyBlock x2 (i 2).val)) (k0_pay83 (BitVec.ofNat 32 (i 2).val) (k0_pay2 x0) k0_pay3 (k0_pay58 (slopeAt x3 64)) (k0_pay59 k0_pay4 (slopeAt x3 64)) (k0_pay60 lanes) (S2 (i 2).val).1 (keyBlock x1 (i 2).val)) (k0_pay84 (BitVec.ofNat 32 (i 2).val) (k0_pay2 x0) k0_pay3 (k0_pay58 (slopeAt x3 64)) (k0_pay59 k0_pay4 (slopeAt x3 64)) (k0_pay60 lanes) (S2 (i 2).val).1 (keyBlock x1 (i 2).val)) (k0_pay85 (BitVec.ofNat 32 (i 2).val) (k0_pay2 x0) k0_pay3 (k0_pay58 (slopeAt x3 64)) (k0_pay59 k0_pay4 (slopeAt x3 64)) (k0_pay60 lanes) (S2 (i 2).val).1 (S2 (i 2).val).2.1 (keyBlock x1 (i 2).val)) (k0_pay88, k0_pay89, k0_pay90) k hk
  have z3 : st_k0_t7 (F := Ideal) Variants.none c none i arg3 harg3 arg4 harg4 arg5 harg5 arg6 harg6 arg7 harg7 arg8 harg8 arg9 harg9 (BitVec.ofNat 32 (i 2).val) (k0_pay2 x0) lanes k0_pay3 (k0_pay58 (slopeAt x3 64)) (k0_pay59 k0_pay4 (slopeAt x3 64)) (S2 (i 2).val).2.2 (k0_pay79 (keyBlock x2 (i 2).val)) (k0_pay83 (BitVec.ofNat 32 (i 2).val) (k0_pay2 x0) k0_pay3 (k0_pay58 (slopeAt x3 64)) (k0_pay59 k0_pay4 (slopeAt x3 64)) (k0_pay60 lanes) (S2 (i 2).val).1 (keyBlock x1 (i 2).val)) (k0_pay84 (BitVec.ofNat 32 (i 2).val) (k0_pay2 x0) k0_pay3 (k0_pay58 (slopeAt x3 64)) (k0_pay59 k0_pay4 (slopeAt x3 64)) (k0_pay60 lanes) (S2 (i 2).val).1 (keyBlock x1 (i 2).val)) (k0_pay85 (BitVec.ofNat 32 (i 2).val) (k0_pay2 x0) k0_pay3 (k0_pay58 (slopeAt x3 64)) (k0_pay59 k0_pay4 (slopeAt x3 64)) (k0_pay60 lanes) (S2 (i 2).val).1 (S2 (i 2).val).2.1 (keyBlock x1 (i 2).val)) (harg4.unread x1) (harg5.unread x2) (k0_pay88, k0_pay89, k0_pay90) 0 = start := st_k0_t7_zero ..
  generalize st_k0_t7 (F := Ideal) Variants.none c none i arg3 harg3 arg4 harg4 arg5 harg5 arg6 harg6 arg7 harg7 arg8 harg8 arg9 harg9 (BitVec.ofNat 32 (i 2).val) (k0_pay2 x0) lanes k0_pay3 (k0_pay58 (slopeAt x3 64)) (k0_pay59 k0_pay4 (slopeAt x3 64)) (S2 (i 2).val).2.2 (k0_pay79 (keyBlock x2 (i 2).val)) (k0_pay83 (BitVec.ofNat 32 (i 2).val) (k0_pay2 x0) k0_pay3 (k0_pay58 (slopeAt x3 64)) (k0_pay59 k0_pay4 (slopeAt x3 64)) (k0_pay60 lanes) (S2 (i 2).val).1 (keyBlock x1 (i 2).val)) (k0_pay84 (BitVec.ofNat 32 (i 2).val) (k0_pay2 x0) k0_pay3 (k0_pay58 (slopeAt x3 64)) (k0_pay59 k0_pay4 (slopeAt x3 64)) (k0_pay60 lanes) (S2 (i 2).val).1 (keyBlock x1 (i 2).val)) (k0_pay85 (BitVec.ofNat 32 (i 2).val) (k0_pay2 x0) k0_pay3 (k0_pay58 (slopeAt x3 64)) (k0_pay59 k0_pay4 (slopeAt x3 64)) (k0_pay60 lanes) (S2 (i 2).val).1 (S2 (i 2).val).2.1 (keyBlock x1 (i 2).val)) (harg4.unread x1) (harg5.unread x2) (k0_pay88, k0_pay89, k0_pay90) = S3 at f3 z3 ⊢
  have f1 := fun k hk => st3_step c i arg3 harg3 arg4 harg4 arg5 harg5 arg6 harg6 arg7 harg7 arg8 harg8 arg9 harg9 x1 x2 (BitVec.ofNat 32 (i 2).val) (k0_pay2 x0) lanes (k0_pay8 (slopeAt x3 0)) (k0_pay9 (slopeAt x3 0)) (S0 (i 2).val).2.1 (S0 (i 2).val).2.2 (k0_pay29 (keyBlock x2 (i 2).val)) (k0_pay30 (k0_pay2 x0) lanes k0_pay3 (k0_pay9 (slopeAt x3 0)) k0_pay10 (keyBlock x1 (i 2).val)) (k0_pay33 (BitVec.ofNat 32 (i 2).val) (k0_pay2 x0) lanes k0_pay3 (k0_pay8 (slopeAt x3 0)) (k0_pay9 (slopeAt x3 0)) k0_pay10 (S0 (i 2).val).1 (keyBlock x1 (i 2).val)) (k0_pay34 (BitVec.ofNat 32 (i 2).val) (k0_pay2 x0) lanes k0_pay3 (k0_pay8 (slopeAt x3 0)) (k0_pay9 (slopeAt x3 0)) k0_pay10 (S0 (i 2).val).1 (keyBlock x1 (i 2).val)) (k0_pay37, k0_pay38, k0_pay39) k hk
  have z1 : st_k0_t3 (F := Ideal) Variants.none c none i arg3 harg3 arg4 harg4 arg5 harg5 arg6 harg6 arg7 harg7 arg8 harg8 arg9 harg9 (BitVec.ofNat 32 (i 2).val) (k0_pay2 x0) lanes (k0_pay8 (slopeAt x3 0)) (k0_pay9 (slopeAt x3 0)) (S0 (i 2).val).2.1 (S0 (i 2).val).2.2 (k0_pay29 (keyBlock x2 (i 2).val)) (k0_pay30 (k0_pay2 x0) lanes k0_pay3 (k0_pay9 (slopeAt x3 0)) k0_pay10 (keyBlock x1 (i 2).val)) (k0_pay33 (BitVec.ofNat 32 (i 2).val) (k0_pay2 x0) lanes k0_pay3 (k0_pay8 (slopeAt x3 0)) (k0_pay9 (slopeAt x3 0)) k0_pay10 (S0 (i 2).val).1 (keyBlock x1 (i 2).val)) (k0_pay34 (BitVec.ofNat 32 (i 2).val) (k0_pay2 x0) lanes k0_pay3 (k0_pay8 (slopeAt x3 0)) (k0_pay9 (slopeAt x3 0)) k0_pay10 (S0 (i 2).val).1 (keyBlock x1 (i 2).val)) (harg4.unread x1) (harg5.unread x2) (k0_pay37, k0_pay38, k0_pay39) 0 = start := st_k0_t3_zero ..
  generalize st_k0_t3 (F := Ideal) Variants.none c none i arg3 harg3 arg4 harg4 arg5 harg5 arg6 harg6 arg7 harg7 arg8 harg8 arg9 harg9 (BitVec.ofNat 32 (i 2).val) (k0_pay2 x0) lanes (k0_pay8 (slopeAt x3 0)) (k0_pay9 (slopeAt x3 0)) (S0 (i 2).val).2.1 (S0 (i 2).val).2.2 (k0_pay29 (keyBlock x2 (i 2).val)) (k0_pay30 (k0_pay2 x0) lanes k0_pay3 (k0_pay9 (slopeAt x3 0)) k0_pay10 (keyBlock x1 (i 2).val)) (k0_pay33 (BitVec.ofNat 32 (i 2).val) (k0_pay2 x0) lanes k0_pay3 (k0_pay8 (slopeAt x3 0)) (k0_pay9 (slopeAt x3 0)) k0_pay10 (S0 (i 2).val).1 (keyBlock x1 (i 2).val)) (k0_pay34 (BitVec.ofNat 32 (i 2).val) (k0_pay2 x0) lanes k0_pay3 (k0_pay8 (slopeAt x3 0)) (k0_pay9 (slopeAt x3 0)) k0_pay10 (S0 (i 2).val).1 (keyBlock x1 (i 2).val)) (harg4.unread x1) (harg5.unread x2) (k0_pay37, k0_pay38, k0_pay39) = S1 at f1 z1 ⊢
  refine ⟨S0, S1, S2, S3, ⟨z0, f0⟩, ⟨z1, f1⟩, ⟨z2, f2⟩, ⟨z3, f3⟩, ?_⟩
  clear f0 f1 f2 f3 z0 z1 z2 z3 hz3 hz2
  generalize S0 (i 2).val = s0
  generalize S1 (i 2).val = s1
  generalize S2 (i 2).val = s2
  generalize S3 (i 2).val = s3
  rfl

end Cert.Kernel6Ideal.Out
-- ==== Proof.DHead.lean ====
/-
  One block of the differential-attention kernel's output, from finite queries, keys, values and slopes.
-/
module

public import proofs.«01_k».proof.Proof.DOut

@[expose] public section

set_option maxRecDepth 16384

noncomputable section

namespace Soft

open Idealize.ShloMosaic

/-- The score of query `t` on key `n`: a dot product of 32 lanes less the slope times the distance. -/
def score (q : ℕ → ℝ) (k : ℕ → ℕ → ℝ) (lo : ℕ) (slope : ℝ) (t n : ℕ) : ℝ :=
  ∑ d : Fin 32, q (lo + d.val) * k n (lo + d.val) + -slope * ((t : ℝ) - (n : ℝ))

/-- The differential attention of query `t` on lane `x`: the average under the head's first map less `lam` times that
under its second. -/
def out (q : ℕ → ℝ) (k v : ℕ → ℕ → ℝ) (slope : ℕ → ℝ) (lam : EReal) (t x : ℕ) : EReal :=
  ((avg (score q k (x / 64 * 64) (slope (x / 64)) t) (fun n => v n x) (t + 1) : ℝ) : EReal)
    - lam * ((avg (score q k (x / 64 * 64 + 32) (slope (x / 64)) t) (fun n => v n x) (t + 1) : ℝ) : EReal)

end Soft

namespace Cert.Kernel6Ideal.Out

open Idealize.ShloMosaic Idealize.ShloMosaic.TcCoe Idealize.SL.Sem
open Cert.Kernel6Ideal Cert.Kernel6Ideal.Gen Cert.Kernel6Ideal.Block

/-- A row of one map of one head. -/
theorem diag_real (Q : FVec Ideal S256x128 .bf16) (rel : FVec Ideal S256x256 .f32) (sl : FVec Ideal S1x1 .f32) (x1 x2 : Vec Ideal S1x8192x128 .bf16)
    (i : ℕ) (hi : i < 32) (S : ℕ → Carry) (hS : Runs Q rel sl x1 x2 i S) (lo : ℕ) (hlo : lo + 32 ≤ 128)
    (q : ℕ → ℝ) (k v : ℕ → ℕ → ℝ) (slope : ℝ) (r : Fin 256) (l : Fin 128)
    (hQ : ∀ x : Fin 128, Q (ix2 r x) = if lo ≤ x.val ∧ x.val < lo + 32 then ((q x.val : ℝ) : EReal) else 0)
    (hrel : ∀ s : Fin 256, rel (ix2 r s) = (slope : EReal) * (((s.val : ℝ) - (r.val : ℝ) : ℝ) : EReal))
    (hsl : sl (ix2 0 0) = (slope : EReal))
    (hk : ∀ (n : ℕ) (x : Fin 128), key x1 n x = ((k n x.val : ℝ) : EReal))
    (hv : ∀ (n : ℕ) (x : Fin 128), key x2 n x = ((v n x.val : ℝ) : EReal)) :
    diag Q rel sl x1 x2 i (S i) (ix2 r l)
      = ((Soft.avg (Soft.score q k lo slope (i * 256 + r.val)) (fun n => v n l.val) (i * 256 + r.val + 1) : ℝ) : EReal) := by
  refine row_apply Q rel sl (keyBlock x1) (keyBlock x2) i hi S hS.1 hS.2 _ _ slope r l hsl ?_ ?_
  · intro b u
    rw [score_apply, hrel]
    have e : ∀ x : Fin 128, Q (ix2 r x) * keyBlock x1 b (ix3 0 u x)
        = if lo ≤ x.val ∧ x.val < lo + 32 then ((q x.val * k (b * 256 + u.val) x.val : ℝ) : EReal) else 0 := by
      intro x
      have hb : keyBlock x1 b (ix3 0 u x) = ((k (b * 256 + u.val) x.val : ℝ) : EReal) := hk _ x
      rw [hQ, hb]
      split
      · rw [EReal.coe_mul]
      · rw [zero_mul]
    rw [Finset.sum_congr rfl fun x _ => e x,
      sum_lanes (fun x => ((q x.val * k (b * 256 + u.val) x.val : ℝ) : EReal)) lo 32 hlo, ← Soft.coe_sum, ← EReal.coe_mul, ← EReal.coe_add]
    congr 1
    unfold Soft.score
    push_cast
    ring
  · intro b u
    exact hv _ l

/-- The body's output at row `r` and lane `x`. -/
theorem out_real (c : Dev nD) (i : grid0.Coords) (hi : (i 2).val < 32) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x1x128 .f32) (harg6 : arg6.IsWhole) (arg7 : Memref sig .tc .vmem S4x32 .f32) (harg7 : arg7.IsWhole) (arg8 : Memref sig .tc .vmem S1x128 .f32) (harg8 : arg8.IsWhole) (arg9 : Memref sig .tc .vmem S1x256x128 .bf16) (harg9 : arg9.IsWhole)
    (x0 : Vec Ideal S1x256x128 .bf16) (x1 : Vec Ideal S1x8192x128 .bf16) (x2 : Vec Ideal S1x8192x128 .bf16) (x3 : Vec Ideal S1x1x128 .f32) (x4 : Vec Ideal S4x32 .f32) (x5 : Vec Ideal S1x128 .f32)
    (q : ℕ → ℝ) (k v : ℕ → ℕ → ℝ) (slope : ℕ → ℝ) (lam : EReal) (r : Fin 256)
    (hq : ∀ x : Fin 128, x0 (ix3 0 r x) = ((q x.val : ℝ) : EReal))
    (hk : ∀ (n : ℕ) (x : Fin 128), key x1 n x = ((k n x.val : ℝ) : EReal))
    (hv : ∀ (n : ℕ) (x : Fin 128), key x2 n x = ((v n x.val : ℝ) : EReal))
    (hs0 : x3 (ix3 0 0 0) = ((slope 0 : ℝ) : EReal)) (hs1 : x3 (ix3 0 0 64) = ((slope 1 : ℝ) : EReal))
    (hlam : Ideal.exp (∑ d : Fin 32, x4 (ix2 0 d) * x4 (ix2 1 d)) - Ideal.exp (∑ d : Fin 32, x4 (ix2 2 d) * x4 (ix2 3 d))
      + FloatOps.ofBits (F := Ideal) .f32 0x3E4CCCCD#32 = lam) (x : Fin 128) :
    out0_A_6 (F := Ideal) c i arg3 harg3 arg4 harg4 arg5 harg5 arg6 harg6 arg7 harg7 arg8 harg8 arg9 harg9 x0 x1 x2 x3 x4 x5 (ix3 0 r x)
      = Soft.out q k v slope lam ((i 2).val * 256 + r.val) x.val
        * Ideal.rsqrt ((∑ d : Fin 64, Soft.out q k v slope lam ((i 2).val * 256 + r.val) (x.val / 64 * 64 + d.val) * Soft.out q k v slope lam ((i 2).val * 256 + r.val) (x.val / 64 * 64 + d.val))
            * FloatOps.ofBits (F := Ideal) .f32 0x3C800000#32 + FloatOps.ofBits (F := Ideal) .f32 0x3727C5AC#32)
        * x5 (ix2 0 x) * FloatOps.ofBits (F := Ideal) .f32 0x3F4CCCCD#32 := by
  obtain ⟨S0, S1, S2, S3, h0, h1, h2, h3, he⟩ := out_eq c i arg3 harg3 arg4 harg4 arg5 harg5 arg6 harg6 arg7 harg7 arg8 harg8 arg9 harg9 x0 x1 x2 x3 x4 x5
  rw [he, normed_apply]
  clear he
  have hb0 : ∀ u s : Fin 256, k0_pay9 (F := Ideal) (slopeAt x3 0) (ix2 u s) = ((slope 0 : ℝ) : EReal) * (((s.val : ℝ) - (u.val : ℝ) : ℝ) : EReal) := by
    intro u s; rw [bias0_apply, ← hs0]; rfl
  have hb1 : ∀ u s : Fin 256, k0_pay59 (F := Ideal) k0_pay4 (slopeAt x3 64) (ix2 u s) = ((slope 1 : ℝ) : EReal) * (((s.val : ℝ) - (u.val : ℝ) : ℝ) : EReal) := by
    intro u s; rw [bias1_apply, ← hs1]; rfl
  have hc0 : k0_pay8 (F := Ideal) (slopeAt x3 0) (ix2 0 0) = ((slope 0 : ℝ) : EReal) := by rw [slope0_apply, ← hs0]; rfl
  have hc1 : k0_pay58 (F := Ideal) (slopeAt x3 64) (ix2 0 0) = ((slope 1 : ℝ) : EReal) := by rw [slope1_apply, ← hs1]; rfl
  have d0 := fun l => diag_real (Q00 x0) _ _ x1 x2 (i 2).val hi S0 h0 0 (by norm_num) q k v (slope 0) r l
    (fun y => by rw [← hq]; exact q00_apply x0 r y) (hb0 r) hc0 hk hv
  have d1 := fun l => diag_real (Q01 x0) _ _ x1 x2 (i 2).val hi S1 h1 32 (by norm_num) q k v (slope 0) r l
    (fun y => by rw [← hq]; exact q01_apply x0 r y) (hb0 r) hc0 hk hv
  have d2 := fun l => diag_real (Q10 x0) _ _ x1 x2 (i 2).val hi S2 h2 64 (by norm_num) q k v (slope 1) r l
    (fun y => by rw [← hq]; exact q10_apply x0 r y) (hb1 r) hc1 hk hv
  have d3 := fun l => diag_real (Q11 x0) _ _ x1 x2 (i 2).val hi S3 h3 96 (by norm_num) q k v (slope 1) r l
    (fun y => by rw [← hq]; exact q11_apply x0 r y) (hb1 r) hc1 hk hv
  have hla : k0_pay5 (F := Ideal) (lamRow x4 0) (lamRow x4 1) (lamRow x4 2) (lamRow x4 3) (ix2 0 0) = lam := by
    rw [lam_apply, ← hlam]; rfl
  generalize diag (Q00 x0) _ _ x1 x2 (i 2).val (S0 (i 2).val) = F0 at d0 ⊢
  generalize diag (Q01 x0) _ _ x1 x2 (i 2).val (S1 (i 2).val) = F1 at d1 ⊢
  generalize diag (Q10 x0) _ _ x1 x2 (i 2).val (S2 (i 2).val) = F2 at d2 ⊢
  generalize diag (Q11 x0) _ _ x1 x2 (i 2).val (S3 (i 2).val) = F3 at d3 ⊢
  generalize k0_pay5 (F := Ideal) (lamRow x4 0) (lamRow x4 1) (lamRow x4 2) (lamRow x4 3) = la at hla ⊢
  have ho : ∀ y : Fin 128, both la F0 F1 F2 F3 (ix2 r y) = Soft.out q k v slope lam ((i 2).val * 256 + r.val) y.val := by
    intro y
    rw [both_apply, hla, d0, d1, d2, d3]
    unfold Soft.out
    have hy := y.isLt
    split
    · rw [show y.val / 64 = 0 by omega]
    · rw [show y.val / 64 = 1 by omega]
  generalize both la F0 F1 F2 F3 = B at ho ⊢
  unfold meanSq
  simp only [ho]
  have hx := x.isLt
  split
  · rw [show x.val / 64 = 0 by omega]
  · rw [show x.val / 64 = 1 by omega]

end Cert.Kernel6Ideal.Out
-- ==== Proof.DTrue.lean ====
/-
  The reference of the differential attention at an entry, for finite arguments: differences of softmax averages, divided
  by the root of the mean of a head's squares and scaled.
-/
module

public import proofs.«01_k».proof.Proof.DRef
public import proofs.«01_k».proof.Proof.DFin
public import proofs.«01_k».proof.Proof.DHead

@[expose] public section

set_option maxRecDepth 16384

noncomputable section

open Idealize.ShloMosaic Idealize.ShloMosaic.TcCoe Idealize.SL.Sem

namespace Cert.Reference6Ideal.Attn

open Cert.Reference6Ideal Cert.Reference6Ideal.Gen Cert.Reference6Ideal.Value

/-- An entry of an array as a real number. -/
def ent (a : FVec Ideal S2x8192x1024 .bf16) (b : Fin 2) (n col : ℕ) : ℝ :=
  if h : n < 8192 ∧ col < 1024 then EReal.toReal (a (ix3 b ⟨n, h.1⟩ ⟨col, h.2⟩)) else 0

/-- The slope of head `h` of pair `p` as a real number. -/
def slopeOf (a : FVec Ideal S4x1x128 .f32) (p : Fin 4) (h : ℕ) : ℝ :=
  if hh : h < 2 then EReal.toReal (a (ix3 p 0 ⟨h * 64, by omega⟩)) else 0

/-- The number lambda. -/
def lamOf (a : FVec Ideal S4x32 .f32) : EReal :=
  Ideal.exp (∑ d : Fin 32, a (ix2 0 d) * a (ix2 1 d)) - Ideal.exp (∑ d : Fin 32, a (ix2 2 d) * a (ix2 3 d))
    + FloatOps.ofBits (F := Ideal) .f32 0x3E4CCCCD#32

variable (a0 a1 a2 : FVec Ideal S2x8192x1024 .bf16) (a3 : FVec Ideal S4x1x128 .f32) (a4 : FVec Ideal S4x32 .f32) (a5 : FVec Ideal S64 .f32)

/-- The differential attention of query `t` on lane `x` of head pair `p`. -/
def head (b : Fin 2) (p : Fin 4) (t x : ℕ) : EReal :=
  Soft.out (fun l => ent a0 b t (512 + (p.val * 128 + l))) (fun n l => ent a1 b n (512 + (p.val * 128 + l)))
    (fun n l => ent a2 b n (512 + (p.val * 128 + l))) (slopeOf a3 p) (lamOf a4) t x

/-- The result at an entry. -/
def value (b : Fin 2) (t : Fin 8192) (n : Fin 512) : EReal :=
  head a0 a1 a2 a3 a4 b ⟨n.val / 128, by omega⟩ t.val (n.val % 128)
    * Ideal.rsqrt ((∑ d : Fin 64, head a0 a1 a2 a3 a4 b ⟨n.val / 128, by omega⟩ t.val (n.val % 128 / 64 * 64 + d.val)
          * head a0 a1 a2 a3 a4 b ⟨n.val / 128, by omega⟩ t.val (n.val % 128 / 64 * 64 + d.val))
        * FloatOps.ofBits (F := Ideal) .f32 0x3C800000#32 + FloatOps.ofBits (F := Ideal) .f32 0x3727C5AC#32)
    * a5 (ix1 ⟨n.val % 64, by omega⟩) * FloatOps.ofBits (F := Ideal) .f32 0x3F4CCCCD#32

/-- A finite array's entry. -/
theorem ent_eq (a : FVec Ideal S2x8192x1024 .bf16) (ha : ∀ j, a j = ((EReal.toReal (a j) : ℝ) : EReal)) (b : Fin 2) (n : Fin 8192) (col : Fin 1024)
    (w : ℕ) (hw : col.val = w) : a (ix3 b n col) = ((ent a b n.val w : ℝ) : EReal) := by
  subst hw
  unfold ent
  rw [dif_pos ⟨n.isLt, col.isLt⟩]
  exact ha _

/-- A finite slope. -/
theorem slopeOf_eq (ha : ∀ j, a3 j = ((EReal.toReal (a3 j) : ℝ) : EReal)) (p : Fin 4) (h : ℕ) (hh : h < 2) (l : Fin 128) (hl : l.val = h * 64) :
    a3 (ix3 p 0 l) = ((slopeOf a3 p h : ℝ) : EReal) := by
  rw [show l = ⟨h * 64, by omega⟩ from Fin.ext hl]
  unfold slopeOf
  rw [dif_pos hh]
  exact ha _

/-- Lambda is real when its vectors are. -/
theorem lamOf_real (ha : ∀ j, a4 j = ((EReal.toReal (a4 j) : ℝ) : EReal)) : ∃ r : ℝ, lamOf a4 = (r : EReal) := by
  obtain ⟨w, hw⟩ := Cert.Pre_finite6.lam_word
  have e : ∀ i j : Fin 4, ∑ d : Fin 32, a4 (ix2 i d) * a4 (ix2 j d) = ((∑ d : Fin 32, EReal.toReal (a4 (ix2 i d)) * EReal.toReal (a4 (ix2 j d)) : ℝ) : EReal) := by
    intro i j
    rw [Soft.coe_sum]
    refine Finset.sum_congr rfl fun d _ => ?_
    rw [EReal.coe_mul, ← ha, ← ha]
  refine ⟨Real.exp (∑ d : Fin 32, EReal.toReal (a4 (ix2 0 d)) * EReal.toReal (a4 (ix2 1 d))) - Real.exp (∑ d : Fin 32, EReal.toReal (a4 (ix2 2 d)) * EReal.toReal (a4 (ix2 3 d))) + w, ?_⟩
  unfold lamOf
  rw [e, e, hw, Ideal.exp_coe, Ideal.exp_coe, ← EReal.coe_sub, ← EReal.coe_add]

variable (h0 : ∀ j, a0 j = ((EReal.toReal (a0 j) : ℝ) : EReal)) (h1 : ∀ j, a1 j = ((EReal.toReal (a1 j) : ℝ) : EReal))
  (h2 : ∀ j, a2 j = ((EReal.toReal (a2 j) : ℝ) : EReal)) (h3 : ∀ j, a3 j = ((EReal.toReal (a3 j) : ℝ) : EReal))
  (h4 : ∀ j, a4 j = ((EReal.toReal (a4 j) : ℝ) : EReal))

include h0 h1 h3 in
/-- The masked scores of finite arguments. -/
theorem scores_real (b c : Fin 2) (h : Fin 8) (t s : Fin 8192) :
    scores (dots (maps a0) (maps a1)) (bias a3) (ix5 b c h t s)
      = if s.val < t.val + 1 then ((Soft.score (fun l => ent a0 b t.val (512 + (h.val / 2 * 128 + l))) (fun n l => ent a1 b n (512 + (h.val / 2 * 128 + l)))
          (h.val % 2 * 64 + c.val * 32) (slopeOf a3 ⟨h.val / 2, by omega⟩ (h.val % 2)) t.val s.val : ℝ) : EReal) else ⊥ := by
  rw [scores_apply]
  refine if_congr (by omega) ?_ rfl
  rw [dots_apply, bias_apply, slopes_apply, dist_apply, slopeOf_eq a3 h3 ⟨h.val / 2, by omega⟩ (h.val % 2) (by omega) _ rfl]
  unfold Soft.score
  rw [EReal.coe_add, EReal.coe_mul, EReal.coe_neg, Soft.coe_sum]
  congr 1
  refine Finset.sum_congr rfl fun d _ => ?_
  rw [maps_apply, maps_apply, ent_eq a0 h0 b t _ (512 + (h.val / 2 * 128 + (h.val % 2 * 64 + c.val * 32 + d.val))) (by show 512 + (h.val * 64 + c.val * 32 + d.val) = _; omega),
    ent_eq a1 h1 b s _ (512 + (h.val / 2 * 128 + (h.val % 2 * 64 + c.val * 32 + d.val))) (by show 512 + (h.val * 64 + c.val * 32 + d.val) = _; omega), EReal.coe_mul]

include h0 h1 h3 in
/-- The weights of finite arguments. -/
theorem weights_real (b c : Fin 2) (h : Fin 8) (t k : Fin 8192) (σ : ℕ → ℝ)
    (hσ : σ = Soft.score (fun l => ent a0 b t.val (512 + (h.val / 2 * 128 + l))) (fun n l => ent a1 b n (512 + (h.val / 2 * 128 + l)))
          (h.val % 2 * 64 + c.val * 32) (slopeOf a3 ⟨h.val / 2, by omega⟩ (h.val % 2)) t.val) :
    weights (exps (scores (dots (maps a0) (maps a1)) (bias a3))) (ix5 b c h t k)
      = (((if k.val < t.val + 1 then Real.exp (σ k.val) / ∑ s ∈ Finset.range (t.val + 1), Real.exp (σ s) else 0) : ℝ) : EReal) := by
  subst hσ
  have hz := scores_real a0 a1 a3 h0 h1 h3 b c h t
  rw [weights_apply]
  generalize scores (dots (maps a0) (maps a1)) (bias a3) = z at hz ⊢
  have hM := top_apply z b c h t
  simp only [exps_apply]
  generalize top z (ix4 b c h t) = M at hM ⊢
  have ht := t.isLt
  exact Soft.weight _ (t.val + 1) (by omega) (by omega) (fun s => z (ix5 b c h t s)) hz M hM k

include h0 h1 h2 h3 h4 in
/-- The differential attention of finite arguments. -/
theorem attn_real (b : Fin 2) (t : Fin 8192) (h : Fin 8) (d : Fin 64) :
    attn (heads a2) (weights (exps (scores (dots (maps a0) (maps a1)) (bias a3)))) (lam a4) (ix4 b t h d)
      = head a0 a1 a2 a3 a4 b ⟨h.val / 2, by omega⟩ t.val (h.val % 2 * 64 + d.val) := by
  have w0 := fun k => weights_real a0 a1 a3 h0 h1 h3 b 0 h t k _ rfl
  have w1 := fun k => weights_real a0 a1 a3 h0 h1 h3 b 1 h t k _ rfl
  have ht := t.isLt
  have hd := d.isLt
  have hv : ∀ k : Fin 8192, heads a2 (ix4 b k h d) = ((ent a2 b k.val (512 + (h.val / 2 * 128 + (h.val % 2 * 64 + d.val))) : ℝ) : EReal) := by
    intro k
    rw [heads_apply]
    exact ent_eq a2 h2 b k _ _ (by show 512 + (h.val * 64 + d.val) = _; omega)
  rw [attn_apply]
  generalize weights (exps (scores (dots (maps a0) (maps a1)) (bias a3))) = W at w0 w1 ⊢
  generalize heads a2 = V at hv ⊢
  obtain ⟨r, hr⟩ := lamOf_real a4 h4
  have hl : lam a4 ix0 = (r : EReal) := (lam_apply a4).trans hr
  rw [hl]
  unfold head Soft.out
  rw [hr, show (h.val % 2 * 64 + d.val) / 64 = h.val % 2 by omega]
  exact Soft.diff _ _ (fun n => ent a2 b n (512 + (h.val / 2 * 128 + (h.val % 2 * 64 + d.val)))) r (t.val + 1) (by omega) (by omega)
    (fun k => V (ix4 b k h d)) (fun k => W (ix5 b 0 h t k)) (fun k => W (ix5 b 1 h t k)) hv w0 w1

include h0 h1 h2 h3 h4 in
/-- The reference's result at an entry, for finite arguments. -/
theorem value_eq (b : Fin 2) (t : Fin 8192) (n : Fin 512) :
    normed (attn (heads a2) (weights (exps (scores (dots (maps a0) (maps a1)) (bias a3)))) (lam a4)) a5 (ix3 b t n)
      = value a0 a1 a2 a3 a4 a5 b t n := by
  have ha := attn_real a0 a1 a2 a3 a4 h0 h1 h2 h3 h4 b t ⟨n.val / 64, by omega⟩
  generalize attn (heads a2) (weights (exps (scores (dots (maps a0) (maps a1)) (bias a3)))) (lam a4) = o at ha ⊢
  rw [normed_apply, Cert.Pre_finite6.div_64]
  simp only [ha]
  unfold value
  have hn := n.isLt
  have e1 : (⟨n.val / 64 / 2, by omega⟩ : Fin 4) = ⟨n.val / 128, by omega⟩ := Fin.ext (by show n.val / 64 / 2 = n.val / 128; omega)
  have e2 : n.val / 64 % 2 * 64 + n.val % 64 = n.val % 128 := by omega
  have e3 : n.val / 64 % 2 * 64 = n.val % 128 / 64 * 64 := by omega
  rw [e1, e2, e3]

end Cert.Reference6Ideal.Attn
-- ==== Proof.DValue.lean ====
/-
  The differential-attention kernel's result array, for finite arguments.
-/
module

public import proofs.«01_k».proof.Proof.DTrue

@[expose] public section

set_option maxRecDepth 16384

noncomputable section

open Idealize.ShloMosaic Idealize.ShloMosaic.TcCoe Idealize.SL.Sem
open Idealize.ShloMosaic.Pipeline (Dat)

namespace Cert.Kernel6Ideal.Final

open Cert.Kernel6Ideal Cert.Kernel6Ideal.Gen Cert.Kernel6Ideal.Value Cert.Kernel6Ideal.Block Cert.Kernel6Ideal.Out
open Cert.Reference6Ideal.Attn (ent slopeOf lamOf value ent_eq slopeOf_eq)

variable (m : (ℓ : Loc nD τ sig) → Buf (Elt Ideal) ℓ)

/-- Where a grid point's block of queries lies. -/
theorem idx0 : ∀ t : Fin cfg0.N, win0_0.index t 0 = t.val / 128 ∧ win0_0.index t 1 = t.val % 32 ∧ win0_0.index t 2 = 4 + t.val / 32 % 4 := by
  decide +kernel

/-- Where a grid point's block of keys lies. -/
theorem idx1 : ∀ t : Fin cfg0.N, win0_1.index t 0 = t.val / 128 ∧ win0_1.index t 1 = 0 ∧ win0_1.index t 2 = 4 + t.val / 32 % 4 := by
  decide +kernel

/-- Where a grid point's block of values lies. -/
theorem idx2 : ∀ t : Fin cfg0.N, win0_2.index t 0 = t.val / 128 ∧ win0_2.index t 1 = 0 ∧ win0_2.index t 2 = 4 + t.val / 32 % 4 := by
  decide +kernel

/-- Where a grid point's slopes lie. -/
theorem idx3 : ∀ t : Fin cfg0.N, win0_3.index t 0 = t.val / 32 % 4 ∧ win0_3.index t 1 = 0 ∧ win0_3.index t 2 = 0 := by
  decide +kernel

/-- The vectors of lambda are taken whole. -/
theorem idx4 : ∀ t : Fin cfg0.N, win0_4.index t 0 = 0 ∧ win0_4.index t 1 = 0 := by
  decide +kernel

/-- The scale of the norm is taken whole. -/
theorem idx5 : ∀ t : Fin cfg0.N, win0_5.index t 0 = 0 ∧ win0_5.index t 1 = 0 := by
  decide +kernel

/-- Where a grid point's block of the result lies. -/
theorem idx6 : ∀ t : Fin cfg0.N, win0_6.index t 0 = t.val / 128 ∧ win0_6.index t 1 = t.val % 32 ∧ win0_6.index t 2 = t.val / 32 % 4 := by
  decide +kernel

/-- The number of the query block of a grid point. -/
theorem coord2 (t : Fin cfg0.N) : (grid0.coords t 2).val = t.val % 32 := by
  rw [Pipeline.Grid.coords_val t 2 (S := 1) (B := 32) (by decide) rfl, Nat.div_one]

/-- There are 256 grid points. -/
theorem points (t : Fin cfg0.N) : t.val < 256 := by
  have := t.isLt
  have hN : cfg0.N = 256 := N_0
  omega

/-- The block of queries at an entry. -/
theorem block0 (c : Dev nD) (t : Fin cfg0.N) (r : Fin 256) (l : Fin 128) :
    (iblk m c 0 t : Vec Ideal S1x256x128 .bf16) (ix3 0 r l) = (m ((c : Thread nD τ).loc main_arg0) : Vec Ideal S2x8192x1024 .bf16)
      (ix3 ⟨t.val / 128, by have := points t; omega⟩ ⟨t.val % 32 * 256 + r.val, by omega⟩ ⟨(4 + t.val / 32 % 4) * 128 + l.val, by omega⟩) := by
  obtain ⟨h0, h1, h2⟩ := idx0 t
  unfold iblk
  rw [View.read_apply]
  show V m c main_arg0 _ = _
  rw [V_main_arg0]
  congr 1
  funext a
  apply Fin.ext
  match a with
  | ⟨0, _⟩ => show win0_0.index t 0 * 1 + 1 * 0 = t.val / 128; rw [h0]; omega
  | ⟨1, _⟩ => show win0_0.index t 1 * 256 + 1 * r.val = t.val % 32 * 256 + r.val; rw [h1]; omega
  | ⟨2, _⟩ => show win0_0.index t 2 * 128 + 1 * l.val = (4 + t.val / 32 % 4) * 128 + l.val; rw [h2]; omega

/-- The keys of a grid point at an entry. -/
theorem block1 (c : Dev nD) (t : Fin cfg0.N) (n : Fin 8192) (l : Fin 128) :
    (iblk m c 1 t : Vec Ideal S1x8192x128 .bf16) (ix3 0 n l) = (m ((c : Thread nD τ).loc main_arg1) : Vec Ideal S2x8192x1024 .bf16)
      (ix3 ⟨t.val / 128, by have := points t; omega⟩ n ⟨(4 + t.val / 32 % 4) * 128 + l.val, by omega⟩) := by
  obtain ⟨h0, h1, h2⟩ := idx1 t
  unfold iblk
  rw [View.read_apply]
  show V m c main_arg1 _ = _
  rw [V_main_arg1]
  congr 1
  funext a
  apply Fin.ext
  match a with
  | ⟨0, _⟩ => show win0_1.index t 0 * 1 + 1 * 0 = t.val / 128; rw [h0]; omega
  | ⟨1, _⟩ => show win0_1.index t 1 * 8192 + 1 * n.val = n.val; rw [h1]; omega
  | ⟨2, _⟩ => show win0_1.index t 2 * 128 + 1 * l.val = (4 + t.val / 32 % 4) * 128 + l.val; rw [h2]; omega

/-- The same at any number: an entry outside is zero. -/
theorem key1 (c : Dev nD) (ha : ∀ j, (m ((c : Thread nD τ).loc main_arg1) : Vec Ideal S2x8192x1024 .bf16) j
      = ((EReal.toReal ((m ((c : Thread nD τ).loc main_arg1) : Vec Ideal S2x8192x1024 .bf16) j) : ℝ) : EReal))
    (t : Fin cfg0.N) (n : ℕ) (l : Fin 128) :
    key (iblk m c 1 t) n l = ((ent (m ((c : Thread nD τ).loc main_arg1)) ⟨t.val / 128, by have := points t; omega⟩ n
      (512 + (t.val / 32 % 4 * 128 + l.val)) : ℝ) : EReal) := by
  unfold key
  by_cases hn : n < 8192
  · rw [dif_pos hn]
    refine (block1 m c t ⟨n, hn⟩ l).trans ?_
    exact ent_eq _ ha _ ⟨n, hn⟩ _ _ (by show (4 + t.val / 32 % 4) * 128 + l.val = _; omega)
  · rw [dif_neg hn]
    unfold ent
    rw [dif_neg fun h => hn h.1]
    rfl

/-- The values of a grid point at an entry. -/
theorem block2 (c : Dev nD) (t : Fin cfg0.N) (n : Fin 8192) (l : Fin 128) :
    (iblk m c 2 t : Vec Ideal S1x8192x128 .bf16) (ix3 0 n l) = (m ((c : Thread nD τ).loc main_arg2) : Vec Ideal S2x8192x1024 .bf16)
      (ix3 ⟨t.val / 128, by have := points t; omega⟩ n ⟨(4 + t.val / 32 % 4) * 128 + l.val, by omega⟩) := by
  obtain ⟨h0, h1, h2⟩ := idx2 t
  unfold iblk
  rw [View.read_apply]
  show V m c main_arg2 _ = _
  rw [V_main_arg2]
  congr 1
  funext a
  apply Fin.ext
  match a with
  | ⟨0, _⟩ => show win0_2.index t 0 * 1 + 1 * 0 = t.val / 128; rw [h0]; omega
  | ⟨1, _⟩ => show win0_2.index t 1 * 8192 + 1 * n.val = n.val; rw [h1]; omega
  | ⟨2, _⟩ => show win0_2.index t 2 * 128 + 1 * l.val = (4 + t.val / 32 % 4) * 128 + l.val; rw [h2]; omega

/-- The same at any number: an entry outside is zero. -/
theorem key2 (c : Dev nD) (ha : ∀ j, (m ((c : Thread nD τ).loc main_arg2) : Vec Ideal S2x8192x1024 .bf16) j
      = ((EReal.toReal ((m ((c : Thread nD τ).loc main_arg2) : Vec Ideal S2x8192x1024 .bf16) j) : ℝ) : EReal))
    (t : Fin cfg0.N) (n : ℕ) (l : Fin 128) :
    key (iblk m c 2 t) n l = ((ent (m ((c : Thread nD τ).loc main_arg2)) ⟨t.val / 128, by have := points t; omega⟩ n
      (512 + (t.val / 32 % 4 * 128 + l.val)) : ℝ) : EReal) := by
  unfold key
  by_cases hn : n < 8192
  · rw [dif_pos hn]
    refine (block2 m c t ⟨n, hn⟩ l).trans ?_
    exact ent_eq _ ha _ ⟨n, hn⟩ _ _ (by show (4 + t.val / 32 % 4) * 128 + l.val = _; omega)
  · rw [dif_neg hn]
    unfold ent
    rw [dif_neg fun h => hn h.1]
    rfl

/-- The slopes at a grid point. -/
theorem block3 (c : Dev nD) (t : Fin cfg0.N) (l : Fin 128) :
    (iblk m c 3 t : Vec Ideal S1x1x128 .f32) (ix3 0 0 l) = (m ((c : Thread nD τ).loc main_arg3) : Vec Ideal S4x1x128 .f32)
      (ix3 ⟨t.val / 32 % 4, by omega⟩ 0 l) := by
  obtain ⟨h0, h1, h2⟩ := idx3 t
  unfold iblk
  rw [View.read_apply]
  show V m c main_arg3 _ = _
  rw [V_main_arg3]
  congr 1
  funext a
  apply Fin.ext
  match a with
  | ⟨0, _⟩ => show win0_3.index t 0 * 1 + 1 * 0 = t.val / 32 % 4; rw [h0]; omega
  | ⟨1, _⟩ => show win0_3.index t 1 * 1 + 1 * 0 = 0; rw [h1]
  | ⟨2, _⟩ => show win0_3.index t 2 * 128 + 1 * l.val = l.val; rw [h2]; omega

/-- The vectors of lambda at a grid point. -/
theorem block4 (c : Dev nD) (t : Fin cfg0.N) (r : Fin 4) (l : Fin 32) :
    (iblk m c 4 t : Vec Ideal S4x32 .f32) (ix2 r l) = (m ((c : Thread nD τ).loc main_arg4) : Vec Ideal S4x32 .f32) (ix2 r l) := by
  obtain ⟨h0, h1⟩ := idx4 t
  unfold iblk
  rw [View.read_apply]
  show V m c main_arg4 _ = _
  rw [V_main_arg4]
  congr 1
  funext a
  apply Fin.ext
  match a with
  | ⟨0, _⟩ => show win0_4.index t 0 * 4 + 1 * r.val = r.val; rw [h0]; omega
  | ⟨1, _⟩ => show win0_4.index t 1 * 32 + 1 * l.val = l.val; rw [h1]; omega

/-- The norm's scale twice over, laid out as one row. -/
theorem scale5 (c : Dev nD) : (V m c main_v3 : FVec Ideal S1x128 .f32)
    = shapeCast _ (shapeCast S128 (broadcastInDim S2x64 ![0, 1] bcast_S1x64_S2x64_0_1
        (shapeCast S1x64 (m ((c : Thread nD τ).loc main_arg5) : FVec Ideal S64 .f32) shapeCasts_S64_S1x64)) shapeCasts_S2x64_S128) shapeCasts_S128_S1x128 := by
  unfold V hostOps0
  after_results_simp
  rfl

/-- The norm's scale at a grid point. -/
theorem block5 (c : Dev nD) (t : Fin cfg0.N) (l : Fin 128) :
    (iblk m c 5 t : Vec Ideal S1x128 .f32) (ix2 0 l) = (m ((c : Thread nD τ).loc main_arg5) : Vec Ideal S64 .f32) (ix1 ⟨l.val % 64, by omega⟩) := by
  obtain ⟨h0, h1⟩ := idx5 t
  unfold iblk
  rw [View.read_apply]
  show (V m c main_v3 : FVec Ideal S1x128 .f32) _ = _
  rw [scale5]
  have e : ((cfg0.win 5).blk t).view.emb (ix2 0 l : S1x128.Idx) = (ix2 0 l : S1x128.Idx) := by
    funext a
    apply Fin.ext
    match a with
    | ⟨0, _⟩ => show win0_5.index t 0 * 1 + 1 * 0 = 0; rw [h0]
    | ⟨1, _⟩ => show win0_5.index t 1 * 128 + 1 * l.val = l.val; rw [h1]; omega
  rw [e]
  pointwise
  done

/-- The result array. -/
def result (c : Dev nD) : Buf (Elt Ideal) ((c : Thread nD τ).loc main_v4) :=
  fun j : S2x8192x512.Idx => value (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (j 0) (j 1) (j 2)

variable (c : Dev nD)
  (r0 : ∀ j, (m ((c : Thread nD τ).loc main_arg0) : Vec Ideal S2x8192x1024 .bf16) j
      = ((EReal.toReal ((m ((c : Thread nD τ).loc main_arg0) : Vec Ideal S2x8192x1024 .bf16) j) : ℝ) : EReal))
  (r1 : ∀ j, (m ((c : Thread nD τ).loc main_arg1) : Vec Ideal S2x8192x1024 .bf16) j
      = ((EReal.toReal ((m ((c : Thread nD τ).loc main_arg1) : Vec Ideal S2x8192x1024 .bf16) j) : ℝ) : EReal))
  (r2 : ∀ j, (m ((c : Thread nD τ).loc main_arg2) : Vec Ideal S2x8192x1024 .bf16) j
      = ((EReal.toReal ((m ((c : Thread nD τ).loc main_arg2) : Vec Ideal S2x8192x1024 .bf16) j) : ℝ) : EReal))
  (r3 : ∀ j, (m ((c : Thread nD τ).loc main_arg3) : Vec Ideal S4x1x128 .f32) j
      = ((EReal.toReal ((m ((c : Thread nD τ).loc main_arg3) : Vec Ideal S4x1x128 .f32) j) : ℝ) : EReal))

include r0 r1 r2 r3 in
/-- What the body leaves at an entry of the output block of a grid point. -/
theorem out_entry (t : Fin cfg0.N) (r : Fin 256) (l : Fin 128) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (iblk m c 0 t) (iblk m c 1 t) (iblk m c 2 t) (iblk m c 3 t) (iblk m c 4 t) (iblk m c 5 t) (ix3 0 r l)
      = value (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        ⟨t.val / 128, by have := points t; omega⟩ ⟨t.val % 32 * 256 + r.val, by omega⟩ ⟨t.val / 32 % 4 * 128 + l.val, by omega⟩ := by
  have ht := points t
  have e := out_real c (grid0.coords t) (by rw [coord2]; omega) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (iblk m c 0 t) (iblk m c 1 t) (iblk m c 2 t) (iblk m c 3 t) (iblk m c 4 t) (iblk m c 5 t)
    (fun x => ent (m ((c : Thread nD τ).loc main_arg0)) ⟨t.val / 128, by omega⟩ (t.val % 32 * 256 + r.val) (512 + (t.val / 32 % 4 * 128 + x)))
    (fun n x => ent (m ((c : Thread nD τ).loc main_arg1)) ⟨t.val / 128, by omega⟩ n (512 + (t.val / 32 % 4 * 128 + x)))
    (fun n x => ent (m ((c : Thread nD τ).loc main_arg2)) ⟨t.val / 128, by omega⟩ n (512 + (t.val / 32 % 4 * 128 + x)))
    (slopeOf (m ((c : Thread nD τ).loc main_arg3)) ⟨t.val / 32 % 4, by omega⟩) (lamOf (m ((c : Thread nD τ).loc main_arg4))) r
    (fun x => (block0 m c t r x).trans (ent_eq _ r0 _ _ _ _ (by show (4 + t.val / 32 % 4) * 128 + x.val = _; omega)))
    (key1 m c r1 t) (key2 m c r2 t)
    ((block3 m c t 0).trans (slopeOf_eq _ r3 _ 0 (by norm_num) _ rfl))
    ((block3 m c t 64).trans (slopeOf_eq _ r3 _ 1 (by norm_num) _ rfl))
    (by simp only [block4]; rfl) l
  rw [coord2, block5] at e
  refine e.trans ?_
  have hl := l.isLt
  unfold value
  have e1 : (⟨(t.val / 32 % 4 * 128 + l.val) / 128, by omega⟩ : Fin 4) = ⟨t.val / 32 % 4, by omega⟩ :=
    Fin.ext (by show (t.val / 32 % 4 * 128 + l.val) / 128 = t.val / 32 % 4; omega)
  have e2 : (t.val / 32 % 4 * 128 + l.val) % 128 = l.val := by omega
  have e3 : (⟨(t.val / 32 % 4 * 128 + l.val) % 64, by omega⟩ : Fin 64) = ⟨l.val % 64, by omega⟩ :=
    Fin.ext (by show (t.val / 32 % 4 * 128 + l.val) % 64 = l.val % 64; omega)
  dsimp only
  rw [e1, e2, e3]
  rfl

include r0 r1 r2 r3 in
/-- Each grid point writes its block of the result. -/
theorem flushed_eq (t : Fin cfg0.N) :
    (dats m 0 c).flushed 6 t = ((cfg0.win 6).blk t).view.read (Elt Ideal) (result m c) := by
  have ht := points t
  obtain ⟨w0, w1, w2⟩ := idx6 t
  rw [flushed6_A]
  funext j
  rw [View.read_apply]
  obtain ⟨r, l, rfl⟩ : ∃ (r : Fin 256) (l : Fin 128), j = (ix3 0 r l : S1x256x128.Idx) := by
    refine ⟨j 1, j 2, funext fun a => Fin.ext ?_⟩
    match a with
    | ⟨0, _⟩ => have h : (j 0).val < 1 := (j 0).isLt; show (j 0).val = 0; omega
    | ⟨1, _⟩ => rfl
    | ⟨2, _⟩ => rfl
  refine (out_entry m c r0 r1 r2 r3 t r l).trans ?_
  have e : ((cfg0.win 6).blk t).view.emb (ix3 0 r l : S1x256x128.Idx) = (ix3 ⟨t.val / 128, by omega⟩ ⟨t.val % 32 * 256 + r.val, by omega⟩
      ⟨t.val / 32 % 4 * 128 + l.val, by omega⟩ : S2x8192x512.Idx) := by
    funext a
    apply Fin.ext
    match a with
    | ⟨0, _⟩ => show win0_6.index t 0 * 1 + 1 * 0 = t.val / 128; rw [w0]; omega
    | ⟨1, _⟩ => show win0_6.index t 1 * 256 + 1 * r.val = t.val % 32 * 256 + r.val; rw [w1]; omega
    | ⟨2, _⟩ => show win0_6.index t 2 * 128 + 1 * l.val = t.val / 32 % 4 * 128 + l.val; rw [w2]; omega
  show _ = result m c (((cfg0.win 6).blk t).view.emb (ix3 0 r l : S1x256x128.Idx))
  rw [e]
  rfl

include r0 r1 r2 r3 in
/-- The result array after the run. -/
theorem final_o : (dats m 0 c).arrAt 6 cfg0.N = result m c :=
  (dats m 0 c).arrAt_eq_of_cover 6 (result m c) (fun t _ => flushed_eq m c r0 r1 r2 r3 t) fun i => by
    have h0 : (i 0 : Nat) < 2 := (i 0).isLt
    have h1 : (i 1 : Nat) < 8192 := (i 1).isLt
    have h2 : (i 2 : Nat) < 512 := (i 2).isLt
    have hN : cfg0.N = 256 := N_0
    let t : Fin cfg0.N := ⟨(i 0 : Nat) * 128 + (i 2 : Nat) / 128 * 32 + (i 1 : Nat) / 256, by omega⟩
    have ht : t.val = (i 0 : Nat) * 128 + (i 2 : Nat) / 128 * 32 + (i 1 : Nat) / 256 := rfl
    obtain ⟨w0, w1, w2⟩ := idx6 t
    refine ⟨t, flush0_6 t, ?_⟩
    show i ∈ ((View.whole main_v4).slice (win0_6.rect t)).set
    rw [View.set_slice_whole, Rect.mem_set_unit]
    intro a
    match a with
    | ⟨0, _⟩ =>
      show win0_6.index t 0 * 1 ≤ (i 0 : Nat) ∧ (i 0 : Nat) < win0_6.index t 0 * 1 + 1
      rw [w0]; omega
    | ⟨1, _⟩ =>
      show win0_6.index t 1 * 256 ≤ (i 1 : Nat) ∧ (i 1 : Nat) < win0_6.index t 1 * 256 + 256
      rw [w1]; omega
    | ⟨2, _⟩ =>
      show win0_6.index t 2 * 128 ≤ (i 2 : Nat) ∧ (i 2 : Nat) < win0_6.index t 2 * 128 + 128
      rw [w2]; omega

end Cert.Kernel6Ideal.Final

end
-- ==== Proof.lean ====
/-
  The stick-breaking attention and four projections of the prompt: the five claims of each.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Loops
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Loops
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel6Ideal.Value
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.KValue
public import proofs.«01_k».proof.Proof.Down
public import proofs.«01_k».proof.Proof.Qkv
public import proofs.«01_k».proof.Proof.AttnOut
public import proofs.«01_k».proof.Proof.UpConv
public import proofs.«01_k».proof.Proof.DownS
public import proofs.«01_k».proof.Proof.QkvS
public import proofs.«01_k».proof.Proof.UpConvS
public import proofs.«01_k».proof.Proof.KTable
public import proofs.«01_k».proof.Proof.DValue
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

/-- The reference runs to the end, leaves its arguments and no counter raised. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference end with the same result. -/
theorem attention : Cert.algebraic_KernelIdeal_ReferenceIdeal := by
  intro m ρ m' ρ' _ hagree
  refine ⟨fun c => Cert.KernelIdeal.Final.result m c, ?_, ?_⟩
  · refine (θ_run Cert.KernelIdeal.defs _ _).mono (fun _ h c => ?_) (Cert.KernelIdeal.Value.run_blocks (F := Ideal) m ρ)
    exact ⟨(h c).1.trans (Cert.KernelIdeal.Final.final_o m c (Cert.KernelIdeal.Final.block3 m c)), (h c).2⟩
  · refine (θ_run Cert.ReferenceIdeal.defs _ _).mono (fun _ h c => ?_) (Cert.ReferenceIdeal.Value.run (F := Ideal) m' ρ')
    refine ⟨(h c).1.trans ?_, (h c).2⟩
    obtain ⟨e0, e1, e2⟩ := hagree c
    rw [Cert.ReferenceIdeal.Attn.res_eq, e0, e1, e2]
    funext j
    obtain ⟨b, t, n, rfl⟩ : ∃ (b : Fin 2) (t : Fin 8192) (n : Fin 512), j = (ix3 b t n : Cert.ReferenceIdeal.S2x8192x512.Idx) := by
      refine ⟨j 0, j 1, j 2, funext fun a => ?_⟩
      match a with
      | ⟨0, _⟩ => rfl
      | ⟨1, _⟩ => rfl
      | ⟨2, _⟩ => rfl
    exact Cert.ReferenceIdeal.Attn.res_apply _ _ _ b t n

/-- The reference of the last projection runs to the end, leaves its arguments and no counter raised. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The last projection of the MLP and its reference end with the same result. -/
theorem down_projection : Cert.algebraic_Kernel2Ideal_Reference2Ideal := by
  intro m ρ m' ρ' _ hagree
  refine ⟨fun c => Cert.Kernel2Ideal.Rows.result m c, ?_, ?_⟩
  · refine (θ_run Cert.Kernel2Ideal.defs _ _).mono (fun _ h c => ?_) (Cert.Kernel2Ideal.Value.run_blocks (F := Ideal) m ρ)
    exact ⟨(h c).1.trans (Cert.Kernel2Ideal.Rows.final_o m c), (h c).2⟩
  · refine (θ_run Cert.Reference2Ideal.defs _ _).mono (fun _ h c => ?_) (Cert.Reference2Ideal.Value.run (F := Ideal) m' ρ')
    obtain ⟨e0, e1, e2, e3, e4⟩ := hagree c
    refine ⟨(h c).1.trans ?_, (h c).2⟩
    · rw [e0, e1, e2, e3, e4]
      rfl

/-- The reference of the first projection runs to the end, leaves its arguments and no counter raised. -/
theorem frame_reference3 : Cert.quiescent_Reference3Ideal := fun m ρ _ =>
  (θ_run Cert.Reference3Ideal.defs _ _).mono (fun r h => ⟨fun c => (h c).2.2.2.2.2, sem_eq_zero_of_no_sems (by decide) r.2⟩)
    (Cert.Reference3Ideal.Value.run (F := Ideal) m ρ)

/-- The projection to queries, keys and values and its reference end with the same results. -/
theorem qkv_projection : Cert.algebraic_Kernel3Ideal_Reference3Ideal := by
  intro m ρ m' ρ' _ hagree
  refine ⟨fun c => Cert.Kernel3Ideal.Rows.result0 m c, fun c => Cert.Kernel3Ideal.Rows.result1 m c, fun c => Cert.Kernel3Ideal.Rows.result2 m c, fun c => Cert.Kernel3Ideal.Rows.result3 m c, fun c => Cert.Kernel3Ideal.Rows.result4 m c, ?_, ?_⟩
  · refine (θ_run Cert.Kernel3Ideal.defs _ _).mono (fun _ h c => ?_) (Cert.Kernel3Ideal.Value.run_blocks (F := Ideal) m ρ)
    exact ⟨(h c).1.trans (Cert.Kernel3Ideal.Rows.final5 m c), (h c).2.1.trans (Cert.Kernel3Ideal.Rows.final6 m c), (h c).2.2.1.trans (Cert.Kernel3Ideal.Rows.final7 m c), (h c).2.2.2.1.trans (Cert.Kernel3Ideal.Rows.final8 m c), (h c).2.2.2.2.1.trans (Cert.Kernel3Ideal.Rows.final9 m c), (h c).2.2.2.2.2⟩
  · refine (θ_run Cert.Reference3Ideal.defs _ _).mono (fun _ h c => ?_) (Cert.Reference3Ideal.Value.run (F := Ideal) m' ρ')
    obtain ⟨e0, e1, e2, e3, e4⟩ := hagree c
    refine ⟨(h c).1.trans ?_, (h c).2.1.trans ?_, (h c).2.2.1.trans ?_, (h c).2.2.2.1.trans ?_, (h c).2.2.2.2.1.trans ?_, (h c).2.2.2.2.2⟩
    · rw [e0, e1, e2, e3, e4]
      rfl
    · rw [e0, e1, e2, e3, e4]
      rfl
    · rw [e0, e1, e2, e3, e4]
      rfl
    · rw [e0, e1, e2, e3, e4]
      rfl
    · rw [e0, e1, e2, e3, e4]
      rfl

/-- The reference of the output projection runs to the end, leaves its arguments and no counter raised. -/
theorem frame_reference4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- The projection of the attentions' outputs and its reference end with the same results. -/
theorem output_projection : Cert.algebraic_Kernel4Ideal_Reference4Ideal := by
  intro m ρ m' ρ' _ hagree
  refine ⟨fun c => Cert.Kernel4Ideal.Rows.result0 m c, fun c => Cert.Kernel4Ideal.Rows.result1 m c, ?_, ?_⟩
  · refine (θ_run Cert.Kernel4Ideal.defs _ _).mono (fun _ h c => ?_) (Cert.Kernel4Ideal.Value.run_blocks (F := Ideal) m ρ)
    exact ⟨(h c).1.trans (Cert.Kernel4Ideal.Rows.final10 m c), (h c).2.1.trans (Cert.Kernel4Ideal.Rows.final11 m c), (h c).2.2⟩
  · refine (θ_run Cert.Reference4Ideal.defs _ _).mono (fun _ h c => ?_) (Cert.Reference4Ideal.Value.run (F := Ideal) m' ρ')
    obtain ⟨e0, e1, e2, e3, e4, e5, e6, e7, e8⟩ := hagree c
    refine ⟨(h c).1.trans ?_, (h c).2.1.trans ?_, (h c).2.2⟩
    · rw [e0, e1, e2, e3, e4, e5]
      rfl
    · unfold Cert.Reference4Ideal.Value.res_main_v43
      rw [e0, e1, e2, e3, e4, e5, e6, e7, e8]
      rfl

/-- The reference of the up projection runs to the end, leaves its arguments and no counter raised. -/
theorem frame_reference5 : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- The up projection with its convolution and gate and its reference end with the same results. -/
theorem up_convolution : Cert.algebraic_Kernel5Ideal_Reference5Ideal := by
  intro m ρ m' ρ' _ hagree
  refine ⟨fun c => Cert.Kernel5Ideal.Rows.result0 m c, fun c => Cert.Kernel5Ideal.Rows.result1 m c, ?_, ?_⟩
  · refine (θ_run Cert.Kernel5Ideal.defs _ _).mono (fun _ h c => ?_) (Cert.Kernel5Ideal.Value.run_blocks (F := Ideal) m ρ)
    exact ⟨(h c).1.trans (Cert.Kernel5Ideal.Rows.final5 m c), (h c).2.1.trans (Cert.Kernel5Ideal.Rows.final6 m c), (h c).2.2⟩
  · refine (θ_run Cert.Reference5Ideal.defs _ _).mono (fun _ h c => ?_) (Cert.Reference5Ideal.Value.run (F := Ideal) m' ρ')
    obtain ⟨e0, e1, e2, e3, e4⟩ := hagree c
    refine ⟨(h c).1.trans ?_, (h c).2.1.trans ?_, (h c).2.2⟩
    · unfold Cert.Reference5Ideal.Value.res_main_v33
      rw [e0, e1, e2, e3, e4]
      rfl
    · rw [e0, e1, e2]
      rfl

/-- The reference of the differential attention runs to the end, leaves its arguments and no counter raised. -/
theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- For finite arguments the differential attention and its reference end with the same result. -/
theorem differential_attention : Cert.algebraic_Kernel6Ideal_Reference6Ideal_pre_finite6 := by
  intro m ρ m' ρ' hpre hagree
  have r0 := fun c => Cert.Pre_finite6.real0 _ _ _ _ _ _ (hpre c).1
  have r1 := fun c => Cert.Pre_finite6.real1 _ _ _ _ _ _ (hpre c).2.1
  have r2 := fun c => Cert.Pre_finite6.real2 _ _ _ _ _ _ (hpre c).2.2.1
  have r3 := fun c => Cert.Pre_finite6.real3 _ _ _ _ _ _ (hpre c).2.2.2.1
  have r4 := fun c => Cert.Pre_finite6.real4 _ _ _ _ _ _ (hpre c).2.2.2.2
  refine ⟨fun c => Cert.Kernel6Ideal.Final.result m c, ?_, ?_⟩
  · refine (θ_run Cert.Kernel6Ideal.defs _ _).mono (fun _ h c => ?_) (Cert.Kernel6Ideal.Value.run_blocks (F := Ideal) m ρ)
    exact ⟨(h c).1.trans (Cert.Kernel6Ideal.Final.final_o m c (r0 c) (r1 c) (r2 c) (r3 c)), (h c).2⟩
  · refine (θ_run Cert.Reference6Ideal.defs _ _).mono (fun _ h c => ?_) (Cert.Reference6Ideal.Value.run (F := Ideal) m' ρ')
    refine ⟨(h c).1.trans ?_, (h c).2⟩
    obtain ⟨e0, e1, e2, e3, e4, e5⟩ := hagree c
    rw [Cert.Reference6Ideal.Attn.res_eq, e0, e1, e2, e3, e4, e5]
    funext j
    obtain ⟨b, t, n, rfl⟩ : ∃ (b : Fin 2) (t : Fin 8192) (n : Fin 512), j = (ix3 b t n : Cert.Reference6Ideal.S2x8192x512.Idx) := by
      refine ⟨j 0, j 1, j 2, funext fun a => ?_⟩
      match a with
      | ⟨0, _⟩ => rfl
      | ⟨1, _⟩ => rfl
      | ⟨2, _⟩ => rfl
    exact Cert.Reference6Ideal.Attn.value_eq _ _ _ _ _ _ (r0 c) (r1 c) (r2 c) (r3 c) (r4 c) b t n

/-- The reference of the sample's last projection runs to the end, leaves its arguments and no counter raised. -/
theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The sample's last projection of the MLP and its reference end with the same result. -/
theorem down_projection_sample : Cert.algebraic_Kernel7Ideal_Reference7Ideal := by
  intro m ρ m' ρ' _ hagree
  refine ⟨fun c => Cert.Kernel7Ideal.Rows.result m c, ?_, ?_⟩
  · refine (θ_run Cert.Kernel7Ideal.defs _ _).mono (fun _ h c => ?_) (Cert.Kernel7Ideal.Value.run_blocks (F := Ideal) m ρ)
    exact ⟨(h c).1.trans (Cert.Kernel7Ideal.Rows.final5 m c), (h c).2⟩
  · refine (θ_run Cert.Reference7Ideal.defs _ _).mono (fun _ h c => ?_) (Cert.Reference7Ideal.Value.run (F := Ideal) m' ρ')
    obtain ⟨e0, e1, e2, e3, e4⟩ := hagree c
    refine ⟨(h c).1.trans ?_, (h c).2⟩
    · rw [e0, e1, e2, e3, e4]
      rfl

/-- The reference of the sample's first projection runs to the end, leaves its arguments and no counter raised. -/
theorem frame_reference8 : Cert.quiescent_Reference8Ideal := fun m ρ _ =>
  (θ_run Cert.Reference8Ideal.defs _ _).mono (fun r h => ⟨fun c => (h c).2.2.2.2.2, sem_eq_zero_of_no_sems (by decide) r.2⟩)
    (Cert.Reference8Ideal.Value.run (F := Ideal) m ρ)

/-- The sample's projection to queries, keys and values and its reference end with the same results. -/
theorem qkv_projection_sample : Cert.algebraic_Kernel8Ideal_Reference8Ideal := by
  intro m ρ m' ρ' _ hagree
  refine ⟨fun c => Cert.Kernel8Ideal.Rows.result0 m c, fun c => Cert.Kernel8Ideal.Rows.result1 m c, fun c => Cert.Kernel8Ideal.Rows.result2 m c, fun c => Cert.Kernel8Ideal.Rows.result3 m c, fun c => Cert.Kernel8Ideal.Rows.result4 m c, ?_, ?_⟩
  · refine (θ_run Cert.Kernel8Ideal.defs _ _).mono (fun _ h c => ?_) (Cert.Kernel8Ideal.Value.run_blocks (F := Ideal) m ρ)
    exact ⟨(h c).1.trans (Cert.Kernel8Ideal.Rows.final5 m c), (h c).2.1.trans (Cert.Kernel8Ideal.Rows.final6 m c), (h c).2.2.1.trans (Cert.Kernel8Ideal.Rows.final7 m c), (h c).2.2.2.1.trans (Cert.Kernel8Ideal.Rows.final8 m c), (h c).2.2.2.2.1.trans (Cert.Kernel8Ideal.Rows.final9 m c), (h c).2.2.2.2.2⟩
  · refine (θ_run Cert.Reference8Ideal.defs _ _).mono (fun _ h c => ?_) (Cert.Reference8Ideal.Value.run (F := Ideal) m' ρ')
    obtain ⟨e0, e1, e2, e3, e4⟩ := hagree c
    refine ⟨(h c).1.trans ?_, (h c).2.1.trans ?_, (h c).2.2.1.trans ?_, (h c).2.2.2.1.trans ?_, (h c).2.2.2.2.1.trans ?_, (h c).2.2.2.2.2⟩
    · rw [e0, e1, e2, e3, e4]
      rfl
    · rw [e0, e1, e2, e3, e4]
      rfl
    · rw [e0, e1, e2, e3, e4]
      rfl
    · rw [e0, e1, e2, e3, e4]
      rfl
    · rw [e0, e1, e2, e3, e4]
      rfl

/-- The reference of the sample's up projection runs to the end, leaves its arguments and no counter raised. -/
theorem frame_reference9 : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

/-- The sample's up projection with its convolution and gate and its reference end with the same results. -/
theorem up_convolution_sample : Cert.algebraic_Kernel9Ideal_Reference9Ideal := by
  intro m ρ m' ρ' _ hagree
  refine ⟨fun c => Cert.Kernel9Ideal.Rows.result0 m c, fun c => Cert.Kernel9Ideal.Rows.result1 m c, ?_, ?_⟩
  · refine (θ_run Cert.Kernel9Ideal.defs _ _).mono (fun _ h c => ?_) (Cert.Kernel9Ideal.Value.run_blocks (F := Ideal) m ρ)
    exact ⟨(h c).1.trans (Cert.Kernel9Ideal.Rows.final5 m c), (h c).2.1.trans (Cert.Kernel9Ideal.Rows.final6 m c), (h c).2.2⟩
  · refine (θ_run Cert.Reference9Ideal.defs _ _).mono (fun _ h c => ?_) (Cert.Reference9Ideal.Value.run (F := Ideal) m' ρ')
    obtain ⟨e0, e1, e2, e3, e4⟩ := hagree c
    refine ⟨(h c).1.trans ?_, (h c).2.1.trans ?_, (h c).2.2⟩
    · unfold Cert.Reference9Ideal.Value.res_main_v33
      rw [e0, e1, e2, e3, e4]
      rfl
    · rw [e0, e1, e2]
      rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Pre_finite6.shapes,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, fun m ρ _ => Cert.Kernel6Ideal.Gen.frame m ρ,
  frame_reference6, fun m ρ _ => frame_reference6 m ρ trivial,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  trivial, attention, trivial, down_projection, trivial, qkv_projection, trivial, output_projection,
  trivial, up_convolution,
  IdealRules.named_const.statement Cert.Kernel6Ideal.κ "mask" .f32 0xF149F2CA#32 ⊥ rfl, differential_attention,
  trivial, down_projection_sample, trivial, qkv_projection_sample, trivial, up_convolution_sample⟩

end Cert.Proof

end
